-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_Ffn0RefIdeal (m : (ℓ : Loc Cert.Ffn0RefIdeal.nD Cert.Ffn0RefIdeal.τ Cert.Ffn0RefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_In0 (m : (ℓ : Loc Cert.In0.nD Cert.In0.τ Cert.In0.sig) → Buf (Elt Bits) ℓ) : Prop :=
  True

def Pre_In0Ideal (m : (ℓ : Loc Cert.In0Ideal.nD Cert.In0Ideal.τ Cert.In0Ideal.sig) → Buf (Elt Ideal) ℓ) : Prop :=
  True

def Pre_In0RefIdeal (m : (ℓ : Loc Cert.In0RefIdeal.nD Cert.In0RefIdeal.τ Cert.In0RefIdeal.sig) → Buf (Elt Ideal) ℓ) : Prop :=
  True

def Pre_In1 (m : (ℓ : Loc Cert.In1.nD Cert.In1.τ Cert.In1.sig) → Buf (Elt Bits) ℓ) : Prop :=
  True

def Pre_In1Ideal (m : (ℓ : Loc Cert.In1Ideal.nD Cert.In1Ideal.τ Cert.In1Ideal.sig) → Buf (Elt Ideal) ℓ) : Prop :=
  True

def Pre_In1RefIdeal (m : (ℓ : Loc Cert.In1RefIdeal.nD Cert.In1RefIdeal.τ Cert.In1RefIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0RefIdeal (m : (ℓ : Loc Cert.Out0RefIdeal.nD Cert.Out0RefIdeal.τ Cert.Out0RefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_sb [hPre_finite_sb : Cert.Pre_finite_sb.Facts] (m : (ℓ : Loc Cert.SbIdeal.nD Cert.SbIdeal.τ Cert.SbIdeal.sig) → Buf (Elt Ideal) ℓ) : Prop :=
  ∀ c : Dev Cert.SbIdeal.nD,
    (Cert.Pre_finite_sb.fn (F := Ideal) (m ((c.tc : Thread Cert.SbIdeal.nD Cert.SbIdeal.τ).loc Cert.SbIdeal.main_arg0))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_sb [hPre_finite_sb : Cert.Pre_finite_sb.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_sb.fn (F := Ideal) (m ((c.tc : Thread Cert.SbRefIdeal.nD Cert.SbRefIdeal.τ).loc Cert.SbRefIdeal.main_arg0))) = (fun _ => 1#1)

def Pre_Ffn1S (m : (ℓ : Loc Cert.Ffn1S.nD Cert.Ffn1S.τ Cert.Ffn1S.sig) → Buf (Elt Bits) ℓ) : Prop :=
  True

def Pre_Ffn1SIdeal (m : (ℓ : Loc Cert.Ffn1SIdeal.nD Cert.Ffn1SIdeal.τ Cert.Ffn1SIdeal.sig) → Buf (Elt Ideal) ℓ) : Prop :=
  True

def Pre_Ffn1SRefIdeal (m : (ℓ : Loc Cert.Ffn1SRefIdeal.nD Cert.Ffn1SRefIdeal.τ Cert.Ffn1SRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvRefIdeal (m : (ℓ : Loc Cert.RwkvRefIdeal.nD Cert.RwkvRefIdeal.τ Cert.RwkvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4))
      ∧ r.2.sem = fun _ => 0)

def quiescent_Ffn0RefIdeal [hFfn0RefIdeal : Cert.Ffn0RefIdeal.Facts] : Prop :=
  ∀ (m : (ℓ : Loc Cert.Ffn0RefIdeal.nD Cert.Ffn0RefIdeal.τ Cert.Ffn0RefIdeal.sig) → Buf (Elt Ideal) ℓ) (g : Dev Cert.Ffn0RefIdeal.nD → PrngReg), Pre_Ffn0RefIdeal m →
    θ_run (Cert.Ffn0RefIdeal.defs (F := Ideal)) (onTc (τ := Cert.Ffn0RefIdeal.τ) (Cert.Ffn0RefIdeal.main (F := Ideal))) ⟨m, fun _ => 0, g⟩ (fun r => (∀ c : Dev Cert.Ffn0RefIdeal.nD,
      r.2.mem ((c.tc : Thread Cert.Ffn0RefIdeal.nD Cert.Ffn0RefIdeal.τ).loc Cert.Ffn0RefIdeal.main_arg0) = m ((c.tc : Thread Cert.Ffn0RefIdeal.nD Cert.Ffn0RefIdeal.τ).loc Cert.Ffn0RefIdeal.main_arg0)
      ∧ r.2.mem ((c.tc : Thread Cert.Ffn0RefIdeal.nD Cert.Ffn0RefIdeal.τ).loc Cert.Ffn0RefIdeal.main_arg1) = m ((c.tc : Thread Cert.Ffn0RefIdeal.nD Cert.Ffn0RefIdeal.τ).loc Cert.Ffn0RefIdeal.main_arg1)
      ∧ r.2.mem ((c.tc : Thread Cert.Ffn0RefIdeal.nD Cert.Ffn0RefIdeal.τ).loc Cert.Ffn0RefIdeal.main_arg2) = m ((c.tc : Thread Cert.Ffn0RefIdeal.nD Cert.Ffn0RefIdeal.τ).loc Cert.Ffn0RefIdeal.main_arg2)
      ∧ r.2.mem ((c.tc : Thread Cert.Ffn0RefIdeal.nD Cert.Ffn0RefIdeal.τ).loc Cert.Ffn0RefIdeal.main_arg3) = m ((c.tc : Thread Cert.Ffn0RefIdeal.nD Cert.Ffn0RefIdeal.τ).loc Cert.Ffn0RefIdeal.main_arg3)
      ∧ r.2.mem ((c.tc : Thread Cert.Ffn0RefIdeal.nD Cert.Ffn0RefIdeal.τ).loc Cert.Ffn0RefIdeal.main_arg4) = m ((c.tc : Thread Cert.Ffn0RefIdeal.nD Cert.Ffn0RefIdeal.τ).loc Cert.Ffn0RefIdeal.main_arg4))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5))
      ∧ r.2.sem = fun _ => 0)

def quiescent_In0 [hIn0 : Cert.In0.Facts] : Prop :=
  ∀ (m : (ℓ : Loc Cert.In0.nD Cert.In0.τ Cert.In0.sig) → Buf (Elt Bits) ℓ) (g : Dev Cert.In0.nD → PrngReg), Pre_In0 m →
    θ_run (Cert.In0.defs (F := Bits)) (onTc (τ := Cert.In0.τ) (Cert.In0.main (F := Bits))) ⟨m, fun _ => 0, g⟩ (fun r => (∀ c : Dev Cert.In0.nD,
      r.2.mem ((c.tc : Thread Cert.In0.nD Cert.In0.τ).loc Cert.In0.main_arg0) = m ((c.tc : Thread Cert.In0.nD Cert.In0.τ).loc Cert.In0.main_arg0)
      ∧ r.2.mem ((c.tc : Thread Cert.In0.nD Cert.In0.τ).loc Cert.In0.main_arg1) = m ((c.tc : Thread Cert.In0.nD Cert.In0.τ).loc Cert.In0.main_arg1)
      ∧ r.2.mem ((c.tc : Thread Cert.In0.nD Cert.In0.τ).loc Cert.In0.main_arg2) = m ((c.tc : Thread Cert.In0.nD Cert.In0.τ).loc Cert.In0.main_arg2))
      ∧ r.2.sem = fun _ => 0)

def quiescent_In0Ideal [hIn0Ideal : Cert.In0Ideal.Facts] : Prop :=
  ∀ (m : (ℓ : Loc Cert.In0Ideal.nD Cert.In0Ideal.τ Cert.In0Ideal.sig) → Buf (Elt Ideal) ℓ) (g : Dev Cert.In0Ideal.nD → PrngReg), Pre_In0Ideal m →
    θ_run (Cert.In0Ideal.defs (F := Ideal)) (onTc (τ := Cert.In0Ideal.τ) (Cert.In0Ideal.main (F := Ideal))) ⟨m, fun _ => 0, g⟩ (fun r => (∀ c : Dev Cert.In0Ideal.nD,
      r.2.mem ((c.tc : Thread Cert.In0Ideal.nD Cert.In0Ideal.τ).loc Cert.In0Ideal.main_arg0) = m ((c.tc : Thread Cert.In0Ideal.nD Cert.In0Ideal.τ).loc Cert.In0Ideal.main_arg0)
      ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
      ∧ r.2.mem ((c.tc : Thread Cert.In0Ideal.nD Cert.In0Ideal.τ).loc Cert.In0Ideal.main_arg2) = m ((c.tc : Thread Cert.In0Ideal.nD Cert.In0Ideal.τ).loc Cert.In0Ideal.main_arg2))
      ∧ r.2.sem = fun _ => 0)

def quiescent_In0RefIdeal [hIn0RefIdeal : Cert.In0RefIdeal.Facts] : Prop :=
  ∀ (m : (ℓ : Loc Cert.In0RefIdeal.nD Cert.In0RefIdeal.τ Cert.In0RefIdeal.sig) → Buf (Elt Ideal) ℓ) (g : Dev Cert.In0RefIdeal.nD → PrngReg), Pre_In0RefIdeal m →
    θ_run (Cert.In0RefIdeal.defs (F := Ideal)) (onTc (τ := Cert.In0RefIdeal.τ) (Cert.In0RefIdeal.main (F := Ideal))) ⟨m, fun _ => 0, g⟩ (fun r => (∀ c : Dev Cert.In0RefIdeal.nD,
      r.2.mem ((c.tc : Thread Cert.In0RefIdeal.nD Cert.In0RefIdeal.τ).loc Cert.In0RefIdeal.main_arg0) = m ((c.tc : Thread Cert.In0RefIdeal.nD Cert.In0RefIdeal.τ).loc Cert.In0RefIdeal.main_arg0)
      ∧ r.2.mem ((c.tc : Thread Cert.In0RefIdeal.nD Cert.In0RefIdeal.τ).loc Cert.In0RefIdeal.main_arg1) = m ((c.tc : Thread Cert.In0RefIdeal.nD Cert.In0RefIdeal.τ).loc Cert.In0RefIdeal.main_arg1)
      ∧ r.2.mem ((c.tc : Thread Cert.In0RefIdeal.nD Cert.In0RefIdeal.τ).loc Cert.In0RefIdeal.main_arg2) = m ((c.tc : Thread Cert.In0RefIdeal.nD Cert.In0RefIdeal.τ).loc Cert.In0RefIdeal.main_arg2))
      ∧ r.2.sem = fun _ => 0)

def quiescent_In1 [hIn1 : Cert.In1.Facts] : Prop :=
  ∀ (m : (ℓ : Loc Cert.In1.nD Cert.In1.τ Cert.In1.sig) → Buf (Elt Bits) ℓ) (g : Dev Cert.In1.nD → PrngReg), Pre_In1 m →
    θ_run (Cert.In1.defs (F := Bits)) (onTc (τ := Cert.In1.τ) (Cert.In1.main (F := Bits))) ⟨m, fun _ => 0, g⟩ (fun r => (∀ c : Dev Cert.In1.nD,
      r.2.mem ((c.tc : Thread Cert.In1.nD Cert.In1.τ).loc Cert.In1.main_arg0) = m ((c.tc : Thread Cert.In1.nD Cert.In1.τ).loc Cert.In1.main_arg0)
      ∧ r.2.mem ((c.tc : Thread Cert.In1.nD Cert.In1.τ).loc Cert.In1.main_arg1) = m ((c.tc : Thread Cert.In1.nD Cert.In1.τ).loc Cert.In1.main_arg1)
      ∧ r.2.mem ((c.tc : Thread Cert.In1.nD Cert.In1.τ).loc Cert.In1.main_arg2) = m ((c.tc : Thread Cert.In1.nD Cert.In1.τ).loc Cert.In1.main_arg2))
      ∧ r.2.sem = fun _ => 0)

def quiescent_In1Ideal [hIn1Ideal : Cert.In1Ideal.Facts] : Prop :=
  ∀ (m : (ℓ : Loc Cert.In1Ideal.nD Cert.In1Ideal.τ Cert.In1Ideal.sig) → Buf (Elt Ideal) ℓ) (g : Dev Cert.In1Ideal.nD → PrngReg), Pre_In1Ideal m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
      ∧ r.2.mem ((c.tc : Thread Cert.In1Ideal.nD Cert.In1Ideal.τ).loc Cert.In1Ideal.main_arg2) = m ((c.tc : Thread Cert.In1Ideal.nD Cert.In1Ideal.τ).loc Cert.In1Ideal.main_arg2))
      ∧ r.2.sem = fun _ => 0)

def quiescent_In1RefIdeal [hIn1RefIdeal : Cert.In1RefIdeal.Facts] : Prop :=
  ∀ (m : (ℓ : Loc Cert.In1RefIdeal.nD Cert.In1RefIdeal.τ Cert.In1RefIdeal.sig) → Buf (Elt Ideal) ℓ) (g : Dev Cert.In1RefIdeal.nD → PrngReg), Pre_In1RefIdeal m →
    θ_run (Cert.In1RefIdeal.defs (F := Ideal)) (onTc (τ := Cert.In1RefIdeal.τ) (Cert.In1RefIdeal.main (F := Ideal))) ⟨m, fun _ => 0, g⟩ (fun r => (∀ c : Dev Cert.In1RefIdeal.nD,
      r.2.mem ((c.tc : Thread Cert.In1RefIdeal.nD Cert.In1RefIdeal.τ).loc Cert.In1RefIdeal.main_arg0) = m ((c.tc : Thread Cert.In1RefIdeal.nD Cert.In1RefIdeal.τ).loc Cert.In1RefIdeal.main_arg0)
      ∧ r.2.mem ((c.tc : Thread Cert.In1RefIdeal.nD Cert.In1RefIdeal.τ).loc Cert.In1RefIdeal.main_arg1) = m ((c.tc : Thread Cert.In1RefIdeal.nD Cert.In1RefIdeal.τ).loc Cert.In1RefIdeal.main_arg1)
      ∧ r.2.mem ((c.tc : Thread Cert.In1RefIdeal.nD Cert.In1RefIdeal.τ).loc Cert.In1RefIdeal.main_arg2) = m ((c.tc : Thread Cert.In1RefIdeal.nD Cert.In1RefIdeal.τ).loc Cert.In1RefIdeal.main_arg2))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3))
      ∧ r.2.sem = fun _ => 0)

def quiescent_Out0RefIdeal [hOut0RefIdeal : Cert.Out0RefIdeal.Facts] : Prop :=
  ∀ (m : (ℓ : Loc Cert.Out0RefIdeal.nD Cert.Out0RefIdeal.τ Cert.Out0RefIdeal.sig) → Buf (Elt Ideal) ℓ) (g : Dev Cert.Out0RefIdeal.nD → PrngReg), Pre_Out0RefIdeal m →
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1)
      ∧ r.2.mem ((c.tc : Thread Cert.Out0RefIdeal.nD Cert.Out0RefIdeal.τ).loc Cert.Out0RefIdeal.main_arg2) = m ((c.tc : Thread Cert.Out0RefIdeal.nD Cert.Out0RefIdeal.τ).loc Cert.Out0RefIdeal.main_arg2)
      ∧ r.2.mem ((c.tc : Thread Cert.Out0RefIdeal.nD Cert.Out0RefIdeal.τ).loc Cert.Out0RefIdeal.main_arg3) = m ((c.tc : Thread Cert.Out0RefIdeal.nD Cert.Out0RefIdeal.τ).loc Cert.Out0RefIdeal.main_arg3))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbIdeal_pre_finite_sb [hSbIdeal : Cert.SbIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_sb m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_SbRefIdeal_pre_finite_sb [hSbRefIdeal : Cert.SbRefIdeal.Facts] [hPre_finite_sb : Cert.Pre_finite_sb.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_sb m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_Ffn1S [hFfn1S : Cert.Ffn1S.Facts] : Prop :=
  ∀ (m : (ℓ : Loc Cert.Ffn1S.nD Cert.Ffn1S.τ Cert.Ffn1S.sig) → Buf (Elt Bits) ℓ) (g : Dev Cert.Ffn1S.nD → PrngReg), Pre_Ffn1S m →
    θ_run (Cert.Ffn1S.defs (F := Bits)) (onTc (τ := Cert.Ffn1S.τ) (Cert.Ffn1S.main (F := Bits))) ⟨m, fun _ => 0, g⟩ (fun r => (∀ c : Dev Cert.Ffn1S.nD,
      r.2.mem ((c.tc : Thread Cert.Ffn1S.nD Cert.Ffn1S.τ).loc Cert.Ffn1S.main_arg0) = m ((c.tc : Thread Cert.Ffn1S.nD Cert.Ffn1S.τ).loc Cert.Ffn1S.main_arg0)
      ∧ r.2.mem ((c.tc : Thread Cert.Ffn1S.nD Cert.Ffn1S.τ).loc Cert.Ffn1S.main_arg1) = m ((c.tc : Thread Cert.Ffn1S.nD Cert.Ffn1S.τ).loc Cert.Ffn1S.main_arg1)
      ∧ r.2.mem ((c.tc : Thread Cert.Ffn1S.nD Cert.Ffn1S.τ).loc Cert.Ffn1S.main_arg2) = m ((c.tc : Thread Cert.Ffn1S.nD Cert.Ffn1S.τ).loc Cert.Ffn1S.main_arg2)
      ∧ r.2.mem ((c.tc : Thread Cert.Ffn1S.nD Cert.Ffn1S.τ).loc Cert.Ffn1S.main_arg3) = m ((c.tc : Thread Cert.Ffn1S.nD Cert.Ffn1S.τ).loc Cert.Ffn1S.main_arg3)
      ∧ r.2.mem ((c.tc : Thread Cert.Ffn1S.nD Cert.Ffn1S.τ).loc Cert.Ffn1S.main_arg4) = m ((c.tc : Thread Cert.Ffn1S.nD Cert.Ffn1S.τ).loc Cert.Ffn1S.main_arg4)
      ∧ r.2.mem ((c.tc : Thread Cert.Ffn1S.nD Cert.Ffn1S.τ).loc Cert.Ffn1S.main_arg5) = m ((c.tc : Thread Cert.Ffn1S.nD Cert.Ffn1S.τ).loc Cert.Ffn1S.main_arg5))
      ∧ r.2.sem = fun _ => 0)

def quiescent_Ffn1SIdeal [hFfn1SIdeal : Cert.Ffn1SIdeal.Facts] : Prop :=
  ∀ (m : (ℓ : Loc Cert.Ffn1SIdeal.nD Cert.Ffn1SIdeal.τ Cert.Ffn1SIdeal.sig) → Buf (Elt Ideal) ℓ) (g : Dev Cert.Ffn1SIdeal.nD → PrngReg), Pre_Ffn1SIdeal m →
    θ_run (Cert.Ffn1SIdeal.defs (F := Ideal)) (onTc (τ := Cert.Ffn1SIdeal.τ) (Cert.Ffn1SIdeal.main (F := Ideal))) ⟨m, fun _ => 0, g⟩ (fun r => (∀ c : Dev Cert.Ffn1SIdeal.nD,
      r.2.mem ((c.tc : Thread Cert.Ffn1SIdeal.nD Cert.Ffn1SIdeal.τ).loc Cert.Ffn1SIdeal.main_arg0) = m ((c.tc : Thread Cert.Ffn1SIdeal.nD Cert.Ffn1SIdeal.τ).loc Cert.Ffn1SIdeal.main_arg0)
      ∧ r.2.mem ((c.tc : Thread Cert.Ffn1SIdeal.nD Cert.Ffn1SIdeal.τ).loc Cert.Ffn1SIdeal.main_arg1) = m ((c.tc : Thread Cert.Ffn1SIdeal.nD Cert.Ffn1SIdeal.τ).loc Cert.Ffn1SIdeal.main_arg1)
      ∧ r.2.mem ((c.tc : Thread Cert.Ffn1SIdeal.nD Cert.Ffn1SIdeal.τ).loc Cert.Ffn1SIdeal.main_arg2) = m ((c.tc : Thread Cert.Ffn1SIdeal.nD Cert.Ffn1SIdeal.τ).loc Cert.Ffn1SIdeal.main_arg2)
      ∧ r.2.mem ((c.tc : Thread Cert.Ffn1SIdeal.nD Cert.Ffn1SIdeal.τ).loc Cert.Ffn1SIdeal.main_arg3) = m ((c.tc : Thread Cert.Ffn1SIdeal.nD Cert.Ffn1SIdeal.τ).loc Cert.Ffn1SIdeal.main_arg3)
      ∧ r.2.mem ((c.tc : Thread Cert.Ffn1SIdeal.nD Cert.Ffn1SIdeal.τ).loc Cert.Ffn1SIdeal.main_arg4) = m ((c.tc : Thread Cert.Ffn1SIdeal.nD Cert.Ffn1SIdeal.τ).loc Cert.Ffn1SIdeal.main_arg4)
      ∧ r.2.mem ((c.tc : Thread Cert.Ffn1SIdeal.nD Cert.Ffn1SIdeal.τ).loc Cert.Ffn1SIdeal.main_arg5) = m ((c.tc : Thread Cert.Ffn1SIdeal.nD Cert.Ffn1SIdeal.τ).loc Cert.Ffn1SIdeal.main_arg5))
      ∧ r.2.sem = fun _ => 0)

def quiescent_Ffn1SRefIdeal [hFfn1SRefIdeal : Cert.Ffn1SRefIdeal.Facts] : Prop :=
  ∀ (m : (ℓ : Loc Cert.Ffn1SRefIdeal.nD Cert.Ffn1SRefIdeal.τ Cert.Ffn1SRefIdeal.sig) → Buf (Elt Ideal) ℓ) (g : Dev Cert.Ffn1SRefIdeal.nD → PrngReg), Pre_Ffn1SRefIdeal m →
    θ_run (Cert.Ffn1SRefIdeal.defs (F := Ideal)) (onTc (τ := Cert.Ffn1SRefIdeal.τ) (Cert.Ffn1SRefIdeal.main (F := Ideal))) ⟨m, fun _ => 0, g⟩ (fun r => (∀ c : Dev Cert.Ffn1SRefIdeal.nD,
      r.2.mem ((c.tc : Thread Cert.Ffn1SRefIdeal.nD Cert.Ffn1SRefIdeal.τ).loc Cert.Ffn1SRefIdeal.main_arg0) = m ((c.tc : Thread Cert.Ffn1SRefIdeal.nD Cert.Ffn1SRefIdeal.τ).loc Cert.Ffn1SRefIdeal.main_arg0)
      ∧ r.2.mem ((c.tc : Thread Cert.Ffn1SRefIdeal.nD Cert.Ffn1SRefIdeal.τ).loc Cert.Ffn1SRefIdeal.main_arg1) = m ((c.tc : Thread Cert.Ffn1SRefIdeal.nD Cert.Ffn1SRefIdeal.τ).loc Cert.Ffn1SRefIdeal.main_arg1)
      ∧ r.2.mem ((c.tc : Thread Cert.Ffn1SRefIdeal.nD Cert.Ffn1SRefIdeal.τ).loc Cert.Ffn1SRefIdeal.main_arg2) = m ((c.tc : Thread Cert.Ffn1SRefIdeal.nD Cert.Ffn1SRefIdeal.τ).loc Cert.Ffn1SRefIdeal.main_arg2)
      ∧ r.2.mem ((c.tc : Thread Cert.Ffn1SRefIdeal.nD Cert.Ffn1SRefIdeal.τ).loc Cert.Ffn1SRefIdeal.main_arg3) = m ((c.tc : Thread Cert.Ffn1SRefIdeal.nD Cert.Ffn1SRefIdeal.τ).loc Cert.Ffn1SRefIdeal.main_arg3)
      ∧ r.2.mem ((c.tc : Thread Cert.Ffn1SRefIdeal.nD Cert.Ffn1SRefIdeal.τ).loc Cert.Ffn1SRefIdeal.main_arg4) = m ((c.tc : Thread Cert.Ffn1SRefIdeal.nD Cert.Ffn1SRefIdeal.τ).loc Cert.Ffn1SRefIdeal.main_arg4)
      ∧ r.2.mem ((c.tc : Thread Cert.Ffn1SRefIdeal.nD Cert.Ffn1SRefIdeal.τ).loc Cert.Ffn1SRefIdeal.main_arg5) = m ((c.tc : Thread Cert.Ffn1SRefIdeal.nD Cert.Ffn1SRefIdeal.τ).loc Cert.Ffn1SRefIdeal.main_arg5))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn0_Ffn0Ideal : Prop :=
  True

def algebraic_Ffn0Ideal_Ffn0RefIdeal [hFfn0Ideal : Cert.Ffn0Ideal.Facts] [hFfn0RefIdeal : Cert.Ffn0RefIdeal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.Ffn0RefIdeal.nD Cert.Ffn0RefIdeal.τ Cert.Ffn0RefIdeal.sig) → Buf (Elt Ideal) ℓ) (g' : Dev Cert.Ffn0RefIdeal.nD → PrngReg), Pre_Ffn0Ideal m →
    (∀ c : Dev Cert.Ffn0Ideal.nD,
      m' ((c.tc : Thread Cert.Ffn0RefIdeal.nD Cert.Ffn0RefIdeal.τ).loc Cert.Ffn0RefIdeal.main_arg0) = m ((c.tc : Thread Cert.Ffn0Ideal.nD Cert.Ffn0Ideal.τ).loc Cert.Ffn0Ideal.main_arg0)
      ∧ m' ((c.tc : Thread Cert.Ffn0RefIdeal.nD Cert.Ffn0RefIdeal.τ).loc Cert.Ffn0RefIdeal.main_arg1) = m ((c.tc : Thread Cert.Ffn0Ideal.nD Cert.Ffn0Ideal.τ).loc Cert.Ffn0Ideal.main_arg1)
      ∧ m' ((c.tc : Thread Cert.Ffn0RefIdeal.nD Cert.Ffn0RefIdeal.τ).loc Cert.Ffn0RefIdeal.main_arg2) = m ((c.tc : Thread Cert.Ffn0Ideal.nD Cert.Ffn0Ideal.τ).loc Cert.Ffn0Ideal.main_arg2)
      ∧ m' ((c.tc : Thread Cert.Ffn0RefIdeal.nD Cert.Ffn0RefIdeal.τ).loc Cert.Ffn0RefIdeal.main_arg3) = m ((c.tc : Thread Cert.Ffn0Ideal.nD Cert.Ffn0Ideal.τ).loc Cert.Ffn0Ideal.main_arg3)
      ∧ m' ((c.tc : Thread Cert.Ffn0RefIdeal.nD Cert.Ffn0RefIdeal.τ).loc Cert.Ffn0RefIdeal.main_arg4) = m ((c.tc : Thread Cert.Ffn0Ideal.nD Cert.Ffn0Ideal.τ).loc Cert.Ffn0Ideal.main_arg4)) →
    ∃ (v0 : (c : Dev Cert.Ffn0Ideal.nD) → Buf (Elt Ideal) ((c.tc : Thread Cert.Ffn0Ideal.nD Cert.Ffn0Ideal.τ).loc Cert.Ffn0Ideal.main_v1)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v1) = v0 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4))
      ∧ θ_run (Cert.Ffn0RefIdeal.defs (F := Ideal)) (onTc (τ := Cert.Ffn0RefIdeal.τ) (Cert.Ffn0RefIdeal.main (F := Ideal))) ⟨m', fun _ => 0, g'⟩ (fun r => ∀ c : Dev Cert.Ffn0RefIdeal.nD,
          r.2.mem ((c.tc : Thread Cert.Ffn0RefIdeal.nD Cert.Ffn0RefIdeal.τ).loc Cert.Ffn0RefIdeal.main_v21) = v0 c
          ∧ r.2.mem ((c.tc : Thread Cert.Ffn0RefIdeal.nD Cert.Ffn0RefIdeal.τ).loc Cert.Ffn0RefIdeal.main_arg0) = m' ((c.tc : Thread Cert.Ffn0RefIdeal.nD Cert.Ffn0RefIdeal.τ).loc Cert.Ffn0RefIdeal.main_arg0)
          ∧ r.2.mem ((c.tc : Thread Cert.Ffn0RefIdeal.nD Cert.Ffn0RefIdeal.τ).loc Cert.Ffn0RefIdeal.main_arg1) = m' ((c.tc : Thread Cert.Ffn0RefIdeal.nD Cert.Ffn0RefIdeal.τ).loc Cert.Ffn0RefIdeal.main_arg1)
          ∧ r.2.mem ((c.tc : Thread Cert.Ffn0RefIdeal.nD Cert.Ffn0RefIdeal.τ).loc Cert.Ffn0RefIdeal.main_arg2) = m' ((c.tc : Thread Cert.Ffn0RefIdeal.nD Cert.Ffn0RefIdeal.τ).loc Cert.Ffn0RefIdeal.main_arg2)
          ∧ r.2.mem ((c.tc : Thread Cert.Ffn0RefIdeal.nD Cert.Ffn0RefIdeal.τ).loc Cert.Ffn0RefIdeal.main_arg3) = m' ((c.tc : Thread Cert.Ffn0RefIdeal.nD Cert.Ffn0RefIdeal.τ).loc Cert.Ffn0RefIdeal.main_arg3)
          ∧ r.2.mem ((c.tc : Thread Cert.Ffn0RefIdeal.nD Cert.Ffn0RefIdeal.τ).loc Cert.Ffn0RefIdeal.main_arg4) = m' ((c.tc : Thread Cert.Ffn0RefIdeal.nD Cert.Ffn0RefIdeal.τ).loc Cert.Ffn0RefIdeal.main_arg4))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v2)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v2) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v34) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5))

def preserves_In0_In0Ideal : Prop :=
  True

def algebraic_In0Ideal_In0RefIdeal [hIn0Ideal : Cert.In0Ideal.Facts] [hIn0RefIdeal : Cert.In0RefIdeal.Facts] : Prop :=
  ∀ (m : (ℓ : Loc Cert.In0Ideal.nD Cert.In0Ideal.τ Cert.In0Ideal.sig) → Buf (Elt Ideal) ℓ) (g : Dev Cert.In0Ideal.nD → PrngReg)
    (m' : (ℓ : Loc Cert.In0RefIdeal.nD Cert.In0RefIdeal.τ Cert.In0RefIdeal.sig) → Buf (Elt Ideal) ℓ) (g' : Dev Cert.In0RefIdeal.nD → PrngReg), Pre_In0Ideal m →
    (∀ c : Dev Cert.In0Ideal.nD,
      m' ((c.tc : Thread Cert.In0RefIdeal.nD Cert.In0RefIdeal.τ).loc Cert.In0RefIdeal.main_arg0) = m ((c.tc : Thread Cert.In0Ideal.nD Cert.In0Ideal.τ).loc Cert.In0Ideal.main_arg0)
      ∧ m' ((c.tc : Thread Cert.In0RefIdeal.nD Cert.In0RefIdeal.τ).loc Cert.In0RefIdeal.main_arg1) = m ((c.tc : Thread Cert.In0Ideal.nD Cert.In0Ideal.τ).loc Cert.In0Ideal.main_arg1)
      ∧ m' ((c.tc : Thread Cert.In0RefIdeal.nD Cert.In0RefIdeal.τ).loc Cert.In0RefIdeal.main_arg2) = m ((c.tc : Thread Cert.In0Ideal.nD Cert.In0Ideal.τ).loc Cert.In0Ideal.main_arg2)) →
    ∃ (v0 : (c : Dev Cert.In0Ideal.nD) → Buf (Elt Ideal) ((c.tc : Thread Cert.In0Ideal.nD Cert.In0Ideal.τ).loc Cert.In0Ideal.main_v1)),
      θ_run (Cert.In0Ideal.defs (F := Ideal)) (onTc (τ := Cert.In0Ideal.τ) (Cert.In0Ideal.main (F := Ideal))) ⟨m, fun _ => 0, g⟩ (fun r => ∀ c : Dev Cert.In0Ideal.nD,
          r.2.mem ((c.tc : Thread Cert.In0Ideal.nD Cert.In0Ideal.τ).loc Cert.In0Ideal.main_v1) = v0 c
          ∧ r.2.mem ((c.tc : Thread Cert.In0Ideal.nD Cert.In0Ideal.τ).loc Cert.In0Ideal.main_arg0) = m ((c.tc : Thread Cert.In0Ideal.nD Cert.In0Ideal.τ).loc Cert.In0Ideal.main_arg0)
          ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
          ∧ r.2.mem ((c.tc : Thread Cert.In0Ideal.nD Cert.In0Ideal.τ).loc Cert.In0Ideal.main_arg2) = m ((c.tc : Thread Cert.In0Ideal.nD Cert.In0Ideal.τ).loc Cert.In0Ideal.main_arg2))
      ∧ θ_run (Cert.In0RefIdeal.defs (F := Ideal)) (onTc (τ := Cert.In0RefIdeal.τ) (Cert.In0RefIdeal.main (F := Ideal))) ⟨m', fun _ => 0, g'⟩ (fun r => ∀ c : Dev Cert.In0RefIdeal.nD,
          r.2.mem ((c.tc : Thread Cert.In0RefIdeal.nD Cert.In0RefIdeal.τ).loc Cert.In0RefIdeal.main_v14) = v0 c
          ∧ r.2.mem ((c.tc : Thread Cert.In0RefIdeal.nD Cert.In0RefIdeal.τ).loc Cert.In0RefIdeal.main_arg0) = m' ((c.tc : Thread Cert.In0RefIdeal.nD Cert.In0RefIdeal.τ).loc Cert.In0RefIdeal.main_arg0)
          ∧ r.2.mem ((c.tc : Thread Cert.In0RefIdeal.nD Cert.In0RefIdeal.τ).loc Cert.In0RefIdeal.main_arg1) = m' ((c.tc : Thread Cert.In0RefIdeal.nD Cert.In0RefIdeal.τ).loc Cert.In0RefIdeal.main_arg1)
          ∧ r.2.mem ((c.tc : Thread Cert.In0RefIdeal.nD Cert.In0RefIdeal.τ).loc Cert.In0RefIdeal.main_arg2) = m' ((c.tc : Thread Cert.In0RefIdeal.nD Cert.In0RefIdeal.τ).loc Cert.In0RefIdeal.main_arg2))

def preserves_In1_In1Ideal : Prop :=
  True

def algebraic_In1Ideal_In1RefIdeal [hIn1Ideal : Cert.In1Ideal.Facts] [hIn1RefIdeal : Cert.In1RefIdeal.Facts] : Prop :=
  ∀ (m : (ℓ : Loc Cert.In1Ideal.nD Cert.In1Ideal.τ Cert.In1Ideal.sig) → Buf (Elt Ideal) ℓ) (g : Dev Cert.In1Ideal.nD → PrngReg)
    (m' : (ℓ : Loc Cert.In1RefIdeal.nD Cert.In1RefIdeal.τ Cert.In1RefIdeal.sig) → Buf (Elt Ideal) ℓ) (g' : Dev Cert.In1RefIdeal.nD → PrngReg), Pre_In1Ideal m →
    (∀ c : Dev Cert.In1Ideal.nD,
      m' ((c.tc : Thread Cert.In1RefIdeal.nD Cert.In1RefIdeal.τ).loc Cert.In1RefIdeal.main_arg0) = m ((c.tc : Thread Cert.In1Ideal.nD Cert.In1Ideal.τ).loc Cert.In1Ideal.main_arg0)
      ∧ m' ((c.tc : Thread Cert.In1RefIdeal.nD Cert.In1RefIdeal.τ).loc Cert.In1RefIdeal.main_arg1) = m ((c.tc : Thread Cert.In1Ideal.nD Cert.In1Ideal.τ).loc Cert.In1Ideal.main_arg1)
      ∧ m' ((c.tc : Thread Cert.In1RefIdeal.nD Cert.In1RefIdeal.τ).loc Cert.In1RefIdeal.main_arg2) = m ((c.tc : Thread Cert.In1Ideal.nD Cert.In1Ideal.τ).loc Cert.In1Ideal.main_arg2)) →
    ∃ (v0 : (c : Dev Cert.In1Ideal.nD) → Buf (Elt Ideal) ((c.tc : Thread Cert.In1Ideal.nD Cert.In1Ideal.τ).loc Cert.In1Ideal.main_v1)),
      θ_run (Cert.In1Ideal.defs (F := Ideal)) (onTc (τ := Cert.In1Ideal.τ) (Cert.In1Ideal.main (F := Ideal))) ⟨m, fun _ => 0, g⟩ (fun r => ∀ c : Dev Cert.In1Ideal.nD,
          r.2.mem ((c.tc : Thread Cert.In1Ideal.nD Cert.In1Ideal.τ).loc Cert.In1Ideal.main_v1) = v0 c
          ∧ r.2.mem ((c.tc : Thread Cert.In1Ideal.nD Cert.In1Ideal.τ).loc Cert.In1Ideal.main_arg0) = m ((c.tc : Thread Cert.In1Ideal.nD Cert.In1Ideal.τ).loc Cert.In1Ideal.main_arg0)
          ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
          ∧ r.2.mem ((c.tc : Thread Cert.In1Ideal.nD Cert.In1Ideal.τ).loc Cert.In1Ideal.main_arg2) = m ((c.tc : Thread Cert.In1Ideal.nD Cert.In1Ideal.τ).loc Cert.In1Ideal.main_arg2))
      ∧ θ_run (Cert.In1RefIdeal.defs (F := Ideal)) (onTc (τ := Cert.In1RefIdeal.τ) (Cert.In1RefIdeal.main (F := Ideal))) ⟨m', fun _ => 0, g'⟩ (fun r => ∀ c : Dev Cert.In1RefIdeal.nD,
          r.2.mem ((c.tc : Thread Cert.In1RefIdeal.nD Cert.In1RefIdeal.τ).loc Cert.In1RefIdeal.main_v14) = v0 c
          ∧ r.2.mem ((c.tc : Thread Cert.In1RefIdeal.nD Cert.In1RefIdeal.τ).loc Cert.In1RefIdeal.main_arg0) = m' ((c.tc : Thread Cert.In1RefIdeal.nD Cert.In1RefIdeal.τ).loc Cert.In1RefIdeal.main_arg0)
          ∧ r.2.mem ((c.tc : Thread Cert.In1RefIdeal.nD Cert.In1RefIdeal.τ).loc Cert.In1RefIdeal.main_arg1) = m' ((c.tc : Thread Cert.In1RefIdeal.nD Cert.In1RefIdeal.τ).loc Cert.In1RefIdeal.main_arg1)
          ∧ r.2.mem ((c.tc : Thread Cert.In1RefIdeal.nD Cert.In1RefIdeal.τ).loc Cert.In1RefIdeal.main_arg2) = m' ((c.tc : Thread Cert.In1RefIdeal.nD Cert.In1RefIdeal.τ).loc Cert.In1RefIdeal.main_arg2))

def preserves_Out0_Out0Ideal : Prop :=
  True

def algebraic_Out0Ideal_Out0RefIdeal [hOut0Ideal : Cert.Out0Ideal.Facts] [hOut0RefIdeal : Cert.Out0RefIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0RefIdeal.nD Cert.Out0RefIdeal.τ Cert.Out0RefIdeal.sig) → Buf (Elt Ideal) ℓ) (g' : Dev Cert.Out0RefIdeal.nD → PrngReg), Pre_Out0Ideal m →
    (∀ c : Dev Cert.Out0Ideal.nD,
      m' ((c.tc : Thread Cert.Out0RefIdeal.nD Cert.Out0RefIdeal.τ).loc Cert.Out0RefIdeal.main_arg0) = m ((c.tc : Thread Cert.Out0Ideal.nD Cert.Out0Ideal.τ).loc Cert.Out0Ideal.main_arg0)
      ∧ m' ((c.tc : Thread Cert.Out0RefIdeal.nD Cert.Out0RefIdeal.τ).loc Cert.Out0RefIdeal.main_arg1) = m ((c.tc : Thread Cert.Out0Ideal.nD Cert.Out0Ideal.τ).loc Cert.Out0Ideal.main_arg1)
      ∧ m' ((c.tc : Thread Cert.Out0RefIdeal.nD Cert.Out0RefIdeal.τ).loc Cert.Out0RefIdeal.main_arg2) = m ((c.tc : Thread Cert.Out0Ideal.nD Cert.Out0Ideal.τ).loc Cert.Out0Ideal.main_arg2)
      ∧ m' ((c.tc : Thread Cert.Out0RefIdeal.nD Cert.Out0RefIdeal.τ).loc Cert.Out0RefIdeal.main_arg3) = m ((c.tc : Thread Cert.Out0Ideal.nD Cert.Out0Ideal.τ).loc Cert.Out0Ideal.main_arg3)) →
    ∃ (v0 : (c : Dev Cert.Out0Ideal.nD) → Buf (Elt Ideal) ((c.tc : Thread Cert.Out0Ideal.nD Cert.Out0Ideal.τ).loc Cert.Out0Ideal.main_v2)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v2) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3))
      ∧ θ_run (Cert.Out0RefIdeal.defs (F := Ideal)) (onTc (τ := Cert.Out0RefIdeal.τ) (Cert.Out0RefIdeal.main (F := Ideal))) ⟨m', fun _ => 0, g'⟩ (fun r => ∀ c : Dev Cert.Out0RefIdeal.nD,
          r.2.mem ((c.tc : Thread Cert.Out0RefIdeal.nD Cert.Out0RefIdeal.τ).loc Cert.Out0RefIdeal.main_v3) = v0 c
          ∧ r.2.mem ((c.tc : Thread Cert.Out0RefIdeal.nD Cert.Out0RefIdeal.τ).loc Cert.Out0RefIdeal.main_arg0) = m' ((c.tc : Thread Cert.Out0RefIdeal.nD Cert.Out0RefIdeal.τ).loc Cert.Out0RefIdeal.main_arg0)
          ∧ r.2.mem ((c.tc : Thread Cert.Out0RefIdeal.nD Cert.Out0RefIdeal.τ).loc Cert.Out0RefIdeal.main_arg1) = m' ((c.tc : Thread Cert.Out0RefIdeal.nD Cert.Out0RefIdeal.τ).loc Cert.Out0RefIdeal.main_arg1)
          ∧ r.2.mem ((c.tc : Thread Cert.Out0RefIdeal.nD Cert.Out0RefIdeal.τ).loc Cert.Out0RefIdeal.main_arg2) = m' ((c.tc : Thread Cert.Out0RefIdeal.nD Cert.Out0RefIdeal.τ).loc Cert.Out0RefIdeal.main_arg2)
          ∧ r.2.mem ((c.tc : Thread Cert.Out0RefIdeal.nD Cert.Out0RefIdeal.τ).loc Cert.Out0RefIdeal.main_arg3) = m' ((c.tc : Thread Cert.Out0RefIdeal.nD Cert.Out0RefIdeal.τ).loc Cert.Out0RefIdeal.main_arg3))

def preserves_Sb_SbIdeal : Prop :=
  True

def algebraic_SbIdeal_SbRefIdeal_pre_finite_sb [hSbIdeal : Cert.SbIdeal.Facts] [hSbRefIdeal : Cert.SbRefIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_sb m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v4)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v4) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v29) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def preserves_Ffn1S_Ffn1SIdeal : Prop :=
  True

def algebraic_Ffn1SIdeal_Ffn1SRefIdeal [hFfn1SIdeal : Cert.Ffn1SIdeal.Facts] [hFfn1SRefIdeal : Cert.Ffn1SRefIdeal.Facts] : Prop :=
  ∀ (m : (ℓ : Loc Cert.Ffn1SIdeal.nD Cert.Ffn1SIdeal.τ Cert.Ffn1SIdeal.sig) → Buf (Elt Ideal) ℓ) (g : Dev Cert.Ffn1SIdeal.nD → PrngReg)
    (m' : (ℓ : Loc Cert.Ffn1SRefIdeal.nD Cert.Ffn1SRefIdeal.τ Cert.Ffn1SRefIdeal.sig) → Buf (Elt Ideal) ℓ) (g' : Dev Cert.Ffn1SRefIdeal.nD → PrngReg), Pre_Ffn1SIdeal m →
    (∀ c : Dev Cert.Ffn1SIdeal.nD,
      m' ((c.tc : Thread Cert.Ffn1SRefIdeal.nD Cert.Ffn1SRefIdeal.τ).loc Cert.Ffn1SRefIdeal.main_arg0) = m ((c.tc : Thread Cert.Ffn1SIdeal.nD Cert.Ffn1SIdeal.τ).loc Cert.Ffn1SIdeal.main_arg0)
      ∧ m' ((c.tc : Thread Cert.Ffn1SRefIdeal.nD Cert.Ffn1SRefIdeal.τ).loc Cert.Ffn1SRefIdeal.main_arg1) = m ((c.tc : Thread Cert.Ffn1SIdeal.nD Cert.Ffn1SIdeal.τ).loc Cert.Ffn1SIdeal.main_arg1)
      ∧ m' ((c.tc : Thread Cert.Ffn1SRefIdeal.nD Cert.Ffn1SRefIdeal.τ).loc Cert.Ffn1SRefIdeal.main_arg2) = m ((c.tc : Thread Cert.Ffn1SIdeal.nD Cert.Ffn1SIdeal.τ).loc Cert.Ffn1SIdeal.main_arg2)
      ∧ m' ((c.tc : Thread Cert.Ffn1SRefIdeal.nD Cert.Ffn1SRefIdeal.τ).loc Cert.Ffn1SRefIdeal.main_arg3) = m ((c.tc : Thread Cert.Ffn1SIdeal.nD Cert.Ffn1SIdeal.τ).loc Cert.Ffn1SIdeal.main_arg3)
      ∧ m' ((c.tc : Thread Cert.Ffn1SRefIdeal.nD Cert.Ffn1SRefIdeal.τ).loc Cert.Ffn1SRefIdeal.main_arg4) = m ((c.tc : Thread Cert.Ffn1SIdeal.nD Cert.Ffn1SIdeal.τ).loc Cert.Ffn1SIdeal.main_arg4)
      ∧ m' ((c.tc : Thread Cert.Ffn1SRefIdeal.nD Cert.Ffn1SRefIdeal.τ).loc Cert.Ffn1SRefIdeal.main_arg5) = m ((c.tc : Thread Cert.Ffn1SIdeal.nD Cert.Ffn1SIdeal.τ).loc Cert.Ffn1SIdeal.main_arg5)) →
    ∃ (v0 : (c : Dev Cert.Ffn1SIdeal.nD) → Buf (Elt Ideal) ((c.tc : Thread Cert.Ffn1SIdeal.nD Cert.Ffn1SIdeal.τ).loc Cert.Ffn1SIdeal.main_v2)),
      θ_run (Cert.Ffn1SIdeal.defs (F := Ideal)) (onTc (τ := Cert.Ffn1SIdeal.τ) (Cert.Ffn1SIdeal.main (F := Ideal))) ⟨m, fun _ => 0, g⟩ (fun r => ∀ c : Dev Cert.Ffn1SIdeal.nD,
          r.2.mem ((c.tc : Thread Cert.Ffn1SIdeal.nD Cert.Ffn1SIdeal.τ).loc Cert.Ffn1SIdeal.main_v2) = v0 c
          ∧ r.2.mem ((c.tc : Thread Cert.Ffn1SIdeal.nD Cert.Ffn1SIdeal.τ).loc Cert.Ffn1SIdeal.main_arg0) = m ((c.tc : Thread Cert.Ffn1SIdeal.nD Cert.Ffn1SIdeal.τ).loc Cert.Ffn1SIdeal.main_arg0)
          ∧ r.2.mem ((c.tc : Thread Cert.Ffn1SIdeal.nD Cert.Ffn1SIdeal.τ).loc Cert.Ffn1SIdeal.main_arg1) = m ((c.tc : Thread Cert.Ffn1SIdeal.nD Cert.Ffn1SIdeal.τ).loc Cert.Ffn1SIdeal.main_arg1)
          ∧ r.2.mem ((c.tc : Thread Cert.Ffn1SIdeal.nD Cert.Ffn1SIdeal.τ).loc Cert.Ffn1SIdeal.main_arg2) = m ((c.tc : Thread Cert.Ffn1SIdeal.nD Cert.Ffn1SIdeal.τ).loc Cert.Ffn1SIdeal.main_arg2)
          ∧ r.2.mem ((c.tc : Thread Cert.Ffn1SIdeal.nD Cert.Ffn1SIdeal.τ).loc Cert.Ffn1SIdeal.main_arg3) = m ((c.tc : Thread Cert.Ffn1SIdeal.nD Cert.Ffn1SIdeal.τ).loc Cert.Ffn1SIdeal.main_arg3)
          ∧ r.2.mem ((c.tc : Thread Cert.Ffn1SIdeal.nD Cert.Ffn1SIdeal.τ).loc Cert.Ffn1SIdeal.main_arg4) = m ((c.tc : Thread Cert.Ffn1SIdeal.nD Cert.Ffn1SIdeal.τ).loc Cert.Ffn1SIdeal.main_arg4)
          ∧ r.2.mem ((c.tc : Thread Cert.Ffn1SIdeal.nD Cert.Ffn1SIdeal.τ).loc Cert.Ffn1SIdeal.main_arg5) = m ((c.tc : Thread Cert.Ffn1SIdeal.nD Cert.Ffn1SIdeal.τ).loc Cert.Ffn1SIdeal.main_arg5))
      ∧ θ_run (Cert.Ffn1SRefIdeal.defs (F := Ideal)) (onTc (τ := Cert.Ffn1SRefIdeal.τ) (Cert.Ffn1SRefIdeal.main (F := Ideal))) ⟨m', fun _ => 0, g'⟩ (fun r => ∀ c : Dev Cert.Ffn1SRefIdeal.nD,
          r.2.mem ((c.tc : Thread Cert.Ffn1SRefIdeal.nD Cert.Ffn1SRefIdeal.τ).loc Cert.Ffn1SRefIdeal.main_v34) = v0 c
          ∧ r.2.mem ((c.tc : Thread Cert.Ffn1SRefIdeal.nD Cert.Ffn1SRefIdeal.τ).loc Cert.Ffn1SRefIdeal.main_arg0) = m' ((c.tc : Thread Cert.Ffn1SRefIdeal.nD Cert.Ffn1SRefIdeal.τ).loc Cert.Ffn1SRefIdeal.main_arg0)
          ∧ r.2.mem ((c.tc : Thread Cert.Ffn1SRefIdeal.nD Cert.Ffn1SRefIdeal.τ).loc Cert.Ffn1SRefIdeal.main_arg1) = m' ((c.tc : Thread Cert.Ffn1SRefIdeal.nD Cert.Ffn1SRefIdeal.τ).loc Cert.Ffn1SRefIdeal.main_arg1)
          ∧ r.2.mem ((c.tc : Thread Cert.Ffn1SRefIdeal.nD Cert.Ffn1SRefIdeal.τ).loc Cert.Ffn1SRefIdeal.main_arg2) = m' ((c.tc : Thread Cert.Ffn1SRefIdeal.nD Cert.Ffn1SRefIdeal.τ).loc Cert.Ffn1SRefIdeal.main_arg2)
          ∧ r.2.mem ((c.tc : Thread Cert.Ffn1SRefIdeal.nD Cert.Ffn1SRefIdeal.τ).loc Cert.Ffn1SRefIdeal.main_arg3) = m' ((c.tc : Thread Cert.Ffn1SRefIdeal.nD Cert.Ffn1SRefIdeal.τ).loc Cert.Ffn1SRefIdeal.main_arg3)
          ∧ r.2.mem ((c.tc : Thread Cert.Ffn1SRefIdeal.nD Cert.Ffn1SRefIdeal.τ).loc Cert.Ffn1SRefIdeal.main_arg4) = m' ((c.tc : Thread Cert.Ffn1SRefIdeal.nD Cert.Ffn1SRefIdeal.τ).loc Cert.Ffn1SRefIdeal.main_arg4)
          ∧ r.2.mem ((c.tc : Thread Cert.Ffn1SRefIdeal.nD Cert.Ffn1SRefIdeal.τ).loc Cert.Ffn1SRefIdeal.main_arg5) = m' ((c.tc : Thread Cert.Ffn1SRefIdeal.nD Cert.Ffn1SRefIdeal.τ).loc Cert.Ffn1SRefIdeal.main_arg5))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)) →
    ∃ (v0 : (c : Dev Cert.KvIdeal.nD) → Buf (Elt Ideal) ((c.tc : Thread Cert.KvIdeal.nD Cert.KvIdeal.τ).loc Cert.KvIdeal.main_v1)) (v1 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1) = v0 c
          ∧ r.2.mem ((c.tc : Thread Cert.KvIdeal.nD Cert.KvIdeal.τ).loc Cert.KvIdeal.main_v2) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v1) = v0 c
          ∧ r.2.mem ((c.tc : Thread Cert.KvRefIdeal.nD Cert.KvRefIdeal.τ).loc Cert.KvRefIdeal.main_v3) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)) →
    ∃ (v0 : (c : Dev Cert.KvSIdeal.nD) → Buf (Elt Ideal) ((c.tc : Thread Cert.KvSIdeal.nD Cert.KvSIdeal.τ).loc Cert.KvSIdeal.main_v1)) (v1 : (c : Dev Cert.KvSIdeal.nD) → Buf (Elt Ideal) ((c.tc : Thread Cert.KvSIdeal.nD Cert.KvSIdeal.τ).loc Cert.KvSIdeal.main_v2)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v1) = v0 c
          ∧ r.2.mem ((c.tc : Thread Cert.KvSIdeal.nD Cert.KvSIdeal.τ).loc Cert.KvSIdeal.main_v2) = v1 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v1) = v0 c
          ∧ r.2.mem ((c.tc : Thread Cert.KvSRefIdeal.nD Cert.KvSRefIdeal.τ).loc Cert.KvSRefIdeal.main_v3) = v1 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)) →
    ∃ (v0 : (c : Dev Cert.GlaIdeal.nD) → Buf (Elt Ideal) ((c.tc : Thread Cert.GlaIdeal.nD Cert.GlaIdeal.τ).loc Cert.GlaIdeal.main_v6_0)) (v1 : (c : Dev Cert.GlaIdeal.nD) → Buf (Elt Ideal) ((c.tc : Thread Cert.GlaIdeal.nD Cert.GlaIdeal.τ).loc Cert.GlaIdeal.main_v6_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v6_0) = v0 c
          ∧ r.2.mem ((c.tc : Thread Cert.GlaIdeal.nD Cert.GlaIdeal.τ).loc Cert.GlaIdeal.main_v6_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v33) = v0 c
          ∧ r.2.mem ((c.tc : Thread Cert.GlaRefIdeal.nD Cert.GlaRefIdeal.τ).loc Cert.GlaRefIdeal.main_v15) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6))

def preserves_Rwkv_RwkvIdeal : Prop :=
  True

def algebraic_RwkvIdeal_RwkvRefIdeal [hRwkvIdeal : Cert.RwkvIdeal.Facts] [hRwkvRefIdeal : Cert.RwkvRefIdeal.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RwkvRefIdeal.nD Cert.RwkvRefIdeal.τ Cert.RwkvRefIdeal.sig) → Buf (Elt Ideal) ℓ) (g' : Dev Cert.RwkvRefIdeal.nD → PrngReg), Pre_RwkvIdeal m →
    (∀ c : Dev Cert.RwkvIdeal.nD,
      m' ((c.tc : Thread Cert.RwkvRefIdeal.nD Cert.RwkvRefIdeal.τ).loc Cert.RwkvRefIdeal.main_arg0) = m ((c.tc : Thread Cert.RwkvIdeal.nD Cert.RwkvIdeal.τ).loc Cert.RwkvIdeal.main_arg0)
      ∧ m' ((c.tc : Thread Cert.RwkvRefIdeal.nD Cert.RwkvRefIdeal.τ).loc Cert.RwkvRefIdeal.main_arg1) = m ((c.tc : Thread Cert.RwkvIdeal.nD Cert.RwkvIdeal.τ).loc Cert.RwkvIdeal.main_arg1)
      ∧ m' ((c.tc : Thread Cert.RwkvRefIdeal.nD Cert.RwkvRefIdeal.τ).loc Cert.RwkvRefIdeal.main_arg2) = m ((c.tc : Thread Cert.RwkvIdeal.nD Cert.RwkvIdeal.τ).loc Cert.RwkvIdeal.main_arg2)
      ∧ m' ((c.tc : Thread Cert.RwkvRefIdeal.nD Cert.RwkvRefIdeal.τ).loc Cert.RwkvRefIdeal.main_arg3) = m ((c.tc : Thread Cert.RwkvIdeal.nD Cert.RwkvIdeal.τ).loc Cert.RwkvIdeal.main_arg3)
      ∧ m' ((c.tc : Thread Cert.RwkvRefIdeal.nD Cert.RwkvRefIdeal.τ).loc Cert.RwkvRefIdeal.main_arg4) = m ((c.tc : Thread Cert.RwkvIdeal.nD Cert.RwkvIdeal.τ).loc Cert.RwkvIdeal.main_arg4)
      ∧ m' ((c.tc : Thread Cert.RwkvRefIdeal.nD Cert.RwkvRefIdeal.τ).loc Cert.RwkvRefIdeal.main_arg5) = m ((c.tc : Thread Cert.RwkvIdeal.nD Cert.RwkvIdeal.τ).loc Cert.RwkvIdeal.main_arg5)
      ∧ m' ((c.tc : Thread Cert.RwkvRefIdeal.nD Cert.RwkvRefIdeal.τ).loc Cert.RwkvRefIdeal.main_arg6) = m ((c.tc : Thread Cert.RwkvIdeal.nD Cert.RwkvIdeal.τ).loc Cert.RwkvIdeal.main_arg6)
      ∧ m' ((c.tc : Thread Cert.RwkvRefIdeal.nD Cert.RwkvRefIdeal.τ).loc Cert.RwkvRefIdeal.main_arg7) = m ((c.tc : Thread Cert.RwkvIdeal.nD Cert.RwkvIdeal.τ).loc Cert.RwkvIdeal.main_arg7)
      ∧ m' ((c.tc : Thread Cert.RwkvRefIdeal.nD Cert.RwkvRefIdeal.τ).loc Cert.RwkvRefIdeal.main_arg8) = m ((c.tc : Thread Cert.RwkvIdeal.nD Cert.RwkvIdeal.τ).loc Cert.RwkvIdeal.main_arg8)
      ∧ m' ((c.tc : Thread Cert.RwkvRefIdeal.nD Cert.RwkvRefIdeal.τ).loc Cert.RwkvRefIdeal.main_arg9) = m ((c.tc : Thread Cert.RwkvIdeal.nD Cert.RwkvIdeal.τ).loc Cert.RwkvIdeal.main_arg9)
      ∧ m' ((c.tc : Thread Cert.RwkvRefIdeal.nD Cert.RwkvRefIdeal.τ).loc Cert.RwkvRefIdeal.main_arg10) = m ((c.tc : Thread Cert.RwkvIdeal.nD Cert.RwkvIdeal.τ).loc Cert.RwkvIdeal.main_arg10)) →
    ∃ (v0 : (c : Dev Cert.RwkvIdeal.nD) → Buf (Elt Ideal) ((c.tc : Thread Cert.RwkvIdeal.nD Cert.RwkvIdeal.τ).loc Cert.RwkvIdeal.main_v10_0)) (v1 : (c : Dev Cert.RwkvIdeal.nD) → Buf (Elt Ideal) ((c.tc : Thread Cert.RwkvIdeal.nD Cert.RwkvIdeal.τ).loc Cert.RwkvIdeal.main_v10_1)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v10_0) = v0 c
          ∧ r.2.mem ((c.tc : Thread Cert.RwkvIdeal.nD Cert.RwkvIdeal.τ).loc Cert.RwkvIdeal.main_v10_1) = v1 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
          ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
          ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
          ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
          ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
          ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
          ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
          ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
          ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
          ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10))
      ∧ θ_run (Cert.RwkvRefIdeal.defs (F := Ideal)) (onTc (τ := Cert.RwkvRefIdeal.τ) (Cert.RwkvRefIdeal.main (F := Ideal))) ⟨m', fun _ => 0, g'⟩ (fun r => ∀ c : Dev Cert.RwkvRefIdeal.nD,
          r.2.mem ((c.tc : Thread Cert.RwkvRefIdeal.nD Cert.RwkvRefIdeal.τ).loc Cert.RwkvRefIdeal.main_v61) = v0 c
          ∧ r.2.mem ((c.tc : Thread Cert.RwkvRefIdeal.nD Cert.RwkvRefIdeal.τ).loc Cert.RwkvRefIdeal.main_v25) = v1 c
          ∧ r.2.mem ((c.tc : Thread Cert.RwkvRefIdeal.nD Cert.RwkvRefIdeal.τ).loc Cert.RwkvRefIdeal.main_arg0) = m' ((c.tc : Thread Cert.RwkvRefIdeal.nD Cert.RwkvRefIdeal.τ).loc Cert.RwkvRefIdeal.main_arg0)
          ∧ r.2.mem ((c.tc : Thread Cert.RwkvRefIdeal.nD Cert.RwkvRefIdeal.τ).loc Cert.RwkvRefIdeal.main_arg1) = m' ((c.tc : Thread Cert.RwkvRefIdeal.nD Cert.RwkvRefIdeal.τ).loc Cert.RwkvRefIdeal.main_arg1)
          ∧ r.2.mem ((c.tc : Thread Cert.RwkvRefIdeal.nD Cert.RwkvRefIdeal.τ).loc Cert.RwkvRefIdeal.main_arg2) = m' ((c.tc : Thread Cert.RwkvRefIdeal.nD Cert.RwkvRefIdeal.τ).loc Cert.RwkvRefIdeal.main_arg2)
          ∧ r.2.mem ((c.tc : Thread Cert.RwkvRefIdeal.nD Cert.RwkvRefIdeal.τ).loc Cert.RwkvRefIdeal.main_arg3) = m' ((c.tc : Thread Cert.RwkvRefIdeal.nD Cert.RwkvRefIdeal.τ).loc Cert.RwkvRefIdeal.main_arg3)
          ∧ r.2.mem ((c.tc : Thread Cert.RwkvRefIdeal.nD Cert.RwkvRefIdeal.τ).loc Cert.RwkvRefIdeal.main_arg4) = m' ((c.tc : Thread Cert.RwkvRefIdeal.nD Cert.RwkvRefIdeal.τ).loc Cert.RwkvRefIdeal.main_arg4)
          ∧ r.2.mem ((c.tc : Thread Cert.RwkvRefIdeal.nD Cert.RwkvRefIdeal.τ).loc Cert.RwkvRefIdeal.main_arg5) = m' ((c.tc : Thread Cert.RwkvRefIdeal.nD Cert.RwkvRefIdeal.τ).loc Cert.RwkvRefIdeal.main_arg5)
          ∧ r.2.mem ((c.tc : Thread Cert.RwkvRefIdeal.nD Cert.RwkvRefIdeal.τ).loc Cert.RwkvRefIdeal.main_arg6) = m' ((c.tc : Thread Cert.RwkvRefIdeal.nD Cert.RwkvRefIdeal.τ).loc Cert.RwkvRefIdeal.main_arg6)
          ∧ r.2.mem ((c.tc : Thread Cert.RwkvRefIdeal.nD Cert.RwkvRefIdeal.τ).loc Cert.RwkvRefIdeal.main_arg7) = m' ((c.tc : Thread Cert.RwkvRefIdeal.nD Cert.RwkvRefIdeal.τ).loc Cert.RwkvRefIdeal.main_arg7)
          ∧ r.2.mem ((c.tc : Thread Cert.RwkvRefIdeal.nD Cert.RwkvRefIdeal.τ).loc Cert.RwkvRefIdeal.main_arg8) = m' ((c.tc : Thread Cert.RwkvRefIdeal.nD Cert.RwkvRefIdeal.τ).loc Cert.RwkvRefIdeal.main_arg8)
          ∧ r.2.mem ((c.tc : Thread Cert.RwkvRefIdeal.nD Cert.RwkvRefIdeal.τ).loc Cert.RwkvRefIdeal.main_arg9) = m' ((c.tc : Thread Cert.RwkvRefIdeal.nD Cert.RwkvRefIdeal.τ).loc Cert.RwkvRefIdeal.main_arg9)
          ∧ r.2.mem ((c.tc : Thread Cert.RwkvRefIdeal.nD Cert.RwkvRefIdeal.τ).loc Cert.RwkvRefIdeal.main_arg10) = m' ((c.tc : Thread Cert.RwkvRefIdeal.nD Cert.RwkvRefIdeal.τ).loc Cert.RwkvRefIdeal.main_arg10))

def Claim : Prop :=
  ∃ (hKernel : Cert.Kernel.Facts) (hKernelIdeal : Cert.KernelIdeal.Facts) (hReferenceIdeal : Cert.ReferenceIdeal.Facts) (hFfn0 : Cert.Ffn0.Facts) (hFfn0Ideal : Cert.Ffn0Ideal.Facts) (hFfn0RefIdeal : Cert.Ffn0RefIdeal.Facts) (hFfn1 : Cert.Ffn1.Facts) (hFfn1Ideal : Cert.Ffn1Ideal.Facts) (hFfn1RefIdeal : Cert.Ffn1RefIdeal.Facts) (hIn0 : Cert.In0.Facts) (hIn0Ideal : Cert.In0Ideal.Facts) (hIn0RefIdeal : Cert.In0RefIdeal.Facts) (hIn1 : Cert.In1.Facts) (hIn1Ideal : Cert.In1Ideal.Facts) (hIn1RefIdeal : Cert.In1RefIdeal.Facts) (hOut0 : Cert.Out0.Facts) (hOut0Ideal : Cert.Out0Ideal.Facts) (hOut0RefIdeal : Cert.Out0RefIdeal.Facts) (hSb : Cert.Sb.Facts) (hSbIdeal : Cert.SbIdeal.Facts) (hSbRefIdeal : Cert.SbRefIdeal.Facts) (hFfn1S : Cert.Ffn1S.Facts) (hFfn1SIdeal : Cert.Ffn1SIdeal.Facts) (hFfn1SRefIdeal : Cert.Ffn1SRefIdeal.Facts) (hKv : Cert.Kv.Facts) (hKvIdeal : Cert.KvIdeal.Facts) (hKvRefIdeal : Cert.KvRefIdeal.Facts) (hKvS : Cert.KvS.Facts) (hKvSIdeal : Cert.KvSIdeal.Facts) (hKvSRefIdeal : Cert.KvSRefIdeal.Facts) (hGla : Cert.Gla.Facts) (hGlaIdeal : Cert.GlaIdeal.Facts) (hGlaRefIdeal : Cert.GlaRefIdeal.Facts) (hRwkv : Cert.Rwkv.Facts) (hRwkvIdeal : Cert.RwkvIdeal.Facts) (hRwkvRefIdeal : Cert.RwkvRefIdeal.Facts) (hPre_finite_qk : Cert.Pre_finite_qk.Facts) (hPre_finite_sb : Cert.Pre_finite_sb.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn0 (hFfn0 := hFfn0)
    ∧ quiescent_Ffn0Ideal (hFfn0Ideal := hFfn0Ideal)
    ∧ quiescent_Ffn0RefIdeal (hFfn0RefIdeal := hFfn0RefIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_In0 (hIn0 := hIn0)
    ∧ quiescent_In0Ideal (hIn0Ideal := hIn0Ideal)
    ∧ quiescent_In0RefIdeal (hIn0RefIdeal := hIn0RefIdeal)
    ∧ quiescent_In1 (hIn1 := hIn1)
    ∧ quiescent_In1Ideal (hIn1Ideal := hIn1Ideal)
    ∧ quiescent_In1RefIdeal (hIn1RefIdeal := hIn1RefIdeal)
    ∧ quiescent_Out0 (hOut0 := hOut0)
    ∧ quiescent_Out0Ideal (hOut0Ideal := hOut0Ideal)
    ∧ quiescent_Out0RefIdeal (hOut0RefIdeal := hOut0RefIdeal)
    ∧ quiescent_Sb (hSb := hSb)
    ∧ quiescent_SbIdeal (hSbIdeal := hSbIdeal)
    ∧ quiescent_SbIdeal_pre_finite_sb (hSbIdeal := hSbIdeal) (hPre_finite_sb := hPre_finite_sb)
    ∧ quiescent_SbRefIdeal (hSbRefIdeal := hSbRefIdeal)
    ∧ quiescent_SbRefIdeal_pre_finite_sb (hSbRefIdeal := hSbRefIdeal) (hPre_finite_sb := hPre_finite_sb)
    ∧ quiescent_Ffn1S (hFfn1S := hFfn1S)
    ∧ quiescent_Ffn1SIdeal (hFfn1SIdeal := hFfn1SIdeal)
    ∧ quiescent_Ffn1SRefIdeal (hFfn1SRefIdeal := hFfn1SRefIdeal)
    ∧ quiescent_Kv (hKv := hKv)
    ∧ quiescent_KvIdeal (hKvIdeal := hKvIdeal)
    ∧ quiescent_KvRefIdeal (hKvRefIdeal := hKvRefIdeal)
    ∧ quiescent_KvS (hKvS := hKvS)
    ∧ quiescent_KvSIdeal (hKvSIdeal := hKvSIdeal)
    ∧ quiescent_KvSRefIdeal (hKvSRefIdeal := hKvSRefIdeal)
    ∧ quiescent_Gla (hGla := hGla)
    ∧ quiescent_GlaIdeal (hGlaIdeal := hGlaIdeal)
    ∧ quiescent_GlaRefIdeal (hGlaRefIdeal := hGlaRefIdeal)
    ∧ quiescent_Rwkv (hRwkv := hRwkv)
    ∧ quiescent_RwkvIdeal (hRwkvIdeal := hRwkvIdeal)
    ∧ quiescent_RwkvRefIdeal (hRwkvRefIdeal := hRwkvRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn0_Ffn0Ideal
    ∧ algebraic_Ffn0Ideal_Ffn0RefIdeal (hFfn0Ideal := hFfn0Ideal) (hFfn0RefIdeal := hFfn0RefIdeal)
    ∧ preserves_Ffn1_Ffn1Ideal
    ∧ algebraic_Ffn1Ideal_Ffn1RefIdeal (hFfn1Ideal := hFfn1Ideal) (hFfn1RefIdeal := hFfn1RefIdeal)
    ∧ preserves_In0_In0Ideal
    ∧ algebraic_In0Ideal_In0RefIdeal (hIn0Ideal := hIn0Ideal) (hIn0RefIdeal := hIn0RefIdeal)
    ∧ preserves_In1_In1Ideal
    ∧ algebraic_In1Ideal_In1RefIdeal (hIn1Ideal := hIn1Ideal) (hIn1RefIdeal := hIn1RefIdeal)
    ∧ preserves_Out0_Out0Ideal
    ∧ algebraic_Out0Ideal_Out0RefIdeal (hOut0Ideal := hOut0Ideal) (hOut0RefIdeal := hOut0RefIdeal)
    ∧ preserves_Sb_SbIdeal
    ∧ algebraic_SbIdeal_SbRefIdeal_pre_finite_sb (hSbIdeal := hSbIdeal) (hSbRefIdeal := hSbRefIdeal) (hPre_finite_sb := hPre_finite_sb)
    ∧ preserves_Ffn1S_Ffn1SIdeal
    ∧ algebraic_Ffn1SIdeal_Ffn1SRefIdeal (hFfn1SIdeal := hFfn1SIdeal) (hFfn1SRefIdeal := hFfn1SRefIdeal)
    ∧ preserves_Kv_KvIdeal
    ∧ algebraic_KvIdeal_KvRefIdeal (hKvIdeal := hKvIdeal) (hKvRefIdeal := hKvRefIdeal)
    ∧ preserves_KvS_KvSIdeal
    ∧ algebraic_KvSIdeal_KvSRefIdeal (hKvSIdeal := hKvSIdeal) (hKvSRefIdeal := hKvSRefIdeal)
    ∧ preserves_Gla_GlaIdeal
    ∧ algebraic_GlaIdeal_GlaRefIdeal (hGlaIdeal := hGlaIdeal) (hGlaRefIdeal := hGlaRefIdeal)
    ∧ preserves_Rwkv_RwkvIdeal
    ∧ algebraic_RwkvIdeal_RwkvRefIdeal (hRwkvIdeal := hRwkvIdeal) (hRwkvRefIdeal := hRwkvRefIdeal)
-- ==== Pre_finite_qk.lean ====
abbrev S8192x2048 : Shape := ⟨2, ![8192, 2048]⟩
abbrev S8192x1024 : Shape := ⟨2, ![8192, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .bf16) (main_arg1 : FVec F S8192x2048 .bf16) (main_arg2 : FVec F S8192x1024 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  main_v10
-- ==== Pre_finite_sb.lean ====
abbrev S8192x6656 : Shape := ⟨2, ![8192, 6656]⟩
abbrev S8192x2048 : Shape := ⟨2, ![8192, 2048]⟩
abbrev S_ : Shape := ⟨0, ![]⟩

class Facts : Prop where
  slices_S8192x6656_S8192x2048_0_0 : S8192x6656.Slices ![0, 0] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x6656 .f32) : IVec S_ 1 :=
  let main_v0 : FVec F S8192x2048 .f32 := (extractStridedSlice S8192x2048 ![0, 0] · slices_S8192x6656_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  main_v4
-- ==== Kernel.lean ====
abbrev S8192x2048 : Shape := ⟨2, ![8192, 2048]⟩
abbrev S8192x1024 : Shape := ⟨2, ![8192, 1024]⟩
abbrev S36 : Shape := ⟨1, ![36]⟩
abbrev S512x1024 : Shape := ⟨2, ![512, 1024]⟩
abbrev S1 : Shape := ⟨1, ![1]⟩
abbrev S512x512 : Shape := ⟨2, ![512, 512]⟩
abbrev S4x512x1 : Shape := ⟨3, ![4, 512, 1]⟩
abbrev S4x512x128 : Shape := ⟨3, ![4, 512, 128]⟩
abbrev S512x256 : Shape := ⟨2, ![512, 256]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩
abbrev S512x128 : Shape := ⟨2, ![512, 128]⟩

abbrev nBuf : Space → Nat
  | .hbm => 4
  | .vmem => 11
  | .smem => 2
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S4x512x1, .f32⟩
  | .local _ .vmem, ⟨9, _⟩ => ⟨S4x512x1, .f32⟩
  | .local _ .vmem, ⟨10, _⟩ => ⟨S4x512x128, .f32⟩
  | .local _ .smem, ⟨0, _⟩ => ⟨S36, .i32⟩
  | .local _ .smem, ⟨1, _⟩ => ⟨S36, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 36], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8192x2048 : Shape := ⟨2, ![8192, 2048]⟩
abbrev S8192x1024 : Shape := ⟨2, ![8192, 1024]⟩
abbrev S2x4096x8x256 : Shape := ⟨4, ![2, 4096, 8, 256]⟩
abbrev S2x4096x8x128 : Shape := ⟨4, ![2, 4096, 8, 128]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x2048, .f32⟩
  | .hbm, ⟨4, _⟩ => ⟨S2x4096x8x256, .f32⟩
  | .hbm, ⟨5, _⟩ => ⟨S8192x2048, .f32⟩
  | .hbm, ⟨6, _⟩ => ⟨S2x4096x8x256, .f32⟩
  | .hbm, ⟨7, _⟩ => ⟨S8192x1024, .f32⟩
  | .hbm, ⟨8, _⟩ => ⟨S2x4096x8x128, .f32⟩
  | .hbm, ⟨9, _⟩ => ⟨S2x8x4096x4096, .f32⟩
  | .hbm, ⟨10, _⟩ => ⟨S_, .f32⟩
  | .hbm, ⟨11, _⟩ => ⟨S2x8x4096x4096, .f32⟩
  | .hbm, ⟨12, _⟩ => ⟨S2x8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S2x8x4096x4096, .i1⟩
  | .hbm, ⟨22, _⟩ => ⟨S2x8x4096x4096, .f32⟩
  | .hbm, ⟨23, _⟩ => ⟨S2x8x4096x4096, .f32⟩
  | .hbm, ⟨24, _⟩ => ⟨S_, .f32⟩
  | .hbm, ⟨25, _⟩ => ⟨S2x8x4096, .f32⟩
  | .hbm, ⟨26, _⟩ => ⟨S_, .f32⟩
  | .hbm, ⟨27, _⟩ => ⟨S2x8x4096, .f32⟩
  | .hbm, ⟨28, _⟩ => ⟨S2x8x4096, .f32⟩
  | .hbm, ⟨29, _⟩ => ⟨S2x8x4096x1, .f32⟩
  | .hbm, ⟨30, _⟩ => ⟨S2x8x4096x4096, .f32⟩
  | .hbm, ⟨31, _⟩ => ⟨S2x8x4096x4096, .f32⟩
  | .hbm, ⟨32, _⟩ => ⟨S2x8x4096x4096, .f32⟩
  | .hbm, ⟨33, _⟩ => ⟨S_, .f32⟩
  | .hbm, ⟨34, _⟩ => ⟨S2x8x4096, .f32⟩
  | .hbm, ⟨35, _⟩ => ⟨S2x8x4096x1, .f32⟩
  | .hbm, ⟨36, _⟩ => ⟨S2x8x4096x4096, .f32⟩
  | .hbm, ⟨37, _⟩ => ⟨S2x8x4096x4096, .f32⟩
  | .hbm, ⟨38, _⟩ => ⟨S2x8x128x4096, .f32⟩
  | .hbm, ⟨39, _⟩ => ⟨S2x4096x8x128, .f32⟩
  | .hbm, ⟨40, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Ffn0.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v25 : BitVec 1 := Scalar.cmpi .eq arg1 c10_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Ffn0RefIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x5632, .f32⟩
  | .hbm, ⟨22, _⟩ => ⟨S2048x5632, .f32⟩
  | .hbm, ⟨23, _⟩ => ⟨S5632x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Ffn1.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v25 : BitVec 1 := Scalar.cmpi .eq arg1 c10_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Ffn1Ideal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v25 : BitVec 1 := Scalar.cmpi .eq arg1 c10_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Ffn1RefIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== In0.lean ====
abbrev S8192x2048 : Shape := ⟨2, ![8192, 2048]⟩
abbrev S2048x5120 : Shape := ⟨2, ![2048, 5120]⟩
abbrev S2048 : Shape := ⟨1, ![2048]⟩
abbrev S1x2048 : Shape := ⟨2, ![1, 2048]⟩
abbrev S8192x5120 : Shape := ⟨2, ![8192, 5120]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x5120, .bf16⟩
  | .hbm, ⟨2, _⟩ => ⟨S2048, .f32⟩
  | .hbm, ⟨3, _⟩ => ⟨S1x2048, .f32⟩
  | .hbm, ⟨4, _⟩ => ⟨S8192x5120, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== In0RefIdeal.lean ====
abbrev S8192x2048 : Shape := ⟨2, ![8192, 2048]⟩
abbrev S2048x5120 : Shape := ⟨2, ![2048, 5120]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5120 : Shape := ⟨2, ![8192, 5120]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5120, .bf16⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x5120, .f32⟩
  | .hbm, ⟨20, _⟩ => ⟨S8192x5120, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== In1.lean ====
abbrev S8192x2048 : Shape := ⟨2, ![8192, 2048]⟩
abbrev S2048x6656 : Shape := ⟨2, ![2048, 6656]⟩
abbrev S2048 : Shape := ⟨1, ![2048]⟩
abbrev S1x2048 : Shape := ⟨2, ![1, 2048]⟩
abbrev S8192x6656 : Shape := ⟨2, ![8192, 6656]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x6656, .bf16⟩
  | .hbm, ⟨2, _⟩ => ⟨S2048, .f32⟩
  | .hbm, ⟨3, _⟩ => ⟨S1x2048, .f32⟩
  | .hbm, ⟨4, _⟩ => ⟨S8192x6656, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== In1RefIdeal.lean ====
abbrev S8192x2048 : Shape := ⟨2, ![8192, 2048]⟩
abbrev S2048x6656 : Shape := ⟨2, ![2048, 6656]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6656 : Shape := ⟨2, ![8192, 6656]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6656, .bf16⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x6656, .f32⟩
  | .hbm, ⟨20, _⟩ => ⟨S8192x6656, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Out0.lean ====
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .bf16⟩
  | .hbm, ⟨3, _⟩ => ⟨S8192x2048, .f32⟩
  | .hbm, ⟨4, _⟩ => ⟨S1024x2048, .bf16⟩
  | .hbm, ⟨5, _⟩ => ⟨S1024x2048, .bf16⟩
  | .hbm, ⟨6, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x1024, .bf16⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Out0RefIdeal.lean ====
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .bf16⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Sb.lean ====
abbrev S8192x6656 : Shape := ⟨2, ![8192, 6656]⟩
abbrev S36 : Shape := ⟨1, ![36]⟩
abbrev S256x256 : Shape := ⟨2, ![256, 256]⟩
abbrev S8192x1024 : Shape := ⟨2, ![8192, 1024]⟩
abbrev S512x256 : Shape := ⟨2, ![512, 256]⟩
abbrev S1 : Shape := ⟨1, ![1]⟩
abbrev S4x512x64 : Shape := ⟨3, ![4, 512, 64]⟩
abbrev S4x512x1 : Shape := ⟨3, ![4, 512, 1]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1x512x64 : Shape := ⟨3, ![1, 512, 64]⟩
abbrev S1x512x1 : Shape := ⟨3, ![1, 512, 1]⟩

abbrev nBuf : Space → Nat
  | .hbm => 6
  | .vmem => 11
  | .smem => 2
  | _ => 0

abbrev bufTy : (tb : Table) → Fin (tcTables nBuf tb) → BufTy
  | .hbm, ⟨0, _⟩ => ⟨S8192x6656, .f32⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .bf16⟩
  | .hbm, ⟨5, _⟩ => ⟨S8192x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S256x256, .bf16⟩
  | .local _ .vmem, ⟨7, _⟩ => ⟨S512x256, .f32⟩
  | .local _ .vmem, ⟨8, _⟩ => ⟨S512x256, .f32⟩
  | .local _ .vmem, ⟨9, _⟩ => ⟨S4x512x64, .f32⟩
  | .local _ .vmem, ⟨10, _⟩ => ⟨S4x512x1, .f32⟩
  | .local _ .smem, ⟨0, _⟩ => ⟨S36, .i32⟩
  | .local _ .smem, ⟨1, _⟩ => ⟨S36, .i32⟩
  | _, _ => ⟨S8192x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 36], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v3 : BitVec 32) : BitVec 1 :=
  let c0_i32_1 : BitVec 32 := 0#32
  let v10 : BitVec 1 := Scalar.cmpi .eq v3 c0_i32_1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c4_i32 : BitVec 32 := 4#32
  let v4 : BitVec 32 := Scalar.addi c4_i32 arg1
  let c0_i32 : BitVec 32 := 0#32
  ![v3.toNat, v4.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c8_i32_0 : BitVec 32 := 8#32
  let v4 : BitVec 32 := Scalar.addi c8_i32_0 arg1
  let c0_i32 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== SbRefIdeal.lean ====
abbrev S8192x6656 : Shape := ⟨2, ![8192, 6656]⟩
abbrev S8192x1024 : Shape := ⟨2, ![8192, 1024]⟩
abbrev S2x4096x16x64 : Shape := ⟨4, ![2, 4096, 16, 64]⟩
abbrev S2x16x4096x4096 : Shape := ⟨4, ![2, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x4096x4095 : Shape := ⟨4, ![2, 16, 4096, 4095]⟩
abbrev S2x16x4096x1 : Shape := ⟨4, ![2, 16, 4096, 1]⟩
abbrev S2x16x64x4096 : Shape := ⟨4, ![2, 16, 64, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8192x6656, .f32⟩
  | .hbm, ⟨1, _⟩ => ⟨S8192x1024, .f32⟩
  | .hbm, ⟨2, _⟩ => ⟨S2x4096x16x64, .f32⟩
  | .hbm, ⟨3, _⟩ => ⟨S8192x1024, .f32⟩
  | .hbm, ⟨4, _⟩ => ⟨S2x4096x16x64, .f32⟩
  | .hbm, ⟨5, _⟩ => ⟨S8192x1024, .f32⟩
  | .hbm, ⟨6, _⟩ => ⟨S2x4096x16x64, .f32⟩
  | .hbm, ⟨7, _⟩ => ⟨S2x16x4096x4096, .f32⟩
  | .hbm, ⟨8, _⟩ => ⟨S_, .f32⟩
  | .hbm, ⟨9, _⟩ => ⟨S2x16x4096x4096, .f32⟩
  | .hbm, ⟨10, _⟩ => ⟨S2x16x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S2x16x4096x4096, .f32⟩
  | .hbm, ⟨18, _⟩ => ⟨S2x16x4096x4096, .f32⟩
  | .hbm, ⟨19, _⟩ => ⟨S_, .f32⟩
  | .hbm, ⟨20, _⟩ => ⟨S2x16x4096x4096, .f32⟩
  | .hbm, ⟨21, _⟩ => ⟨S2x16x4096x4096, .f32⟩
  | .hbm, ⟨22, _⟩ => ⟨S2x16x4096x4096, .f32⟩
  | .hbm, ⟨23, _⟩ => ⟨S2x16x4096x4096, .f32⟩
  | .hbm, ⟨24, _⟩ => ⟨S2x16x4096x4096, .i1⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .f32⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S_, .f32⟩
  | .hbm, ⟨35, _⟩ => ⟨S_, .f32⟩
  | .hbm, ⟨36, _⟩ => ⟨S2x16x4096x4096, .i1⟩
  | .hbm, ⟨37, _⟩ => ⟨S2x16x4096x4096, .f32⟩
  | .hbm, ⟨38, _⟩ => ⟨S2x16x4096x4096, .f32⟩
  | .hbm, ⟨39, _⟩ => ⟨S_, .f32⟩
  | .hbm, ⟨40, _⟩ => ⟨S_, .f32⟩
  | .hbm, ⟨41, _⟩ => ⟨S2x16x4096x4096, .f32⟩
  | .hbm, ⟨42, _⟩ => ⟨S2x16x4096x4095, .f32⟩
  | .hbm, ⟨43, _⟩ => ⟨S2x16x4096x1, .f32⟩
  | .hbm, ⟨44, _⟩ => ⟨S_, .f32⟩
  | .hbm, ⟨45, _⟩ => ⟨S2x16x4096x1, .f32⟩
  | .hbm, ⟨46, _⟩ => ⟨S2x16x4096x4096, .f32⟩
  | .hbm, ⟨47, _⟩ => ⟨S2x16x4096x4096, .f32⟩
  | .hbm, ⟨48, _⟩ => ⟨S_, .f32⟩
  | .hbm, ⟨49, _⟩ => ⟨S2x16x4096x4096, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .f32⟩
  | .hbm, ⟨53, _⟩ => ⟨S2x16x4096x4096, .i1⟩
  | .hbm, ⟨54, _⟩ => ⟨S2x16x4096x4096, .f32⟩
  | .hbm, ⟨55, _⟩ => ⟨S2x16x4096x4096, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S_, .f32⟩
  | .hbm, ⟨66, _⟩ => ⟨S_, .f32⟩
  | .hbm, ⟨67, _⟩ => ⟨S2x16x4096x4096, .i1⟩
  | .hbm, ⟨68, _⟩ => ⟨S2x16x4096x4096, .f32⟩
  | .hbm, ⟨69, _⟩ => ⟨S2x16x4096x4096, .f32⟩
  | .hbm, ⟨70, _⟩ => ⟨S2x16x64x4096, .f32⟩
  | .hbm, ⟨71, _⟩ => ⟨S2x4096x16x64, .f32⟩
  | .hbm, ⟨72, _⟩ => ⟨S8192x1024, .f32⟩
  | _, _ => ⟨S8192x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_call2_cst : Ref sig .tc := ⟨.hbm, 39, rfl⟩
abbrev main_call2_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_2 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩

abbrev nD : Nat := 1
abbrev τ : Topo := Topo.v7x

variable {F : FTy → Type} [FloatOps F]
-- ==== Ffn1S.lean ====
abbrev S128x2048 : Shape := ⟨2, ![128, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S2048x512 : Shape := ⟨2, ![2048, 512]⟩
abbrev S512x2048 : Shape := ⟨2, ![512, 2048]⟩
abbrev S128 : Shape := ⟨1, ![128]⟩
abbrev S128x1 : Shape := ⟨2, ![128, 1]⟩
abbrev S128x512 : Shape := ⟨2, ![128, 512]⟩

abbrev nBuf : Space → Nat
  | .hbm => 9
  | .vmem => 12
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v25 : BitVec 1 := Scalar.cmpi .eq arg1 c10_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Ffn1SRefIdeal.lean ====
abbrev S128x2048 : Shape := ⟨2, ![128, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x5632 : Shape := ⟨2, ![128, 5632]⟩

abbrev nBuf : Space → Nat
  | .hbm => 55
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S128x2048, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x2048, .f32⟩
  | .hbm, ⟨18, _⟩ => ⟨S128x2048, .f32⟩
  | .hbm, ⟨19, _⟩ => ⟨S1x2048, .f32⟩
  | .hbm, ⟨20, _⟩ => ⟨S128x2048, .f32⟩
  | .hbm, ⟨21, _⟩ => ⟨S128x2048, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S128x5632, .f32⟩
  | .hbm, ⟨26, _⟩ => ⟨S128x5632, .f32⟩
  | .hbm, ⟨27, _⟩ => ⟨S128x5632, .f32⟩
  | .hbm, ⟨28, _⟩ => ⟨S_, .f32⟩
  | .hbm, ⟨29, _⟩ => ⟨S128x5632, .f32⟩
  | .hbm, ⟨30, _⟩ => ⟨S128x5632, .f32⟩
  | .hbm, ⟨31, _⟩ => ⟨S_, .f32⟩
  | .hbm, ⟨32, _⟩ => ⟨S128x5632, .f32⟩
  | .hbm, ⟨33, _⟩ => ⟨S128x5632, .f32⟩
  | .hbm, ⟨34, _⟩ => ⟨S128x5632, .f32⟩
  | .hbm, ⟨35, _⟩ => ⟨S128x5632, .f32⟩
  | .hbm, ⟨36, _⟩ => ⟨S128x5632, .f32⟩
  | .hbm, ⟨37, _⟩ => ⟨S128x2048, .f32⟩
  | .hbm, ⟨38, _⟩ => ⟨S128x2048, .f32⟩
  | .hbm, ⟨39, _⟩ => ⟨S128x2048, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x2048, .f32⟩
  | .hbm, ⟨51, _⟩ => ⟨S128x2048, .f32⟩
  | .hbm, ⟨52, _⟩ => ⟨S1x2048, .f32⟩
  | .hbm, ⟨53, _⟩ => ⟨S128x2048, .f32⟩
  | .hbm, ⟨54, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kv.lean ====
abbrev S8192x6656 : Shape := ⟨2, ![8192, 6656]⟩
abbrev S2x16x64x4096 : Shape := ⟨4, ![2, 16, 64, 4096]⟩
abbrev S512x1024 : Shape := ⟨2, ![512, 1024]⟩
abbrev S1x16x64x512 : Shape := ⟨4, ![1, 16, 64, 512]⟩
abbrev S1024x512 : Shape := ⟨2, ![1024, 512]⟩
abbrev S16x64x512 : Shape := ⟨3, ![16, 64, 512]⟩
abbrev S2x4096x16x64 : Shape := ⟨4, ![2, 4096, 16, 64]⟩

abbrev nBuf : Space → Nat
  | .hbm => 5
  | .vmem => 8
  | .smem => 0
  | _ => 0

abbrev bufTy : (tb : Table) → Fin (tcTables nBuf tb) → BufTy
  | .hbm, ⟨0, _⟩ => ⟨S8192x6656, .f32⟩
  | .hbm, ⟨1, _⟩ => ⟨S2x16x64x4096, .f32⟩
  | .hbm, ⟨2, _⟩ => ⟨S2x16x64x4096, .f32⟩
  | .hbm, ⟨3, _⟩ => ⟨S2x4096x16x64, .f32⟩
  | .hbm, ⟨4, _⟩ => ⟨S2x4096x16x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x16x64x512, .f32⟩
  | .local _ .vmem, ⟨5, _⟩ => ⟨S1x16x64x512, .f32⟩
  | .local _ .vmem, ⟨6, _⟩ => ⟨S1x16x64x512, .f32⟩
  | .local _ .vmem, ⟨7, _⟩ => ⟨S1x16x64x512, .f32⟩
  | _, _ => ⟨S8192x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S8192x6656 : Shape := ⟨2, ![8192, 6656]⟩
abbrev S8192x1024 : Shape := ⟨2, ![8192, 1024]⟩
abbrev S2x4096x16x64 : Shape := ⟨4, ![2, 4096, 16, 64]⟩

abbrev nBuf : Space → Nat
  | .hbm => 5
  | .vmem => 0
  | .smem => 0
  | _ => 0

abbrev bufTy : (tb : Table) → Fin (tcTables nBuf tb) → BufTy
  | .hbm, ⟨0, _⟩ => ⟨S8192x6656, .f32⟩
  | .hbm, ⟨1, _⟩ => ⟨S8192x1024, .f32⟩
  | .hbm, ⟨2, _⟩ => ⟨S2x4096x16x64, .f32⟩
  | .hbm, ⟨3, _⟩ => ⟨S8192x1024, .f32⟩
  | .hbm, ⟨4, _⟩ => ⟨S2x4096x16x64, .f32⟩
  | _, _ => ⟨S8192x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== KvS.lean ====
abbrev S128x6656 : Shape := ⟨2, ![128, 6656]⟩
abbrev S1x16x64x128 : Shape := ⟨4, ![1, 16, 64, 128]⟩
abbrev S128x1024 : Shape := ⟨2, ![128, 1024]⟩
abbrev S1024x128 : Shape := ⟨2, ![1024, 128]⟩
abbrev S16x64x128 : Shape := ⟨3, ![16, 64, 128]⟩
abbrev S128x1x16x64 : Shape := ⟨4, ![128, 1, 16, 64]⟩

abbrev nBuf : Space → Nat
  | .hbm => 5
  | .vmem => 4
  | .smem => 0
  | _ => 0

abbrev bufTy : (tb : Table) → Fin (tcTables nBuf tb) → BufTy
  | .hbm, ⟨0, _⟩ => ⟨S128x6656, .f32⟩
  | .hbm, ⟨1, _⟩ => ⟨S1x16x64x128, .f32⟩
  | .hbm, ⟨2, _⟩ => ⟨S1x16x64x128, .f32⟩
  | .hbm, ⟨3, _⟩ => ⟨S128x1x16x64, .f32⟩
  | .hbm, ⟨4, _⟩ => ⟨S128x1x16x64, .f32⟩
  | .local _ .vmem, ⟨0, _⟩ => ⟨S128x1024, .f32⟩
  | .local _ .vmem, ⟨1, _⟩ => ⟨S128x1024, .f32⟩
  | .local _ .vmem, ⟨2, _⟩ => ⟨S1x16x64x128, .f32⟩
  | .local _ .vmem, ⟨3, _⟩ => ⟨S1x16x64x128, .f32⟩
  | _, _ => ⟨S128x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== KvSRefIdeal.lean ====
abbrev S128x6656 : Shape := ⟨2, ![128, 6656]⟩
abbrev S128x1024 : Shape := ⟨2, ![128, 1024]⟩
abbrev S128x1x16x64 : Shape := ⟨4, ![128, 1, 16, 64]⟩

abbrev nBuf : Space → Nat
  | .hbm => 5
  | .vmem => 0
  | .smem => 0
  | _ => 0

abbrev bufTy : (tb : Table) → Fin (tcTables nBuf tb) → BufTy
  | .hbm, ⟨0, _⟩ => ⟨S128x6656, .f32⟩
  | .hbm, ⟨1, _⟩ => ⟨S128x1024, .f32⟩
  | .hbm, ⟨2, _⟩ => ⟨S128x1x16x64, .f32⟩
  | .hbm, ⟨3, _⟩ => ⟨S128x1024, .f32⟩
  | .hbm, ⟨4, _⟩ => ⟨S128x1x16x64, .f32⟩
  | _, _ => ⟨S128x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Gla.lean ====
abbrev S128x512 : Shape := ⟨2, ![128, 512]⟩
abbrev S128x1024 : Shape := ⟨2, ![128, 1024]⟩
abbrev S128x4x128x256 : Shape := ⟨4, ![128, 4, 128, 256]⟩
abbrev S256 : Shape := ⟨1, ![256]⟩
abbrev S1x1x1x256 : Shape := ⟨4, ![1, 1, 1, 256]⟩
abbrev S128x4x1x128 : Shape := ⟨4, ![128, 4, 1, 128]⟩
abbrev S128x4x1x256 : Shape := ⟨4, ![128, 4, 1, 256]⟩
abbrev S8x4x1x128 : Shape := ⟨4, ![8, 4, 1, 128]⟩
abbrev S8x4x1x256 : Shape := ⟨4, ![8, 4, 1, 256]⟩
abbrev S8x4x128x256 : Shape := ⟨4, ![8, 4, 128, 256]⟩
abbrev S128x128 : Shape := ⟨2, ![128, 128]⟩
abbrev S1x1x128x128 : Shape := ⟨4, ![1, 1, 128, 128]⟩
abbrev S8x4x128x128 : Shape := ⟨4, ![8, 4, 128, 128]⟩
abbrev S8x4x128 : Shape := ⟨3, ![8, 4, 128]⟩
abbrev S8x4x128x1 : Shape := ⟨4, ![8, 4, 128, 1]⟩
abbrev S8x4x256 : Shape := ⟨3, ![8, 4, 256]⟩
abbrev S8x4x1 : Shape := ⟨3, ![8, 4, 1]⟩
abbrev S8x4x1x1 : Shape := ⟨4, ![8, 4, 1, 1]⟩

abbrev nBuf : Space → Nat
  | .hbm => 15
  | .vmem => 17
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x1024, .f32⟩
  | .hbm, ⟨4, _⟩ => ⟨S128x1024, .f32⟩
  | .hbm, ⟨5, _⟩ => ⟨S128x4x128x256, .f32⟩
  | .hbm, ⟨6, _⟩ => ⟨S256, .f32⟩
  | .hbm, ⟨7, _⟩ => ⟨S1x1x1x256, .f32⟩
  | .hbm, ⟨8, _⟩ => ⟨S128x4x1x128, .f32⟩
  | .hbm, ⟨9, _⟩ => ⟨S128x4x1x128, .f32⟩
  | .hbm, ⟨10, _⟩ => ⟨S128x4x1x128, .f32⟩
  | .hbm, ⟨11, _⟩ => ⟨S128x4x1x256, .f32⟩
  | .hbm, ⟨12, _⟩ => ⟨S128x4x1x256, .f32⟩
  | .hbm, ⟨13, _⟩ => ⟨S128x4x1x256, .f32⟩
  | .hbm, ⟨14, _⟩ => ⟨S128x4x128x256, .f32⟩
  | .local _ .vmem, ⟨0, _⟩ => ⟨S8x4x1x128, .f32⟩
  | .local _ .vmem, ⟨1, _⟩ => ⟨S8x4x1x128, .f32⟩
  | .local _ .vmem, ⟨2, _⟩ => ⟨S8x4x1x128, .f32⟩
  | .local _ .vmem, ⟨3, _⟩ => ⟨S8x4x1x128, .f32⟩
  | .local _ .vmem, ⟨4, _⟩ => ⟨S8x4x1x128, .f32⟩
  | .local _ .vmem, ⟨5, _⟩ => ⟨S8x4x1x128, .f32⟩
  | .local _ .vmem, ⟨6, _⟩ => ⟨S8x4x1x256, .f32⟩
  | .local _ .vmem, ⟨7, _⟩ => ⟨S8x4x1x256, .f32⟩
  | .local _ .vmem, ⟨8, _⟩ => ⟨S8x4x1x256, .f32⟩
  | .local _ .vmem, ⟨9, _⟩ => ⟨S8x4x1x256, .f32⟩
  | .local _ .vmem, ⟨10, _⟩ => ⟨S8x4x128x256, .f32⟩
  | .local _ .vmem, ⟨11, _⟩ => ⟨S8x4x128x256, .f32⟩
  | .local _ .vmem, ⟨12, _⟩ => ⟨S1x1x1x256, .f32⟩
  | .local _ .vmem, ⟨13, _⟩ => ⟨S8x4x1x256, .f32⟩
  | .local _ .vmem, ⟨14, _⟩ => ⟨S8x4x1x256, .f32⟩
  | .local _ .vmem, ⟨15, _⟩ => ⟨S8x4x128x256, .f32⟩
  | .local _ .vmem, ⟨16, _⟩ => ⟨S8x4x128x256, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x4x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x4x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GlaRefIdeal.lean ====
abbrev S128x512 : Shape := ⟨2, ![128, 512]⟩
abbrev S128x1024 : Shape := ⟨2, ![128, 1024]⟩
abbrev S128x4x128x256 : Shape := ⟨4, ![128, 4, 128, 256]⟩
abbrev S256 : Shape := ⟨1, ![256]⟩
abbrev S128x4x128 : Shape := ⟨3, ![128, 4, 128]⟩
abbrev S_ : Shape := ⟨0, ![]⟩
abbrev S128x4x128x1 : Shape := ⟨4, ![128, 4, 128, 1]⟩
abbrev S128x4x256 : Shape := ⟨3, ![128, 4, 256]⟩
abbrev S128x4x1x256 : Shape := ⟨4, ![128, 4, 1, 256]⟩
abbrev S128x4 : Shape := ⟨2, ![128, 4]⟩
abbrev S128x4x1 : Shape := ⟨3, ![128, 4, 1]⟩
abbrev S1x1x256 : Shape := ⟨3, ![1, 1, 256]⟩

abbrev nBuf : Space → Nat
  | .hbm => 53
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x1024, .f32⟩
  | .hbm, ⟨4, _⟩ => ⟨S128x1024, .f32⟩
  | .hbm, ⟨5, _⟩ => ⟨S128x4x128x256, .f32⟩
  | .hbm, ⟨6, _⟩ => ⟨S256, .f32⟩
  | .hbm, ⟨7, _⟩ => ⟨S128x4x128, .f32⟩
  | .hbm, ⟨8, _⟩ => ⟨S_, .f32⟩
  | .hbm, ⟨9, _⟩ => ⟨S128x4x128, .f32⟩
  | .hbm, ⟨10, _⟩ => ⟨S128x4x128, .f32⟩
  | .hbm, ⟨11, _⟩ => ⟨S128x4x128, .f32⟩
  | .hbm, ⟨12, _⟩ => ⟨S128x4x128, .f32⟩
  | .hbm, ⟨13, _⟩ => ⟨S128x4x128, .f32⟩
  | .hbm, ⟨14, _⟩ => ⟨S128x4x128x1, .f32⟩
  | .hbm, ⟨15, _⟩ => ⟨S128x4x128x256, .f32⟩
  | .hbm, ⟨16, _⟩ => ⟨S128x4x128x256, .f32⟩
  | .hbm, ⟨17, _⟩ => ⟨S128x4x128x1, .f32⟩
  | .hbm, ⟨18, _⟩ => ⟨S128x4x256, .f32⟩
  | .hbm, ⟨19, _⟩ => ⟨S128x4x1x256, .f32⟩
  | .hbm, ⟨20, _⟩ => ⟨S128x4x128x256, .f32⟩
  | .hbm, ⟨21, _⟩ => ⟨S128x4x128x256, .f32⟩
  | .hbm, ⟨22, _⟩ => ⟨S128x4x128x256, .f32⟩
  | .hbm, ⟨23, _⟩ => ⟨S128x4x128x256, .f32⟩
  | .hbm, ⟨24, _⟩ => ⟨S128x4x256, .f32⟩
  | .hbm, ⟨25, _⟩ => ⟨S128x4x256, .f32⟩
  | .hbm, ⟨26, _⟩ => ⟨S_, .f32⟩
  | .hbm, ⟨27, _⟩ => ⟨S128x4, .f32⟩
  | .hbm, ⟨28, _⟩ => ⟨S128x4x1, .f32⟩
  | .hbm, ⟨29, _⟩ => ⟨S_, .f32⟩
  | .hbm, ⟨30, _⟩ => ⟨S128x4x1, .f32⟩
  | .hbm, ⟨31, _⟩ => ⟨S128x4x1, .f32⟩
  | .hbm, ⟨32, _⟩ => ⟨S_, .f32⟩
  | .hbm, ⟨33, _⟩ => ⟨S128x4x1, .f32⟩
  | .hbm, ⟨34, _⟩ => ⟨S128x4x1, .f32⟩
  | .hbm, ⟨35, _⟩ => ⟨S128x4x1, .f32⟩
  | .hbm, ⟨36, _⟩ => ⟨S128x4x256, .f32⟩
  | .hbm, ⟨37, _⟩ => ⟨S128x4x256, .f32⟩
  | .hbm, ⟨38, _⟩ => ⟨S1x1x256, .f32⟩
  | .hbm, ⟨39, _⟩ => ⟨S128x4x256, .f32⟩
  | .hbm, ⟨40, _⟩ => ⟨S128x4x256, .f32⟩
  | .hbm, ⟨41, _⟩ => ⟨S128x4x256, .f32⟩
  | .hbm, ⟨42, _⟩ => ⟨S128x4x256, .f32⟩
  | .hbm, ⟨43, _⟩ => ⟨S128x4x256, .f32⟩
  | .hbm, ⟨44, _⟩ => ⟨S_, .f32⟩
  | .hbm, ⟨45, _⟩ => ⟨S128x4x256, .f32⟩
  | .hbm, ⟨46, _⟩ => ⟨S128x4x256, .f32⟩
  | .hbm, ⟨47, _⟩ => ⟨S_, .f32⟩
  | .hbm, ⟨48, _⟩ => ⟨S128x4x256, .f32⟩
  | .hbm, ⟨49, _⟩ => ⟨S128x4x256, .f32⟩
  | .hbm, ⟨50, _⟩ => ⟨S128x4x256, .f32⟩
  | .hbm, ⟨51, _⟩ => ⟨S128x4x256, .f32⟩
  | .hbm, ⟨52, _⟩ => ⟨S128x4x1x256, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Rwkv.lean ====
abbrev S128x1024 : Shape := ⟨2, ![128, 1024]⟩
abbrev S128x16x64x64 : Shape := ⟨4, ![128, 16, 64, 64]⟩
abbrev S1024 : Shape := ⟨1, ![1024]⟩
abbrev S128x16x1x64 : Shape := ⟨4, ![128, 16, 1, 64]⟩
abbrev S1x16x1x64 : Shape := ⟨4, ![1, 16, 1, 64]⟩
abbrev S8x16x1x64 : Shape := ⟨4, ![8, 16, 1, 64]⟩
abbrev S8x16x64x64 : Shape := ⟨4, ![8, 16, 64, 64]⟩
abbrev S64x64 : Shape := ⟨2, ![64, 64]⟩
abbrev S8x16x64 : Shape := ⟨3, ![8, 16, 64]⟩
abbrev S8x16x64x1 : Shape := ⟨4, ![8, 16, 64, 1]⟩
abbrev S1x1x64x64 : Shape := ⟨4, ![1, 1, 64, 64]⟩
abbrev S8x16x1 : Shape := ⟨3, ![8, 16, 1]⟩
abbrev S8x16x1x1 : Shape := ⟨4, ![8, 16, 1, 1]⟩

abbrev nBuf : Space → Nat
  | .hbm => 23
  | .vmem => 23
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x16x64x64, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S128x16x1x64, .f32⟩
  | .hbm, ⟨12, _⟩ => ⟨S128x16x1x64, .f32⟩
  | .hbm, ⟨13, _⟩ => ⟨S128x16x1x64, .f32⟩
  | .hbm, ⟨14, _⟩ => ⟨S128x16x1x64, .f32⟩
  | .hbm, ⟨15, _⟩ => ⟨S128x16x1x64, .f32⟩
  | .hbm, ⟨16, _⟩ => ⟨S128x16x1x64, .f32⟩
  | .hbm, ⟨17, _⟩ => ⟨S128x16x1x64, .f32⟩
  | .hbm, ⟨18, _⟩ => ⟨S1x16x1x64, .f32⟩
  | .hbm, ⟨19, _⟩ => ⟨S1x16x1x64, .f32⟩
  | .hbm, ⟨20, _⟩ => ⟨S1x16x1x64, .f32⟩
  | .hbm, ⟨21, _⟩ => ⟨S128x16x1x64, .f32⟩
  | .hbm, ⟨22, _⟩ => ⟨S128x16x64x64, .f32⟩
  | .local _ .vmem, ⟨0, _⟩ => ⟨S8x16x1x64, .f32⟩
  | .local _ .vmem, ⟨1, _⟩ => ⟨S8x16x1x64, .f32⟩
  | .local _ .vmem, ⟨2, _⟩ => ⟨S8x16x1x64, .f32⟩
  | .local _ .vmem, ⟨3, _⟩ => ⟨S8x16x1x64, .f32⟩
  | .local _ .vmem, ⟨4, _⟩ => ⟨S8x16x1x64, .f32⟩
  | .local _ .vmem, ⟨5, _⟩ => ⟨S8x16x1x64, .f32⟩
  | .local _ .vmem, ⟨6, _⟩ => ⟨S8x16x1x64, .f32⟩
  | .local _ .vmem, ⟨7, _⟩ => ⟨S8x16x1x64, .f32⟩
  | .local _ .vmem, ⟨8, _⟩ => ⟨S8x16x1x64, .f32⟩
  | .local _ .vmem, ⟨9, _⟩ => ⟨S8x16x1x64, .f32⟩
  | .local _ .vmem, ⟨10, _⟩ => ⟨S8x16x1x64, .f32⟩
  | .local _ .vmem, ⟨11, _⟩ => ⟨S8x16x1x64, .f32⟩
  | .local _ .vmem, ⟨12, _⟩ => ⟨S8x16x1x64, .f32⟩
  | .local _ .vmem, ⟨13, _⟩ => ⟨S8x16x1x64, .f32⟩
  | .local _ .vmem, ⟨14, _⟩ => ⟨S8x16x64x64, .f32⟩
  | .local _ .vmem, ⟨15, _⟩ => ⟨S8x16x64x64, .f32⟩
  | .local _ .vmem, ⟨16, _⟩ => ⟨S1x16x1x64, .f32⟩
  | .local _ .vmem, ⟨17, _⟩ => ⟨S1x16x1x64, .f32⟩
  | .local _ .vmem, ⟨18, _⟩ => ⟨S1x16x1x64, .f32⟩
  | .local _ .vmem, ⟨19, _⟩ => ⟨S8x16x1x64, .f32⟩
  | .local _ .vmem, ⟨20, _⟩ => ⟨S8x16x1x64, .f32⟩
  | .local _ .vmem, ⟨21, _⟩ => ⟨S8x16x64x64, .f32⟩
  | .local _ .vmem, ⟨22, _⟩ => ⟨S8x16x64x64, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x16x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x16x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x16x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x16x1x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x16x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RwkvRefIdeal.lean ====
abbrev S128x1024 : Shape := ⟨2, ![128, 1024]⟩
abbrev S128x16x64x64 : Shape := ⟨4, ![128, 16, 64, 64]⟩
abbrev S1024 : Shape := ⟨1, ![1024]⟩
abbrev S128x16x64 : Shape := ⟨3, ![128, 16, 64]⟩
abbrev S128x16x1x64 : Shape := ⟨4, ![128, 16, 1, 64]⟩
abbrev S128x16x64x1 : Shape := ⟨4, ![128, 16, 64, 1]⟩
abbrev S_ : Shape := ⟨0, ![]⟩
abbrev S128x16 : Shape := ⟨2, ![128, 16]⟩
abbrev S128x16x1 : Shape := ⟨3, ![128, 16, 1]⟩
abbrev S1x16x64 : Shape := ⟨3, ![1, 16, 64]⟩

abbrev nBuf : Space → Nat
  | .hbm => 79
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x16x64x64, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S128x16x64, .f32⟩
  | .hbm, ⟨12, _⟩ => ⟨S128x16x64, .f32⟩
  | .hbm, ⟨13, _⟩ => ⟨S128x16x64, .f32⟩
  | .hbm, ⟨14, _⟩ => ⟨S128x16x64, .f32⟩
  | .hbm, ⟨15, _⟩ => ⟨S128x16x64, .f32⟩
  | .hbm, ⟨16, _⟩ => ⟨S128x16x64, .f32⟩
  | .hbm, ⟨17, _⟩ => ⟨S128x16x64, .f32⟩
  | .hbm, ⟨18, _⟩ => ⟨S128x16x64, .f32⟩
  | .hbm, ⟨19, _⟩ => ⟨S128x16x64, .f32⟩
  | .hbm, ⟨20, _⟩ => ⟨S128x16x64, .f32⟩
  | .hbm, ⟨21, _⟩ => ⟨S128x16x1x64, .f32⟩
  | .hbm, ⟨22, _⟩ => ⟨S128x16x64x64, .f32⟩
  | .hbm, ⟨23, _⟩ => ⟨S128x16x64x64, .f32⟩
  | .hbm, ⟨24, _⟩ => ⟨S128x16x64x1, .f32⟩
  | .hbm, ⟨25, _⟩ => ⟨S128x16x64, .f32⟩
  | .hbm, ⟨26, _⟩ => ⟨S128x16x1x64, .f32⟩
  | .hbm, ⟨27, _⟩ => ⟨S128x16x64x64, .f32⟩
  | .hbm, ⟨28, _⟩ => ⟨S128x16x64x64, .f32⟩
  | .hbm, ⟨29, _⟩ => ⟨S128x16x64x64, .f32⟩
  | .hbm, ⟨30, _⟩ => ⟨S128x16x64x64, .f32⟩
  | .hbm, ⟨31, _⟩ => ⟨S128x16x64x1, .f32⟩
  | .hbm, ⟨32, _⟩ => ⟨S128x16x1x64, .f32⟩
  | .hbm, ⟨33, _⟩ => ⟨S128x16x64x64, .f32⟩
  | .hbm, ⟨34, _⟩ => ⟨S128x16x64x64, .f32⟩
  | .hbm, ⟨35, _⟩ => ⟨S128x16x64x64, .f32⟩
  | .hbm, ⟨36, _⟩ => ⟨S128x16x64x64, .f32⟩
  | .hbm, ⟨37, _⟩ => ⟨S128x16x64, .f32⟩
  | .hbm, ⟨38, _⟩ => ⟨S_, .f32⟩
  | .hbm, ⟨39, _⟩ => ⟨S128x16, .f32⟩
  | .hbm, ⟨40, _⟩ => ⟨S128x16x1, .f32⟩
  | .hbm, ⟨41, _⟩ => ⟨S_, .f32⟩
  | .hbm, ⟨42, _⟩ => ⟨S128x16x1, .f32⟩
  | .hbm, ⟨43, _⟩ => ⟨S128x16x1, .f32⟩
  | .hbm, ⟨44, _⟩ => ⟨S128x16x64, .f32⟩
  | .hbm, ⟨45, _⟩ => ⟨S128x16x64, .f32⟩
  | .hbm, ⟨46, _⟩ => ⟨S128x16x64, .f32⟩
  | .hbm, ⟨47, _⟩ => ⟨S_, .f32⟩
  | .hbm, ⟨48, _⟩ => ⟨S128x16, .f32⟩
  | .hbm, ⟨49, _⟩ => ⟨S128x16x1, .f32⟩
  | .hbm, ⟨50, _⟩ => ⟨S_, .f32⟩
  | .hbm, ⟨51, _⟩ => ⟨S128x16x1, .f32⟩
  | .hbm, ⟨52, _⟩ => ⟨S128x16x1, .f32⟩
  | .hbm, ⟨53, _⟩ => ⟨S128x16x64, .f32⟩
  | .hbm, ⟨54, _⟩ => ⟨S128x16x64, .f32⟩
  | .hbm, ⟨55, _⟩ => ⟨S_, .f32⟩
  | .hbm, ⟨56, _⟩ => ⟨S128x16x1, .f32⟩
  | .hbm, ⟨57, _⟩ => ⟨S128x16x1, .f32⟩
  | .hbm, ⟨58, _⟩ => ⟨S128x16x1, .f32⟩
  | .hbm, ⟨59, _⟩ => ⟨S128x16x64, .f32⟩
  | .hbm, ⟨60, _⟩ => ⟨S128x16x64, .f32⟩
  | .hbm, ⟨61, _⟩ => ⟨S1x16x64, .f32⟩
  | .hbm, ⟨62, _⟩ => ⟨S128x16x64, .f32⟩
  | .hbm, ⟨63, _⟩ => ⟨S128x16x64, .f32⟩
  | .hbm, ⟨64, _⟩ => ⟨S1x16x64, .f32⟩
  | .hbm, ⟨65, _⟩ => ⟨S128x16x64, .f32⟩
  | .hbm, ⟨66, _⟩ => ⟨S128x16x64, .f32⟩
  | .hbm, ⟨67, _⟩ => ⟨S128x16x64, .f32⟩
  | .hbm, ⟨68, _⟩ => ⟨S1x16x64, .f32⟩
  | .hbm, ⟨69, _⟩ => ⟨S128x16x64, .f32⟩
  | .hbm, ⟨70, _⟩ => ⟨S128x16x64, .f32⟩
  | .hbm, ⟨71, _⟩ => ⟨S_, .f32⟩
  | .hbm, ⟨72, _⟩ => ⟨S128x16, .f32⟩
  | .hbm, ⟨73, _⟩ => ⟨S128x16x1, .f32⟩
  | .hbm, ⟨74, _⟩ => ⟨S128x16x64, .f32⟩
  | .hbm, ⟨75, _⟩ => ⟨S128x16x64, .f32⟩
  | .hbm, ⟨76, _⟩ => ⟨S128x16x64, .f32⟩
  | .hbm, ⟨77, _⟩ => ⟨S128x16x64, .f32⟩
  | .hbm, ⟨78, _⟩ => ⟨S128x16x1x64, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Proof.FlashK.Pins.lean ====
/- The causal attention, at the machine: the two tables of block pairs, as the words the region reads. -/
module

public import proofs.«01_k».proof.Defs
public import proofs.«01_k».proof.Proof.Gen.Kernel
public import proofs.«01_k».proof.Proof.Gen.Kernel.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Proof.FlashK

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The tables and scratches. -/
abbrev tbM0_0 : Memref sig .tc .smem S36 .i32 := Memref.whole main_c
abbrev tbM0_1 : Memref sig .tc .smem S36 .i32 := Memref.whole main_c_0
abbrev scM0_0 : Memref sig .tc .vmem S4x512x1 .f32 := Memref.whole cc0_scratch0
abbrev scM0_1 : Memref sig .tc .vmem S4x512x1 .f32 := Memref.whole cc0_scratch1
abbrev scM0_2 : Memref sig .tc .vmem S4x512x128 .f32 := Memref.whole cc0_scratch2

/-- The word of table 0 read at a grid point. -/
abbrev wd0_0 (i : grid0.Coords) (T : S36.Idx → Elt Bits .i32) : Elt Bits .i32 :=
  View.readAt (Elt Bits) (tbM0_0).view (Rect.unit (s := S36) (k0_off1 i) S1.size (k0_off1_inb i)).toLoadRect T (Shape.Idx.first (numel1_S1.symm ▸ Nat.one_pos))
/-- The word of table 1 read at a grid point. -/
abbrev wd0_1 (i : grid0.Coords) (T : S36.Idx → Elt Bits .i32) : Elt Bits .i32 :=
  View.readAt (Elt Bits) (tbM0_1).view (Rect.unit (s := S36) (k0_off1 i) S1.size (k0_off1_inb i)).toLoadRect T (Shape.Idx.first (numel1_S1.symm ▸ Nat.one_pos))

/-! ## The tables -/

variable (ch : Fin 1)

/-- Table 0. -/
def pinT_0 (ch : Fin 1) : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32)

/-- Table 1. -/
def pinT_1 (ch : Fin 1) : S36.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD ((x 0).val) 0#32)

set_option backward.proofsInPublic true in
/-- The contents of the tables. -/
def pfN : pre0.Contents (Elt Bits) := fun | ⟨0, _⟩ => pinT_0 ch | ⟨1, _⟩ => pinT_1 ch | ⟨_ + 2, h⟩ => absurd h (by simp)
/-- A block inside its array, axis by axis. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The memory holds the two tables. -/
def Pinned (m : (ℓ : Loc nD τ sig) → Buf (Elt Bits) ℓ) : Prop :=
  (∀ c : Dev nD, m ((c : Thread nD τ).loc main_c) = pinT_0 ch)
  ∧ (∀ c : Dev nD, m ((c : Thread nD τ).loc main_c_0) = pinT_1 ch)

end Cert.Proof.FlashK

end
-- ==== Proof.FlashK.Runs.lean ====
/- The causal attention, at the machine: what the body leaves on each of its four control paths. -/
module

public import proofs.«01_k».proof.Proof.Gen.Kernel.Skeleton
public import proofs.«01_k».proof.Proof.FlashK.Pins

@[expose] public section

set_option maxRecDepth 16384
set_option Elab.async false

noncomputable section

namespace Cert.Proof.FlashK

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The body on each path -/

/-- One staging buffer of the output window. -/
abbrev VO0_3 : View sig .tc .vmem S512x512 .f32 := (Memref.whole cc0_stg3_0 : Memref sig .tc .vmem S512x512 .f32).view

set_option backward.proofsInPublic true in
set_option maxHeartbeats 8000000 in
/-- What the body leaves on path A, with the proof that it does. -/
noncomputable def kernelRun0_A (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Bits .i32)) (T1 : (S36.Idx → Elt Bits .i32))
     (x0 : (S512x1024.Idx → Elt Bits .bf16)) (x1 : (S512x1024.Idx → Elt Bits .bf16)) (x2 : (S512x512.Idx → Elt Bits .bf16)) (hc0 : (Scalar.cmpi .ne (Scalar.extui (Scalar.cmpi .eq (wd0_1 i T1) 0#32)) 0#32) = 1#1) (hc1 : ¬((Scalar.cmpi .ne (Scalar.extui (Scalar.cmpi .slt (wd0_1 i T1) (wd0_0 i T0))) 0#32) = 1#1)) (k0_h3 : k0_cond3 (wd0_0 i T0) (wd0_1 i T1) = 1#1) :
    Σ' (out0 : List (View.Piece (Elt Bits) S512x512 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_p_mla_attn i tbM0_0 (Memref.isWhole_whole _) tbM0_1 (Memref.isWhole_whole _) arg5 harg5 arg6 harg6 arg7 harg7 arg8 harg8 scM0_0 (Memref.isWhole_whole _) scM0_1 (Memref.isWhole_whole _) scM0_2 (Memref.isWhole_whole _)) K } :=
  ⟨_, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_p_mla_attn_eq_skeleton]; unfold cc0_p_mla_attn_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

/-- The stores of path A cover the output block. -/
theorem cover0_A_3 (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Bits .i32)) (T1 : (S36.Idx → Elt Bits .i32))
     (x0 : (S512x1024.Idx → Elt Bits .bf16)) (x1 : (S512x1024.Idx → Elt Bits .bf16)) (x2 : (S512x512.Idx → Elt Bits .bf16)) (hc0 : (Scalar.cmpi .ne (Scalar.extui (Scalar.cmpi .eq (wd0_1 i T1) 0#32)) 0#32) = 1#1) (hc1 : ¬((Scalar.cmpi .ne (Scalar.extui (Scalar.cmpi .slt (wd0_1 i T1) (wd0_0 i T0))) 0#32) = 1#1)) (k0_h3 : k0_cond3 (wd0_0 i T0) (wd0_1 i T1) = 1#1) (y : S512x512.Idx) :
    ∃ pc ∈ (kernelRun0_A c i arg5 harg5 arg6 harg6 arg7 harg7 arg8 harg8 T0 T1 x0 x1 x2 hc0 hc1 k0_h3).1, y ∈ pc.1.set :=
  View.cover_of_tiledL (kernelRun0_A c i arg5 harg5 arg6 harg6 arg7 harg7 arg8 harg8 T0 T1 x0 x1 x2 hc0 hc1 k0_h3).1 S512x512.size (by sl_kernel_rfl) y

/-- The output block path A leaves. -/
def out0_A_3 (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Bits .i32)) (T1 : (S36.Idx → Elt Bits .i32))
     (x0 : (S512x1024.Idx → Elt Bits .bf16)) (x1 : (S512x1024.Idx → Elt Bits .bf16)) (x2 : (S512x512.Idx → Elt Bits .bf16)) (hc0 : (Scalar.cmpi .ne (Scalar.extui (Scalar.cmpi .eq (wd0_1 i T1) 0#32)) 0#32) = 1#1) (hc1 : ¬((Scalar.cmpi .ne (Scalar.extui (Scalar.cmpi .slt (wd0_1 i T1) (wd0_0 i T0))) 0#32) = 1#1)) (k0_h3 : k0_cond3 (wd0_0 i T0) (wd0_1 i T1) = 1#1) : (S512x512.Idx → Elt Bits .f32) :=
  VO0_3.read (Elt Bits) (VO0_3.writes (Elt Bits) VO0_3.junk (kernelRun0_A c i arg5 harg5 arg6 harg6 arg7 harg7 arg8 harg8 T0 T1 x0 x1 x2 hc0 hc1 k0_h3).1)

set_option backward.proofsInPublic true in
set_option maxHeartbeats 8000000 in
/-- What the body leaves on path B, with the proof that it does. -/
noncomputable def kernelRun0_B (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Bits .i32)) (T1 : (S36.Idx → Elt Bits .i32))
     (x0 : (S512x1024.Idx → Elt Bits .bf16)) (x1 : (S512x1024.Idx → Elt Bits .bf16)) (x2 : (S512x512.Idx → Elt Bits .bf16)) (hc0 : (Scalar.cmpi .ne (Scalar.extui (Scalar.cmpi .eq (wd0_1 i T1) 0#32)) 0#32) = 1#1) (hc1 : (Scalar.cmpi .ne (Scalar.extui (Scalar.cmpi .slt (wd0_1 i T1) (wd0_0 i T0))) 0#32) = 1#1) (k0_h3 : ¬(k0_cond3 (wd0_0 i T0) (wd0_1 i T1) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S512x512.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ owns (c : Thread nD τ) arg8 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ owns (c : Thread nD τ) arg8 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_p_mla_attn i tbM0_0 (Memref.isWhole_whole _) tbM0_1 (Memref.isWhole_whole _) arg5 harg5 arg6 harg6 arg7 harg7 arg8 harg8 scM0_0 (Memref.isWhole_whole _) scM0_1 (Memref.isWhole_whole _) scM0_2 (Memref.isWhole_whole _)) K } :=
  ⟨_, _, _, fun (y3 : (S512x512.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_p_mla_attn_eq_skeleton]; unfold cc0_p_mla_attn_skel
    iintro ⟨H0, H1, H2, HT0, HT1, ⟨%f3, %hf3, HO3⟩, HS0, HS1, HS2, Hk⟩
    obtain rfl := harg8.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg8.read_unread _
      iexact HO3
    isplitl [HS0]; · iexact HS0
    isplitl [HS1]; · iexact HS1
    iexact HS2⟩

set_option backward.proofsInPublic true in
set_option maxHeartbeats 8000000 in
/-- What the body leaves on path C, with the proof that it does. -/
noncomputable def kernelRun0_C (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Bits .i32)) (T1 : (S36.Idx → Elt Bits .i32))
     (x0 : (S512x1024.Idx → Elt Bits .bf16)) (x1 : (S512x1024.Idx → Elt Bits .bf16)) (x2 : (S512x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (wd0_1 i T1) 0#32)) 0#32) = 1#1)) (hc1 : ¬((Scalar.cmpi .ne (Scalar.extui (Scalar.cmpi .slt (wd0_1 i T1) (wd0_0 i T0))) 0#32) = 1#1)) (k0_h3 : k0_cond3 (wd0_0 i T0) (wd0_1 i T1) = 1#1) :
    Σ' (out0 : List (View.Piece (Elt Bits) S512x512 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_p_mla_attn i tbM0_0 (Memref.isWhole_whole _) tbM0_1 (Memref.isWhole_whole _) arg5 harg5 arg6 harg6 arg7 harg7 arg8 harg8 scM0_0 (Memref.isWhole_whole _) scM0_1 (Memref.isWhole_whole _) scM0_2 (Memref.isWhole_whole _)) K } :=
  ⟨_, _, _, _, fun K => by
    unfold owns
    rw [cc0_p_mla_attn_eq_skeleton]; unfold cc0_p_mla_attn_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

/-- The stores of path C cover the output block. -/
theorem cover0_C_3 (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Bits .i32)) (T1 : (S36.Idx → Elt Bits .i32))
     (x0 : (S512x1024.Idx → Elt Bits .bf16)) (x1 : (S512x1024.Idx → Elt Bits .bf16)) (x2 : (S512x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (wd0_1 i T1) 0#32)) 0#32) = 1#1)) (hc1 : ¬((Scalar.cmpi .ne (Scalar.extui (Scalar.cmpi .slt (wd0_1 i T1) (wd0_0 i T0))) 0#32) = 1#1)) (k0_h3 : k0_cond3 (wd0_0 i T0) (wd0_1 i T1) = 1#1) (y : S512x512.Idx) :
    ∃ pc ∈ (kernelRun0_C c i arg5 harg5 arg6 harg6 arg7 harg7 arg8 harg8 T0 T1 x0 x1 x2 xa0 xa1 xa2 hc0 hc1 k0_h3).1, y ∈ pc.1.set :=
  View.cover_of_tiledL (kernelRun0_C c i arg5 harg5 arg6 harg6 arg7 harg7 arg8 harg8 T0 T1 x0 x1 x2 xa0 xa1 xa2 hc0 hc1 k0_h3).1 S512x512.size (by sl_kernel_rfl) y

/-- The output block path C leaves. -/
def out0_C_3 (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Bits .i32)) (T1 : (S36.Idx → Elt Bits .i32))
     (x0 : (S512x1024.Idx → Elt Bits .bf16)) (x1 : (S512x1024.Idx → Elt Bits .bf16)) (x2 : (S512x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (wd0_1 i T1) 0#32)) 0#32) = 1#1)) (hc1 : ¬((Scalar.cmpi .ne (Scalar.extui (Scalar.cmpi .slt (wd0_1 i T1) (wd0_0 i T0))) 0#32) = 1#1)) (k0_h3 : k0_cond3 (wd0_0 i T0) (wd0_1 i T1) = 1#1) : (S512x512.Idx → Elt Bits .f32) :=
  VO0_3.read (Elt Bits) (VO0_3.writes (Elt Bits) VO0_3.junk (kernelRun0_C c i arg5 harg5 arg6 harg6 arg7 harg7 arg8 harg8 T0 T1 x0 x1 x2 xa0 xa1 xa2 hc0 hc1 k0_h3).1)

set_option backward.proofsInPublic true in
set_option maxHeartbeats 8000000 in
/-- What the body leaves on path D, with the proof that it does. -/
noncomputable def kernelRun0_D (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Bits .i32)) (T1 : (S36.Idx → Elt Bits .i32))
     (x0 : (S512x1024.Idx → Elt Bits .bf16)) (x1 : (S512x1024.Idx → Elt Bits .bf16)) (x2 : (S512x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (wd0_1 i T1) 0#32)) 0#32) = 1#1)) (hc1 : (Scalar.cmpi .ne (Scalar.extui (Scalar.cmpi .slt (wd0_1 i T1) (wd0_0 i T0))) 0#32) = 1#1) (k0_h3 : ¬(k0_cond3 (wd0_0 i T0) (wd0_1 i T1) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S512x512.Idx → Elt Bits .f32)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ owns (c : Thread nD τ) arg8 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ owns (c : Thread nD τ) arg8 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_p_mla_attn i tbM0_0 (Memref.isWhole_whole _) tbM0_1 (Memref.isWhole_whole _) arg5 harg5 arg6 harg6 arg7 harg7 arg8 harg8 scM0_0 (Memref.isWhole_whole _) scM0_1 (Memref.isWhole_whole _) scM0_2 (Memref.isWhole_whole _)) K } :=
  ⟨_, _, _, fun (y3 : (S512x512.Idx → Elt Bits .f32)) K => by
    unfold owns
    rw [cc0_p_mla_attn_eq_skeleton]; unfold cc0_p_mla_attn_skel
    iintro ⟨H0, H1, H2, HT0, HT1, ⟨%f3, %hf3, HO3⟩, HS0, HS1, HS2, Hk⟩
    obtain rfl := harg8.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg8.read_unread _
      iexact HO3
    isplitl [HS0]; · iexact HS0
    isplitl [HS1]; · iexact HS1
    iexact HS2⟩

end Cert.Proof.FlashK

end
-- ==== Proof.FlashK.Ok.lean ====
/- The causal attention, at the machine: every block lies inside its array. -/
module

public import proofs.«01_k».proof.Proof.FlashK.Pins

@[expose] public section

set_option maxRecDepth 16384
set_option Elab.async false

noncomputable section

namespace Cert.Proof.FlashK

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem ok_pfN_0_0_inb : ∀ i : grid0.Coords, ∀ a, (cc0_transform_0 k0_off1_inb numel1_S1 (pfN (⟨0, by omega⟩ : Fin 1)) i a + 1) * S512x1024.size a ≤ S8192x2048.size a := by decide +kernel
theorem ok_pfN_0_0 : (∀ i : grid0.Coords, ∃ h : (∀ a, (cc0_transform_0 k0_off1_inb numel1_S1 (pfN (⟨0, by omega⟩ : Fin 1)) i a + 1) * S512x1024.size a ≤ S8192x2048.size a), EltTy.bits .bf16 = 32 ∨ (Rect.block (s := S8192x2048) S512x1024.size (cc0_transform_0 k0_off1_inb numel1_S1 (pfN (⟨0, by omega⟩ : Fin 1)) i) h).WholeWords (EltTy.packing .bf16)) := fun i => ⟨ok_pfN_0_0_inb i, .inr (Affine.block_words_dvd (s := S8192x2048) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S512x1024.size a ≤ S8192x2048.size a := by decide +kernel
theorem ok_pfN_0_1 : (∀ i : grid0.Coords, ∃ h : (∀ a, (cc0_transform_1 k0_off1_inb numel1_S1 (pfN (⟨0, by omega⟩ : Fin 1)) i a + 1) * S512x1024.size a ≤ S8192x2048.size a), EltTy.bits .bf16 = 32 ∨ (Rect.block (s := S8192x2048) S512x1024.size (cc0_transform_1 k0_off1_inb numel1_S1 (pfN (⟨0, by omega⟩ : Fin 1)) i) h).WholeWords (EltTy.packing .bf16)) := fun i => ⟨ok_pfN_0_1_inb i, .inr (Affine.block_words_dvd (s := S8192x2048) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S512x512.size a ≤ S8192x1024.size a := by decide +kernel
theorem ok_pfN_0_2 : (∀ i : grid0.Coords, ∃ h : (∀ a, (cc0_transform_2 k0_off1_inb numel1_S1 (pfN (⟨0, by omega⟩ : Fin 1)) i a + 1) * S512x512.size a ≤ S8192x1024.size a), EltTy.bits .bf16 = 32 ∨ (Rect.block (s := S8192x1024) S512x512.size (cc0_transform_2 k0_off1_inb numel1_S1 (pfN (⟨0, by omega⟩ : Fin 1)) i) h).WholeWords (EltTy.packing .bf16)) := fun i => ⟨ok_pfN_0_2_inb i, .inr (Affine.block_words_dvd (s := S8192x1024) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S512x512.size a ≤ S8192x1024.size a := by decide +kernel
theorem ok_pfN_0_3 : (∀ i : grid0.Coords, ∃ h : (∀ a, (cc0_transform_3 k0_off1_inb numel1_S1 (pfN (⟨0, by omega⟩ : Fin 1)) i a + 1) * S512x512.size a ≤ S8192x1024.size a), EltTy.bits .f32 = 32 ∨ (Rect.block (s := S8192x1024) S512x512.size (cc0_transform_3 k0_off1_inb numel1_S1 (pfN (⟨0, by omega⟩ : Fin 1)) i) h).WholeWords (EltTy.packing .f32)) := fun i => ⟨ok_pfN_0_3_inb i, .inl rfl⟩
theorem ok_pfN_0 : ok0 (F := Bits) (pfN (⟨0, by omega⟩ : Fin 1)) := ⟨ok_pfN_0_0, ok_pfN_0_1, ok_pfN_0_2, ok_pfN_0_3⟩

end Cert.Proof.FlashK

end
-- ==== Proof.FlashK.Cfg.lean ====
/- The causal attention, at the machine: the pipeline at the tables, a point's coordinates and blocks. -/
module

public import proofs.«01_k».proof.Proof.FlashK.Ok

@[expose] public section

set_option maxRecDepth 16384
set_option Elab.async false

noncomputable section

namespace Cert.Proof.FlashK

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (ch : Fin 1)

/-- Every block lies inside its array. -/
theorem ok_pfN : ∀ ch : Fin 1, ok0 (F := Bits) (pfN ch) := fun ch => match ch with
  | ⟨0, _⟩ => ok_pfN_0
  | ⟨_ + 1, h⟩ => absurd h (by omega)

/-- The pipeline at the two tables. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- The staging buffer of each window at a point. -/
abbrev ms0_0 (t : Fin (cfgA ch).N) : Memref sig .tc .vmem S512x1024 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S512x1024 .bf16 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S512x512 .bf16 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S512x512 .f32 := spec0_3.stage ((cfgA ch).slots t (3 : Fin 4))
abbrev hs0_3 (t : Fin (cfgA ch).N) : (ms0_3 ch t).IsWhole := hstage0_3 (((cfgA ch).slots t (3 : Fin 4)).cast nbuf0_3)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The decisions at a point -/

abbrev P0_0 (t : Fin (cfgA ch).N) : Prop := (Scalar.cmpi .ne (Scalar.extui (Scalar.cmpi .eq (wd0_1 (crd ch t) (pinT_1 ch)) 0#32)) 0#32) = 1#1
abbrev P0_1 (t : Fin (cfgA ch).N) : Prop := (Scalar.cmpi .ne (Scalar.extui (Scalar.cmpi .slt (wd0_1 (crd ch t) (pinT_1 ch)) (wd0_0 (crd ch t) (pinT_0 ch)))) 0#32) = 1#1

/-- Whether scratch 0 is still unwritten before position `n`. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- The same in closed form. -/
def sfirst0_0 (ch : Fin 1) : ℕ := 0
def sfrTab0_0 : ℕ → Bool := fun n => decide (n ≤ sfirst0_0 ch)

/-- Whether scratch 1 is still unwritten before position `n`. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- The same in closed form. -/
def sfirst0_1 (ch : Fin 1) : ℕ := 0
def sfrTab0_1 : ℕ → Bool := fun n => decide (n ≤ sfirst0_1 ch)

/-- Whether scratch 2 is still unwritten before position `n`. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- The same in closed form. -/
def sfirst0_2 (ch : Fin 1) : ℕ := 0
def sfrTab0_2 : ℕ → Bool := fun n => decide (n ≤ sfirst0_2 ch)

set_option backward.proofsInPublic true in
/-- Whether output 3 is unwritten before each position, as a bit mask. -/
def frMask0_3 : Fin 1 → ℕ
  | ⟨0, _⟩ => 0xffffffffffffffffffffffffffffffffffff
  | ⟨_ + 1, h⟩ => absurd h (by omega)
/-- The table of when output 3 is unwritten. -/
def frTab0_3 : ℕ → Bool
  | 0 => true
  | n + 1 => (frMask0_3 ch).testBit n

end Cert.Proof.FlashK

end
-- ==== Proof.FlashK.Facts.lean ====
/- The causal attention, at the machine: the decisions at a point, as one proposition. -/
module

public import proofs.«01_k».proof.Proof.FlashK.Cfg

@[expose] public section

set_option maxRecDepth 16384
set_option Elab.async false

noncomputable section

namespace Cert.Proof.FlashK

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (ch : Fin 1)
variable (m : (ℓ : Loc nD τ sig) → Buf (Elt Bits) ℓ) (ρ : Dev nD → PrngReg)

/-! ## Every fact about a point, as one proposition -/

/-- Everything that is decided about a point. -/
abbrev FactsAt (ch : Fin 1) (t : Fin (cfgA ch).N) : Prop :=
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (frTab0_3 ch (t.val + 1) = (((cfgA ch).win (3 : Fin 4)).flush t || ((cfgA ch).idle (3 : Fin 4) ((cfgA ch).grid.coords t) && frTab0_3 ch t.val)))
  ∧ (P0_0 ch t → ¬P0_1 ch t → ((Scalar.cmpi .ne (Scalar.extui (Scalar.cmpi .eq (wd0_1 (crd ch t) (pinT_1 ch)) 0#32)) 0#32) = 1#1) ∧ ((¬((Scalar.cmpi .ne (Scalar.extui (Scalar.cmpi .slt (wd0_1 (crd ch t) (pinT_1 ch)) (wd0_0 (crd ch t) (pinT_0 ch)))) 0#32) = 1#1)) ∧ ((k0_cond3 (wd0_0 (crd ch t) (pinT_0 ch)) (wd0_1 (crd ch t) (pinT_1 ch)) = 1#1) ∧ (True))))
  ∧ (P0_0 ch t → ¬P0_1 ch t → (cfgA ch).idle (3 : Fin 4) ((cfgA ch).grid.coords t) = false ∧ ((cfgA ch).win (3 : Fin 4)).flush t = true ∧ frTab0_3 ch t.val = true ∧ sfrTab0_0 ch (t.val + 1) = false ∧ sfrTab0_1 ch (t.val + 1) = false ∧ sfrTab0_2 ch (t.val + 1) = false)
  ∧ (P0_0 ch t → P0_1 ch t → ((Scalar.cmpi .ne (Scalar.extui (Scalar.cmpi .eq (wd0_1 (crd ch t) (pinT_1 ch)) 0#32)) 0#32) = 1#1) ∧ (((Scalar.cmpi .ne (Scalar.extui (Scalar.cmpi .slt (wd0_1 (crd ch t) (pinT_1 ch)) (wd0_0 (crd ch t) (pinT_0 ch)))) 0#32) = 1#1) ∧ ((¬(k0_cond3 (wd0_0 (crd ch t) (pinT_0 ch)) (wd0_1 (crd ch t) (pinT_1 ch)) = 1#1)) ∧ (True))))
  ∧ (P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → ¬P0_1 ch t → (¬((Scalar.cmpi .ne (Scalar.extui (Scalar.cmpi .eq (wd0_1 (crd ch t) (pinT_1 ch)) 0#32)) 0#32) = 1#1)) ∧ ((¬((Scalar.cmpi .ne (Scalar.extui (Scalar.cmpi .slt (wd0_1 (crd ch t) (pinT_1 ch)) (wd0_0 (crd ch t) (pinT_0 ch)))) 0#32) = 1#1)) ∧ ((k0_cond3 (wd0_0 (crd ch t) (pinT_0 ch)) (wd0_1 (crd ch t) (pinT_1 ch)) = 1#1) ∧ (True))))
  ∧ (¬P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → P0_1 ch t → (¬((Scalar.cmpi .ne (Scalar.extui (Scalar.cmpi .eq (wd0_1 (crd ch t) (pinT_1 ch)) 0#32)) 0#32) = 1#1)) ∧ (((Scalar.cmpi .ne (Scalar.extui (Scalar.cmpi .slt (wd0_1 (crd ch t) (pinT_1 ch)) (wd0_0 (crd ch t) (pinT_0 ch)))) 0#32) = 1#1) ∧ ((¬(k0_cond3 (wd0_0 (crd ch t) (pinT_0 ch)) (wd0_1 (crd ch t) (pinT_1 ch)) = 1#1)) ∧ (True))))
  ∧ (¬P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

end Cert.Proof.FlashK

end
-- ==== Proof.FlashK.Facts0.lean ====
/- The causal attention, at the machine: the decisions, evaluated at every point. -/
module

public import proofs.«01_k».proof.Proof.FlashK.Facts

@[expose] public section

set_option maxRecDepth 16384
set_option Elab.async false

noncomputable section

namespace Cert.Proof.FlashK

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem allFacts_0_0 : ∀ t : Fin (cfgA (⟨0, by omega⟩ : Fin 1)).N, 0 ≤ t.val → t.val < 18 → FactsAt (⟨0, by omega⟩ : Fin 1) t := by decide +kernel
theorem allFacts_0_1 : ∀ t : Fin (cfgA (⟨0, by omega⟩ : Fin 1)).N, 18 ≤ t.val → t.val < 36 → FactsAt (⟨0, by omega⟩ : Fin 1) t := by decide +kernel
theorem allFacts_0_2 : ∀ t : Fin (cfgA (⟨0, by omega⟩ : Fin 1)).N, 36 ≤ t.val → t.val < 54 → FactsAt (⟨0, by omega⟩ : Fin 1) t := by decide +kernel
theorem allFacts_0_3 : ∀ t : Fin (cfgA (⟨0, by omega⟩ : Fin 1)).N, 54 ≤ t.val → t.val < 72 → FactsAt (⟨0, by omega⟩ : Fin 1) t := by decide +kernel
theorem allFacts_0_4 : ∀ t : Fin (cfgA (⟨0, by omega⟩ : Fin 1)).N, 72 ≤ t.val → t.val < 90 → FactsAt (⟨0, by omega⟩ : Fin 1) t := by decide +kernel
theorem allFacts_0_5 : ∀ t : Fin (cfgA (⟨0, by omega⟩ : Fin 1)).N, 90 ≤ t.val → t.val < 108 → FactsAt (⟨0, by omega⟩ : Fin 1) t := by decide +kernel
theorem allFacts_0_6 : ∀ t : Fin (cfgA (⟨0, by omega⟩ : Fin 1)).N, 108 ≤ t.val → t.val < 126 → FactsAt (⟨0, by omega⟩ : Fin 1) t := by decide +kernel
theorem allFacts_0_7 : ∀ t : Fin (cfgA (⟨0, by omega⟩ : Fin 1)).N, 126 ≤ t.val → t.val < 144 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 18 with h1 | h1; · exact allFacts_0_0 t h0 h1
  rcases Nat.lt_or_ge t.val 36 with h2 | h2; · exact allFacts_0_1 t h1 h2
  rcases Nat.lt_or_ge t.val 54 with h3 | h3; · exact allFacts_0_2 t h2 h3
  rcases Nat.lt_or_ge t.val 72 with h4 | h4; · exact allFacts_0_3 t h3 h4
  rcases Nat.lt_or_ge t.val 90 with h5 | h5; · exact allFacts_0_4 t h4 h5
  rcases Nat.lt_or_ge t.val 108 with h6 | h6; · exact allFacts_0_5 t h5 h6
  rcases Nat.lt_or_ge t.val 126 with h7 | h7; · exact allFacts_0_6 t h6 h7
  exact allFacts_0_7 t h7 t.isLt

end Cert.Proof.FlashK

end
-- ==== Proof.FlashK.Frame.lean ====
/- The causal attention, at the machine: the run of the whole program. -/
module

public import proofs.«01_k».proof.Proof.FlashK.Runs
public import proofs.«01_k».proof.Proof.FlashK.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Proof.FlashK

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the staging cells. -/
abbrev EP : Emb (UR sig nD τ) 𝕄 := emb₁

variable (ch : Fin 1)
variable (m : (ℓ : Loc nD τ sig) → Buf (Elt Bits) ℓ) (ρ : Dev nD → PrngReg)

/-- The facts hold at every point. -/
theorem allFacts : ∀ (ch : Fin 1) (t : Fin (cfgA ch).N), FactsAt ch t := fun ch => match ch with
  | ⟨0, _⟩ => allFacts_0
  | ⟨_ + 1, h⟩ => absurd h (by omega)

/-! ## The facts one by one -/

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else false) else (if P0_1 ch t then sfrTab0_2 ch t.val else sfrTab0_2 ch t.val)) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem frTab0_3_step : ∀ (ch : Fin 1) (t : Fin (cfgA ch).N),
    frTab0_3 ch (t.val + 1) = (((cfgA ch).win (3 : Fin 4)).flush t || ((cfgA ch).idle (3 : Fin 4) ((cfgA ch).grid.coords t) && frTab0_3 ch t.val)) := fun ch t => (allFacts ch t).2.2.2.1
theorem freshF0_3 (t : Fin (cfgA ch).N) : (cfgA ch).fresh (3 : Fin 4) t.val = frTab0_3 ch t.val :=
  Pipeline.Cfg.fresh_tab (cfgA ch) (3 : Fin 4) (frTab0_3 ch) rfl (frTab0_3_step ch) t.val (Nat.le_of_lt t.isLt)

/-- The conditions of path A hold at its points. -/
theorem hyps0_A : ∀ (ch : Fin 1) (t : Fin (cfgA ch).N), P0_0 ch t → ¬P0_1 ch t →
    ((Scalar.cmpi .ne (Scalar.extui (Scalar.cmpi .eq (wd0_1 (crd ch t) (pinT_1 ch)) 0#32)) 0#32) = 1#1) ∧ ((¬((Scalar.cmpi .ne (Scalar.extui (Scalar.cmpi .slt (wd0_1 (crd ch t) (pinT_1 ch)) (wd0_0 (crd ch t) (pinT_0 ch)))) 0#32) = 1#1)) ∧ ((k0_cond3 (wd0_0 (crd ch t) (pinT_0 ch)) (wd0_1 (crd ch t) (pinT_1 ch)) = 1#1) ∧ (True))) := fun ch t => (allFacts ch t).2.2.2.2.1

/-- At a point of path A: what is idle, written back and unwritten. -/
theorem sched0_A : ∀ (ch : Fin 1) (t : Fin (cfgA ch).N), P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch (t.val + 1) = false ∧ sfresh0_1 ch (t.val + 1) = false ∧ sfresh0_2 ch (t.val + 1) = false := by
  intro ch t; rw [freshF0_3 ch t, sfreshS0_0 ch t, sfreshS0_1 ch t, sfreshS0_2 ch t]; exact (fun ch t => (allFacts ch t).2.2.2.2.2.1) ch t

/-- The conditions of path B hold at its points. -/
theorem hyps0_B : ∀ (ch : Fin 1) (t : Fin (cfgA ch).N), P0_0 ch t → P0_1 ch t →
    ((Scalar.cmpi .ne (Scalar.extui (Scalar.cmpi .eq (wd0_1 (crd ch t) (pinT_1 ch)) 0#32)) 0#32) = 1#1) ∧ (((Scalar.cmpi .ne (Scalar.extui (Scalar.cmpi .slt (wd0_1 (crd ch t) (pinT_1 ch)) (wd0_0 (crd ch t) (pinT_0 ch)))) 0#32) = 1#1) ∧ ((¬(k0_cond3 (wd0_0 (crd ch t) (pinT_0 ch)) (wd0_1 (crd ch t) (pinT_1 ch)) = 1#1)) ∧ (True))) := fun ch t => (allFacts ch t).2.2.2.2.2.2.1

/-- At a point of path B: what is idle, written back and unwritten. -/
theorem sched0_B : ∀ (ch : Fin 1) (t : Fin (cfgA ch).N), P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.1) ch t

/-- The conditions of path C hold at its points. -/
theorem hyps0_C : ∀ (ch : Fin 1) (t : Fin (cfgA ch).N), ¬P0_0 ch t → ¬P0_1 ch t →
    (¬((Scalar.cmpi .ne (Scalar.extui (Scalar.cmpi .eq (wd0_1 (crd ch t) (pinT_1 ch)) 0#32)) 0#32) = 1#1)) ∧ ((¬((Scalar.cmpi .ne (Scalar.extui (Scalar.cmpi .slt (wd0_1 (crd ch t) (pinT_1 ch)) (wd0_0 (crd ch t) (pinT_0 ch)))) 0#32) = 1#1)) ∧ ((k0_cond3 (wd0_0 (crd ch t) (pinT_0 ch)) (wd0_1 (crd ch t) (pinT_1 ch)) = 1#1) ∧ (True))) := fun ch t => (allFacts ch t).2.2.2.2.2.2.2.2.1

/-- At a point of path C: what is idle, written back and unwritten. -/
theorem sched0_C : ∀ (ch : Fin 1) (t : Fin (cfgA ch).N), ¬P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.1) ch t

/-- The conditions of path D hold at its points. -/
theorem hyps0_D : ∀ (ch : Fin 1) (t : Fin (cfgA ch).N), ¬P0_0 ch t → P0_1 ch t →
    (¬((Scalar.cmpi .ne (Scalar.extui (Scalar.cmpi .eq (wd0_1 (crd ch t) (pinT_1 ch)) 0#32)) 0#32) = 1#1)) ∧ (((Scalar.cmpi .ne (Scalar.extui (Scalar.cmpi .slt (wd0_1 (crd ch t) (pinT_1 ch)) (wd0_0 (crd ch t) (pinT_0 ch)))) 0#32) = 1#1) ∧ ((¬(k0_cond3 (wd0_0 (crd ch t) (pinT_0 ch)) (wd0_1 (crd ch t) (pinT_1 ch)) = 1#1)) ∧ (True))) := fun ch t => (allFacts ch t).2.2.2.2.2.2.2.2.2.2.1

/-- At a point of path D: what is idle, written back and unwritten. -/
theorem sched0_D : ∀ (ch : Fin 1) (t : Fin (cfgA ch).N), ¬P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.2.2) ch t

/-! ## What the outputs and scratches hold after each point -/

/-- One step: what the output block and the scratches hold after a point. -/
def step0 (c : Dev nD) (t : Fin (cfgA ch).N) (prev : (S512x512.Idx → Elt Bits .f32) × Buf (Elt Bits) ((c : Thread nD τ).loc cc0_scratch0) × Buf (Elt Bits) ((c : Thread nD τ).loc cc0_scratch1) × Buf (Elt Bits) ((c : Thread nD τ).loc cc0_scratch2)) : (S512x512.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if q0 : P0_0 ch t then
    if q1 : P0_1 ch t then
      ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).2.2.1)
    else
      (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.2.2.1)
  else
    if q1 : P0_1 ch t then
      ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).2.2.1)
    else
      (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.2.2.1)

/-- What they hold after position `n`. -/
def traj0 (c : Dev nD) : (n : ℕ) → n < (cfgA ch).N → (S512x512.Idx → Elt Bits .f32) × Buf (Elt Bits) ((c : Thread nD τ).loc cc0_scratch0) × Buf (Elt Bits) ((c : Thread nD τ).loc cc0_scratch1) × Buf (Elt Bits) ((c : Thread nD τ).loc cc0_scratch2)
  | 0, h => step0 ch m ρ c ⟨0, h⟩ (default, default, default, default)
  | n + 1, h => step0 ch m ρ c ⟨n + 1, h⟩ (traj0 c n (Nat.lt_of_succ_lt h))

/-- What they held before a point. -/
def prev0 (c : Dev nD) (t : Fin (cfgA ch).N) : (S512x512.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- The step on path A. -/
theorem step0_A (c : Dev nD) (t : Fin (cfgA ch).N) (prev : (S512x512.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : P0_0 ch t) (q1 : ¬P0_1 ch t) :
    step0 ch m ρ c t prev = (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.2.2.1) := by
  unfold step0; simp only [dif_pos q0, dif_neg q1]

/-- The step on path B. -/
theorem step0_B (c : Dev nD) (t : Fin (cfgA ch).N) (prev : (S512x512.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : P0_0 ch t) (q1 : P0_1 ch t) :
    step0 ch m ρ c t prev = ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).2.2.1) := by
  unfold step0; simp only [dif_pos q0, dif_pos q1]

/-- The step on path C. -/
theorem step0_C (c : Dev nD) (t : Fin (cfgA ch).N) (prev : (S512x512.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : ¬P0_0 ch t) (q1 : ¬P0_1 ch t) :
    step0 ch m ρ c t prev = (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.2.2.1) := by
  unfold step0; simp only [dif_neg q0, dif_neg q1]

/-- The step on path D. -/
theorem step0_D (c : Dev nD) (t : Fin (cfgA ch).N) (prev : (S512x512.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : ¬P0_0 ch t) (q1 : P0_1 ch t) :
    step0 ch m ρ c t prev = ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).2.2.1) := by
  unfold step0; simp only [dif_neg q0, dif_pos q1]

/-! ## The pipeline's proof data -/

/-- What they held before position `t`. -/
def prev0T (c : Dev nD) (t : Fin ((cfgA ch).N + 1)) : (S512x512.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- The invariant before a point. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj0 ch m ρ c t.val t.isLt).1
  Φ t := Phi ch m ρ c t
  q _ := fullShare
  owed _ := 0

theorem after0_0 (c : Dev nD) (t : Fin (cfgA ch).N) : (dats ch m ρ 0 c).after (0 : Fin 4) t = iblk ch m ρ c (0 : Fin 4) t := rfl
theorem after0_1 (c : Dev nD) (t : Fin (cfgA ch).N) : (dats ch m ρ 0 c).after (1 : Fin 4) t = iblk ch m ρ c (1 : Fin 4) t := rfl
theorem after0_2 (c : Dev nD) (t : Fin (cfgA ch).N) : (dats ch m ρ 0 c).after (2 : Fin 4) t = iblk ch m ρ c (2 : Fin 4) t := rfl
theorem after0_3 (c : Dev nD) (t : Fin (cfgA ch).N) : (dats ch m ρ 0 c).after (3 : Fin 4) t = (traj0 ch m ρ c t.val t.isLt).1 := rfl

/-! ## What each window's staging buffer holds when the body runs -/

/-- Input window 0 holds its block. -/
theorem before0_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block. -/
theorem before0_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block. -/
theorem before0_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3 keeps what it holds through idle points. -/
theorem hcarry0_3 (c : Dev nD) : ∀ (t : Fin (cfgA ch).N) (ht : t.val ≠ 0), (cfgA ch).idle (3 : Fin 4) ((cfgA ch).grid.coords t) = true → (cfgA ch).fresh (3 : Fin 4) t.val = false →
    (dats ch m ρ 0 c).after (3 : Fin 4) t = (dats ch m ρ 0 c).after (3 : Fin 4) ⟨t.val - 1, by omega⟩ := by
  intro t ht hi hf
  rw [after0_3, after0_3, traj0_eq]
  by_cases q0 : P0_0 ch t
  · by_cases q1 : P0_1 ch t
    · rw [step0_B ch m ρ c t _ q0 q1]
      simp only [hf, Bool.false_eq_true, ↓reduceIte]
      unfold prev0; rw [dif_neg ht]
    · obtain ⟨i3, -, -, -, -, -⟩ := sched0_A ch t q0 q1
      rw [i3] at hi; exact absurd hi (by decide)
  · by_cases q1 : P0_1 ch t
    · rw [step0_D ch m ρ c t _ q0 q1]
      simp only [hf, Bool.false_eq_true, ↓reduceIte]
      unfold prev0; rw [dif_neg ht]
    · obtain ⟨i3, -, -, -, -, -, -, -, -⟩ := sched0_C ch t q0 q1
      rw [i3] at hi; exact absurd hi (by decide)

/-- What output window 3 holds when the body runs. -/
theorem before0_3 (c : Dev nD) (t : Fin (cfgA ch).N) (d) :
    (dats ch m ρ 0 c).before (3 : Fin 4) t d = if (cfgA ch).fresh (3 : Fin 4) t.val then d else (prev0 ch m ρ c t).1 := by
  rw [(dats ch m ρ 0 c).before_out_traj (3 : Fin 4) rfl (fun _ _ => rfl) (hcarry0_3 ch m ρ c) t.val t rfl d]
  by_cases hf : (cfgA ch).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at a point. -/
abbrev bodyAt0 (t : Fin (cfgA ch).N) : Prog (TpuEff nD τ sig (Elt Bits) Λ₀ .tc) PUnit :=
  cc0_p_mla_attn (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (Memref.whole cc0_scratch0) (Memref.isWhole_whole _) (Memref.whole cc0_scratch1) (Memref.isWhole_whole _) (Memref.whole cc0_scratch2) (Memref.isWhole_whole _)

set_option maxHeartbeats 4000000 in
/-- The body at a point does what the invariant says. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 4) t d))
        ∗ (∃ d, owns (c : Thread nD τ) (ms0_1 ch t) fullShare ((dats ch m ρ 0 c).before (1 : Fin 4) t d))
        ∗ (∃ d, owns (c : Thread nD τ) (ms0_2 ch t) fullShare ((dats ch m ρ 0 c).before (2 : Fin 4) t d))
        ∗ (∃ d, owns (c : Thread nD τ) (ms0_3 ch t) fullShare ((dats ch m ρ 0 c).before (3 : Fin 4) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i3, f3, fr3, sf0, sfn0, sf1, sfn1, sf2, sfn2⟩ := sched0_B ch t q0 q1
      have F0 := hyps0_B ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩⟩
      iapply ((kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 hc1 k0_h3).2.2.2 _ a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sfn0, sfn1, sfn2⟩ := sched0_A ch t q0 q1
      have F0 := hyps0_A ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩⟩
      iapply ((kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 hc1 k0_h3).2.2.2.2 a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
  · by_cases q1 : P0_1 ch t
    · obtain ⟨i3, f3, fr3, sf0, sfn0, sf1, sfn1, sf2, sfn2⟩ := sched0_D ch t q0 q1
      have F0 := hyps0_D ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩⟩
      iapply ((kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ _ hc0 hc1 k0_h3).2.2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1, sf2, sfn2⟩ := sched0_C ch t q0 q1
      have F0 := hyps0_C ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩⟩
      iapply ((kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ _ hc0 hc1 k0_h3).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _ _)

/-- The body obligation, at every point. -/
theorem body_obligation (c : Dev nD) : BodyObligation (dats ch m ρ 0 c) (defs₀ (F := Bits)) Variants.none () Set.univ := fun t => by
  rw [bigSep_W0]
  exact sound_body ch m ρ c t

/-! ## The launch -/

/-- The element held at launch. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point. -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HT0]
  · iexact HT0
  iexact HT1

/-- At the last point the scratch buffers are given back. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What the arrays and the tables hold at the end. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- What every buffer holds when the region begins: the launch contents with the two constant tables written. -/
def V (c : Dev nD) (b : Ref sig .tc) : Buf (Elt Bits) ((c : Thread nD τ).loc b) :=
  StableHlo.after (hostOps0 (F := Bits)) (fun b => m (c, b)) b

/-- The first constant, read as the table of query blocks. -/
theorem tab0 : (fun i => lit0 (S36.rowMajor i)) = pinT_0 ch := by
  funext x
  have h : ∀ k : Fin 36, lit0 k = ([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD k.val 0#32 := by decide +kernel
  have hx : (S36.rowMajor x).val = (x 0).val := Shape.rowMajor_val_one x
  exact (h (S36.rowMajor x)).trans (by rw [hx]; rfl)

/-- The second constant, read as the table of key blocks. -/
theorem tab1 : (fun i => lit1 (S36.rowMajor i)) = pinT_1 ch := by
  funext x
  have h : ∀ k : Fin 36, lit1 k = ([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD k.val 0#32 := by decide +kernel
  have hx : (S36.rowMajor x).val = (x 0).val := Shape.rowMajor_val_one x
  exact (h (S36.rowMajor x)).trans (by rw [hx]; rfl)

theorem V_tab0 (c : Dev nD) : V m c main_c = pinT_0 ch := by
  refine Eq.trans ?_ (tab0 ch)
  simp only [V, StableHlo.after_cons, StableHlo.after_nil]
  rfl

theorem V_tab1 (c : Dev nD) : V m c main_c_0 = pinT_1 ch := by
  refine Eq.trans ?_ (tab1 ch)
  simp only [V, StableHlo.after_cons, StableHlo.after_nil]
  rfl

theorem V_pre (c : Dev nD) (j : Fin 2) : V m c (pre0.ref j) = (adm ch).1 j := by
  fin_cases j
  · exact V_tab0 ch m c
  · exact V_tab1 ch m c

/-- The arrays of the windows are none of the two tables: each still holds its launch contents. -/
theorem V_arr (c : Dev nD) (w : Fin (cfgA ch).W) :
    V m c (Pipeline.arrRef (cfgA ch).spec w) = m ((c : Thread nD τ).loc (Pipeline.arrRef (cfgA ch).spec w)) := by
  fin_cases w <;> rfl

set_option backward.isDefEq.respectTransparency.types false in
set_option maxHeartbeats 4000000 in
/-- From any launch memory every fair execution of the program ends, with each array at the computed contents and every
    counter at zero. -/
theorem run_main_quiescent : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := V m)
    (hmain := Pipeline.hmainP_prefix pcfgs (0 : Fin 1) defs₀ Variants.none m main (hostOps0 (F := Bits)) hostOps0_sub ⟨rfl, rfl⟩ (main_chain (F := Bits)))
    (hsplit := fun c => Pipeline.arrays_split (pcs ch) (dats ch m ρ) 0 (launch0 (F := Bits)).win.arr_inj c (launch0 (F := Bits)).arr_whole
      (share_eq ch m ρ c) _ _ fun w => V_arr ch m c w)
    (hpf := V_pre ch m)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main : θ_run (defs (F := Bits)) (onTc (τ := τ) (main (F := Bits))) (s₀ m ρ) (QC ch m ρ) :=
  (θ_run defs _ _).mono (fun _ h => h.1) (run_main_quiescent ch m ρ)

/-- The arguments end unchanged and the result is the computed array. -/
theorem run_value :
    θ_run (defs (F := Bits)) (onTc (τ := τ) (main (F := Bits))) ⟨m, fun _ => 0, ρ⟩ (fun r => ∀ c : Dev nD,
      r.2.mem ((c.tc : Thread nD τ).loc main_v0) = (dats ch m ρ 0 c).arrAt (3 : Fin 4) (cfgA ch).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 (3 : Fin 4), ((h c).1 (0 : Fin 4)).trans ((dats ch m ρ 0 c).arrAt_in (0 : Fin 4) rfl _), ((h c).1 (1 : Fin 4)).trans ((dats ch m ρ 0 c).arrAt_in (1 : Fin 4) rfl _), ((h c).1 (2 : Fin 4)).trans ((dats ch m ρ 0 c).arrAt_in (2 : Fin 4) rfl _)⟩) (run_main ch m ρ)

/-- The frame: every execution ends, the arguments end unchanged, every counter ends at zero. -/
theorem frame :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and ((θ_run defs _ _).mono (fun _ h c => (h c).2) (run_value (0 : Fin 1) m ρ)) ((θ_run defs _ _).mono (fun _ h => h.2) (run_main_quiescent (0 : Fin 1) m ρ))

end Cert.Proof.FlashK

end
-- ==== Proof.FlashI.Pins.lean ====
/- The causal attention, over the extended reals: the two tables of block pairs, as the words the region reads. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.FlashI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The tables and scratches. -/
abbrev tbM0_0 : Memref sig .tc .smem S36 .i32 := Memref.whole main_c
abbrev tbM0_1 : Memref sig .tc .smem S36 .i32 := Memref.whole main_c_0
abbrev scM0_0 : Memref sig .tc .vmem S4x512x1 .f32 := Memref.whole cc0_scratch0
abbrev scM0_1 : Memref sig .tc .vmem S4x512x1 .f32 := Memref.whole cc0_scratch1
abbrev scM0_2 : Memref sig .tc .vmem S4x512x128 .f32 := Memref.whole cc0_scratch2

/-- The word of table 0 read at a grid point. -/
abbrev wd0_0 (i : grid0.Coords) (T : S36.Idx → Elt Ideal .i32) : Elt Ideal .i32 :=
  View.readAt (Elt Ideal) (tbM0_0).view (Rect.unit (s := S36) (k0_off1 i) S1.size (k0_off1_inb i)).toLoadRect T (Shape.Idx.first (numel1_S1.symm ▸ Nat.one_pos))
/-- The word of table 1 read at a grid point. -/
abbrev wd0_1 (i : grid0.Coords) (T : S36.Idx → Elt Ideal .i32) : Elt Ideal .i32 :=
  View.readAt (Elt Ideal) (tbM0_1).view (Rect.unit (s := S36) (k0_off1 i) S1.size (k0_off1_inb i)).toLoadRect T (Shape.Idx.first (numel1_S1.symm ▸ Nat.one_pos))

/-! ## The tables -/

variable (ch : Fin 1)

/-- Table 0. -/
def pinT_0 (ch : Fin 1) : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32)

/-- Table 1. -/
def pinT_1 (ch : Fin 1) : S36.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD ((x 0).val) 0#32)

set_option backward.proofsInPublic true in
/-- The contents of the tables. -/
def pfN : pre0.Contents (Elt Ideal) := fun | ⟨0, _⟩ => pinT_0 ch | ⟨1, _⟩ => pinT_1 ch | ⟨_ + 2, h⟩ => absurd h (by simp)
/-- A block inside its array, axis by axis. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The memory holds the two tables. -/
def Pinned (m : (ℓ : Loc nD τ sig) → Buf (Elt Ideal) ℓ) : Prop :=
  (∀ c : Dev nD, m ((c : Thread nD τ).loc main_c) = pinT_0 ch)
  ∧ (∀ c : Dev nD, m ((c : Thread nD τ).loc main_c_0) = pinT_1 ch)

end Cert.Proof.FlashI

end
-- ==== Proof.FlashI.Runs.lean ====
/- The causal attention, over the extended reals: what the body leaves on each of its four control paths. -/
module

public import proofs.«01_k».proof.Proof.Gen.KernelIdeal.Skeleton
public import proofs.«01_k».proof.Proof.FlashI.Pins

@[expose] public section

set_option maxRecDepth 16384
set_option Elab.async false

noncomputable section

namespace Cert.Proof.FlashI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The body on each path -/

/-- One staging buffer of the output window. -/
abbrev VO0_3 : View sig .tc .vmem S512x512 .f32 := (Memref.whole cc0_stg3_0 : Memref sig .tc .vmem S512x512 .f32).view

set_option backward.proofsInPublic true in
set_option maxHeartbeats 8000000 in
/-- What the body leaves on path A, with the proof that it does. -/
noncomputable def kernelRun0_A (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Ideal .i32)) (T1 : (S36.Idx → Elt Ideal .i32))
     (x0 : (S512x1024.Idx → Elt Ideal .bf16)) (x1 : (S512x1024.Idx → Elt Ideal .bf16)) (x2 : (S512x512.Idx → Elt Ideal .bf16)) (hc0 : (Scalar.cmpi .ne (Scalar.extui (Scalar.cmpi .eq (wd0_1 i T1) 0#32)) 0#32) = 1#1) (hc1 : ¬((Scalar.cmpi .ne (Scalar.extui (Scalar.cmpi .slt (wd0_1 i T1) (wd0_0 i T0))) 0#32) = 1#1)) (k0_h3 : k0_cond3 (wd0_0 i T0) (wd0_1 i T1) = 1#1) :
    Σ' (out0 : List (View.Piece (Elt Ideal) S512x512 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_p_mla_attn i tbM0_0 (Memref.isWhole_whole _) tbM0_1 (Memref.isWhole_whole _) arg5 harg5 arg6 harg6 arg7 harg7 arg8 harg8 scM0_0 (Memref.isWhole_whole _) scM0_1 (Memref.isWhole_whole _) scM0_2 (Memref.isWhole_whole _)) K } :=
  ⟨_, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_p_mla_attn_eq_skeleton]; unfold cc0_p_mla_attn_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

/-- The stores of path A cover the output block. -/
theorem cover0_A_3 (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Ideal .i32)) (T1 : (S36.Idx → Elt Ideal .i32))
     (x0 : (S512x1024.Idx → Elt Ideal .bf16)) (x1 : (S512x1024.Idx → Elt Ideal .bf16)) (x2 : (S512x512.Idx → Elt Ideal .bf16)) (hc0 : (Scalar.cmpi .ne (Scalar.extui (Scalar.cmpi .eq (wd0_1 i T1) 0#32)) 0#32) = 1#1) (hc1 : ¬((Scalar.cmpi .ne (Scalar.extui (Scalar.cmpi .slt (wd0_1 i T1) (wd0_0 i T0))) 0#32) = 1#1)) (k0_h3 : k0_cond3 (wd0_0 i T0) (wd0_1 i T1) = 1#1) (y : S512x512.Idx) :
    ∃ pc ∈ (kernelRun0_A c i arg5 harg5 arg6 harg6 arg7 harg7 arg8 harg8 T0 T1 x0 x1 x2 hc0 hc1 k0_h3).1, y ∈ pc.1.set :=
  View.cover_of_tiledL (kernelRun0_A c i arg5 harg5 arg6 harg6 arg7 harg7 arg8 harg8 T0 T1 x0 x1 x2 hc0 hc1 k0_h3).1 S512x512.size (by sl_kernel_rfl) y

/-- The output block path A leaves. -/
def out0_A_3 (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Ideal .i32)) (T1 : (S36.Idx → Elt Ideal .i32))
     (x0 : (S512x1024.Idx → Elt Ideal .bf16)) (x1 : (S512x1024.Idx → Elt Ideal .bf16)) (x2 : (S512x512.Idx → Elt Ideal .bf16)) (hc0 : (Scalar.cmpi .ne (Scalar.extui (Scalar.cmpi .eq (wd0_1 i T1) 0#32)) 0#32) = 1#1) (hc1 : ¬((Scalar.cmpi .ne (Scalar.extui (Scalar.cmpi .slt (wd0_1 i T1) (wd0_0 i T0))) 0#32) = 1#1)) (k0_h3 : k0_cond3 (wd0_0 i T0) (wd0_1 i T1) = 1#1) : (S512x512.Idx → Elt Ideal .f32) :=
  VO0_3.read (Elt Ideal) (VO0_3.writes (Elt Ideal) VO0_3.junk (kernelRun0_A c i arg5 harg5 arg6 harg6 arg7 harg7 arg8 harg8 T0 T1 x0 x1 x2 hc0 hc1 k0_h3).1)

set_option backward.proofsInPublic true in
set_option maxHeartbeats 8000000 in
/-- What the body leaves on path B, with the proof that it does. -/
noncomputable def kernelRun0_B (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Ideal .i32)) (T1 : (S36.Idx → Elt Ideal .i32))
     (x0 : (S512x1024.Idx → Elt Ideal .bf16)) (x1 : (S512x1024.Idx → Elt Ideal .bf16)) (x2 : (S512x512.Idx → Elt Ideal .bf16)) (hc0 : (Scalar.cmpi .ne (Scalar.extui (Scalar.cmpi .eq (wd0_1 i T1) 0#32)) 0#32) = 1#1) (hc1 : (Scalar.cmpi .ne (Scalar.extui (Scalar.cmpi .slt (wd0_1 i T1) (wd0_0 i T0))) 0#32) = 1#1) (k0_h3 : ¬(k0_cond3 (wd0_0 i T0) (wd0_1 i T1) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S512x512.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ owns (c : Thread nD τ) arg8 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ owns (c : Thread nD τ) arg8 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_p_mla_attn i tbM0_0 (Memref.isWhole_whole _) tbM0_1 (Memref.isWhole_whole _) arg5 harg5 arg6 harg6 arg7 harg7 arg8 harg8 scM0_0 (Memref.isWhole_whole _) scM0_1 (Memref.isWhole_whole _) scM0_2 (Memref.isWhole_whole _)) K } :=
  ⟨_, _, _, fun (y3 : (S512x512.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_p_mla_attn_eq_skeleton]; unfold cc0_p_mla_attn_skel
    iintro ⟨H0, H1, H2, HT0, HT1, ⟨%f3, %hf3, HO3⟩, HS0, HS1, HS2, Hk⟩
    obtain rfl := harg8.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg8.read_unread _
      iexact HO3
    isplitl [HS0]; · iexact HS0
    isplitl [HS1]; · iexact HS1
    iexact HS2⟩

set_option backward.proofsInPublic true in
set_option maxHeartbeats 8000000 in
/-- What the body leaves on path C, with the proof that it does. -/
noncomputable def kernelRun0_C (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Ideal .i32)) (T1 : (S36.Idx → Elt Ideal .i32))
     (x0 : (S512x1024.Idx → Elt Ideal .bf16)) (x1 : (S512x1024.Idx → Elt Ideal .bf16)) (x2 : (S512x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (wd0_1 i T1) 0#32)) 0#32) = 1#1)) (hc1 : ¬((Scalar.cmpi .ne (Scalar.extui (Scalar.cmpi .slt (wd0_1 i T1) (wd0_0 i T0))) 0#32) = 1#1)) (k0_h3 : k0_cond3 (wd0_0 i T0) (wd0_1 i T1) = 1#1) :
    Σ' (out0 : List (View.Piece (Elt Ideal) S512x512 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_p_mla_attn i tbM0_0 (Memref.isWhole_whole _) tbM0_1 (Memref.isWhole_whole _) arg5 harg5 arg6 harg6 arg7 harg7 arg8 harg8 scM0_0 (Memref.isWhole_whole _) scM0_1 (Memref.isWhole_whole _) scM0_2 (Memref.isWhole_whole _)) K } :=
  ⟨_, _, _, _, fun K => by
    unfold owns
    rw [cc0_p_mla_attn_eq_skeleton]; unfold cc0_p_mla_attn_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

/-- The stores of path C cover the output block. -/
theorem cover0_C_3 (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Ideal .i32)) (T1 : (S36.Idx → Elt Ideal .i32))
     (x0 : (S512x1024.Idx → Elt Ideal .bf16)) (x1 : (S512x1024.Idx → Elt Ideal .bf16)) (x2 : (S512x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (wd0_1 i T1) 0#32)) 0#32) = 1#1)) (hc1 : ¬((Scalar.cmpi .ne (Scalar.extui (Scalar.cmpi .slt (wd0_1 i T1) (wd0_0 i T0))) 0#32) = 1#1)) (k0_h3 : k0_cond3 (wd0_0 i T0) (wd0_1 i T1) = 1#1) (y : S512x512.Idx) :
    ∃ pc ∈ (kernelRun0_C c i arg5 harg5 arg6 harg6 arg7 harg7 arg8 harg8 T0 T1 x0 x1 x2 xa0 xa1 xa2 hc0 hc1 k0_h3).1, y ∈ pc.1.set :=
  View.cover_of_tiledL (kernelRun0_C c i arg5 harg5 arg6 harg6 arg7 harg7 arg8 harg8 T0 T1 x0 x1 x2 xa0 xa1 xa2 hc0 hc1 k0_h3).1 S512x512.size (by sl_kernel_rfl) y

/-- The output block path C leaves. -/
def out0_C_3 (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Ideal .i32)) (T1 : (S36.Idx → Elt Ideal .i32))
     (x0 : (S512x1024.Idx → Elt Ideal .bf16)) (x1 : (S512x1024.Idx → Elt Ideal .bf16)) (x2 : (S512x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (wd0_1 i T1) 0#32)) 0#32) = 1#1)) (hc1 : ¬((Scalar.cmpi .ne (Scalar.extui (Scalar.cmpi .slt (wd0_1 i T1) (wd0_0 i T0))) 0#32) = 1#1)) (k0_h3 : k0_cond3 (wd0_0 i T0) (wd0_1 i T1) = 1#1) : (S512x512.Idx → Elt Ideal .f32) :=
  VO0_3.read (Elt Ideal) (VO0_3.writes (Elt Ideal) VO0_3.junk (kernelRun0_C c i arg5 harg5 arg6 harg6 arg7 harg7 arg8 harg8 T0 T1 x0 x1 x2 xa0 xa1 xa2 hc0 hc1 k0_h3).1)

set_option backward.proofsInPublic true in
set_option maxHeartbeats 8000000 in
/-- What the body leaves on path D, with the proof that it does. -/
noncomputable def kernelRun0_D (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Ideal .i32)) (T1 : (S36.Idx → Elt Ideal .i32))
     (x0 : (S512x1024.Idx → Elt Ideal .bf16)) (x1 : (S512x1024.Idx → Elt Ideal .bf16)) (x2 : (S512x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (wd0_1 i T1) 0#32)) 0#32) = 1#1)) (hc1 : (Scalar.cmpi .ne (Scalar.extui (Scalar.cmpi .slt (wd0_1 i T1) (wd0_0 i T0))) 0#32) = 1#1) (k0_h3 : ¬(k0_cond3 (wd0_0 i T0) (wd0_1 i T1) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S512x512.Idx → Elt Ideal .f32)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbM0_0.view.loc (c : Thread nD τ) ↦{fullShare.right} T0)
          ∗ (tbM0_1.view.loc (c : Thread nD τ) ↦{fullShare.right} T1)
          ∗ owns (c : Thread nD τ) arg8 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (tbM0_0.view.loc (c : Thread nD τ) ↦{fullShare.right} T0)
              ∗ (tbM0_1.view.loc (c : Thread nD τ) ↦{fullShare.right} T1)
              ∗ owns (c : Thread nD τ) arg8 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_p_mla_attn i tbM0_0 (Memref.isWhole_whole _) tbM0_1 (Memref.isWhole_whole _) arg5 harg5 arg6 harg6 arg7 harg7 arg8 harg8 scM0_0 (Memref.isWhole_whole _) scM0_1 (Memref.isWhole_whole _) scM0_2 (Memref.isWhole_whole _)) K } :=
  ⟨_, _, _, fun (y3 : (S512x512.Idx → Elt Ideal .f32)) K => by
    unfold owns
    rw [cc0_p_mla_attn_eq_skeleton]; unfold cc0_p_mla_attn_skel
    iintro ⟨H0, H1, H2, HT0, HT1, ⟨%f3, %hf3, HO3⟩, HS0, HS1, HS2, Hk⟩
    obtain rfl := harg8.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg8.read_unread _
      iexact HO3
    isplitl [HS0]; · iexact HS0
    isplitl [HS1]; · iexact HS1
    iexact HS2⟩

end Cert.Proof.FlashI

end
-- ==== Proof.FlashI.Ok.lean ====
/- The causal attention, over the extended reals: every block lies inside its array. -/
module

public import proofs.«01_k».proof.Proof.FlashI.Pins

@[expose] public section

set_option maxRecDepth 16384
set_option Elab.async false

noncomputable section

namespace Cert.Proof.FlashI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN_0_0_inb : ∀ i : grid0.Coords, ∀ a, (cc0_transform_0 k0_off1_inb numel1_S1 (pfN (⟨0, by omega⟩ : Fin 1)) i a + 1) * S512x1024.size a ≤ S8192x2048.size a := by decide +kernel
theorem ok_pfN_0_0 : (∀ i : grid0.Coords, ∃ h : (∀ a, (cc0_transform_0 k0_off1_inb numel1_S1 (pfN (⟨0, by omega⟩ : Fin 1)) i a + 1) * S512x1024.size a ≤ S8192x2048.size a), EltTy.bits .bf16 = 32 ∨ (Rect.block (s := S8192x2048) S512x1024.size (cc0_transform_0 k0_off1_inb numel1_S1 (pfN (⟨0, by omega⟩ : Fin 1)) i) h).WholeWords (EltTy.packing .bf16)) := fun i => ⟨ok_pfN_0_0_inb i, .inr (Affine.block_words_dvd (s := S8192x2048) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S512x1024.size a ≤ S8192x2048.size a := by decide +kernel
theorem ok_pfN_0_1 : (∀ i : grid0.Coords, ∃ h : (∀ a, (cc0_transform_1 k0_off1_inb numel1_S1 (pfN (⟨0, by omega⟩ : Fin 1)) i a + 1) * S512x1024.size a ≤ S8192x2048.size a), EltTy.bits .bf16 = 32 ∨ (Rect.block (s := S8192x2048) S512x1024.size (cc0_transform_1 k0_off1_inb numel1_S1 (pfN (⟨0, by omega⟩ : Fin 1)) i) h).WholeWords (EltTy.packing .bf16)) := fun i => ⟨ok_pfN_0_1_inb i, .inr (Affine.block_words_dvd (s := S8192x2048) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S512x512.size a ≤ S8192x1024.size a := by decide +kernel
theorem ok_pfN_0_2 : (∀ i : grid0.Coords, ∃ h : (∀ a, (cc0_transform_2 k0_off1_inb numel1_S1 (pfN (⟨0, by omega⟩ : Fin 1)) i a + 1) * S512x512.size a ≤ S8192x1024.size a), EltTy.bits .bf16 = 32 ∨ (Rect.block (s := S8192x1024) S512x512.size (cc0_transform_2 k0_off1_inb numel1_S1 (pfN (⟨0, by omega⟩ : Fin 1)) i) h).WholeWords (EltTy.packing .bf16)) := fun i => ⟨ok_pfN_0_2_inb i, .inr (Affine.block_words_dvd (s := S8192x1024) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S512x512.size a ≤ S8192x1024.size a := by decide +kernel
theorem ok_pfN_0_3 : (∀ i : grid0.Coords, ∃ h : (∀ a, (cc0_transform_3 k0_off1_inb numel1_S1 (pfN (⟨0, by omega⟩ : Fin 1)) i a + 1) * S512x512.size a ≤ S8192x1024.size a), EltTy.bits .f32 = 32 ∨ (Rect.block (s := S8192x1024) S512x512.size (cc0_transform_3 k0_off1_inb numel1_S1 (pfN (⟨0, by omega⟩ : Fin 1)) i) h).WholeWords (EltTy.packing .f32)) := fun i => ⟨ok_pfN_0_3_inb i, .inl rfl⟩
theorem ok_pfN_0 : ok0 (F := Ideal) (pfN (⟨0, by omega⟩ : Fin 1)) := ⟨ok_pfN_0_0, ok_pfN_0_1, ok_pfN_0_2, ok_pfN_0_3⟩

end Cert.Proof.FlashI

end
-- ==== Proof.FlashI.Cfg.lean ====
/- The causal attention, over the extended reals: the pipeline at the tables, a point's coordinates and blocks. -/
module

public import proofs.«01_k».proof.Proof.FlashI.Ok

@[expose] public section

set_option maxRecDepth 16384
set_option Elab.async false

noncomputable section

namespace Cert.Proof.FlashI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (ch : Fin 1)

/-- Every block lies inside its array. -/
theorem ok_pfN : ∀ ch : Fin 1, ok0 (F := Ideal) (pfN ch) := fun ch => match ch with
  | ⟨0, _⟩ => ok_pfN_0
  | ⟨_ + 1, h⟩ => absurd h (by omega)

/-- The pipeline at the two tables. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- The staging buffer of each window at a point. -/
abbrev ms0_0 (t : Fin (cfgA ch).N) : Memref sig .tc .vmem S512x1024 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S512x1024 .bf16 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S512x512 .bf16 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S512x512 .f32 := spec0_3.stage ((cfgA ch).slots t (3 : Fin 4))
abbrev hs0_3 (t : Fin (cfgA ch).N) : (ms0_3 ch t).IsWhole := hstage0_3 (((cfgA ch).slots t (3 : Fin 4)).cast nbuf0_3)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The decisions at a point -/

abbrev P0_0 (t : Fin (cfgA ch).N) : Prop := (Scalar.cmpi .ne (Scalar.extui (Scalar.cmpi .eq (wd0_1 (crd ch t) (pinT_1 ch)) 0#32)) 0#32) = 1#1
abbrev P0_1 (t : Fin (cfgA ch).N) : Prop := (Scalar.cmpi .ne (Scalar.extui (Scalar.cmpi .slt (wd0_1 (crd ch t) (pinT_1 ch)) (wd0_0 (crd ch t) (pinT_0 ch)))) 0#32) = 1#1

/-- Whether scratch 0 is still unwritten before position `n`. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- The same in closed form. -/
def sfirst0_0 (ch : Fin 1) : ℕ := 0
def sfrTab0_0 : ℕ → Bool := fun n => decide (n ≤ sfirst0_0 ch)

/-- Whether scratch 1 is still unwritten before position `n`. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- The same in closed form. -/
def sfirst0_1 (ch : Fin 1) : ℕ := 0
def sfrTab0_1 : ℕ → Bool := fun n => decide (n ≤ sfirst0_1 ch)

/-- Whether scratch 2 is still unwritten before position `n`. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- The same in closed form. -/
def sfirst0_2 (ch : Fin 1) : ℕ := 0
def sfrTab0_2 : ℕ → Bool := fun n => decide (n ≤ sfirst0_2 ch)

set_option backward.proofsInPublic true in
/-- Whether output 3 is unwritten before each position, as a bit mask. -/
def frMask0_3 : Fin 1 → ℕ
  | ⟨0, _⟩ => 0xffffffffffffffffffffffffffffffffffff
  | ⟨_ + 1, h⟩ => absurd h (by omega)
/-- The table of when output 3 is unwritten. -/
def frTab0_3 : ℕ → Bool
  | 0 => true
  | n + 1 => (frMask0_3 ch).testBit n

end Cert.Proof.FlashI

end
-- ==== Proof.FlashI.Facts.lean ====
/- The causal attention, over the extended reals: the decisions at a point, as one proposition. -/
module

public import proofs.«01_k».proof.Proof.FlashI.Cfg

@[expose] public section

set_option maxRecDepth 16384
set_option Elab.async false

noncomputable section

namespace Cert.Proof.FlashI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (ch : Fin 1)
variable (m : (ℓ : Loc nD τ sig) → Buf (Elt Ideal) ℓ) (ρ : Dev nD → PrngReg)

/-! ## Every fact about a point, as one proposition -/

/-- Everything that is decided about a point. -/
abbrev FactsAt (ch : Fin 1) (t : Fin (cfgA ch).N) : Prop :=
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (frTab0_3 ch (t.val + 1) = (((cfgA ch).win (3 : Fin 4)).flush t || ((cfgA ch).idle (3 : Fin 4) ((cfgA ch).grid.coords t) && frTab0_3 ch t.val)))
  ∧ (P0_0 ch t → ¬P0_1 ch t → ((Scalar.cmpi .ne (Scalar.extui (Scalar.cmpi .eq (wd0_1 (crd ch t) (pinT_1 ch)) 0#32)) 0#32) = 1#1) ∧ ((¬((Scalar.cmpi .ne (Scalar.extui (Scalar.cmpi .slt (wd0_1 (crd ch t) (pinT_1 ch)) (wd0_0 (crd ch t) (pinT_0 ch)))) 0#32) = 1#1)) ∧ ((k0_cond3 (wd0_0 (crd ch t) (pinT_0 ch)) (wd0_1 (crd ch t) (pinT_1 ch)) = 1#1) ∧ (True))))
  ∧ (P0_0 ch t → ¬P0_1 ch t → (cfgA ch).idle (3 : Fin 4) ((cfgA ch).grid.coords t) = false ∧ ((cfgA ch).win (3 : Fin 4)).flush t = true ∧ frTab0_3 ch t.val = true ∧ sfrTab0_0 ch (t.val + 1) = false ∧ sfrTab0_1 ch (t.val + 1) = false ∧ sfrTab0_2 ch (t.val + 1) = false)
  ∧ (P0_0 ch t → P0_1 ch t → ((Scalar.cmpi .ne (Scalar.extui (Scalar.cmpi .eq (wd0_1 (crd ch t) (pinT_1 ch)) 0#32)) 0#32) = 1#1) ∧ (((Scalar.cmpi .ne (Scalar.extui (Scalar.cmpi .slt (wd0_1 (crd ch t) (pinT_1 ch)) (wd0_0 (crd ch t) (pinT_0 ch)))) 0#32) = 1#1) ∧ ((¬(k0_cond3 (wd0_0 (crd ch t) (pinT_0 ch)) (wd0_1 (crd ch t) (pinT_1 ch)) = 1#1)) ∧ (True))))
  ∧ (P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → ¬P0_1 ch t → (¬((Scalar.cmpi .ne (Scalar.extui (Scalar.cmpi .eq (wd0_1 (crd ch t) (pinT_1 ch)) 0#32)) 0#32) = 1#1)) ∧ ((¬((Scalar.cmpi .ne (Scalar.extui (Scalar.cmpi .slt (wd0_1 (crd ch t) (pinT_1 ch)) (wd0_0 (crd ch t) (pinT_0 ch)))) 0#32) = 1#1)) ∧ ((k0_cond3 (wd0_0 (crd ch t) (pinT_0 ch)) (wd0_1 (crd ch t) (pinT_1 ch)) = 1#1) ∧ (True))))
  ∧ (¬P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → P0_1 ch t → (¬((Scalar.cmpi .ne (Scalar.extui (Scalar.cmpi .eq (wd0_1 (crd ch t) (pinT_1 ch)) 0#32)) 0#32) = 1#1)) ∧ (((Scalar.cmpi .ne (Scalar.extui (Scalar.cmpi .slt (wd0_1 (crd ch t) (pinT_1 ch)) (wd0_0 (crd ch t) (pinT_0 ch)))) 0#32) = 1#1) ∧ ((¬(k0_cond3 (wd0_0 (crd ch t) (pinT_0 ch)) (wd0_1 (crd ch t) (pinT_1 ch)) = 1#1)) ∧ (True))))
  ∧ (¬P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

end Cert.Proof.FlashI

end
-- ==== Proof.FlashI.Facts0.lean ====
/- The causal attention, over the extended reals: the decisions, evaluated at every point. -/
module

public import proofs.«01_k».proof.Proof.FlashI.Facts

@[expose] public section

set_option maxRecDepth 16384
set_option Elab.async false

noncomputable section

namespace Cert.Proof.FlashI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem allFacts_0_0 : ∀ t : Fin (cfgA (⟨0, by omega⟩ : Fin 1)).N, 0 ≤ t.val → t.val < 18 → FactsAt (⟨0, by omega⟩ : Fin 1) t := by decide +kernel
theorem allFacts_0_1 : ∀ t : Fin (cfgA (⟨0, by omega⟩ : Fin 1)).N, 18 ≤ t.val → t.val < 36 → FactsAt (⟨0, by omega⟩ : Fin 1) t := by decide +kernel
theorem allFacts_0_2 : ∀ t : Fin (cfgA (⟨0, by omega⟩ : Fin 1)).N, 36 ≤ t.val → t.val < 54 → FactsAt (⟨0, by omega⟩ : Fin 1) t := by decide +kernel
theorem allFacts_0_3 : ∀ t : Fin (cfgA (⟨0, by omega⟩ : Fin 1)).N, 54 ≤ t.val → t.val < 72 → FactsAt (⟨0, by omega⟩ : Fin 1) t := by decide +kernel
theorem allFacts_0_4 : ∀ t : Fin (cfgA (⟨0, by omega⟩ : Fin 1)).N, 72 ≤ t.val → t.val < 90 → FactsAt (⟨0, by omega⟩ : Fin 1) t := by decide +kernel
theorem allFacts_0_5 : ∀ t : Fin (cfgA (⟨0, by omega⟩ : Fin 1)).N, 90 ≤ t.val → t.val < 108 → FactsAt (⟨0, by omega⟩ : Fin 1) t := by decide +kernel
theorem allFacts_0_6 : ∀ t : Fin (cfgA (⟨0, by omega⟩ : Fin 1)).N, 108 ≤ t.val → t.val < 126 → FactsAt (⟨0, by omega⟩ : Fin 1) t := by decide +kernel
theorem allFacts_0_7 : ∀ t : Fin (cfgA (⟨0, by omega⟩ : Fin 1)).N, 126 ≤ t.val → t.val < 144 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 18 with h1 | h1; · exact allFacts_0_0 t h0 h1
  rcases Nat.lt_or_ge t.val 36 with h2 | h2; · exact allFacts_0_1 t h1 h2
  rcases Nat.lt_or_ge t.val 54 with h3 | h3; · exact allFacts_0_2 t h2 h3
  rcases Nat.lt_or_ge t.val 72 with h4 | h4; · exact allFacts_0_3 t h3 h4
  rcases Nat.lt_or_ge t.val 90 with h5 | h5; · exact allFacts_0_4 t h4 h5
  rcases Nat.lt_or_ge t.val 108 with h6 | h6; · exact allFacts_0_5 t h5 h6
  rcases Nat.lt_or_ge t.val 126 with h7 | h7; · exact allFacts_0_6 t h6 h7
  exact allFacts_0_7 t h7 t.isLt

end Cert.Proof.FlashI

end
-- ==== Proof.FlashI.Frame.lean ====
/- The causal attention, over the extended reals: the run of the whole program. -/
module

public import proofs.«01_k».proof.Proof.FlashI.Runs
public import proofs.«01_k».proof.Proof.FlashI.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.FlashI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the staging cells. -/
abbrev EP : Emb (UR sig nD τ) 𝕄 := emb₁

variable (ch : Fin 1)
variable (m : (ℓ : Loc nD τ sig) → Buf (Elt Ideal) ℓ) (ρ : Dev nD → PrngReg)

/-- The facts hold at every point. -/
theorem allFacts : ∀ (ch : Fin 1) (t : Fin (cfgA ch).N), FactsAt ch t := fun ch => match ch with
  | ⟨0, _⟩ => allFacts_0
  | ⟨_ + 1, h⟩ => absurd h (by omega)

/-! ## The facts one by one -/

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else false) else (if P0_1 ch t then sfrTab0_2 ch t.val else sfrTab0_2 ch t.val)) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem frTab0_3_step : ∀ (ch : Fin 1) (t : Fin (cfgA ch).N),
    frTab0_3 ch (t.val + 1) = (((cfgA ch).win (3 : Fin 4)).flush t || ((cfgA ch).idle (3 : Fin 4) ((cfgA ch).grid.coords t) && frTab0_3 ch t.val)) := fun ch t => (allFacts ch t).2.2.2.1
theorem freshF0_3 (t : Fin (cfgA ch).N) : (cfgA ch).fresh (3 : Fin 4) t.val = frTab0_3 ch t.val :=
  Pipeline.Cfg.fresh_tab (cfgA ch) (3 : Fin 4) (frTab0_3 ch) rfl (frTab0_3_step ch) t.val (Nat.le_of_lt t.isLt)

/-- The conditions of path A hold at its points. -/
theorem hyps0_A : ∀ (ch : Fin 1) (t : Fin (cfgA ch).N), P0_0 ch t → ¬P0_1 ch t →
    ((Scalar.cmpi .ne (Scalar.extui (Scalar.cmpi .eq (wd0_1 (crd ch t) (pinT_1 ch)) 0#32)) 0#32) = 1#1) ∧ ((¬((Scalar.cmpi .ne (Scalar.extui (Scalar.cmpi .slt (wd0_1 (crd ch t) (pinT_1 ch)) (wd0_0 (crd ch t) (pinT_0 ch)))) 0#32) = 1#1)) ∧ ((k0_cond3 (wd0_0 (crd ch t) (pinT_0 ch)) (wd0_1 (crd ch t) (pinT_1 ch)) = 1#1) ∧ (True))) := fun ch t => (allFacts ch t).2.2.2.2.1

/-- At a point of path A: what is idle, written back and unwritten. -/
theorem sched0_A : ∀ (ch : Fin 1) (t : Fin (cfgA ch).N), P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch (t.val + 1) = false ∧ sfresh0_1 ch (t.val + 1) = false ∧ sfresh0_2 ch (t.val + 1) = false := by
  intro ch t; rw [freshF0_3 ch t, sfreshS0_0 ch t, sfreshS0_1 ch t, sfreshS0_2 ch t]; exact (fun ch t => (allFacts ch t).2.2.2.2.2.1) ch t

/-- The conditions of path B hold at its points. -/
theorem hyps0_B : ∀ (ch : Fin 1) (t : Fin (cfgA ch).N), P0_0 ch t → P0_1 ch t →
    ((Scalar.cmpi .ne (Scalar.extui (Scalar.cmpi .eq (wd0_1 (crd ch t) (pinT_1 ch)) 0#32)) 0#32) = 1#1) ∧ (((Scalar.cmpi .ne (Scalar.extui (Scalar.cmpi .slt (wd0_1 (crd ch t) (pinT_1 ch)) (wd0_0 (crd ch t) (pinT_0 ch)))) 0#32) = 1#1) ∧ ((¬(k0_cond3 (wd0_0 (crd ch t) (pinT_0 ch)) (wd0_1 (crd ch t) (pinT_1 ch)) = 1#1)) ∧ (True))) := fun ch t => (allFacts ch t).2.2.2.2.2.2.1

/-- At a point of path B: what is idle, written back and unwritten. -/
theorem sched0_B : ∀ (ch : Fin 1) (t : Fin (cfgA ch).N), P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.1) ch t

/-- The conditions of path C hold at its points. -/
theorem hyps0_C : ∀ (ch : Fin 1) (t : Fin (cfgA ch).N), ¬P0_0 ch t → ¬P0_1 ch t →
    (¬((Scalar.cmpi .ne (Scalar.extui (Scalar.cmpi .eq (wd0_1 (crd ch t) (pinT_1 ch)) 0#32)) 0#32) = 1#1)) ∧ ((¬((Scalar.cmpi .ne (Scalar.extui (Scalar.cmpi .slt (wd0_1 (crd ch t) (pinT_1 ch)) (wd0_0 (crd ch t) (pinT_0 ch)))) 0#32) = 1#1)) ∧ ((k0_cond3 (wd0_0 (crd ch t) (pinT_0 ch)) (wd0_1 (crd ch t) (pinT_1 ch)) = 1#1) ∧ (True))) := fun ch t => (allFacts ch t).2.2.2.2.2.2.2.2.1

/-- At a point of path C: what is idle, written back and unwritten. -/
theorem sched0_C : ∀ (ch : Fin 1) (t : Fin (cfgA ch).N), ¬P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.1) ch t

/-- The conditions of path D hold at its points. -/
theorem hyps0_D : ∀ (ch : Fin 1) (t : Fin (cfgA ch).N), ¬P0_0 ch t → P0_1 ch t →
    (¬((Scalar.cmpi .ne (Scalar.extui (Scalar.cmpi .eq (wd0_1 (crd ch t) (pinT_1 ch)) 0#32)) 0#32) = 1#1)) ∧ (((Scalar.cmpi .ne (Scalar.extui (Scalar.cmpi .slt (wd0_1 (crd ch t) (pinT_1 ch)) (wd0_0 (crd ch t) (pinT_0 ch)))) 0#32) = 1#1) ∧ ((¬(k0_cond3 (wd0_0 (crd ch t) (pinT_0 ch)) (wd0_1 (crd ch t) (pinT_1 ch)) = 1#1)) ∧ (True))) := fun ch t => (allFacts ch t).2.2.2.2.2.2.2.2.2.2.1

/-- At a point of path D: what is idle, written back and unwritten. -/
theorem sched0_D : ∀ (ch : Fin 1) (t : Fin (cfgA ch).N), ¬P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.2.2) ch t

/-! ## What the outputs and scratches hold after each point -/

/-- One step: what the output block and the scratches hold after a point. -/
def step0 (c : Dev nD) (t : Fin (cfgA ch).N) (prev : (S512x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) : (S512x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if q0 : P0_0 ch t then
    if q1 : P0_1 ch t then
      ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).2.2.1)
    else
      (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.2.2.1)
  else
    if q1 : P0_1 ch t then
      ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).2.2.1)
    else
      (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.2.2.1)

/-- What they hold after position `n`. -/
def traj0 (c : Dev nD) : (n : ℕ) → n < (cfgA ch).N → (S512x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2)
  | 0, h => step0 ch m ρ c ⟨0, h⟩ (default, default, default, default)
  | n + 1, h => step0 ch m ρ c ⟨n + 1, h⟩ (traj0 c n (Nat.lt_of_succ_lt h))

/-- What they held before a point. -/
def prev0 (c : Dev nD) (t : Fin (cfgA ch).N) : (S512x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- The step on path A. -/
theorem step0_A (c : Dev nD) (t : Fin (cfgA ch).N) (prev : (S512x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 ch t) (q1 : ¬P0_1 ch t) :
    step0 ch m ρ c t prev = (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_A ch t q0 q1).1 (hyps0_A ch t q0 q1).2.1 (hyps0_A ch t q0 q1).2.2.1).2.2.2.1) := by
  unfold step0; simp only [dif_pos q0, dif_neg q1]

/-- The step on path B. -/
theorem step0_B (c : Dev nD) (t : Fin (cfgA ch).N) (prev : (S512x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 ch t) (q1 : P0_1 ch t) :
    step0 ch m ρ c t prev = ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hyps0_B ch t q0 q1).1 (hyps0_B ch t q0 q1).2.1 (hyps0_B ch t q0 q1).2.2.1).2.2.1) := by
  unfold step0; simp only [dif_pos q0, dif_pos q1]

/-- The step on path C. -/
theorem step0_C (c : Dev nD) (t : Fin (cfgA ch).N) (prev : (S512x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 ch t) (q1 : ¬P0_1 ch t) :
    step0 ch m ρ c t prev = (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_C ch t q0 q1).1 (hyps0_C ch t q0 q1).2.1 (hyps0_C ch t q0 q1).2.2.1).2.2.2.1) := by
  unfold step0; simp only [dif_neg q0, dif_neg q1]

/-- The step on path D. -/
theorem step0_D (c : Dev nD) (t : Fin (cfgA ch).N) (prev : (S512x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 ch t) (q1 : P0_1 ch t) :
    step0 ch m ρ c t prev = ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hyps0_D ch t q0 q1).1 (hyps0_D ch t q0 q1).2.1 (hyps0_D ch t q0 q1).2.2.1).2.2.1) := by
  unfold step0; simp only [dif_neg q0, dif_pos q1]

/-! ## The pipeline's proof data -/

/-- What they held before position `t`. -/
def prev0T (c : Dev nD) (t : Fin ((cfgA ch).N + 1)) : (S512x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- The invariant before a point. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj0 ch m ρ c t.val t.isLt).1
  Φ t := Phi ch m ρ c t
  q _ := fullShare
  owed _ := 0

theorem after0_0 (c : Dev nD) (t : Fin (cfgA ch).N) : (dats ch m ρ 0 c).after (0 : Fin 4) t = iblk ch m ρ c (0 : Fin 4) t := rfl
theorem after0_1 (c : Dev nD) (t : Fin (cfgA ch).N) : (dats ch m ρ 0 c).after (1 : Fin 4) t = iblk ch m ρ c (1 : Fin 4) t := rfl
theorem after0_2 (c : Dev nD) (t : Fin (cfgA ch).N) : (dats ch m ρ 0 c).after (2 : Fin 4) t = iblk ch m ρ c (2 : Fin 4) t := rfl
theorem after0_3 (c : Dev nD) (t : Fin (cfgA ch).N) : (dats ch m ρ 0 c).after (3 : Fin 4) t = (traj0 ch m ρ c t.val t.isLt).1 := rfl

/-! ## What each window's staging buffer holds when the body runs -/

/-- Input window 0 holds its block. -/
theorem before0_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block. -/
theorem before0_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block. -/
theorem before0_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3 keeps what it holds through idle points. -/
theorem hcarry0_3 (c : Dev nD) : ∀ (t : Fin (cfgA ch).N) (ht : t.val ≠ 0), (cfgA ch).idle (3 : Fin 4) ((cfgA ch).grid.coords t) = true → (cfgA ch).fresh (3 : Fin 4) t.val = false →
    (dats ch m ρ 0 c).after (3 : Fin 4) t = (dats ch m ρ 0 c).after (3 : Fin 4) ⟨t.val - 1, by omega⟩ := by
  intro t ht hi hf
  rw [after0_3, after0_3, traj0_eq]
  by_cases q0 : P0_0 ch t
  · by_cases q1 : P0_1 ch t
    · rw [step0_B ch m ρ c t _ q0 q1]
      simp only [hf, Bool.false_eq_true, ↓reduceIte]
      unfold prev0; rw [dif_neg ht]
    · obtain ⟨i3, -, -, -, -, -⟩ := sched0_A ch t q0 q1
      rw [i3] at hi; exact absurd hi (by decide)
  · by_cases q1 : P0_1 ch t
    · rw [step0_D ch m ρ c t _ q0 q1]
      simp only [hf, Bool.false_eq_true, ↓reduceIte]
      unfold prev0; rw [dif_neg ht]
    · obtain ⟨i3, -, -, -, -, -, -, -, -⟩ := sched0_C ch t q0 q1
      rw [i3] at hi; exact absurd hi (by decide)

/-- What output window 3 holds when the body runs. -/
theorem before0_3 (c : Dev nD) (t : Fin (cfgA ch).N) (d) :
    (dats ch m ρ 0 c).before (3 : Fin 4) t d = if (cfgA ch).fresh (3 : Fin 4) t.val then d else (prev0 ch m ρ c t).1 := by
  rw [(dats ch m ρ 0 c).before_out_traj (3 : Fin 4) rfl (fun _ _ => rfl) (hcarry0_3 ch m ρ c) t.val t rfl d]
  by_cases hf : (cfgA ch).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at a point. -/
abbrev bodyAt0 (t : Fin (cfgA ch).N) : Prog (TpuEff nD τ sig (Elt Ideal) Λ₀ .tc) PUnit :=
  cc0_p_mla_attn (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (Memref.whole cc0_scratch0) (Memref.isWhole_whole _) (Memref.whole cc0_scratch1) (Memref.isWhole_whole _) (Memref.whole cc0_scratch2) (Memref.isWhole_whole _)

set_option maxHeartbeats 4000000 in
/-- The body at a point does what the invariant says. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 4) t d))
        ∗ (∃ d, owns (c : Thread nD τ) (ms0_1 ch t) fullShare ((dats ch m ρ 0 c).before (1 : Fin 4) t d))
        ∗ (∃ d, owns (c : Thread nD τ) (ms0_2 ch t) fullShare ((dats ch m ρ 0 c).before (2 : Fin 4) t d))
        ∗ (∃ d, owns (c : Thread nD τ) (ms0_3 ch t) fullShare ((dats ch m ρ 0 c).before (3 : Fin 4) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i3, f3, fr3, sf0, sfn0, sf1, sfn1, sf2, sfn2⟩ := sched0_B ch t q0 q1
      have F0 := hyps0_B ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩⟩
      iapply ((kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 hc1 k0_h3).2.2.2 _ a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sfn0, sfn1, sfn2⟩ := sched0_A ch t q0 q1
      have F0 := hyps0_A ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩⟩
      iapply ((kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 hc1 k0_h3).2.2.2.2 a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
  · by_cases q1 : P0_1 ch t
    · obtain ⟨i3, f3, fr3, sf0, sfn0, sf1, sfn1, sf2, sfn2⟩ := sched0_D ch t q0 q1
      have F0 := hyps0_D ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩⟩
      iapply ((kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ _ hc0 hc1 k0_h3).2.2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1, sf2, sfn2⟩ := sched0_C ch t q0 q1
      have F0 := hyps0_C ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩⟩
      iapply ((kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ _ hc0 hc1 k0_h3).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _ _)

/-- The body obligation, at every point. -/
theorem body_obligation (c : Dev nD) : BodyObligation (dats ch m ρ 0 c) (defs₀ (F := Ideal)) Variants.none () Set.univ := fun t => by
  rw [bigSep_W0]
  exact sound_body ch m ρ c t

/-! ## The launch -/

/-- The element held at launch. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point. -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HT0]
  · iexact HT0
  iexact HT1

/-- At the last point the scratch buffers are given back. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What the arrays and the tables hold at the end. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- What every buffer holds when the region begins: the launch contents with the two constant tables written. -/
def V (c : Dev nD) (b : Ref sig .tc) : Buf (Elt Ideal) ((c : Thread nD τ).loc b) :=
  StableHlo.after (hostOps0 (F := Ideal)) (fun b => m (c, b)) b

/-- The first constant, read as the table of query blocks. -/
theorem tab0 : (fun i => lit0 (S36.rowMajor i)) = pinT_0 ch := by
  funext x
  have h : ∀ k : Fin 36, lit0 k = ([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD k.val 0#32 := by decide +kernel
  have hx : (S36.rowMajor x).val = (x 0).val := Shape.rowMajor_val_one x
  exact (h (S36.rowMajor x)).trans (by rw [hx]; rfl)

/-- The second constant, read as the table of key blocks. -/
theorem tab1 : (fun i => lit1 (S36.rowMajor i)) = pinT_1 ch := by
  funext x
  have h : ∀ k : Fin 36, lit1 k = ([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD k.val 0#32 := by decide +kernel
  have hx : (S36.rowMajor x).val = (x 0).val := Shape.rowMajor_val_one x
  exact (h (S36.rowMajor x)).trans (by rw [hx]; rfl)

theorem V_tab0 (c : Dev nD) : V m c main_c = pinT_0 ch := by
  refine Eq.trans ?_ (tab0 ch)
  simp only [V, StableHlo.after_cons, StableHlo.after_nil]
  rfl

theorem V_tab1 (c : Dev nD) : V m c main_c_0 = pinT_1 ch := by
  refine Eq.trans ?_ (tab1 ch)
  simp only [V, StableHlo.after_cons, StableHlo.after_nil]
  rfl

theorem V_pre (c : Dev nD) (j : Fin 2) : V m c (pre0.ref j) = (adm ch).1 j := by
  fin_cases j
  · exact V_tab0 ch m c
  · exact V_tab1 ch m c

/-- The arrays of the windows are none of the two tables: each still holds its launch contents. -/
theorem V_arr (c : Dev nD) (w : Fin (cfgA ch).W) :
    V m c (Pipeline.arrRef (cfgA ch).spec w) = m ((c : Thread nD τ).loc (Pipeline.arrRef (cfgA ch).spec w)) := by
  fin_cases w <;> rfl

set_option backward.isDefEq.respectTransparency.types false in
set_option maxHeartbeats 4000000 in
/-- From any launch memory every fair execution of the program ends, with each array at the computed contents and every
    counter at zero. -/
theorem run_main_quiescent : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := V m)
    (hmain := Pipeline.hmainP_prefix pcfgs (0 : Fin 1) defs₀ Variants.none m main (hostOps0 (F := Ideal)) hostOps0_sub ⟨rfl, rfl⟩ (main_chain (F := Ideal)))
    (hsplit := fun c => Pipeline.arrays_split (pcs ch) (dats ch m ρ) 0 (launch0 (F := Ideal)).win.arr_inj c (launch0 (F := Ideal)).arr_whole
      (share_eq ch m ρ c) _ _ fun w => V_arr ch m c w)
    (hpf := V_pre ch m)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main : θ_run (defs (F := Ideal)) (onTc (τ := τ) (main (F := Ideal))) (s₀ m ρ) (QC ch m ρ) :=
  (θ_run defs _ _).mono (fun _ h => h.1) (run_main_quiescent ch m ρ)

/-- The arguments end unchanged and the result is the computed array. -/
theorem run_value :
    θ_run (defs (F := Ideal)) (onTc (τ := τ) (main (F := Ideal))) ⟨m, fun _ => 0, ρ⟩ (fun r => ∀ c : Dev nD,
      r.2.mem ((c.tc : Thread nD τ).loc main_v0) = (dats ch m ρ 0 c).arrAt (3 : Fin 4) (cfgA ch).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 (3 : Fin 4), ((h c).1 (0 : Fin 4)).trans ((dats ch m ρ 0 c).arrAt_in (0 : Fin 4) rfl _), ((h c).1 (1 : Fin 4)).trans ((dats ch m ρ 0 c).arrAt_in (1 : Fin 4) rfl _), ((h c).1 (2 : Fin 4)).trans ((dats ch m ρ 0 c).arrAt_in (2 : Fin 4) rfl _)⟩) (run_main ch m ρ)

/-- The frame: every execution ends, the arguments end unchanged, every counter ends at zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and ((θ_run defs _ _).mono (fun _ h c => (h c).2) (run_value (0 : Fin 1) m ρ)) ((θ_run defs _ _).mono (fun _ h => h.2) (run_main_quiescent (0 : Fin 1) m ρ))

end Cert.Proof.FlashI

end
-- ==== Proof.FlashV.Math.lean ====
/- The softmax computed block by block with a running maximum, over the extended reals: the running denominator and
   numerator are those of the whole row, whatever the values are, as long as the scores are below `⊤` and one score of
   the first block is above `⊥`. -/
module

public import Idealize.ShloMosaic.PureOps.Ideal

@[expose] public section

noncomputable section

namespace Cert.Proof.FlashV

open Idealize.ShloMosaic

/-- The running maximum after the block. -/
def mNew (s : Fin 512 → EReal) (mp : EReal) : EReal := max mp (Finset.fold max ⊥ s Finset.univ)

/-- The running denominator after the block. -/
def lNew (s : Fin 512 → EReal) (mp lp : EReal) : EReal :=
  lp * Ideal.exp (mp - mNew s mp) + ∑ c, Ideal.exp (s c - mNew s mp)

/-- The running numerator after the block, for one column `v` of the values. -/
def aNew (s : Fin 512 → EReal) (v : Fin 512 → EReal) (mp ap : EReal) : EReal :=
  ap * Ideal.exp (mp - mNew s mp) + ∑ c, Ideal.exp (s c - mNew s mp) * v c

/-! ## Extended-real facts -/

theorem exp_coe (r : ℝ) : Ideal.exp (r : EReal) = (Real.exp r : EReal) := rfl
theorem exp_bot : Ideal.exp ⊥ = 0 := rfl

theorem exp_nonneg (x : EReal) : 0 ≤ Ideal.exp x := by
  induction x with
  | bot => exact le_refl _
  | top => exact le_top
  | coe r => rw [exp_coe]; exact_mod_cast (Real.exp_pos r).le

/-- A sum times a nonnegative finite factor. -/
theorem sum_mul_fin {ι : Type*} (s : Finset ι) (f : ι → EReal) (a : EReal) (h0 : 0 ≤ a) (ht : a ≠ ⊤) :
    (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 ht, ih]

/-- Changing the reference point of an exponential weight. -/
theorem exp_rescale (x : EReal) (hx : x ≠ ⊤) (m m' : ℝ) :
    Ideal.exp (x - m) * Ideal.exp ((m : EReal) - m') = Ideal.exp (x - m') := by
  induction x with
  | bot => rw [EReal.bot_sub, EReal.bot_sub, exp_bot, zero_mul]
  | top => exact absurd rfl hx
  | coe r =>
    rw [← EReal.coe_sub, ← EReal.coe_sub, ← EReal.coe_sub, exp_coe, exp_coe, exp_coe, ← EReal.coe_mul, ← Real.exp_add]
    congr 2; ring

theorem exp_pos_of_real (r m : ℝ) : 0 < Ideal.exp ((r : EReal) - m) := by
  rw [← EReal.coe_sub, exp_coe]; exact_mod_cast Real.exp_pos _

theorem inv_ne_top (y : EReal) : y⁻¹ ≠ ⊤ := (EReal.inv_lt_top y).ne

theorem div_of_ne (x y : EReal) (h : y ≠ 0) : Ideal.div x y = x * y⁻¹ := by simp [Ideal.div, h]

/-! ## The running softmax -/

section
variable (s v : ℕ → Fin 512 → EReal)

/-- The running maximum, after `j` blocks. -/
def MM : ℕ → EReal
  | 0 => ⊥
  | j + 1 => mNew (s j) (MM j)

/-- The running denominator, after `j` blocks. -/
def LL : ℕ → EReal
  | 0 => 0
  | j + 1 => lNew (s j) (MM s j) (LL j)

/-- The running numerator, after `j` blocks. -/
def AA : ℕ → EReal
  | 0 => 0
  | j + 1 => aNew (s j) (v j) (MM s j) (AA j)

theorem MM_le_iff (j : ℕ) (b : EReal) : MM s j ≤ b ↔ ∀ j' < j, ∀ c, s j' c ≤ b := by
  induction j with
  | zero => simp [MM]
  | succ j ih =>
    rw [MM, mNew, max_le_iff, ih, Finset.fold_max_le]
    constructor
    · rintro ⟨h1, -, h2⟩ j' hj c
      rcases Nat.lt_succ_iff_lt_or_eq.mp hj with h | rfl
      · exact h1 j' h c
      · exact h2 c (Finset.mem_univ _)
    · intro h
      exact ⟨fun j' hj c => h j' (by omega) c, bot_le, fun c _ => h j (by omega) c⟩

variable (ht : ∀ j c, s j c ≠ ⊤) (hb : ∃ c, s 0 c ≠ ⊥)
include ht hb

theorem MM_real (j : ℕ) (hj : 0 < j) : ∃ r : ℝ, MM s j = r := by
  obtain ⟨c0, h0⟩ := hb
  have h1 : MM s j ≠ ⊥ := fun h => h0 (le_bot_iff.mp ((MM_le_iff s j ⊥).mp h.le 0 hj c0))
  have h2 : MM s j ≠ ⊤ := by
    clear h1 h0
    induction j with
    | zero => simp [MM]
    | succ j ih =>
      rw [MM, mNew]
      have h3 : MM s j ≠ ⊤ := by
        rcases Nat.eq_zero_or_pos j with rfl | h
        · simp [MM]
        · exact ih h
      refine (max_lt (lt_top_iff_ne_top.mpr h3) ?_).ne
      rw [Finset.fold_max_lt]
      exact ⟨bot_lt_top, fun c _ => lt_top_iff_ne_top.mpr (ht j c)⟩
  lift MM s j to ℝ using ⟨h2, h1⟩ with r
  exact ⟨r, rfl⟩

theorem LL_eq (j : ℕ) : LL s j = ∑ j' ∈ Finset.range j, ∑ c, Ideal.exp (s j' c - MM s j) := by
  induction j with
  | zero => simp [LL]
  | succ j ih =>
    rw [LL, lNew, Finset.sum_range_succ, ← MM]
    congr 1
    rcases Nat.eq_zero_or_pos j with rfl | hj
    · simp [LL]
    obtain ⟨m, hm⟩ := MM_real s ht hb j hj
    obtain ⟨m', hm'⟩ := MM_real s ht hb (j + 1) (by omega)
    rw [ih, hm, hm']
    rw [sum_mul_fin _ _ _ (exp_nonneg _) (by rw [← EReal.coe_sub, exp_coe]; exact EReal.coe_ne_top _)]
    refine Finset.sum_congr rfl fun j' _ => ?_
    rw [sum_mul_fin _ _ _ (exp_nonneg _) (by rw [← EReal.coe_sub, exp_coe]; exact EReal.coe_ne_top _)]
    exact Finset.sum_congr rfl fun c _ => exp_rescale _ (ht j' c) m m'

theorem AA_eq (j : ℕ) : AA s v j = ∑ j' ∈ Finset.range j, ∑ c, Ideal.exp (s j' c - MM s j) * v j' c := by
  induction j with
  | zero => simp [AA]
  | succ j ih =>
    rw [AA, aNew, Finset.sum_range_succ, ← MM]
    congr 1
    rcases Nat.eq_zero_or_pos j with rfl | hj
    · simp [AA]
    obtain ⟨m, hm⟩ := MM_real s ht hb j hj
    obtain ⟨m', hm'⟩ := MM_real s ht hb (j + 1) (by omega)
    rw [ih, hm, hm']
    rw [sum_mul_fin _ _ _ (exp_nonneg _) (by rw [← EReal.coe_sub, exp_coe]; exact EReal.coe_ne_top _)]
    refine Finset.sum_congr rfl fun j' _ => ?_
    rw [sum_mul_fin _ _ _ (exp_nonneg _) (by rw [← EReal.coe_sub, exp_coe]; exact EReal.coe_ne_top _)]
    refine Finset.sum_congr rfl fun c _ => ?_
    rw [mul_right_comm, exp_rescale _ (ht j' c) m m']

theorem LL_pos (j : ℕ) (hj : 0 < j) : 0 < LL s j := by
  obtain ⟨m, hm⟩ := MM_real s ht hb j hj
  obtain ⟨c0, h0⟩ := hb
  rw [LL_eq s ht ⟨c0, h0⟩, hm]
  have hx := ht 0 c0
  lift s 0 c0 to ℝ using ⟨hx, h0⟩ with r hr
  refine lt_of_lt_of_le (exp_pos_of_real r m) ?_
  rw [hr]
  refine le_trans ?_ (Finset.single_le_sum (f := fun j' => ∑ c, Ideal.exp (s j' c - m))
    (fun j' _ => Finset.sum_nonneg fun c _ => exp_nonneg _) (Finset.mem_range.mpr hj))
  exact Finset.single_le_sum (f := fun c => Ideal.exp (s 0 c - m)) (fun c _ => exp_nonneg _) (Finset.mem_univ c0)

/-- The quotient the kernel stores is the weighted sum of the values over all `n` blocks, blocks from `j` on being masked. -/
theorem div_eq (j n : ℕ) (hj : 0 < j) (hn : j ≤ n) (hm : ∀ j', j ≤ j' → ∀ c, s j' c = ⊥) :
    Ideal.div (AA s v j) (LL s j)
      = ∑ j' ∈ Finset.range n, ∑ c, Ideal.div (Ideal.exp (s j' c - MM s n))
          (∑ j' ∈ Finset.range n, ∑ c, Ideal.exp (s j' c - MM s n)) * v j' c := by
  have hMM : MM s n = MM s j := by
    refine eq_of_forall_ge_iff fun b => ?_
    rw [MM_le_iff, MM_le_iff]
    refine ⟨fun h j' hj' c => h j' (by omega) c, fun h j' hj' c => ?_⟩
    by_cases hlt : j' < j
    · exact h j' hlt c
    · rw [hm j' (by omega)]; exact bot_le
  have hz : ∀ j', j ≤ j' → ∀ c, Ideal.exp (s j' c - MM s j) = 0 := fun j' h c => by
    rw [hm j' h, EReal.bot_sub, exp_bot]
  have hsub : Finset.range j ⊆ Finset.range n := Finset.range_subset_range.mpr hn
  have hL : (∑ j' ∈ Finset.range n, ∑ c, Ideal.exp (s j' c - MM s n)) = LL s j := by
    rw [LL_eq s ht hb, hMM]
    refine (Finset.sum_subset hsub fun j' _ h => ?_).symm
    exact Finset.sum_eq_zero fun c _ => hz j' (by simpa using h) c
  have hpos := LL_pos s ht hb j hj
  rw [hL, hMM, div_of_ne _ _ hpos.ne', AA_eq s v ht hb]
  have hn0 : 0 ≤ (LL s j)⁻¹ := EReal.inv_nonneg_of_nonneg hpos.le
  rw [sum_mul_fin _ _ _ hn0 (inv_ne_top _)]
  rw [← Finset.sum_subset hsub fun j' _ h => Finset.sum_eq_zero fun c _ => by
    rw [hz j' (by simpa using h) c, div_of_ne _ _ hpos.ne', zero_mul, zero_mul]]
  refine Finset.sum_congr rfl fun j' _ => ?_
  rw [sum_mul_fin _ _ _ hn0 (inv_ne_top _)]
  refine Finset.sum_congr rfl fun c _ => ?_
  rw [div_of_ne _ _ hpos.ne', mul_right_comm]

end

end Cert.Proof.FlashV

end
-- ==== Proof.FlashV.Step.lean ====
/- The causal attention over the extended reals: what one step of the body does to the running maximum, the running
   denominator and the running numerator of each head, at an index. -/
module

public import proofs.«01_k».proof.Proof.FlashI.Frame
public import proofs.«01_k».proof.Proof.FlashV.Math
public import Idealize.ShloMosaic.Lib.Pointwise
public import Idealize.ShloMosaic.Lib.Pipeline.ValueKit
public import Idealize.ShloMosaic.Lib.Pipeline.ReadBack
public import Idealize.ShloMosaic.Lib.WritesUnit

@[expose] public section

noncomputable section

namespace Cert.Proof.FlashV

open Cert.KernelIdeal Cert.KernelIdeal.Gen
open Idealize.ShloMosaic
open Idealize.ShloMosaic.TcCoe
open Cert.Proof.FlashI

/-! ## The step, on plain arrays -/

/-- Column `x` of head `h` of a block of queries or keys. -/
def qcol (h : Fin 4) (x : Fin 256) : Fin 1024 := ⟨256 * h.val + x.val, by omega⟩

/-- Column `d` of head `h` of a block of values. -/
def vcol (h : Fin 4) (d : Fin 128) : Fin 512 := ⟨128 * h.val + d.val, by omega⟩

/-- The scaled product of query row `r` and key row `c`. -/
def sdot (x0 x1 : S512x1024.Idx → EReal) (h : Fin 4) (r c : Fin 512) : EReal :=
  (∑ x : Fin 256, x0 (ix2 r (qcol h x)) * x1 (ix2 c (qcol h x))) * Ideal.ofBits .f32 1033096506#32

/-- The score: on a diagonal block a key after the query is masked. -/
def score (dg : Bool) (x0 x1 : S512x1024.Idx → EReal) (h : Fin 4) (r c : Fin 512) : EReal :=
  if dg = true ∧ ¬ c ≤ r then ⊥ else sdot x0 x1 h r c

/-! ## The scores as the body computes them -/

theorem qcol0 (x : Fin 256) (h) : (⟨x.val, h⟩ : Fin 1024) = qcol 0 x := Fin.ext (by simp [qcol])
theorem qcol1 (x : Fin 256) (h) : (⟨256 + x.val, h⟩ : Fin 1024) = qcol 1 x := Fin.ext (by simp [qcol])
theorem qcol2 (x : Fin 256) (h) : (⟨512 + x.val, h⟩ : Fin 1024) = qcol 2 x := Fin.ext (by simp [qcol])
theorem qcol3 (x : Fin 256) (h) : (⟨768 + x.val, h⟩ : Fin 1024) = qcol 3 x := Fin.ext (by simp [qcol])
theorem vcol0 (x : Fin 128) (h) : (⟨x.val, h⟩ : Fin 512) = vcol 0 x := Fin.ext (by simp [vcol])
theorem vcol1 (x : Fin 128) (h) : (⟨128 + x.val, h⟩ : Fin 512) = vcol 1 x := Fin.ext (by simp [vcol])
theorem vcol2 (x : Fin 128) (h) : (⟨256 + x.val, h⟩ : Fin 512) = vcol 2 x := Fin.ext (by simp [vcol])
theorem vcol3 (x : Fin 128) (h) : (⟨384 + x.val, h⟩ : Fin 512) = vcol 3 x := Fin.ext (by simp [vcol])

theorem ofBits_ninf : Ideal.ofBits FTy.f32 4286578688#32 = (⊥ : EReal) := by
  simp [Ideal.ofBits, Ideal.ieee]

theorem sel_le (r c : Fin 512) (a b : EReal) :
    Scalar.select (IntOp.cmpi CmpIPredicate.sle (BitVec.ofNat 32 ↑c) (BitVec.ofNat 32 ↑r)) a b = if c ≤ r then a else b := by
  have h : (BitVec.ofNat 32 ↑c).sle (BitVec.ofNat 32 ↑r) = decide (c ≤ r) := by
    rw [BitVec.sle_eq_decide]
    have e : ∀ x : Fin 512, (BitVec.ofNat 32 x.val).toInt = (x.val : Int) := fun x => by
      have hx := x.isLt
      rw [BitVec.toInt_eq_toNat_of_lt (by rw [BitVec.toNat_ofNat]; omega), BitVec.toNat_ofNat]
      omega
    rw [e, e]
    exact decide_eq_decide.mpr (by rw [Fin.le_def]; omega)
  simp only [IntOp.cmpi, h, Scalar.select]
  by_cases hc : c ≤ r <;> simp [hc]

theorem pay7 (a b : Vec Ideal S512x1024 .bf16) (r c : Fin 512) : k0_pay7 a b (ix2 r c) = score false a b 0 r c := by
  pointwise [k0_pay7]; simp only [qcol0, score, sdot]; simp
theorem pay8 (a b : Vec Ideal S512x1024 .bf16) (r c : Fin 512) : k0_pay8 a b (ix2 r c) = score false a b 1 r c := by
  pointwise [k0_pay8]; simp only [qcol1, score, sdot]; simp
theorem pay9 (a b : Vec Ideal S512x1024 .bf16) (r c : Fin 512) : k0_pay9 a b (ix2 r c) = score false a b 2 r c := by
  pointwise [k0_pay9]; simp only [qcol2, score, sdot]; simp
theorem pay10 (a b : Vec Ideal S512x1024 .bf16) (r c : Fin 512) : k0_pay10 a b (ix2 r c) = score false a b 3 r c := by
  pointwise [k0_pay10]; simp only [qcol3, score, sdot]; simp
theorem pay42 (a b : Vec Ideal S512x1024 .bf16) (r c : Fin 512) : k0_pay42 a b (ix2 r c) = score true a b 0 r c := by
  pointwise [k0_pay42, k0_pay41]; rw [sel_le, ofBits_ninf]; simp only [qcol0, score, sdot]; split <;> simp_all
theorem pay43 (a b : Vec Ideal S512x1024 .bf16) (r c : Fin 512) : k0_pay43 a b (ix2 r c) = score true a b 1 r c := by
  pointwise [k0_pay43, k0_pay41]; rw [sel_le, ofBits_ninf]; simp only [qcol1, score, sdot]; split <;> simp_all
theorem pay44 (a b : Vec Ideal S512x1024 .bf16) (r c : Fin 512) : k0_pay44 a b (ix2 r c) = score true a b 2 r c := by
  pointwise [k0_pay44, k0_pay41]; rw [sel_le, ofBits_ninf]; simp only [qcol2, score, sdot]; split <;> simp_all
theorem pay45 (a b : Vec Ideal S512x1024 .bf16) (r c : Fin 512) : k0_pay45 a b (ix2 r c) = score true a b 3 r c := by
  pointwise [k0_pay45, k0_pay41]; rw [sel_le, ofBits_ninf]; simp only [qcol3, score, sdot]; split <;> simp_all

/-! ## Reading a scratch through its stores, one head each -/

theorem hit1 (v : View sig .tc .vmem S4x512x1 .f32) (f : v.ty.Contents (Elt Ideal)) (h : ℕ) (hh : h < 4) (inb) (w) (L) (r : Fin 512) :
    v.read (Elt Ideal) (v.writes (Elt Ideal) f ((⟨Rect.unit ![h, 0, 0] S1x512x1.size inb, w⟩ : View.Piece (Elt Ideal) S4x512x1 .f32) :: L)) (ix3 ⟨h, hh⟩ r 0) = w (ix3 0 r 0) := by
  refine View.read_writes_cons_unit_of_mem v f inb w L _ (ix3 0 r 0) rfl fun a => ?_
  fin_cases a <;> simp [ix3]

theorem miss1 (v : View sig .tc .vmem S4x512x1 .f32) (f : v.ty.Contents (Elt Ideal)) (h h' : ℕ) (hh : h' < 4) (hne : h ≠ h') (inb) (w) (L) (r : Fin 512) :
    v.read (Elt Ideal) (v.writes (Elt Ideal) f ((⟨Rect.unit ![h, 0, 0] S1x512x1.size inb, w⟩ : View.Piece (Elt Ideal) S4x512x1 .f32) :: L)) (ix3 ⟨h', hh⟩ r 0)
      = v.read (Elt Ideal) (v.writes (Elt Ideal) f L) (ix3 ⟨h', hh⟩ r 0) := by
  refine View.read_writes_cons_unit_of_not_mem v f inb w L _ rfl 0 ?_
  simp [ix3]; omega

theorem hit2 (v : View sig .tc .vmem S4x512x128 .f32) (f : v.ty.Contents (Elt Ideal)) (h : ℕ) (hh : h < 4) (inb) (w) (L) (r : Fin 512) (d : Fin 128) :
    v.read (Elt Ideal) (v.writes (Elt Ideal) f ((⟨Rect.unit ![h, 0, 0] S1x512x128.size inb, w⟩ : View.Piece (Elt Ideal) S4x512x128 .f32) :: L)) (ix3 ⟨h, hh⟩ r d) = w (ix3 0 r d) := by
  refine View.read_writes_cons_unit_of_mem v f inb w L _ (ix3 0 r d) rfl fun a => ?_
  fin_cases a <;> simp [ix3]

theorem miss2 (v : View sig .tc .vmem S4x512x128 .f32) (f : v.ty.Contents (Elt Ideal)) (h h' : ℕ) (hh : h' < 4) (hne : h ≠ h') (inb) (w) (L) (r : Fin 512) (d : Fin 128) :
    v.read (Elt Ideal) (v.writes (Elt Ideal) f ((⟨Rect.unit ![h, 0, 0] S1x512x128.size inb, w⟩ : View.Piece (Elt Ideal) S4x512x128 .f32) :: L)) (ix3 ⟨h', hh⟩ r d)
      = v.read (Elt Ideal) (v.writes (Elt Ideal) f L) (ix3 ⟨h', hh⟩ r d) := by
  refine View.read_writes_cons_unit_of_not_mem v f inb w L _ rfl 0 ?_
  simp [ix3]; omega

theorem scM0_read0 (x : S4x512x1.Idx → EReal) : scM0_0.view.read (Elt Ideal) x = x := rfl
theorem scM0_read1 (x : S4x512x1.Idx → EReal) : scM0_1.view.read (Elt Ideal) x = x := rfl
theorem scM0_read2 (x : S4x512x128.Idx → EReal) : scM0_2.view.read (Elt Ideal) x = x := rfl

section
variable (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Ideal .i32)) (T1 : (S36.Idx → Elt Ideal .i32))
     (x0 : (S512x1024.Idx → Elt Ideal .bf16)) (x1 : (S512x1024.Idx → Elt Ideal .bf16)) (x2 : (S512x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

theorem A_m (hc0 hc1 hc3) (h : Fin 4) (r : Fin 512) :
    (kernelRun0_A c i arg5 harg5 arg6 harg6 arg7 harg7 arg8 harg8 T0 T1 x0 x1 x2 hc0 hc1 hc3).2.1 (ix3 h r (0 : Fin 1)) = mNew (score true x0 x1 h r) ⊥ := by
  unfold kernelRun0_A
  dsimp only
  sl_unfold_words
  refine Eq.trans (congrFun (View.read_whole (Val := Elt Ideal) cc0_scratch0 _).symm _) ?_
  obtain ⟨k, hk⟩ := h
  interval_cases k
  all_goals
    iterate 3 (try refine Eq.trans (miss1 (View.whole cc0_scratch0) _ _ _ (by decide) (by decide) _ _ _ _ ) ?_)
    refine Eq.trans (hit1 (View.whole cc0_scratch0) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [pay7, pay8, pay9, pay10, pay42, pay43, pay44, pay45, vcol0, vcol1, vcol2, vcol3, ofBits_ninf, mNew, lNew, aNew] <;> rfl

theorem A_l (hc0 hc1 hc3) (h : Fin 4) (r : Fin 512) :
    (kernelRun0_A c i arg5 harg5 arg6 harg6 arg7 harg7 arg8 harg8 T0 T1 x0 x1 x2 hc0 hc1 hc3).2.2.1 (ix3 h r (0 : Fin 1)) = lNew (score true x0 x1 h r) ⊥ 0 := by
  unfold kernelRun0_A
  dsimp only
  sl_unfold_words
  refine Eq.trans (congrFun (View.read_whole (Val := Elt Ideal) cc0_scratch1 _).symm _) ?_
  obtain ⟨k, hk⟩ := h
  interval_cases k
  all_goals
    iterate 3 (try refine Eq.trans (miss1 (View.whole cc0_scratch1) _ _ _ (by decide) (by decide) _ _ _ _ ) ?_)
    refine Eq.trans (hit1 (View.whole cc0_scratch1) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [pay7, pay8, pay9, pay10, pay42, pay43, pay44, pay45, vcol0, vcol1, vcol2, vcol3, ofBits_ninf, mNew, lNew, aNew] <;> rfl

theorem A_a (hc0 hc1 hc3) (h : Fin 4) (r : Fin 512) (d : Fin 128) :
    (kernelRun0_A c i arg5 harg5 arg6 harg6 arg7 harg7 arg8 harg8 T0 T1 x0 x1 x2 hc0 hc1 hc3).2.2.2.1 (ix3 h r d) = aNew (score true x0 x1 h r) (fun c => x2 (ix2 c (vcol h d))) ⊥ 0 := by
  unfold kernelRun0_A
  dsimp only
  sl_unfold_words
  refine Eq.trans (congrFun (View.read_whole (Val := Elt Ideal) cc0_scratch2 _).symm _) ?_
  obtain ⟨k, hk⟩ := h
  interval_cases k
  all_goals
    iterate 3 (try refine Eq.trans (miss2 (View.whole cc0_scratch2) _ _ _ (by decide) (by decide) _ _ _ _ _ ) ?_)
    refine Eq.trans (hit2 (View.whole cc0_scratch2) _ _ (by decide) _ _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [pay7, pay8, pay9, pay10, pay42, pay43, pay44, pay45, vcol0, vcol1, vcol2, vcol3, ofBits_ninf, mNew, lNew, aNew] <;> rfl

theorem B_m (hc0 hc1 hc3) (h : Fin 4) (r : Fin 512) :
    (kernelRun0_B c i arg5 harg5 arg6 harg6 arg7 harg7 arg8 harg8 T0 T1 x0 x1 x2 hc0 hc1 hc3).1 (ix3 h r (0 : Fin 1)) = mNew (score false x0 x1 h r) ⊥ := by
  unfold kernelRun0_B
  dsimp only
  sl_unfold_words
  refine Eq.trans (congrFun (View.read_whole (Val := Elt Ideal) cc0_scratch0 _).symm _) ?_
  obtain ⟨k, hk⟩ := h
  interval_cases k
  all_goals
    iterate 3 (try refine Eq.trans (miss1 (View.whole cc0_scratch0) _ _ _ (by decide) (by decide) _ _ _ _ ) ?_)
    refine Eq.trans (hit1 (View.whole cc0_scratch0) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    simp only [pay7, pay8, pay9, pay10, pay42, pay43, pay44, pay45, vcol0, vcol1, vcol2, vcol3, ofBits_ninf, mNew, lNew, aNew] <;> rfl

theorem B_l (hc0 hc1 hc3) (h : Fin 4) (r : Fin 512) :
    (kernelRun0_B c i arg5 harg5 arg6 harg6 arg7 harg7 arg8 harg8 T0 T1 x0 x1 x2 hc0 hc1 hc3).2.1 (ix3 h r (0 : Fin 1)) = lNew (score false x0 x1 h r) ⊥ 0 := by
  unfold kernelRun0_B
  dsimp only
  sl_unfold_words
  refine Eq.trans (congrFun (View.read_whole (Val := Elt Ideal) cc0_scratch1 _).symm _) ?_
  obtain ⟨k, hk⟩ := h
  interval_cases k
  all_goals
    iterate 3 (try refine Eq.trans (miss1 (View.whole cc0_scratch1) _ _ _ (by decide) (by decide) _ _ _ _ ) ?_)
    refine Eq.trans (hit1 (View.whole cc0_scratch1) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    simp only [pay7, pay8, pay9, pay10, pay42, pay43, pay44, pay45, vcol0, vcol1, vcol2, vcol3, ofBits_ninf, mNew, lNew, aNew] <;> rfl

theorem B_a (hc0 hc1 hc3) (h : Fin 4) (r : Fin 512) (d : Fin 128) :
    (kernelRun0_B c i arg5 harg5 arg6 harg6 arg7 harg7 arg8 harg8 T0 T1 x0 x1 x2 hc0 hc1 hc3).2.2.1 (ix3 h r d) = aNew (score false x0 x1 h r) (fun c => x2 (ix2 c (vcol h d))) ⊥ 0 := by
  unfold kernelRun0_B
  dsimp only
  sl_unfold_words
  refine Eq.trans (congrFun (View.read_whole (Val := Elt Ideal) cc0_scratch2 _).symm _) ?_
  obtain ⟨k, hk⟩ := h
  interval_cases k
  all_goals
    iterate 3 (try refine Eq.trans (miss2 (View.whole cc0_scratch2) _ _ _ (by decide) (by decide) _ _ _ _ _ ) ?_)
    refine Eq.trans (hit2 (View.whole cc0_scratch2) _ _ (by decide) _ _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    simp only [pay7, pay8, pay9, pay10, pay42, pay43, pay44, pay45, vcol0, vcol1, vcol2, vcol3, ofBits_ninf, mNew, lNew, aNew] <;> rfl

theorem C_m (hc0 hc1 hc3) (h : Fin 4) (r : Fin 512) :
    (kernelRun0_C c i arg5 harg5 arg6 harg6 arg7 harg7 arg8 harg8 T0 T1 x0 x1 x2 xa0 xa1 xa2 hc0 hc1 hc3).2.1 (ix3 h r (0 : Fin 1)) = mNew (score true x0 x1 h r) (xa0 (ix3 h r (0 : Fin 1))) := by
  unfold kernelRun0_C
  dsimp only
  sl_unfold_words
  refine Eq.trans (congrFun (View.read_whole (Val := Elt Ideal) cc0_scratch0 _).symm _) ?_
  obtain ⟨k, hk⟩ := h
  interval_cases k
  all_goals
    iterate 3 (try refine Eq.trans (miss1 (View.whole cc0_scratch0) _ _ _ (by decide) (by decide) _ _ _ _ ) ?_)
    refine Eq.trans (hit1 (View.whole cc0_scratch0) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [pay7, pay8, pay9, pay10, pay42, pay43, pay44, pay45, vcol0, vcol1, vcol2, vcol3, ofBits_ninf, mNew, lNew, aNew] <;> rfl

theorem C_l (hc0 hc1 hc3) (h : Fin 4) (r : Fin 512) :
    (kernelRun0_C c i arg5 harg5 arg6 harg6 arg7 harg7 arg8 harg8 T0 T1 x0 x1 x2 xa0 xa1 xa2 hc0 hc1 hc3).2.2.1 (ix3 h r (0 : Fin 1)) = lNew (score true x0 x1 h r) (xa0 (ix3 h r (0 : Fin 1))) (xa1 (ix3 h r (0 : Fin 1))) := by
  unfold kernelRun0_C
  dsimp only
  sl_unfold_words
  refine Eq.trans (congrFun (View.read_whole (Val := Elt Ideal) cc0_scratch1 _).symm _) ?_
  obtain ⟨k, hk⟩ := h
  interval_cases k
  all_goals
    iterate 3 (try refine Eq.trans (miss1 (View.whole cc0_scratch1) _ _ _ (by decide) (by decide) _ _ _ _ ) ?_)
    refine Eq.trans (hit1 (View.whole cc0_scratch1) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [pay7, pay8, pay9, pay10, pay42, pay43, pay44, pay45, vcol0, vcol1, vcol2, vcol3, ofBits_ninf, mNew, lNew, aNew] <;> rfl

theorem C_a (hc0 hc1 hc3) (h : Fin 4) (r : Fin 512) (d : Fin 128) :
    (kernelRun0_C c i arg5 harg5 arg6 harg6 arg7 harg7 arg8 harg8 T0 T1 x0 x1 x2 xa0 xa1 xa2 hc0 hc1 hc3).2.2.2.1 (ix3 h r d) = aNew (score true x0 x1 h r) (fun c => x2 (ix2 c (vcol h d))) (xa0 (ix3 h r (0 : Fin 1))) (xa2 (ix3 h r d)) := by
  unfold kernelRun0_C
  dsimp only
  sl_unfold_words
  refine Eq.trans (congrFun (View.read_whole (Val := Elt Ideal) cc0_scratch2 _).symm _) ?_
  obtain ⟨k, hk⟩ := h
  interval_cases k
  all_goals
    iterate 3 (try refine Eq.trans (miss2 (View.whole cc0_scratch2) _ _ _ (by decide) (by decide) _ _ _ _ _ ) ?_)
    refine Eq.trans (hit2 (View.whole cc0_scratch2) _ _ (by decide) _ _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [pay7, pay8, pay9, pay10, pay42, pay43, pay44, pay45, vcol0, vcol1, vcol2, vcol3, ofBits_ninf, mNew, lNew, aNew] <;> rfl

theorem D_m (hc0 hc1 hc3) (h : Fin 4) (r : Fin 512) :
    (kernelRun0_D c i arg5 harg5 arg6 harg6 arg7 harg7 arg8 harg8 T0 T1 x0 x1 x2 xa0 xa1 xa2 hc0 hc1 hc3).1 (ix3 h r (0 : Fin 1)) = mNew (score false x0 x1 h r) (xa0 (ix3 h r (0 : Fin 1))) := by
  unfold kernelRun0_D
  dsimp only
  sl_unfold_words
  refine Eq.trans (congrFun (View.read_whole (Val := Elt Ideal) cc0_scratch0 _).symm _) ?_
  obtain ⟨k, hk⟩ := h
  interval_cases k
  all_goals
    iterate 3 (try refine Eq.trans (miss1 (View.whole cc0_scratch0) _ _ _ (by decide) (by decide) _ _ _ _ ) ?_)
    refine Eq.trans (hit1 (View.whole cc0_scratch0) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    simp only [pay7, pay8, pay9, pay10, pay42, pay43, pay44, pay45, vcol0, vcol1, vcol2, vcol3, ofBits_ninf, mNew, lNew, aNew] <;> rfl

theorem D_l (hc0 hc1 hc3) (h : Fin 4) (r : Fin 512) :
    (kernelRun0_D c i arg5 harg5 arg6 harg6 arg7 harg7 arg8 harg8 T0 T1 x0 x1 x2 xa0 xa1 xa2 hc0 hc1 hc3).2.1 (ix3 h r (0 : Fin 1)) = lNew (score false x0 x1 h r) (xa0 (ix3 h r (0 : Fin 1))) (xa1 (ix3 h r (0 : Fin 1))) := by
  unfold kernelRun0_D
  dsimp only
  sl_unfold_words
  refine Eq.trans (congrFun (View.read_whole (Val := Elt Ideal) cc0_scratch1 _).symm _) ?_
  obtain ⟨k, hk⟩ := h
  interval_cases k
  all_goals
    iterate 3 (try refine Eq.trans (miss1 (View.whole cc0_scratch1) _ _ _ (by decide) (by decide) _ _ _ _ ) ?_)
    refine Eq.trans (hit1 (View.whole cc0_scratch1) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    simp only [pay7, pay8, pay9, pay10, pay42, pay43, pay44, pay45, vcol0, vcol1, vcol2, vcol3, ofBits_ninf, mNew, lNew, aNew] <;> rfl

theorem D_a (hc0 hc1 hc3) (h : Fin 4) (r : Fin 512) (d : Fin 128) :
    (kernelRun0_D c i arg5 harg5 arg6 harg6 arg7 harg7 arg8 harg8 T0 T1 x0 x1 x2 xa0 xa1 xa2 hc0 hc1 hc3).2.2.1 (ix3 h r d) = aNew (score false x0 x1 h r) (fun c => x2 (ix2 c (vcol h d))) (xa0 (ix3 h r (0 : Fin 1))) (xa2 (ix3 h r d)) := by
  unfold kernelRun0_D
  dsimp only
  sl_unfold_words
  refine Eq.trans (congrFun (View.read_whole (Val := Elt Ideal) cc0_scratch2 _).symm _) ?_
  obtain ⟨k, hk⟩ := h
  interval_cases k
  all_goals
    iterate 3 (try refine Eq.trans (miss2 (View.whole cc0_scratch2) _ _ _ (by decide) (by decide) _ _ _ _ _ ) ?_)
    refine Eq.trans (hit2 (View.whole cc0_scratch2) _ _ (by decide) _ _ _ _ _ ) ?_
    simp (disch := decide) only [↓ View.readCov_skip, ↓ View.readCov_cons_toLoadRect, ↓ View.readCov_fill, View.readAt_eq_ld, View.read_rep, View.ld_unit_lit, scM0_read0, scM0_read1, scM0_read2, View.read_whole]
    pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    simp only [pay7, pay8, pay9, pay10, pay42, pay43, pay44, pay45, vcol0, vcol1, vcol2, vcol3, ofBits_ninf, mNew, lNew, aNew] <;> rfl

end

end Cert.Proof.FlashV

end
-- ==== Proof.FlashV.Out.lean ====
/- The causal attention over the extended reals: what a diagonal step stores to the output, at an index. -/
module

public import proofs.«01_k».proof.Proof.FlashV.Step

@[expose] public section

noncomputable section

namespace Cert.Proof.FlashV

open Cert.KernelIdeal Cert.KernelIdeal.Gen
open Idealize.ShloMosaic
open Idealize.ShloMosaic.TcCoe
open Cert.Proof.FlashI

theorem whole3 (v : View sig .tc .vmem S512x512 .f32) (f : v.ty.Contents (Elt Ideal)) (inb) (w) (L) (r q : Fin 512) :
    v.read (Elt Ideal) (v.writes (Elt Ideal) f ((⟨Rect.unit ![0, 0] S512x512.size inb, w⟩ : View.Piece (Elt Ideal) S512x512 .f32) :: L)) (ix2 r q) = w (ix2 r q) := by
  refine View.read_writes_cons_unit_of_mem v f inb w L _ (ix2 r q) rfl fun a => ?_
  fin_cases a <;> simp [ix2]

section
variable (c : Dev nD) (i : grid0.Coords) (arg5 : Memref sig .tc .vmem S512x1024 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .f32) (harg8 : arg8.IsWhole) (T0 : (S36.Idx → Elt Ideal .i32)) (T1 : (S36.Idx → Elt Ideal .i32))
     (x0 : (S512x1024.Idx → Elt Ideal .bf16)) (x1 : (S512x1024.Idx → Elt Ideal .bf16)) (x2 : (S512x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

theorem A_out (hc0 hc1 hc3) (h : Fin 4) (r : Fin 512) (d : Fin 128) :
    out0_A_3 c i arg5 harg5 arg6 harg6 arg7 harg7 arg8 harg8 T0 T1 x0 x1 x2 hc0 hc1 hc3 (ix2 r (vcol h d))
      = Ideal.div (aNew (score true x0 x1 h r) (fun c => x2 (ix2 c (vcol h d))) ⊥ 0) (lNew (score true x0 x1 h r) ⊥ 0) := by
  unfold out0_A_3 kernelRun0_A
  dsimp only
  sl_unfold_words
  refine Eq.trans (whole3 VO0_3 _ _ _ _ _ _) ?_
  simp (disch := decide) only [↓ View.readCov_skip, ↓ View.readCov_cons_toLoadRect, ↓ View.readCov_fill, View.readAt_eq_ld, View.read_rep, View.ld_unit_lit, scM0_read0, scM0_read1, scM0_read2, View.read_whole]
  obtain ⟨k, hk⟩ := h
  interval_cases k
  · rw [show vcol ⟨0, hk⟩ d = ⟨d.val, by omega⟩ from Fin.ext (by simp [vcol])]
    pointwise [k0_pay1, k0_pay2, k0_pay3, k0_pay6, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]
    try simp (disch := omega) only [dif_neg, dif_pos]
    simp only [pay42, vcol0, ofBits_ninf, mNew, lNew, aNew] <;> rfl
  · rw [show vcol ⟨1, hk⟩ d = ⟨128 + d.val, by omega⟩ from Fin.ext (by simp [vcol])]
    pointwise [k0_pay1, k0_pay2, k0_pay3, k0_pay6, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]
    try simp (disch := omega) only [dif_neg, dif_pos, show 128 + d.val - 128 = d.val by omega]
    simp only [pay43, vcol1, ofBits_ninf, mNew, lNew, aNew] <;> rfl
  · rw [show vcol ⟨2, hk⟩ d = ⟨256 + d.val, by omega⟩ from Fin.ext (by simp [vcol])]
    pointwise [k0_pay1, k0_pay2, k0_pay3, k0_pay6, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]
    try simp (disch := omega) only [dif_neg, dif_pos, show 256 + d.val - 128 - 128 = d.val by omega]
    simp only [pay44, vcol2, ofBits_ninf, mNew, lNew, aNew] <;> rfl
  · rw [show vcol ⟨3, hk⟩ d = ⟨384 + d.val, by omega⟩ from Fin.ext (by simp [vcol])]
    pointwise [k0_pay1, k0_pay2, k0_pay3, k0_pay6, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]
    try simp (disch := omega) only [dif_neg, dif_pos, show 384 + d.val - 128 - 128 - 128 = d.val by omega]
    simp only [pay45, vcol3, ofBits_ninf, mNew, lNew, aNew] <;> rfl

theorem C_out (hc0 hc1 hc3) (h : Fin 4) (r : Fin 512) (d : Fin 128) :
    out0_C_3 c i arg5 harg5 arg6 harg6 arg7 harg7 arg8 harg8 T0 T1 x0 x1 x2 xa0 xa1 xa2 hc0 hc1 hc3 (ix2 r (vcol h d))
      = Ideal.div (aNew (score true x0 x1 h r) (fun c => x2 (ix2 c (vcol h d))) (xa0 (ix3 h r (0 : Fin 1))) (xa2 (ix3 h r d))) (lNew (score true x0 x1 h r) (xa0 (ix3 h r (0 : Fin 1))) (xa1 (ix3 h r (0 : Fin 1)))) := by
  unfold out0_C_3 kernelRun0_C
  dsimp only
  sl_unfold_words
  refine Eq.trans (whole3 VO0_3 _ _ _ _ _ _) ?_
  simp (disch := decide) only [↓ View.readCov_skip, ↓ View.readCov_cons_toLoadRect, ↓ View.readCov_fill, View.readAt_eq_ld, View.read_rep, View.ld_unit_lit, scM0_read0, scM0_read1, scM0_read2, View.read_whole]
  obtain ⟨k, hk⟩ := h
  interval_cases k
  · rw [show vcol ⟨0, hk⟩ d = ⟨d.val, by omega⟩ from Fin.ext (by simp [vcol])]
    pointwise [k0_pay1, k0_pay2, k0_pay3, k0_pay6, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]
    try simp (disch := omega) only [dif_neg, dif_pos]
    simp only [pay42, vcol0, ofBits_ninf, mNew, lNew, aNew] <;> rfl
  · rw [show vcol ⟨1, hk⟩ d = ⟨128 + d.val, by omega⟩ from Fin.ext (by simp [vcol])]
    pointwise [k0_pay1, k0_pay2, k0_pay3, k0_pay6, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]
    try simp (disch := omega) only [dif_neg, dif_pos, show 128 + d.val - 128 = d.val by omega]
    simp only [pay43, vcol1, ofBits_ninf, mNew, lNew, aNew] <;> rfl
  · rw [show vcol ⟨2, hk⟩ d = ⟨256 + d.val, by omega⟩ from Fin.ext (by simp [vcol])]
    pointwise [k0_pay1, k0_pay2, k0_pay3, k0_pay6, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]
    try simp (disch := omega) only [dif_neg, dif_pos, show 256 + d.val - 128 - 128 = d.val by omega]
    simp only [pay44, vcol2, ofBits_ninf, mNew, lNew, aNew] <;> rfl
  · rw [show vcol ⟨3, hk⟩ d = ⟨384 + d.val, by omega⟩ from Fin.ext (by simp [vcol])]
    pointwise [k0_pay1, k0_pay2, k0_pay3, k0_pay6, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]
    try simp (disch := omega) only [dif_neg, dif_pos, show 384 + d.val - 128 - 128 - 128 = d.val by omega]
    simp only [pay45, vcol3, ofBits_ninf, mNew, lNew, aNew] <;> rfl

end

end Cert.Proof.FlashV

end
-- ==== Proof.FlashV.Points.lean ====
/- The causal attention's grid points: the batch row, head group, query block and key block of each, and the blocks its
   windows read. -/
module

public import proofs.«01_k».proof.Proof.FlashI.Frame
public import Idealize.ShloMosaic.Lib.Pointwise
public import Idealize.ShloMosaic.Lib.Pipeline.ValueKit

@[expose] public section

noncomputable section

namespace Cert.Proof.FlashV

open Cert.KernelIdeal Cert.KernelIdeal.Gen
open Idealize.ShloMosaic
open Idealize.ShloMosaic.TcCoe
open Cert.Proof.FlashI

/-- The batch row of point `t`. -/
def bN (t : ℕ) : ℕ := t / 72
/-- The head group of point `t`. -/
def gN (t : ℕ) : ℕ := t / 36 % 2
/-- The query block of point `t`. -/
def iN (t : ℕ) : ℕ := [0, 1, 1, 2, 2, 2, 3, 3, 3, 3, 4, 4, 4, 4, 4, 5, 5, 5, 5, 5, 5, 6, 6, 6, 6, 6, 6, 6, 7, 7, 7, 7, 7, 7, 7, 7].getD (t % 36) 0
/-- The key block of point `t`. -/
def jN (t : ℕ) : ℕ := t % 36 - iN t * (iN t + 1) / 2

/-- What is decided of a point. -/
abbrev PointAt (t : Fin (cfgA 0).N) : Prop :=
  (P0_0 0 t ↔ jN t.val = 0) ∧ (P0_1 0 t ↔ jN t.val < iN t.val) ∧ jN t.val ≤ iN t.val ∧ iN t.val < 8 ∧ bN t.val < 2 ∧ gN t.val < 2
  ∧ (jN t.val ≠ 0 → t.val ≠ 0 ∧ jN (t.val - 1) + 1 = jN t.val ∧ iN (t.val - 1) = iN t.val ∧ bN (t.val - 1) = bN t.val ∧ gN (t.val - 1) = gN t.val)
  ∧ (((cfgA 0).win (3 : Fin 4)).flush t = true → jN t.val = iN t.val)
  ∧ ((cfgA 0).win (0 : Fin 4)).index t = ![bN t.val * 8 + iN t.val, gN t.val]
  ∧ ((cfgA 0).win (1 : Fin 4)).index t = ![bN t.val * 8 + jN t.val, gN t.val]
  ∧ ((cfgA 0).win (2 : Fin 4)).index t = ![bN t.val * 8 + jN t.val, gN t.val]
  ∧ ((cfgA 0).win (3 : Fin 4)).index t = ![bN t.val * 8 + iN t.val, gN t.val]

theorem points : ∀ t : Fin (cfgA 0).N, PointAt t := by decide +kernel

theorem covers3 : ((cfgA 0).win (3 : Fin 4)).Covers := by decide +kernel

variable (m : (ℓ : Loc nD τ sig) → Buf (Elt Ideal) ℓ) (ρ : Dev nD → PrngReg) (c : Dev nD) (t : Fin (cfgA 0).N)

theorem iblk0_apply (r : Fin 512) (q : Fin 1024) (h1 h2) :
    iblk 0 m ρ c (0 : Fin 4) t (ix2 r q)
      = (m ((c.tc : Thread nD τ).loc main_arg0) : (⟨2, ![8192, 2048]⟩ : Shape).Idx → EReal) (ix2 ⟨(bN t.val * 8 + iN t.val) * 512 + r.val, h1⟩ ⟨gN t.val * 1024 + q.val, h2⟩) := by
  have e := (points t).2.2.2.2.2.2.2.2.1
  unfold iblk
  blk_simp
  refine congrArg (m ((c.tc : Thread nD τ).loc main_arg0)) (funext fun a => Fin.ext ?_)
  refine (Pipeline.Window.rect_emb_val _ _ _ _).trans ?_
  rw [e]
  fin_cases a <;> rfl

theorem iblk1_apply (r : Fin 512) (q : Fin 1024) (h1 h2) :
    iblk 0 m ρ c (1 : Fin 4) t (ix2 r q)
      = (m ((c.tc : Thread nD τ).loc main_arg1) : (⟨2, ![8192, 2048]⟩ : Shape).Idx → EReal) (ix2 ⟨(bN t.val * 8 + jN t.val) * 512 + r.val, h1⟩ ⟨gN t.val * 1024 + q.val, h2⟩) := by
  have e := (points t).2.2.2.2.2.2.2.2.2.1
  unfold iblk
  blk_simp
  refine congrArg (m ((c.tc : Thread nD τ).loc main_arg1)) (funext fun a => Fin.ext ?_)
  refine (Pipeline.Window.rect_emb_val _ _ _ _).trans ?_
  rw [e]
  fin_cases a <;> rfl

theorem iblk2_apply (r : Fin 512) (q : Fin 512) (h1 h2) :
    iblk 0 m ρ c (2 : Fin 4) t (ix2 r q)
      = (m ((c.tc : Thread nD τ).loc main_arg2) : (⟨2, ![8192, 1024]⟩ : Shape).Idx → EReal) (ix2 ⟨(bN t.val * 8 + jN t.val) * 512 + r.val, h1⟩ ⟨gN t.val * 512 + q.val, h2⟩) := by
  have e := (points t).2.2.2.2.2.2.2.2.2.2.1
  unfold iblk
  blk_simp
  refine congrArg (m ((c.tc : Thread nD τ).loc main_arg2)) (funext fun a => Fin.ext ?_)
  refine (Pipeline.Window.rect_emb_val _ _ _ _).trans ?_
  rw [e]
  fin_cases a <;> rfl

end Cert.Proof.FlashV

end
-- ==== Proof.FlashV.Ref.lean ====
/- The reference attention over the extended reals, at an index. -/
module

public import proofs.«01_k».proof.Proof.FlashV.Math
public import proofs.«01_k».proof.Proof.Gen.ReferenceIdeal.Run
public import Idealize.ShloMosaic.Lib.Pointwise
public import Idealize.ShloMosaic.Lib.Pipeline.ValueKit
public import Idealize.ShloMosaic.Lib.Tactic.CleanTypes

@[expose] public section

noncomputable section

namespace Cert.Proof.FlashV

open Idealize.ShloMosaic Idealize.ShloMosaic.TcCoe
open Cert.ReferenceIdeal Cert.ReferenceIdeal.Gen Cert.ReferenceIdeal.Value

/-- The maximum over the last of four axes. -/
theorem max_last {A B C D : ℕ} (x : (⟨4, ![A, B, C, D]⟩ : Shape).Idx → EReal) (init : S_.Idx → EReal)
    (h' : (⟨4, ![A, B, C, D]⟩ : Shape).ReducesTo [3] ⟨3, ![A, B, C]⟩) (h : (⟨4, ![A, B, C, D]⟩ : Shape).Reduces [3] ⟨3, ![A, B, C]⟩)
    (hu : 0 < S_.numel) (a : Fin A) (b : Fin B) (c : Fin C) :
    Host.reduce (FloatOps.maximumf (F := Ideal) (φ := .f32)) x init h' hu (ix3 a b c)
      = Finset.fold max (init (Shape.Idx.first hu)) (fun k : Fin D => x (ix4 a b c k)) Finset.univ := by
  rw [Host.reduce_eq_fold_single (FloatOps.maximumf (F := Ideal) (φ := .f32)) x init h' h hu]
  have e : (x ∘ h.lift (ix3 a b c)) = fun k : Fin D => x (ix4 a b c k) := by
    funext k
    refine congrArg x (funext fun t => Fin.ext ?_)
    rw [Shape.Reduces.lift_val]
    fin_cases t <;> rfl
  rw [e]
  rfl

/-- The masked scores. -/
def rS (a0 a1 : Vec Ideal S8192x2048 .bf16) : FVec Ideal S2x8x4096x4096 .f32 :=
  select (broadcastInDim S2x8x4096x4096 ![2, 3] bcast_S4096x4096_S2x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (mulf (Host.dotGeneral dot_S2x4096x8x256_S2x4096x8x256_S2x8x4096x4096_3_3_1_1_02_02 none (shapeCast _ (extf .f32 a0 bitsLt_bf16_f32) shapeCasts_S8192x2048_S2x4096x8x256) (shapeCast _ (extf .f32 a1 bitsLt_bf16_f32) shapeCasts_S8192x2048_S2x4096x8x256)) (broadcastInDim S2x8x4096x4096 ![] bcast_S_S2x8x4096x4096 (constant S_ .f32 0x3D93CD3A#32))) (broadcastInDim S2x8x4096x4096 ![] bcast_S_S2x8x4096x4096 (id (constant S_ .f32 0xFF800000#32)))

/-- The exponentials of the scores less their row's maximum. -/
def rE (s : FVec Ideal S2x8x4096x4096 .f32) : FVec Ideal S2x8x4096x4096 .f32 :=
  Host.exp (subf s (broadcastInDim S2x8x4096x4096 ![0, 1, 2, 3] bcast_S2x8x4096x1_S2x8x4096x4096_0_1_2_3 (broadcastInDim S2x8x4096x1 ![0, 1, 2] bcast_S2x8x4096_S2x8x4096x1_0_1_2 (maximumf (broadcastInDim S2x8x4096 ![] bcast_S_S2x8x4096 (constant S_ .f32 0xFF800000#32)) (Host.reduce FloatOps.maximumf s (constant S_ .f32 0xFF800000#32) reducesTo_S2x8x4096x4096_S2x8x4096_d3 h_S_)))))

/-- The weighted sums of the values, the weights being the exponentials over their row's sum. -/
def rO (e : FVec Ideal S2x8x4096x4096 .f32) (a2 : Vec Ideal S8192x1024 .bf16) : FVec Ideal S8192x1024 .f32 :=
  shapeCast _ (transpose S2x4096x8x128 [0, 3, 1, 2] (Host.dotGeneral dot_S2x4096x8x128_S2x8x4096x4096_S2x8x128x4096_1_3_3_2_02_01 none (shapeCast _ (extf .f32 a2 bitsLt_bf16_f32) shapeCasts_S8192x1024_S2x4096x8x128) (Host.divf e (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduceAdd e (constant S_ .f32 0x00000000#32) reducesTo_S2x8x4096x4096_S2x8x4096_d3 h_S_))))) transposes_S2x8x128x4096_S2x4096x8x128_0_3_1_2) shapeCasts_S2x4096x8x128_S8192x1024

theorem ref_split (m : (ℓ : Loc nD τ sig) → Buf (Elt Ideal) ℓ) (c : Dev nD) :
    res_main_v29 (F := Ideal) m c = rO (rE (rS (m ((c.tc : Thread nD τ).loc main_arg0)) (m ((c.tc : Thread nD τ).loc main_arg1)))) (m ((c.tc : Thread nD τ).loc main_arg2)) := rfl

theorem ofBits_ninf' : Ideal.ofBits FTy.f32 4286578688#32 = (⊥ : EReal) := by
  simp [Ideal.ofBits, Ideal.ieee]

theorem sel_le' (q k : Fin 4096) (a b : EReal) :
    Scalar.select (IntOp.cmpi CmpIPredicate.sle (BitVec.ofNat 32 ↑k) (BitVec.ofNat 32 ↑q)) a b = if k ≤ q then a else b := by
  have h : (BitVec.ofNat 32 ↑k).sle (BitVec.ofNat 32 ↑q) = decide (k ≤ q) := by
    rw [BitVec.sle_eq_decide]
    have e : ∀ x : Fin 4096, (BitVec.ofNat 32 x.val).toInt = (x.val : Int) := fun x => by
      have hx := x.isLt
      rw [BitVec.toInt_eq_toNat_of_lt (by rw [BitVec.toNat_ofNat]; omega), BitVec.toNat_ofNat]
      omega
    rw [e, e]
    exact decide_eq_decide.mpr (by rw [Fin.le_def]; omega)
  simp only [IntOp.cmpi, h, Scalar.select]
  by_cases hc : k ≤ q <;> simp [hc]

/-- The score of query `q` and key `k` in head `h` of batch row `b`. -/
def gS (a0 a1 : (⟨2, ![8192, 2048]⟩ : Shape).Idx → EReal) (b : Fin 2) (h : Fin 8) (q k : Fin 4096) : EReal :=
  if k ≤ q then
    (∑ x : Fin 256, a0 (ix2 ⟨b.val * 4096 + q.val, by omega⟩ ⟨h.val * 256 + x.val, by omega⟩)
      * a1 (ix2 ⟨b.val * 4096 + k.val, by omega⟩ ⟨h.val * 256 + x.val, by omega⟩)) * Ideal.ofBits .f32 1033096506#32
  else ⊥

theorem rS_apply (a0 a1 : Vec Ideal S8192x2048 .bf16) (b : Fin 2) (h : Fin 8) (q k : Fin 4096) :
    rS a0 a1 (ix4 b h q k) = gS a0 a1 b h q k := by
  unfold rS gS
  pointwise
  rw [sel_le']
  split
  · rfl
  · exact ofBits_ninf'

/-- The exponentials, from the row maxima. -/
def rX (s : FVec Ideal S2x8x4096x4096 .f32) (R : FVec Ideal S2x8x4096 .f32) : FVec Ideal S2x8x4096x4096 .f32 :=
  Host.exp (subf s (broadcastInDim S2x8x4096x4096 ![0, 1, 2, 3] bcast_S2x8x4096x1_S2x8x4096x4096_0_1_2_3 (broadcastInDim S2x8x4096x1 ![0, 1, 2] bcast_S2x8x4096_S2x8x4096x1_0_1_2 (maximumf (broadcastInDim S2x8x4096 ![] bcast_S_S2x8x4096 (constant S_ .f32 0xFF800000#32)) R))))

theorem rX_apply (s : FVec Ideal S2x8x4096x4096 .f32) (R : FVec Ideal S2x8x4096 .f32) (b : Fin 2) (h : Fin 8) (q k : Fin 4096) :
    rX s R (ix4 b h q k) = Ideal.exp (s (ix4 b h q k) - max (Ideal.ofBits .f32 4286578688#32) (R (ix3 b h q))) := by
  unfold rX
  pointwise

theorem red4 : (⟨4, ![2, 8, 4096, 4096]⟩ : Shape).Reduces [3] ⟨3, ![2, 8, 4096]⟩ := by decide

theorem rR_apply (s : FVec Ideal S2x8x4096x4096 .f32) (b : Fin 2) (h : Fin 8) (q : Fin 4096) :
    Host.reduce (FloatOps.maximumf (F := Ideal) (φ := .f32)) s (constant (F := Ideal) S_ .f32 0xFF800000#32) reducesTo_S2x8x4096x4096_S2x8x4096_d3 h_S_ (ix3 b h q)
      = Finset.fold max ((constant (F := Ideal) S_ .f32 0xFF800000#32) (Shape.Idx.first h_S_)) (fun x : Fin 4096 => s (ix4 b h q x)) Finset.univ :=
  max_last (A := 2) (B := 8) (C := 4096) (D := 4096) s (constant (F := Ideal) S_ .f32 0xFF800000#32)
    reducesTo_S2x8x4096x4096_S2x8x4096_d3 red4 h_S_ b h q

theorem rE_apply (s : FVec Ideal S2x8x4096x4096 .f32) (b : Fin 2) (h : Fin 8) (q k : Fin 4096) :
    rE s (ix4 b h q k) = Ideal.exp (s (ix4 b h q k) - Finset.fold max ⊥ (fun x => s (ix4 b h q x)) Finset.univ) := by
  refine (rX_apply s (Host.reduce FloatOps.maximumf s (constant S_ .f32 0xFF800000#32) reducesTo_S2x8x4096x4096_S2x8x4096_d3 h_S_) b h q k).trans ?_
  rw [rR_apply, ofBits_ninf', show (constant (F := Ideal) S_ .f32 0xFF800000#32 (Shape.Idx.first h_S_) : EReal) = ⊥ from ofBits_ninf',
    max_eq_right bot_le]

theorem rO_apply (e : FVec Ideal S2x8x4096x4096 .f32) (a2 : Vec Ideal S8192x1024 .bf16) (r : Fin 8192) (q : Fin 1024) :
    (rO e a2 (ix2 r q) : EReal) = ∑ x, (a2 : (⟨2, ![8192, 1024]⟩ : Shape).Idx → EReal) (ix2 ⟨r.val / 4096 * 4096 + x.val, by omega⟩ q)
        * Ideal.div ((e : (⟨4, ![2, 8, 4096, 4096]⟩ : Shape).Idx → EReal) (ix4 ⟨r.val / 4096, by omega⟩ ⟨q.val / 128, by omega⟩ ⟨r.val % 4096, by omega⟩ x))
          (∑ y, (e : (⟨4, ![2, 8, 4096, 4096]⟩ : Shape).Idx → EReal) (ix4 ⟨r.val / 4096, by omega⟩ ⟨q.val / 128, by omega⟩ ⟨r.val % 4096, by omega⟩ y)) := by
  unfold rO
  pointwise

/-- The reference's result at an index. -/
theorem ref_apply (m : (ℓ : Loc nD τ sig) → Buf (Elt Ideal) ℓ) (c : Dev nD) (r : Fin 8192) (q : Fin 1024)
    (s : Fin 4096 → EReal) (hs : s = gS (m ((c.tc : Thread nD τ).loc main_arg0)) (m ((c.tc : Thread nD τ).loc main_arg1))
      ⟨r.val / 4096, by omega⟩ ⟨q.val / 128, by omega⟩ ⟨r.val % 4096, by omega⟩) :
    (res_main_v29 (F := Ideal) m c : (⟨2, ![8192, 1024]⟩ : Shape).Idx → EReal) (ix2 r q)
      = ∑ x : Fin 4096, Ideal.div (Ideal.exp (s x - Finset.fold max ⊥ s Finset.univ))
          (∑ y, Ideal.exp (s y - Finset.fold max ⊥ s Finset.univ))
        * (m ((c.tc : Thread nD τ).loc main_arg2) : (⟨2, ![8192, 1024]⟩ : Shape).Idx → EReal) (ix2 ⟨r.val / 4096 * 4096 + x.val, by omega⟩ q) := by
  rw [ref_split]
  refine (rO_apply _ _ r q).trans ?_
  refine Finset.sum_congr rfl fun x _ => ?_
  rw [mul_comm]
  simp only [rE_apply, rS_apply]
  subst hs
  rfl

end Cert.Proof.FlashV

end
-- ==== Proof.FlashV.Traj.lean ====
/- The causal attention over the extended reals: after every grid point the scratches hold the running softmax of the
   point's rows, and at a diagonal point the output block holds the quotients. -/
module

public import proofs.«01_k».proof.Proof.FlashV.Out
public import proofs.«01_k».proof.Proof.FlashV.Points
public import proofs.«01_k».proof.Proof.FlashV.Ref

@[expose] public section

noncomputable section

namespace Cert.Proof.FlashV

open Cert.KernelIdeal Cert.KernelIdeal.Gen
open Idealize.ShloMosaic
open Idealize.ShloMosaic.TcCoe
open Cert.Proof.FlashI

/-- The scores of one row, block by block. -/
def rowS (a0 a1 : (⟨2, ![8192, 2048]⟩ : Shape).Idx → EReal) (b : Fin 2) (H : Fin 8) (q : Fin 4096) (j : ℕ) (k : Fin 512) : EReal :=
  if h : j < 8 then gS a0 a1 b H q ⟨j * 512 + k.val, by omega⟩ else ⊥

/-- One column of the values of one batch row, block by block. -/
def colV (a2 : (⟨2, ![8192, 1024]⟩ : Shape).Idx → EReal) (b : Fin 2) (n : Fin 1024) (j : ℕ) (k : Fin 512) : EReal :=
  if h : j < 8 then a2 (ix2 ⟨b.val * 4096 + (j * 512 + k.val), by omega⟩ n) else 0

section
variable (m : (ℓ : Loc nD τ sig) → Buf (Elt Ideal) ℓ) (ρ : Dev nD → PrngReg) (c : Dev nD)

/-- The arguments, as arrays of extended reals. -/
abbrev A0 : (⟨2, ![8192, 2048]⟩ : Shape).Idx → EReal := m ((c.tc : Thread nD τ).loc main_arg0)
abbrev A1 : (⟨2, ![8192, 2048]⟩ : Shape).Idx → EReal := m ((c.tc : Thread nD τ).loc main_arg1)
abbrev A2 : (⟨2, ![8192, 1024]⟩ : Shape).Idx → EReal := m ((c.tc : Thread nD τ).loc main_arg2)

theorem hb (t : Fin (cfgA 0).N) : bN t.val < 2 := (points t).2.2.2.2.1
theorem hg (t : Fin (cfgA 0).N) : gN t.val < 2 := (points t).2.2.2.2.2.1
theorem hi (t : Fin (cfgA 0).N) : iN t.val < 8 := (points t).2.2.2.1
theorem hji (t : Fin (cfgA 0).N) : jN t.val ≤ iN t.val := (points t).2.2.1

/-- The scores of row `r` of head `h` at point `t`. -/
def tS (t : Fin (cfgA 0).N) (h : Fin 4) (r : Fin 512) : ℕ → Fin 512 → EReal :=
  rowS (A0 m c) (A1 m c) ⟨bN t.val, hb t⟩ ⟨gN t.val * 4 + h.val, by have := hg t; omega⟩ ⟨iN t.val * 512 + r.val, by have := hi t; omega⟩

/-- The values' column `d` of head `h` at point `t`. -/
def tV (t : Fin (cfgA 0).N) (h : Fin 4) (d : Fin 128) : ℕ → Fin 512 → EReal :=
  colV (A2 m c) ⟨bN t.val, hb t⟩ ⟨gN t.val * 512 + (128 * h.val + d.val), by have := hg t; omega⟩

theorem score_eq (t : Fin (cfgA 0).N) (dg : Bool) (hd : dg = true ↔ jN t.val = iN t.val) (h : Fin 4) (r : Fin 512) :
    score dg (iblk 0 m ρ c (0 : Fin 4) t) (iblk 0 m ρ c (1 : Fin 4) t) h r = tS m c t h r (jN t.val) := by
  have h1 := hb t; have h2 := hg t; have h3 := hi t; have h4 := hji t
  funext k
  unfold score tS rowS gS
  rw [dif_pos (by omega)]
  by_cases hc : (⟨jN t.val * 512 + k.val, by omega⟩ : Fin 4096) ≤ ⟨iN t.val * 512 + r.val, by omega⟩
  · rw [if_pos hc, if_neg]
    · unfold sdot
      congr 1
      refine Finset.sum_congr rfl fun x _ => ?_
      have e0 := iblk0_apply m ρ c t r (qcol h x) (by omega) (by unfold qcol; dsimp only; omega)
      have e1 := iblk1_apply m ρ c t k (qcol h x) (by omega) (by unfold qcol; dsimp only; omega)
      refine (congrArg₂ (fun a b : EReal => a * b) e0 e1).trans ?_
      refine congrArg₂ (fun a b : EReal => a * b) (congrArg (A0 m c) ?_) (congrArg (A1 m c) ?_)
      · refine congrArg₂ ix2 (Fin.ext ?_) (Fin.ext ?_) <;> simp only [qcol] <;> omega
      · refine congrArg₂ ix2 (Fin.ext ?_) (Fin.ext ?_) <;> simp only [qcol] <;> omega
    · rintro ⟨hd1, hd2⟩
      have := hd.mp hd1
      rw [Fin.le_def] at hc hd2
      dsimp only at hc
      omega
  · rw [if_neg hc, if_pos]
    rw [Fin.le_def] at hc
    dsimp only at hc
    refine ⟨hd.mpr (by omega), ?_⟩
    rw [Fin.le_def]
    have : jN t.val = iN t.val := by omega
    rw [this] at hc
    omega

theorem val_eq (t : Fin (cfgA 0).N) (h : Fin 4) (d : Fin 128) :
    (fun k => iblk 0 m ρ c (2 : Fin 4) t (ix2 k (vcol h d))) = tV m c t h d (jN t.val) := by
  have h1 := hb t; have h2 := hg t; have h3 := hi t; have h4 := hji t
  funext k
  unfold tV colV
  rw [dif_pos (by omega)]
  refine (iblk2_apply m ρ c t k (vcol h d) (by omega) (by unfold vcol; dsimp only; omega)).trans ?_
  refine congrArg (A2 m c) (congrArg₂ ix2 (Fin.ext ?_) (Fin.ext ?_)) <;> simp only [vcol] <;> omega

/-- What the scratches hold after point `t`. -/
def Inv (t : Fin (cfgA 0).N) : Prop := ∀ (h : Fin 4) (r : Fin 512),
  (traj0 0 m ρ c t.val t.isLt).2.1 (ix3 h r (0 : Fin 1)) = MM (tS m c t h r) (jN t.val + 1)
  ∧ (traj0 0 m ρ c t.val t.isLt).2.2.1 (ix3 h r (0 : Fin 1)) = LL (tS m c t h r) (jN t.val + 1)
  ∧ ∀ d : Fin 128, (traj0 0 m ρ c t.val t.isLt).2.2.2 (ix3 h r d) = AA (tS m c t h r) (tV m c t h d) (jN t.val + 1)

/-- What the output block holds after a diagonal point `t`. -/
def OutInv (t : Fin (cfgA 0).N) : Prop := jN t.val = iN t.val → ∀ (h : Fin 4) (r : Fin 512) (d : Fin 128),
  (traj0 0 m ρ c t.val t.isLt).1 (ix2 r (vcol h d))
    = Ideal.div (AA (tS m c t h r) (tV m c t h d) (jN t.val + 1)) (LL (tS m c t h r) (jN t.val + 1))

theorem step_first (t : Fin (cfgA 0).N) (hj : jN t.val = 0) : Inv m ρ c t ∧ OutInv m ρ c t := by
  have q0 : P0_0 0 t := (points t).1.mpr hj
  unfold Inv OutInv
  rw [traj0_eq]
  by_cases q1 : P0_1 0 t
  · have hlt := (points t).2.1.mp q1
    rw [step0_B 0 m ρ c t _ q0 q1]
    have hd : ((false : Bool) = true ↔ jN t.val = iN t.val) := by simp; omega
    refine ⟨fun h r => ⟨?_, ?_, fun d => ?_⟩, fun he => by omega⟩ <;> dsimp only
    · rw [B_m, score_eq m ρ c t false hd, hj]; rfl
    · rw [B_l, score_eq m ρ c t false hd, hj]; rfl
    · rw [B_a, score_eq m ρ c t false hd, val_eq m ρ c t, hj]; rfl
  · have hlt : jN t.val = iN t.val := by
      have := (points t).2.1.not.mp q1; have := hji t; omega
    rw [step0_A 0 m ρ c t _ q0 q1]
    have hd : ((true : Bool) = true ↔ jN t.val = iN t.val) := by simp [hlt]
    refine ⟨fun h r => ⟨?_, ?_, fun d => ?_⟩, fun _ h r d => ?_⟩ <;> dsimp only
    · rw [A_m, score_eq m ρ c t true hd, hj]; rfl
    · rw [A_l, score_eq m ρ c t true hd, hj]; rfl
    · rw [A_a, score_eq m ρ c t true hd, val_eq m ρ c t, hj]; rfl
    · rw [A_out, score_eq m ρ c t true hd, val_eq m ρ c t, hj]; rfl

theorem step_next (t : Fin (cfgA 0).N) (hj : jN t.val ≠ 0) (ih : Inv m ρ c ⟨t.val - 1, by omega⟩) : Inv m ρ c t ∧ OutInv m ρ c t := by
  have q0 : ¬P0_0 0 t := (points t).1.not.mpr hj
  obtain ⟨hz, ej, ei, eb, eg⟩ := (points t).2.2.2.2.2.2.1 hj
  have eS : ∀ h r, tS m c ⟨t.val - 1, by omega⟩ h r = tS m c t h r := fun h r => by unfold tS; simp only [ei, eb, eg]
  have eV : ∀ h d, tV m c ⟨t.val - 1, by omega⟩ h d = tV m c t h d := fun h d => by unfold tV; simp only [eb, eg]
  unfold Inv at ih
  simp only [eS, eV, ej] at ih
  have hp : prev0 0 m ρ c t = traj0 0 m ρ c (t.val - 1) (by omega) := by unfold prev0; rw [dif_neg hz]
  unfold Inv OutInv
  rw [traj0_eq, hp]
  generalize traj0 0 m ρ c (t.val - 1) _ = prev at ih ⊢
  by_cases q1 : P0_1 0 t
  · have hlt := (points t).2.1.mp q1
    rw [step0_D 0 m ρ c t _ q0 q1]
    have hd : ((false : Bool) = true ↔ jN t.val = iN t.val) := by simp; omega
    refine ⟨fun h r => ⟨?_, ?_, fun d => ?_⟩, fun he => by omega⟩ <;> dsimp only
    · rw [D_m, score_eq m ρ c t false hd, (ih h r).1]; rfl
    · rw [D_l, score_eq m ρ c t false hd, (ih h r).1, (ih h r).2.1]; rfl
    · rw [D_a, score_eq m ρ c t false hd, val_eq m ρ c t, (ih h r).1, (ih h r).2.2 d]; rfl
  · have hlt : jN t.val = iN t.val := by
      have := (points t).2.1.not.mp q1; have := hji t; omega
    rw [step0_C 0 m ρ c t _ q0 q1]
    have hd : ((true : Bool) = true ↔ jN t.val = iN t.val) := by simp [hlt]
    refine ⟨fun h r => ⟨?_, ?_, fun d => ?_⟩, fun _ h r d => ?_⟩ <;> dsimp only
    · rw [C_m, score_eq m ρ c t true hd, (ih h r).1]; rfl
    · rw [C_l, score_eq m ρ c t true hd, (ih h r).1, (ih h r).2.1]; rfl
    · rw [C_a, score_eq m ρ c t true hd, val_eq m ρ c t, (ih h r).1, (ih h r).2.2 d]; rfl
    · rw [C_out, score_eq m ρ c t true hd, val_eq m ρ c t, (ih h r).1, (ih h r).2.1, (ih h r).2.2 d]; rfl

theorem inv_all : ∀ (n : ℕ) (hn : n < (cfgA 0).N), Inv m ρ c ⟨n, hn⟩ ∧ OutInv m ρ c ⟨n, hn⟩ := by
  intro n
  induction n with
  | zero => exact fun hn => step_first m ρ c ⟨0, hn⟩ (show jN 0 = 0 by simp [jN, iN])
  | succ n ih =>
    intro hn
    by_cases hj : jN (n + 1) = 0
    · exact step_first m ρ c ⟨n + 1, hn⟩ hj
    · exact step_next m ρ c ⟨n + 1, hn⟩ hj (ih (by omega)).1

end

end Cert.Proof.FlashV

end
-- ==== Proof.FlashV.Value.lean ====
/- The causal attention over the extended reals: the array the kernel leaves is the reference's, the queries and keys
   being finite. -/
module

public import proofs.«01_k».proof.Proof.FlashV.Traj

@[expose] public section

noncomputable section

namespace Cert.Proof.FlashV

open Idealize.ShloMosaic
open Idealize.ShloMosaic.TcCoe

/-- A sum over the keys of a row, block by block. -/
theorem sum_blocks (f : Fin 4096 → EReal) :
    ∑ x, f x = ∑ j ∈ Finset.range 8, ∑ k : Fin 512, (if h : j < 8 then f ⟨j * 512 + k.val, by omega⟩ else 0) := by
  rw [← Fin.sum_univ_eq_sum_range (fun j => ∑ k : Fin 512, (if h : j < 8 then f ⟨j * 512 + k.val, by omega⟩ else 0)) 8]
  rw [← Fintype.sum_prod_type']
  refine (Fintype.sum_equiv (finProdFinEquiv (m := 8) (n := 512)) _ _ fun p => ?_).symm
  rw [dif_pos p.1.isLt]
  exact congrArg f (Fin.ext (by simp [finProdFinEquiv]; ring))

/-- The running maximum over all the blocks is the maximum of the row. -/
theorem max_blocks (s : ℕ → Fin 512 → EReal) (g : Fin 4096 → EReal)
    (hs : ∀ j (h : j < 8) (k : Fin 512), s j k = g ⟨j * 512 + k.val, by omega⟩) : MM s 8 = Finset.fold max ⊥ g Finset.univ := by
  refine eq_of_forall_ge_iff fun b => ?_
  rw [MM_le_iff, Finset.fold_max_le]
  constructor
  · intro h
    refine ⟨bot_le, fun x _ => ?_⟩
    have := h (x.val / 512) (by omega) ⟨x.val % 512, by omega⟩
    rw [hs _ (by omega)] at this
    refine le_trans (le_of_eq (congrArg g (Fin.ext ?_))) this
    dsimp only; omega
  · intro h j hj k
    rw [hs j hj]
    exact h.2 _ (Finset.mem_univ _)

/-- Below infinity in magnitude. -/
def Fin' (x : EReal) : Prop := x ≠ ⊤ ∧ x ≠ ⊥

theorem Fin'.exists {x : EReal} (h : Fin' x) : ∃ r : ℝ, x = r := by
  lift x to ℝ using h; exact ⟨x, rfl⟩

theorem gS_real (a0 a1 : (⟨2, ![8192, 2048]⟩ : Shape).Idx → EReal) (h0 : ∀ i, Fin' (a0 i)) (h1 : ∀ i, Fin' (a1 i))
    (b : Fin 2) (H : Fin 8) (q k : Fin 4096) (hk : k ≤ q) : ∃ r : ℝ, gS a0 a1 b H q k = r := by
  choose f0 e0 using fun i => (h0 i).exists
  choose f1 e1 using fun i => (h1 i).exists
  have hc : ∃ r : ℝ, Ideal.ofBits .f32 1033096506#32 = r := by
    unfold Ideal.ofBits Ideal.ieee
    dsimp only
    rw [if_neg (by decide), if_neg (by decide)]
    exact ⟨_, rfl⟩
  obtain ⟨w, hw⟩ := hc
  unfold gS
  rw [if_pos hk, hw]
  simp only [e0, e1]
  refine ⟨(∑ x : Fin 256, f0 (ix2 ⟨b.val * 4096 + q.val, by omega⟩ ⟨H.val * 256 + x.val, by omega⟩)
      * f1 (ix2 ⟨b.val * 4096 + k.val, by omega⟩ ⟨H.val * 256 + x.val, by omega⟩)) * w, ?_⟩
  rw [EReal.coe_mul]
  rw [show ∀ f : Fin 256 → ℝ, ((∑ x, f x : ℝ) : EReal) = ∑ x, (f x : EReal) from fun f => map_sum (⟨⟨Real.toEReal, EReal.coe_zero⟩, EReal.coe_add⟩ : ℝ →+ EReal) f _]
  exact congrArg (fun z : EReal => z * w) (Finset.sum_congr rfl fun x _ => (EReal.coe_mul _ _).symm)

section
open Cert.KernelIdeal Cert.KernelIdeal.Gen
open Cert.Proof.FlashI
variable (m : (ℓ : Loc nD τ sig) → Buf (Elt Ideal) ℓ) (ρ : Dev nD → PrngReg) (c : Dev nD)

/-- The attention of row `r`, column `n`, from the arguments. -/
def attn (a0 a1 : (⟨2, ![8192, 2048]⟩ : Shape).Idx → EReal) (a2 : (⟨2, ![8192, 1024]⟩ : Shape).Idx → EReal) (r : Fin 8192) (n : Fin 1024) : EReal :=
  let s := gS a0 a1 ⟨r.val / 4096, by omega⟩ ⟨n.val / 128, by omega⟩ ⟨r.val % 4096, by omega⟩
  ∑ x : Fin 4096, Ideal.div (Ideal.exp (s x - Finset.fold max ⊥ s Finset.univ))
      (∑ y, Ideal.exp (s y - Finset.fold max ⊥ s Finset.univ)) * a2 (ix2 ⟨r.val / 4096 * 4096 + x.val, by omega⟩ n)

/-- A row's running quotient at its diagonal block is its attention. -/
theorem quot_eq (a0 a1 : (⟨2, ![8192, 2048]⟩ : Shape).Idx → EReal) (a2 : (⟨2, ![8192, 1024]⟩ : Shape).Idx → EReal)
    (h0 : ∀ i, Fin' (a0 i)) (h1 : ∀ i, Fin' (a1 i)) (r : Fin 8192) (n : Fin 1024) (b : Fin 2) (H : Fin 8) (q : Fin 4096) (i : ℕ)
    (n' : Fin 1024) (en : n'.val = n.val) (eb : b.val = r.val / 4096) (eH : H.val = n.val / 128) (eq : q.val = r.val % 4096) (ei : i = q.val / 512) :
    Ideal.div (AA (rowS a0 a1 b H q) (colV a2 b n') (i + 1)) (LL (rowS a0 a1 b H q) (i + 1)) = attn a0 a1 a2 r n := by
  have l0 : r.val / 4096 < 2 := by clear eb eH eq ei; omega
  have l1 : n.val / 128 < 8 := by clear eb eH eq ei; omega
  have l2 : r.val % 4096 < 4096 := by clear eb eH eq ei; omega
  obtain rfl : b = ⟨r.val / 4096, l0⟩ := Fin.ext eb
  obtain rfl : H = ⟨n.val / 128, l1⟩ := Fin.ext eH
  obtain rfl : q = ⟨r.val % 4096, l2⟩ := Fin.ext eq
  obtain rfl : n = n' := Fin.ext en.symm
  dsimp only at ei
  have hreal := gS_real a0 a1 h0 h1 ⟨r.val / 4096, by omega⟩ ⟨n.val / 128, by omega⟩ ⟨r.val % 4096, by omega⟩
  unfold attn
  generalize hg : gS a0 a1 ⟨r.val / 4096, by omega⟩ ⟨n.val / 128, by omega⟩ ⟨r.val % 4096, by omega⟩ = g at hreal
  have hrow : ∀ j (h : j < 8) (k : Fin 512), rowS a0 a1 ⟨r.val / 4096, by omega⟩ ⟨n.val / 128, by omega⟩ ⟨r.val % 4096, by omega⟩ j k
      = g ⟨j * 512 + k.val, by omega⟩ := fun j h k => by unfold rowS; rw [dif_pos h, hg]
  have hmask : ∀ k : Fin 4096, r.val % 4096 < k.val → g k = ⊥ := fun k hk => by
    rw [← hg]; unfold gS; rw [if_neg]; rw [Fin.le_def]; dsimp only; omega
  have hbig : ∀ j, ¬ j < 8 → ∀ k, rowS a0 a1 ⟨r.val / 4096, by omega⟩ ⟨n.val / 128, by omega⟩ ⟨r.val % 4096, by omega⟩ j k = ⊥ :=
    fun j h k => by unfold rowS; rw [dif_neg h]
  generalize rowS a0 a1 ⟨r.val / 4096, by omega⟩ ⟨n.val / 128, by omega⟩ ⟨r.val % 4096, by omega⟩ = s at hrow hbig ⊢
  have ht : ∀ j k, s j k ≠ ⊤ := fun j k => by
    by_cases h : j < 8
    · rw [hrow j h]
      by_cases hk : (⟨j * 512 + k.val, by omega⟩ : Fin 4096) ≤ ⟨r.val % 4096, by omega⟩
      · obtain ⟨w, hw⟩ := hreal _ hk; rw [hw]; exact EReal.coe_ne_top _
      · rw [hmask _ (by rw [Fin.le_def] at hk; dsimp only at hk ⊢; omega)]; exact bot_ne_top
    · rw [hbig j h]; exact bot_ne_top
  have hb : ∃ k, s 0 k ≠ ⊥ := ⟨⟨0, by omega⟩, by
    rw [hrow 0 (by omega)]
    obtain ⟨w, hw⟩ := hreal ⟨0 * 512 + 0, by omega⟩ (by rw [Fin.le_def]; dsimp only; omega)
    rw [hw]; exact EReal.coe_ne_bot _⟩
  have hm : ∀ j', i + 1 ≤ j' → ∀ k, s j' k = ⊥ := fun j' hj k => by
    by_cases h : j' < 8
    · rw [hrow j' h]; exact hmask _ (by dsimp only; omega)
    · exact hbig j' h k
  rw [div_eq s _ ht hb (i + 1) 8 (by omega) (by omega) hm, max_blocks s g hrow]
  dsimp only
  rw [sum_blocks, sum_blocks (fun y => Ideal.exp (g y - Finset.fold max ⊥ g Finset.univ))]
  have e : (∑ j' ∈ Finset.range 8, ∑ k, Ideal.exp (s j' k - Finset.fold max ⊥ g Finset.univ))
      = ∑ j ∈ Finset.range 8, ∑ k : Fin 512, (if h : j < 8 then Ideal.exp (g ⟨j * 512 + k.val, by omega⟩ - Finset.fold max ⊥ g Finset.univ) else 0) :=
    Finset.sum_congr rfl fun j hj => Finset.sum_congr rfl fun k _ => by
      have hj := Finset.mem_range.mp hj
      rw [dif_pos hj, hrow j hj]
  rw [e]
  refine Finset.sum_congr rfl fun j hj => Finset.sum_congr rfl fun k _ => ?_
  have hj := Finset.mem_range.mp hj
  unfold colV
  rw [dif_pos hj, dif_pos hj, hrow j hj]

/-- The array the kernel leaves. -/
theorem arr_eq (h0 : ∀ i, Fin' (A0 m c i)) (h1' : ∀ i, Fin' (A1 m c i)) :
    (dats 0 m ρ 0 c).arrAt (3 : Fin 4) (cfgA 0).N = (fun y => attn (A0 m c) (A1 m c) (A2 m c) (y 0) (y 1) : (⟨2, ![8192, 1024]⟩ : Shape).Idx → EReal) := by
  refine (dats 0 m ρ 0 c).arrAt_eq_of_covers (3 : Fin 4) _ covers3 fun t hf y => ?_
  have hij := (points t).2.2.2.2.2.2.2.1 hf
  have e := (points t).2.2.2.2.2.2.2.2.2.2.2
  blk_simp
  rw [after0_3]
  obtain ⟨r, q, rfl⟩ : ∃ (r q : Fin 512), y = ix2 r q := ⟨y 0, y 1, by funext a; fin_cases a <;> rfl⟩
  have E0 : ((((cfgA 0).win (3 : Fin 4)).blk t).view.emb (ix2 r q) 0 : ℕ) = (bN t.val * 8 + iN t.val) * 512 + r.val := by
    refine (Pipeline.Window.rect_emb_val _ _ _ _).trans ?_
    rw [e]; rfl
  have E1 : ((((cfgA 0).win (3 : Fin 4)).blk t).view.emb (ix2 r q) 1 : ℕ) = gN t.val * 512 + q.val := by
    refine (Pipeline.Window.rect_emb_val _ _ _ _).trans ?_
    rw [e]; rfl
  have h1 := hb t; have h2 := hg t; have h3 := hi t
  have hq : q = vcol ⟨q.val / 128, by omega⟩ ⟨q.val % 128, by omega⟩ := Fin.ext (by simp only [vcol]; omega)
  have ho := (inv_all m ρ c t.val t.isLt).2 hij ⟨q.val / 128, by omega⟩ r ⟨q.val % 128, by omega⟩
  rw [← hq] at ho
  refine ho.trans ?_
  unfold tS tV
  exact quot_eq _ _ _ h0 h1' _ _ _ _ _ _ _ (by rw [E1]; dsimp only; omega) (by rw [E0]; dsimp only; omega) (by rw [E1]; dsimp only; omega)
    (by rw [E0]; dsimp only; omega) (by rw [hij]; dsimp only; omega)

end

end Cert.Proof.FlashV

end
-- ==== Proof.FlashV.Pre.lean ====
/- What the stated precondition says of the queries and the keys: no element of either is infinite. -/
module

public import proofs.«01_k».proof.Defs
public import proofs.«01_k».proof.Proof.FlashV.Value
public import proofs.«01_k».proof.Proof.Gen.Pre_finite_qk
public import Idealize.ShloMosaic.Lib.ReduceAll

@[expose] public section

noncomputable section

namespace Cert.Proof.FlashV

open Idealize.ShloMosaic

/-- An extended real whose absolute value compares below `⊤` is finite. -/
theorem fin_of_abs_lt (x : EReal) (h : Ideal.cmp .olt (max x (-x)) (Ideal.ofBits .f32 0x7F800000#32) = 1#1) : Fin' x := by
  have e : Ideal.ofBits .f32 0x7F800000#32 = (⊤ : EReal) := by simp [Ideal.ofBits, Ideal.ieee]
  rw [e] at h
  refine ⟨fun hx => ?_, fun hx => ?_⟩ <;> subst hx <;> simp [Ideal.cmp] at h

instance : Subsingleton Cert.Pre_finite_qk.S_.Idx := ⟨fun a b => funext fun d => d.elim0⟩

/-- The precondition, read back. -/
theorem pre_fin (a0 a1 : (⟨2, ![8192, 2048]⟩ : Shape).Idx → EReal) (a2 : (⟨2, ![8192, 1024]⟩ : Shape).Idx → EReal)
    (h : Cert.Pre_finite_qk.fn (F := Ideal) a0 a1 a2 = fun _ => 1#1) : (∀ i, Fin' (a0 i)) ∧ ∀ i, Fin' (a1 i) := by
  have h' := congrFun h (fun d => d.elim0)
  dsimp only [Cert.Pre_finite_qk.fn] at h'
  obtain ⟨e0, e1⟩ := IntOp.andi_eq_one.1 h'
  exact ⟨fun i => fin_of_abs_lt _ (Host.reduce_andi_all _ _ _ _ _ e0 i), fun i => fin_of_abs_lt _ (Host.reduce_andi_all _ _ _ _ _ e1 i)⟩

end Cert.Proof.FlashV

end
-- ==== Proof.FlashV.Claim.lean ====
/- The causal attention computes the reference's values. -/
module

public import proofs.«01_k».proof.Defs
public import proofs.«01_k».proof.Proof.FlashV.Pre
public import proofs.«01_k».proof.Proof.FlashV.Ref
public import proofs.«01_k».proof.Proof.Gen.ReferenceIdeal.Run

@[expose] public section

noncomputable section

namespace Cert.Proof.FlashV

open Idealize.ShloMosaic Idealize.SL.Sem
open Idealize.ShloMosaic.TcCoe

/-- Under finite queries and keys, every execution of the kernel and every execution of the reference end with the same
    array. -/
theorem algebraic : Cert.algebraic_KernelIdeal_ReferenceIdeal_pre_finite_qk := by
  intro m g m' g' hp hag
  refine ⟨fun c => (fun y => attn (A0 m c) (A1 m c) (A2 m c) (y 0) (y 1) : (⟨2, ![8192, 1024]⟩ : Shape).Idx → EReal), ?_, ?_⟩
  · refine (θ_run Cert.KernelIdeal.defs _ _).mono (fun r h c => ⟨(h c).1.trans ?_, (h c).2⟩) (FlashI.run_value 0 m g)
    have hf := pre_fin _ _ _ (hp c)
    exact arr_eq m g c hf.1 hf.2
  · refine (θ_run Cert.ReferenceIdeal.defs _ _).mono (fun r h c => ⟨(h c).1.trans ?_, (h c).2⟩)
      (Cert.ReferenceIdeal.Value.run (F := Ideal) m' g')
    obtain ⟨h0, h1, h2⟩ := hag c
    funext y
    have hy : y = ix2 (y 0) (y 1) := by
      funext d; fin_cases d <;> rfl
    rw [hy]
    refine (ref_apply m' c (y 0) (y 1) _ rfl).trans ?_
    rw [h0, h1, h2]
    rfl

end Cert.Proof.FlashV

end
-- ==== Proof.Ffn.Math.lean ====
/- The normalisation and the gated feed-forward layer of one row, over the extended reals. -/
module

public import Idealize.ShloMosaic.Lib.Pointwise
public import Idealize.ShloMosaic.Lib.Pipeline.ValueKit

@[expose] public section

noncomputable section

namespace Cert.Proof.Ffn

open Idealize.ShloMosaic

/-- A row divided by its root mean square, times the gain. -/
def rms (x g : Fin 2048 → EReal) (k : Fin 2048) : EReal :=
  x k * Ideal.rsqrt (Ideal.div (∑ y, x y * x y) (Ideal.ofBits .f32 0x45000000#32) + Ideal.ofBits .f32 0x358637BD#32) * g k

/-- The gated product of the two projections of a normalised row at one hidden column. -/
def hid (h wg wu : Fin 2048 → EReal) : EReal :=
  (∑ k, h k * wg k) * Ideal.div 1 (1 + Ideal.exp (-∑ k, h k * wg k)) * ∑ k, h k * wu k

/-- A row plus the feed-forward layer of its normalisation. -/
def row (x g : Fin 2048 → EReal) (wg wu : (⟨2, ![2048, 5632]⟩ : Shape).Idx → EReal)
    (wd : (⟨2, ![5632, 2048]⟩ : Shape).Idx → EReal) (n : Fin 2048) : EReal :=
  x n + ∑ l : Fin 5632, hid (rms x g) (fun k => wg (ix2 k l)) (fun k => wu (ix2 k l)) * wd (ix2 l n)

/-- What one block of 512 hidden columns adds to a row. -/
def part {B : ℕ} (h : (⟨2, ![B, 2048]⟩ : Shape).Idx → EReal) (wg wu : (⟨2, ![2048, 512]⟩ : Shape).Idx → EReal)
    (wd : (⟨2, ![512, 2048]⟩ : Shape).Idx → EReal) (r : Fin B) (n : Fin 2048) : EReal :=
  ∑ x : Fin 512, hid (fun k => h (ix2 r k)) (fun k => wg (ix2 k x)) (fun k => wu (ix2 k x)) * wd (ix2 x n)

/-- The same, point by point of the grid: point `t` takes row block `t / 11` and hidden block `t % 11`. -/
def term {M B : ℕ} (X : (⟨2, ![M, 2048]⟩ : Shape).Idx → EReal) (G : (⟨1, ![2048]⟩ : Shape).Idx → EReal)
    (Wg Wu : (⟨2, ![2048, 5632]⟩ : Shape).Idx → EReal) (Wd : (⟨2, ![5632, 2048]⟩ : Shape).Idx → EReal)
    (t : ℕ) (j : (⟨2, ![B, 2048]⟩ : Shape).Idx) : EReal :=
  if h : t / 11 * B + (j 0).val < M then
    ∑ x : Fin 512, hid (rms (fun k => X (ix2 ⟨t / 11 * B + (j 0).val, h⟩ k)) (fun k => G (ix1 k)))
      (fun k => Wg (ix2 k ⟨t % 11 * 512 + x.val, by omega⟩)) (fun k => Wu (ix2 k ⟨t % 11 * 512 + x.val, by omega⟩))
      * Wd (ix2 ⟨t % 11 * 512 + x.val, by omega⟩ (j 1))
  else 0

/-- A block's addition is its point's term, the block's contents being the arrays' at the point. -/
theorem part_eq {M B : ℕ} (X : (⟨2, ![M, 2048]⟩ : Shape).Idx → EReal) (G : (⟨1, ![2048]⟩ : Shape).Idx → EReal)
    (Wg Wu : (⟨2, ![2048, 5632]⟩ : Shape).Idx → EReal) (Wd : (⟨2, ![5632, 2048]⟩ : Shape).Idx → EReal) (t : ℕ)
    (hs : (⟨2, ![B, 2048]⟩ : Shape).Idx → EReal) (wg wu : (⟨2, ![2048, 512]⟩ : Shape).Idx → EReal)
    (wd : (⟨2, ![512, 2048]⟩ : Shape).Idx → EReal) (r : Fin B) (n : Fin 2048) (h : t / 11 * B + r.val < M)
    (e : ∀ k, hs (ix2 r k) = rms (fun k => X (ix2 ⟨t / 11 * B + r.val, h⟩ k)) (fun k => G (ix1 k)) k)
    (eg : ∀ (k : Fin 2048) (x : Fin 512) (h), wg (ix2 k x) = Wg (ix2 k ⟨t % 11 * 512 + x.val, h⟩))
    (eu : ∀ (k : Fin 2048) (x : Fin 512) (h), wu (ix2 k x) = Wu (ix2 k ⟨t % 11 * 512 + x.val, h⟩))
    (ed : ∀ (x : Fin 512) (n : Fin 2048) (h), wd (ix2 x n) = Wd (ix2 ⟨t % 11 * 512 + x.val, h⟩ n)) :
    part hs wg wu wd r n = term X G Wg Wu Wd t (ix2 r n) := by
  have hr : t / 11 * B + ((ix2 r n : (⟨2, ![B, 2048]⟩ : Shape).Idx) 0).val < M := h
  unfold part term
  rw [dif_pos hr]
  refine Finset.sum_congr rfl fun x _ => ?_
  have hx : t % 11 * 512 + x.val < 5632 := by omega
  simp only [eg _ x hx, eu _ x hx, ed x n hx, e]
  rfl

/-- A row and the terms of its block's eleven points: the row plus the feed-forward layer. -/
theorem sum_terms {M B : ℕ} (X : (⟨2, ![M, 2048]⟩ : Shape).Idx → EReal) (G : (⟨1, ![2048]⟩ : Shape).Idx → EReal)
    (Wg Wu : (⟨2, ![2048, 5632]⟩ : Shape).Idx → EReal) (Wd : (⟨2, ![5632, 2048]⟩ : Shape).Idx → EReal) (q : ℕ)
    (r : Fin B) (n : Fin 2048) (h : q * B + r.val < M) :
    X (ix2 ⟨q * B + r.val, h⟩ n) + ∑ k ∈ Finset.range (10 + 1), term X G Wg Wu Wd (11 * q + k) (ix2 r n)
      = row (fun k => X (ix2 ⟨q * B + r.val, h⟩ k)) (fun k => G (ix1 k)) Wg Wu Wd n := by
  unfold row
  refine congrArg (fun x : EReal => _ + x) ?_
  have ht : ∀ k < 11, term X G Wg Wu Wd (11 * q + k) (ix2 r n) = ∑ x : Fin 512,
      (if hk : k * 512 + x.val < 5632 then hid (rms (fun k => X (ix2 ⟨q * B + r.val, h⟩ k)) (fun k => G (ix1 k)))
      (fun y => Wg (ix2 y ⟨k * 512 + x.val, hk⟩)) (fun y => Wu (ix2 y ⟨k * 512 + x.val, hk⟩))
      * Wd (ix2 ⟨k * 512 + x.val, hk⟩ n) else 0) := by
    intro k hk
    have e1 : (11 * q + k) / 11 = q := by omega
    have e2 : (11 * q + k) % 11 = k := by omega
    have hp : (11 * q + k) / 11 * B + ((ix2 r n : (⟨2, ![B, 2048]⟩ : Shape).Idx) 0).val < M := by rw [e1]; exact h
    unfold term
    rw [dif_pos hp]
    refine Finset.sum_congr rfl fun x _ => ?_
    rw [dif_pos (by omega)]
    simp only [e1, e2]
    rfl
  rw [Finset.sum_congr rfl fun k hk => ht k (Finset.mem_range.1 hk)]
  rw [← Fin.sum_univ_eq_sum_range (fun k => ∑ x : Fin 512, (if hk : k * 512 + x.val < 5632 then hid (rms (fun k => X (ix2 ⟨q * B + r.val, h⟩ k)) (fun k => G (ix1 k)))
      (fun y => Wg (ix2 y ⟨k * 512 + x.val, hk⟩)) (fun y => Wu (ix2 y ⟨k * 512 + x.val, hk⟩))
      * Wd (ix2 ⟨k * 512 + x.val, hk⟩ n) else 0)) 11]
  refine Fin.sum_mul_add_congr fun s k hl => ?_
  rw [dif_pos hl]

end Cert.Proof.Ffn

end
-- ==== Proof.Ffn.Val0.lean ====
/- The feed-forward layer of the first layer: the array the kernel leaves, over the extended reals. -/
module

public import proofs.«01_k».proof.Proof.Gen.Ffn0Ideal.Value
public import proofs.«01_k».proof.Proof.Ffn.Math
public import Idealize.ShloMosaic.Lib.Claim
public import Idealize.ShloMosaic.Lib.Pipeline.ReadBack

@[expose] public section
noncomputable section
namespace Cert.Proof.Ffn0
open Cert.Ffn0Ideal Cert.Ffn0Ideal.Gen Cert.Ffn0Ideal.Value
open Idealize.ShloMosaic
open Idealize.ShloMosaic.TcCoe
open Cert.Proof.Ffn

theorem pay1 (a : Vec Ideal S512x2048 .f32) (b : Vec Ideal S1x2048 .f32) (r : Fin 512) (k : Fin 2048) :
    k0_pay1 a b (ix2 r k) = rms (fun k => a (ix2 r k)) (fun k => b (ix2 0 k)) k := by
  pointwise [k0_pay1]
  rfl

theorem pay3 (h : Vec Ideal S512x2048 .bf16) (wg wu : Vec Ideal S2048x512 .bf16) (acc : Vec Ideal S512x2048 .f32) (wd : Vec Ideal S512x2048 .bf16) (r : Fin 512) (n : Fin 2048) :
    k0_pay3 h wg wu acc wd (ix2 r n) = (acc (ix2 r n) : EReal) + part h wg wu wd r n := by
  pointwise [k0_pay3]
  simp only [zero_sub]
  rfl

theorem pay2 (j) : k0_pay2 (F := Ideal) j = (0 : EReal) := by
  pointwise [k0_pay2]

theorem pay4 (a b : Vec Ideal S512x2048 .f32) (j) : k0_pay4 a b j = (a j : EReal) + b j := by
  pointwise [k0_pay4]

variable (m : (ℓ : Loc nD τ sig) → Buf (Elt Ideal) ℓ) (c : Dev nD)

theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] := by decide +kernel

/-- The arguments' contents, as plain arrays. -/
abbrev X : (⟨2, ![8192, 2048]⟩ : Shape).Idx → EReal := m ((c.tc : Thread nD τ).loc main_arg0)
abbrev G : (⟨1, ![2048]⟩ : Shape).Idx → EReal := m ((c.tc : Thread nD τ).loc main_arg1)
abbrev Wg : (⟨2, ![2048, 5632]⟩ : Shape).Idx → EReal := m ((c.tc : Thread nD τ).loc main_arg2)
abbrev Wu : (⟨2, ![2048, 5632]⟩ : Shape).Idx → EReal := m ((c.tc : Thread nD τ).loc main_arg3)
abbrev Wd : (⟨2, ![5632, 2048]⟩ : Shape).Idx → EReal := m ((c.tc : Thread nD τ).loc main_arg4)

theorem blk0 (t : Fin cfg0.N) (r : Fin 512) (k : Fin 2048) (h) :
    (iblk m c 0 t (ix2 r k) : EReal) = X m c (ix2 ⟨t.val / 11 * 512 + r.val, h⟩ k) := by
  blk_ext [iblk, V, (idx t).1]
theorem blk1 (t : Fin cfg0.N) (k : Fin 2048) :
    (iblk m c 1 t (ix2 0 k) : EReal) = G m c (ix1 k) := by
  blk_ext! [iblk, V, (idx t).2.1]
theorem blk2 (t : Fin cfg0.N) (k : Fin 2048) (x : Fin 512) (h) :
    (iblk m c 2 t (ix2 k x) : EReal) = Wg m c (ix2 k ⟨t.val % 11 * 512 + x.val, h⟩) := by
  blk_ext [iblk, V, (idx t).2.2.1]
theorem blk3 (t : Fin cfg0.N) (k : Fin 2048) (x : Fin 512) (h) :
    (iblk m c 3 t (ix2 k x) : EReal) = Wu m c (ix2 k ⟨t.val % 11 * 512 + x.val, h⟩) := by
  blk_ext [iblk, V, (idx t).2.2.2.1]
theorem blk4 (t : Fin cfg0.N) (x : Fin 512) (n : Fin 2048) (h) :
    (iblk m c 4 t (ix2 x n) : EReal) = Wd m c (ix2 ⟨t.val % 11 * 512 + x.val, h⟩ n) := by
  blk_ext [iblk, V, (idx t).2.2.2.2]

/-- At the first point of a row block the normalised block is stored. -/
theorem inv_reset (t : Fin cfg0.N) (h0 : t.val % 11 = 0) (r : Fin 512) (k : Fin 2048) (h : t.val / 11 * 512 + r.val < 8192) :
    ((outsAt0 m c t.val t.isLt).2.1 (ix2 r k) : EReal)
      = rms (fun k => X m c (ix2 ⟨t.val / 11 * 512 + r.val, h⟩ k)) (fun k => G m c (ix1 k)) k := by
  rw [outsAt0_A m c t h0 (by omega)]
  frame_out
  rw [pay1]
  simp only [blk0 m c _ _ _ h, blk1]

/-- The normalised block the scratch holds: that of the point's own rows. -/
theorem inv0 (t : ℕ) (ht : t < cfg0.N) (r : Fin 512) (k : Fin 2048) (h : t / 11 * 512 + r.val < 8192) :
    ((outsAt0 m c t ht).2.1 (ix2 r k) : EReal)
      = rms (fun k => X m c (ix2 ⟨t / 11 * 512 + r.val, h⟩ k)) (fun k => G m c (ix1 k)) k := by
  induction t with
  | zero => exact inv_reset m c ⟨0, ht⟩ rfl r k h
  | succ t ih =>
    by_cases h0 : (t + 1) % 11 = 0
    · exact inv_reset m c ⟨t + 1, ht⟩ h0 r k h
    · have hd : (t + 1) / 11 = t / 11 := by omega
      have ih' := ih (by omega) (by omega)
      simp only [hd]
      rw [outsAt0_succ]
      by_cases h1 : (t + 1) % 11 = 10
      · rw [stAt0_C m c ⟨t + 1, ht⟩ _ h0 h1]
        exact ih'
      · rw [stAt0_B m c ⟨t + 1, ht⟩ _ h0 h1]
        exact ih'

theorem bound (t : Fin cfg0.N) (r : Fin 512) : t.val / 11 * 512 + r.val < 8192 := by
  have := lt_of_lt_of_eq t.isLt (show cfg0.N = 176 from N_0)
  omega

/-- The accumulator at a point: the terms of its row block so far. -/
theorem acc_eq (t : Fin cfg0.N) (j : S512x2048.Idx) :
    ((outsAt0 m c t.val t.isLt).2.2 j : EReal)
      = 0 + ∑ k ∈ Finset.range (t.val % 11 + 1), term (X m c) (G m c) (Wg m c) (Wu m c) (Wd m c) (11 * (t.val / 11) + k) j := by
  refine Pipeline.eq_sum_of_reset_step_apply (fun n h j => ((outsAt0 m c n h).2.2 j : EReal)) 11 (fun _ => 0) (term (X m c) (G m c) (Wg m c) (Wu m c) (Wd m c)) ?_ ?_ t j
  · intro t h j
    obtain ⟨r, n, rfl⟩ : ∃ (r : Fin 512) (n : Fin 2048), j = ix2 r n := ⟨j 0, j 1, by funext a; fin_cases a <;> rfl⟩
    rw [outsAt0_A m c t h (by omega)]
    frame_out
    rw [pay3, pay2]
    refine congrArg (fun x : EReal => 0 + x) (part_eq (X m c) (G m c) (Wg m c) (Wu m c) (Wd m c) t.val _ _ _ _ r n (bound t r) (fun k => ?_) (blk2 m c t) (blk3 m c t) (blk4 m c t))
    rw [pay1]
    simp only [blk0 m c t _ _ (bound t r), blk1]
  · intro t h j
    obtain ⟨r, n, rfl⟩ : ∃ (r : Fin 512) (n : Fin 2048), j = ix2 r n := ⟨j 0, j 1, by funext a; fin_cases a <;> rfl⟩
    have hd : (t.val - 1) / 11 = t.val / 11 := by omega
    have hi : ∀ k, ((outsAt0 m c (t.val - 1) (Nat.lt_of_le_of_lt (Nat.sub_le _ _) t.isLt)).2.1 (ix2 r k) : EReal)
        = rms (fun k => X m c (ix2 ⟨t.val / 11 * 512 + r.val, bound t r⟩ k)) (fun k => G m c (ix1 k)) k := fun k => by
      have e := inv0 m c (t.val - 1) (Nat.lt_of_le_of_lt (Nat.sub_le _ _) t.isLt) r k (by rw [hd]; exact bound t r)
      simpa only [hd] using e
    by_cases h1 : t.val % 11 = 10
    · rw [outsAt0_C m c t h h1]
      frame_out
      simp only [read_unread_whole]
      rw [pay3]
      exact congrArg (fun x : EReal => _ + x) (part_eq (X m c) (G m c) (Wg m c) (Wu m c) (Wd m c) t.val _ _ _ _ r n (bound t r) hi (blk2 m c t) (blk3 m c t) (blk4 m c t))
    · rw [outsAt0_B m c t h h1]
      frame_out
      simp only [read_unread_whole]
      rw [pay3]
      exact congrArg (fun x : EReal => _ + x) (part_eq (X m c) (G m c) (Wg m c) (Wu m c) (Wd m c) t.val _ _ _ _ r n (bound t r) hi (blk2 m c t) (blk3 m c t) (blk4 m c t))

/-- What the last point of a row block writes back: the row plus the accumulator. -/
theorem out_eq (t : Fin cfg0.N) (h1 : t.val % 11 = 10) (r : Fin 512) (n : Fin 2048) :
    ((outsAt0 m c t.val t.isLt).1 (ix2 r n) : EReal)
      = row (fun k => X m c (ix2 ⟨t.val / 11 * 512 + r.val, bound t r⟩ k)) (fun k => G m c (ix1 k)) (Wg m c) (Wu m c) (Wd m c) n := by
  have ea := acc_eq m c t (ix2 r n)
  rw [outsAt0_C m c t (by omega) h1] at ea ⊢
  frame_out at ea
  frame_out
  rw [pay4]
  refine (congrArg (fun x : EReal => _ + x) ea).trans ?_
  rw [h1, zero_add, blk0 m c t r n (bound t r)]
  exact sum_terms (X m c) (G m c) (Wg m c) (Wu m c) (Wd m c) (t.val / 11) r n (bound t r)

/-- The array the run leaves. -/
theorem arr_eq : (G5 m c : (⟨2, ![8192, 2048]⟩ : Shape).Idx → EReal)
    = fun i => row (fun k => X m c (ix2 (i 0) k)) (fun k => G m c (ix1 k)) (Wg m c) (Wu m c) (Wd m c) (i 1) := by
  funext i
  have h0 : (i 0).val < 8192 := (i 0).isLt
  have h1 : (i 1).val < 2048 := (i 1).isLt
  have hr : pt5Of i = 11 * ((i 0).val / 512) + 10 := by
    show 11 * (1 * ((i 0).val / 512 - 0) + 1 * ((i 1).val / 2048 - 0)) + 10 = _
    omega
  have hp : pt5Of i < cfg0.N := by rw [show cfg0.N = 176 from N_0, hr]; omega
  unfold G5
  rw [dif_pos hp]
  have e := outsAt0_sweep m c (pt5Of i) hp
  rw [← e]
  have e2 : loc5Of i = ix2 ⟨(i 0).val % 512, by omega⟩ ⟨(i 1).val % 2048, by omega⟩ := by funext a; fin_cases a <;> rfl
  have hq : pt5Of i / 11 = (i 0).val / 512 := by rw [hr]; omega
  have hq' : pt5Of i % 11 = 10 := by rw [hr]; omega
  rw [e2]
  refine (out_eq m c ⟨pt5Of i, hp⟩ hq' _ _).trans ?_
  have e3 : (⟨(⟨pt5Of i, hp⟩ : Fin cfg0.N).val / 11 * 512 + (i 0).val % 512, bound ⟨pt5Of i, hp⟩ ⟨(i 0).val % 512, by omega⟩⟩ : Fin 8192) = i 0 := Fin.ext (by
    show pt5Of i / 11 * 512 + (i 0).val % 512 = _
    rw [hq]; omega)
  have e4 : (⟨(i 1).val % 2048, by omega⟩ : Fin 2048) = i 1 := Fin.ext (by show (i 1).val % 2048 = _; omega)
  rw [e4]
  dsimp only at e3 ⊢
  rw [e3]

end Cert.Proof.Ffn0
end
-- ==== Proof.Ffn.Claim0.lean ====
/- The feed-forward layer of the first layer computes the reference's values. -/
module

public import proofs.«01_k».proof.Defs
public import proofs.«01_k».proof.Proof.Ffn.Val0
public import proofs.«01_k».proof.Proof.Gen.Ffn0RefIdeal.Run

@[expose] public section

noncomputable section

namespace Cert.Proof.Ffn0

open Idealize.ShloMosaic Idealize.SL.Sem
open Idealize.ShloMosaic.TcCoe
open Cert.Proof.Ffn

/-- Every execution of the kernel and every execution of the reference end with the same array. -/
theorem algebraic : Cert.algebraic_Ffn0Ideal_Ffn0RefIdeal := by
  intro m g m' g' _ hag
  refine ⟨fun c => (fun i => row (fun k => X m c (ix2 (i 0) k)) (fun k => G m c (ix1 k)) (Wg m c) (Wu m c) (Wd m c) (i 1) : (⟨2, ![8192, 2048]⟩ : Shape).Idx → EReal), ?_, ?_⟩
  · exact (θ_run Cert.Ffn0Ideal.defs _ _).mono (fun r h c => ⟨(h c).1.trans (arr_eq m c), (h c).2⟩)
      (Cert.Ffn0Ideal.Value.run m g)
  · refine (θ_run Cert.Ffn0RefIdeal.defs _ _).mono (fun r h c => ⟨(h c).1.trans ?_, (h c).2⟩)
      (Cert.Ffn0RefIdeal.Value.run (F := Ideal) m' g')
    obtain ⟨h0, h1, h2, h3, h4⟩ := hag c
    rw [h0, h1, h2, h3, h4]
    funext y
    obtain ⟨r, n, rfl⟩ : ∃ (r : Fin 8192) (n : Fin 2048), y = ix2 r n := ⟨y 0, y 1, by funext a; fin_cases a <;> rfl⟩
    pointwise
    rfl

end Cert.Proof.Ffn0

end
-- ==== Proof.Ffn.Val1.lean ====
/- The feed-forward layer of the second layer, with the final normalisation: the array the kernel leaves, over the extended reals. -/
module

public import proofs.«01_k».proof.Proof.Gen.Ffn1Ideal.Value
public import proofs.«01_k».proof.Proof.Ffn.Math
public import Idealize.ShloMosaic.Lib.Claim
public import Idealize.ShloMosaic.Lib.Pipeline.ReadBack

@[expose] public section
noncomputable section
namespace Cert.Proof.Ffn1
open Cert.Ffn1Ideal Cert.Ffn1Ideal.Gen Cert.Ffn1Ideal.Value
open Idealize.ShloMosaic
open Idealize.ShloMosaic.TcCoe
open Cert.Proof.Ffn

theorem pay1 (a : Vec Ideal S512x2048 .f32) (b : Vec Ideal S1x2048 .f32) (r : Fin 512) (k : Fin 2048) :
    k0_pay1 a b (ix2 r k) = rms (fun k => a (ix2 r k)) (fun k => b (ix2 0 k)) k := by
  pointwise [k0_pay1]
  rfl

theorem pay3 (h : Vec Ideal S512x2048 .bf16) (wg wu : Vec Ideal S2048x512 .bf16) (acc : Vec Ideal S512x2048 .f32) (wd : Vec Ideal S512x2048 .bf16) (r : Fin 512) (n : Fin 2048) :
    k0_pay3 h wg wu acc wd (ix2 r n) = (acc (ix2 r n) : EReal) + part h wg wu wd r n := by
  pointwise [k0_pay3]
  simp only [zero_sub]
  rfl

theorem pay2 (j) : k0_pay2 (F := Ideal) j = (0 : EReal) := by
  pointwise [k0_pay2]

theorem pay4 (a b : Vec Ideal S512x2048 .f32) (g : Vec Ideal S1x2048 .f32) (r : Fin 512) (n : Fin 2048) :
    k0_pay4 a b g (ix2 r n) = rms (fun k => (a (ix2 r k) : EReal) + b (ix2 r k)) (fun k => g (ix2 0 k)) n := by
  pointwise [k0_pay4]
  rfl

variable (m : (ℓ : Loc nD τ sig) → Buf (Elt Ideal) ℓ) (c : Dev nD)

theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0]
    ∧ win0_5.index t = ![0, 0] := by decide +kernel

/-- The arguments' contents, as plain arrays. -/
abbrev X : (⟨2, ![8192, 2048]⟩ : Shape).Idx → EReal := m ((c.tc : Thread nD τ).loc main_arg0)
abbrev G : (⟨1, ![2048]⟩ : Shape).Idx → EReal := m ((c.tc : Thread nD τ).loc main_arg1)
abbrev Wg : (⟨2, ![2048, 5632]⟩ : Shape).Idx → EReal := m ((c.tc : Thread nD τ).loc main_arg2)
abbrev Wu : (⟨2, ![2048, 5632]⟩ : Shape).Idx → EReal := m ((c.tc : Thread nD τ).loc main_arg3)
abbrev Wd : (⟨2, ![5632, 2048]⟩ : Shape).Idx → EReal := m ((c.tc : Thread nD τ).loc main_arg4)
abbrev Gf : (⟨1, ![2048]⟩ : Shape).Idx → EReal := m ((c.tc : Thread nD τ).loc main_arg5)

theorem blk0 (t : Fin cfg0.N) (r : Fin 512) (k : Fin 2048) (h) :
    (iblk m c 0 t (ix2 r k) : EReal) = X m c (ix2 ⟨t.val / 11 * 512 + r.val, h⟩ k) := by
  blk_ext [iblk, V, (idx t).1]
theorem blk1 (t : Fin cfg0.N) (k : Fin 2048) :
    (iblk m c 1 t (ix2 0 k) : EReal) = G m c (ix1 k) := by
  blk_ext! [iblk, V, (idx t).2.1]
theorem blk2 (t : Fin cfg0.N) (k : Fin 2048) (x : Fin 512) (h) :
    (iblk m c 2 t (ix2 k x) : EReal) = Wg m c (ix2 k ⟨t.val % 11 * 512 + x.val, h⟩) := by
  blk_ext [iblk, V, (idx t).2.2.1]
theorem blk3 (t : Fin cfg0.N) (k : Fin 2048) (x : Fin 512) (h) :
    (iblk m c 3 t (ix2 k x) : EReal) = Wu m c (ix2 k ⟨t.val % 11 * 512 + x.val, h⟩) := by
  blk_ext [iblk, V, (idx t).2.2.2.1]
theorem blk4 (t : Fin cfg0.N) (x : Fin 512) (n : Fin 2048) (h) :
    (iblk m c 4 t (ix2 x n) : EReal) = Wd m c (ix2 ⟨t.val % 11 * 512 + x.val, h⟩ n) := by
  blk_ext [iblk, V, (idx t).2.2.2.2.1]
theorem blk5 (t : Fin cfg0.N) (k : Fin 2048) :
    (iblk m c 5 t (ix2 0 k) : EReal) = Gf m c (ix1 k) := by
  blk_ext! [iblk, V, (idx t).2.2.2.2.2]

/-- At the first point of a row block the normalised block is stored. -/
theorem inv_reset (t : Fin cfg0.N) (h0 : t.val % 11 = 0) (r : Fin 512) (k : Fin 2048) (h : t.val / 11 * 512 + r.val < 8192) :
    ((outsAt0 m c t.val t.isLt).2.1 (ix2 r k) : EReal)
      = rms (fun k => X m c (ix2 ⟨t.val / 11 * 512 + r.val, h⟩ k)) (fun k => G m c (ix1 k)) k := by
  rw [outsAt0_A m c t h0 (by omega)]
  frame_out
  rw [pay1]
  simp only [blk0 m c _ _ _ h, blk1]

/-- The normalised block the scratch holds: that of the point's own rows. -/
theorem inv0 (t : ℕ) (ht : t < cfg0.N) (r : Fin 512) (k : Fin 2048) (h : t / 11 * 512 + r.val < 8192) :
    ((outsAt0 m c t ht).2.1 (ix2 r k) : EReal)
      = rms (fun k => X m c (ix2 ⟨t / 11 * 512 + r.val, h⟩ k)) (fun k => G m c (ix1 k)) k := by
  induction t with
  | zero => exact inv_reset m c ⟨0, ht⟩ rfl r k h
  | succ t ih =>
    by_cases h0 : (t + 1) % 11 = 0
    · exact inv_reset m c ⟨t + 1, ht⟩ h0 r k h
    · have hd : (t + 1) / 11 = t / 11 := by omega
      have ih' := ih (by omega) (by omega)
      simp only [hd]
      rw [outsAt0_succ]
      by_cases h1 : (t + 1) % 11 = 10
      · rw [stAt0_C m c ⟨t + 1, ht⟩ _ h0 h1]
        exact ih'
      · rw [stAt0_B m c ⟨t + 1, ht⟩ _ h0 h1]
        exact ih'

theorem bound (t : Fin cfg0.N) (r : Fin 512) : t.val / 11 * 512 + r.val < 8192 := by
  have := lt_of_lt_of_eq t.isLt (show cfg0.N = 176 from N_0)
  omega

/-- The accumulator at a point: the terms of its row block so far. -/
theorem acc_eq (t : Fin cfg0.N) (j : S512x2048.Idx) :
    ((outsAt0 m c t.val t.isLt).2.2 j : EReal)
      = 0 + ∑ k ∈ Finset.range (t.val % 11 + 1), term (X m c) (G m c) (Wg m c) (Wu m c) (Wd m c) (11 * (t.val / 11) + k) j := by
  refine Pipeline.eq_sum_of_reset_step_apply (fun n h j => ((outsAt0 m c n h).2.2 j : EReal)) 11 (fun _ => 0) (term (X m c) (G m c) (Wg m c) (Wu m c) (Wd m c)) ?_ ?_ t j
  · intro t h j
    obtain ⟨r, n, rfl⟩ : ∃ (r : Fin 512) (n : Fin 2048), j = ix2 r n := ⟨j 0, j 1, by funext a; fin_cases a <;> rfl⟩
    rw [outsAt0_A m c t h (by omega)]
    frame_out
    rw [pay3, pay2]
    refine congrArg (fun x : EReal => 0 + x) (part_eq (X m c) (G m c) (Wg m c) (Wu m c) (Wd m c) t.val _ _ _ _ r n (bound t r) (fun k => ?_) (blk2 m c t) (blk3 m c t) (blk4 m c t))
    rw [pay1]
    simp only [blk0 m c t _ _ (bound t r), blk1]
  · intro t h j
    obtain ⟨r, n, rfl⟩ : ∃ (r : Fin 512) (n : Fin 2048), j = ix2 r n := ⟨j 0, j 1, by funext a; fin_cases a <;> rfl⟩
    have hd : (t.val - 1) / 11 = t.val / 11 := by omega
    have hi : ∀ k, ((outsAt0 m c (t.val - 1) (Nat.lt_of_le_of_lt (Nat.sub_le _ _) t.isLt)).2.1 (ix2 r k) : EReal)
        = rms (fun k => X m c (ix2 ⟨t.val / 11 * 512 + r.val, bound t r⟩ k)) (fun k => G m c (ix1 k)) k := fun k => by
      have e := inv0 m c (t.val - 1) (Nat.lt_of_le_of_lt (Nat.sub_le _ _) t.isLt) r k (by rw [hd]; exact bound t r)
      simpa only [hd] using e
    by_cases h1 : t.val % 11 = 10
    · rw [outsAt0_C m c t h h1]
      frame_out
      simp only [read_unread_whole]
      rw [pay3]
      exact congrArg (fun x : EReal => _ + x) (part_eq (X m c) (G m c) (Wg m c) (Wu m c) (Wd m c) t.val _ _ _ _ r n (bound t r) hi (blk2 m c t) (blk3 m c t) (blk4 m c t))
    · rw [outsAt0_B m c t h h1]
      frame_out
      simp only [read_unread_whole]
      rw [pay3]
      exact congrArg (fun x : EReal => _ + x) (part_eq (X m c) (G m c) (Wg m c) (Wu m c) (Wd m c) t.val _ _ _ _ r n (bound t r) hi (blk2 m c t) (blk3 m c t) (blk4 m c t))

/-- A row plus its feed-forward layer, normalised. -/
abbrev fin (r : Fin 8192) (n : Fin 2048) : EReal :=
  rms (row (fun k => X m c (ix2 r k)) (fun k => G m c (ix1 k)) (Wg m c) (Wu m c) (Wd m c)) (fun k => Gf m c (ix1 k)) n

/-- What the last point of a row block writes back: the row plus the accumulator, normalised. -/
theorem out_eq (t : Fin cfg0.N) (h1 : t.val % 11 = 10) (r : Fin 512) (n : Fin 2048) :
    ((outsAt0 m c t.val t.isLt).1 (ix2 r n) : EReal) = fin m c ⟨t.val / 11 * 512 + r.val, bound t r⟩ n := by
  have ea := fun k => acc_eq m c t (ix2 r k)
  rw [outsAt0_C m c t (by omega) h1] at ea ⊢
  frame_out at ea
  frame_out
  rw [pay4]
  refine congrArg₂ (fun x g => rms x g n) (funext fun k => ?_) (funext fun k => blk5 m c t k)
  refine (congrArg (fun x : EReal => _ + x) (ea k)).trans ?_
  rw [h1, zero_add, blk0 m c t r k (bound t r)]
  exact sum_terms (X m c) (G m c) (Wg m c) (Wu m c) (Wd m c) (t.val / 11) r k (bound t r)

/-- The array the run leaves. -/
theorem arr_eq : (G6 m c : (⟨2, ![8192, 2048]⟩ : Shape).Idx → EReal)
    = fun i => fin m c (i 0) (i 1) := by
  funext i
  have h0 : (i 0).val < 8192 := (i 0).isLt
  have h1 : (i 1).val < 2048 := (i 1).isLt
  have hr : pt6Of i = 11 * ((i 0).val / 512) + 10 := by
    show 11 * (1 * ((i 0).val / 512 - 0) + 1 * ((i 1).val / 2048 - 0)) + 10 = _
    omega
  have hp : pt6Of i < cfg0.N := by rw [show cfg0.N = 176 from N_0, hr]; omega
  unfold G6
  rw [dif_pos hp]
  have e := outsAt0_sweep m c (pt6Of i) hp
  rw [← e]
  have e2 : loc6Of i = ix2 ⟨(i 0).val % 512, by omega⟩ ⟨(i 1).val % 2048, by omega⟩ := by funext a; fin_cases a <;> rfl
  have hq : pt6Of i / 11 = (i 0).val / 512 := by rw [hr]; omega
  have hq' : pt6Of i % 11 = 10 := by rw [hr]; omega
  rw [e2]
  refine (out_eq m c ⟨pt6Of i, hp⟩ hq' _ _).trans ?_
  have e3 : (⟨(⟨pt6Of i, hp⟩ : Fin cfg0.N).val / 11 * 512 + (i 0).val % 512, bound ⟨pt6Of i, hp⟩ ⟨(i 0).val % 512, by omega⟩⟩ : Fin 8192) = i 0 := Fin.ext (by
    show pt6Of i / 11 * 512 + (i 0).val % 512 = _
    rw [hq]; omega)
  have e4 : (⟨(i 1).val % 2048, by omega⟩ : Fin 2048) = i 1 := Fin.ext (by show (i 1).val % 2048 = _; omega)
  rw [e4]
  dsimp only at e3 ⊢
  rw [e3]

end Cert.Proof.Ffn1
end
-- ==== Proof.Ffn.Claim1.lean ====
/- The feed-forward layer of the second layer, with the final normalisation, computes the reference's values. -/
module

public import proofs.«01_k».proof.Defs
public import proofs.«01_k».proof.Proof.Ffn.Val1
public import proofs.«01_k».proof.Proof.Gen.Ffn1RefIdeal.Run

@[expose] public section

noncomputable section

namespace Cert.Proof.Ffn1

open Idealize.ShloMosaic Idealize.SL.Sem
open Idealize.ShloMosaic.TcCoe
open Cert.Proof.Ffn

/-- Every execution of the kernel and every execution of the reference end with the same array. -/
theorem algebraic : Cert.algebraic_Ffn1Ideal_Ffn1RefIdeal := by
  intro m g m' g' _ hag
  refine ⟨fun c => (fun i => fin m c (i 0) (i 1) : (⟨2, ![8192, 2048]⟩ : Shape).Idx → EReal), ?_, ?_⟩
  · exact (θ_run Cert.Ffn1Ideal.defs _ _).mono (fun r h c => ⟨(h c).1.trans (arr_eq m c), (h c).2⟩)
      (Cert.Ffn1Ideal.Value.run m g)
  · refine (θ_run Cert.Ffn1RefIdeal.defs _ _).mono (fun r h c => ⟨(h c).1.trans ?_, (h c).2⟩)
      (Cert.Ffn1RefIdeal.Value.run (F := Ideal) m' g')
    obtain ⟨h0, h1, h2, h3, h4, h5⟩ := hag c
    unfold Cert.Ffn1RefIdeal.Value.res_main_v34
    rw [h0, h1, h2, h3, h4, h5]
    funext y
    obtain ⟨r, n, rfl⟩ : ∃ (r : Fin 8192) (n : Fin 2048), y = ix2 r n := ⟨y 0, y 1, by funext a; fin_cases a <;> rfl⟩
    pointwise
    rfl

end Cert.Proof.Ffn1

end
-- ==== Proof.Mm.InVal0.lean ====
/- The projection into the first mixer: the array the kernel leaves, over the extended reals. -/
module

public import proofs.«01_k».proof.Proof.Gen.In0Ideal.Value
public import proofs.«01_k».proof.Proof.Ffn.Math
public import Idealize.ShloMosaic.Lib.Claim
public import Idealize.ShloMosaic.Lib.Pipeline.ReadBack

@[expose] public section
noncomputable section
namespace Cert.Proof.In0
open Cert.In0Ideal Cert.In0Ideal.Gen Cert.In0Ideal.Value
open Idealize.ShloMosaic
open Idealize.ShloMosaic.TcCoe
open Cert.Proof.Ffn

/-- The stored block is the normalised block. -/
theorem pay1 (a : Vec Ideal S1024x2048 .f32) (b : Vec Ideal S1x2048 .f32) (r : Fin 1024) (k : Fin 2048) :
    k0_pay1 a b (ix2 r k) = rms (fun k => a (ix2 r k)) (fun k => b (ix2 0 k)) k := by
  pointwise [k0_pay1]
  rfl

/-- The block written is the product of the stored block with the weight's block. -/
theorem pay2 (h : Vec Ideal S1024x2048 .bf16) (w : Vec Ideal S2048x512 .bf16) (r : Fin 1024) (n : Fin 512) :
    k0_pay2 h w (ix2 r n) = ∑ k : Fin 2048, (h (ix2 r k) : EReal) * w (ix2 k n) := by
  pointwise [k0_pay2]

variable (m : (ℓ : Loc nD τ sig) → Buf (Elt Ideal) ℓ) (c : Dev nD)

/-- The block of each window at a grid point. -/
theorem idx : ∀ t : Fin cfg0.N, win0_0.index t = ![t.val / 10, 0] ∧ win0_1.index t = ![0, t.val % 10]
    ∧ win0_2.index t = ![0, 0] := by decide +kernel

/-- The arguments' contents, as plain arrays. -/
abbrev X : (⟨2, ![8192, 2048]⟩ : Shape).Idx → EReal := m ((c.tc : Thread nD τ).loc main_arg0)
abbrev W : (⟨2, ![2048, 5120]⟩ : Shape).Idx → EReal := m ((c.tc : Thread nD τ).loc main_arg1)
abbrev G : (⟨1, ![2048]⟩ : Shape).Idx → EReal := m ((c.tc : Thread nD τ).loc main_arg2)

theorem blk0 (t : Fin cfg0.N) (r : Fin 1024) (k : Fin 2048) (h) :
    (iblk m c 0 t (ix2 r k) : EReal) = X m c (ix2 ⟨t.val / 10 * 1024 + r.val, h⟩ k) := by
  blk_ext [iblk, V, (idx t).1]
theorem blk1 (t : Fin cfg0.N) (k : Fin 2048) (n : Fin 512) (h) :
    (iblk m c 1 t (ix2 k n) : EReal) = W m c (ix2 k ⟨t.val % 10 * 512 + n.val, h⟩) := by
  blk_ext [iblk, V, (idx t).2.1]
theorem blk2 (t : Fin cfg0.N) (k : Fin 2048) :
    (iblk m c 2 t (ix2 0 k) : EReal) = G m c (ix1 k) := by
  blk_ext! [iblk, V, (idx t).2.2]

theorem bound (t : Fin cfg0.N) (r : Fin 1024) : t.val / 10 * 1024 + r.val < 8192 := by
  have := lt_of_lt_of_eq t.isLt (show cfg0.N = 80 from N_0)
  omega

/-- At the first point of a row block the normalised block is stored. -/
theorem inv_reset (t : Fin cfg0.N) (h0 : t.val % 10 = 0) (r : Fin 1024) (k : Fin 2048) :
    ((outsAt0 m c t.val t.isLt).2 (ix2 r k) : EReal)
      = rms (fun k => X m c (ix2 ⟨t.val / 10 * 1024 + r.val, bound t r⟩ k)) (fun k => G m c (ix1 k)) k := by
  rw [outsAt0_A m c t h0]
  frame_out
  rw [pay1]
  simp only [blk0 m c _ _ _ (bound t r), blk2]

/-- The stored block is that of the point's own rows. -/
theorem inv (t : ℕ) (ht : t < cfg0.N) (r : Fin 1024) (k : Fin 2048) :
    ((outsAt0 m c t ht).2 (ix2 r k) : EReal)
      = rms (fun k => X m c (ix2 ⟨t / 10 * 1024 + r.val, bound ⟨t, ht⟩ r⟩ k)) (fun k => G m c (ix1 k)) k := by
  induction t with
  | zero => exact inv_reset m c ⟨0, ht⟩ rfl r k
  | succ t ih =>
    by_cases h0 : (t + 1) % 10 = 0
    · exact inv_reset m c ⟨t + 1, ht⟩ h0 r k
    · have hd : (t + 1) / 10 = t / 10 := by omega
      have ih' := ih (by omega)
      simp only [hd]
      rw [outsAt0_succ]
      rw [stAt0_B m c ⟨t + 1, ht⟩ _ h0]
      exact ih'

/-- What a point writes: the product of its rows' normalisation with its columns of the weight. -/
theorem out_eq (t : Fin cfg0.N) (r : Fin 1024) (n : Fin 512) (h) :
    ((outsAt0 m c t.val t.isLt).1 (ix2 r n) : EReal)
      = ∑ k : Fin 2048, rms (fun k => X m c (ix2 ⟨t.val / 10 * 1024 + r.val, bound t r⟩ k)) (fun k => G m c (ix1 k)) k
        * W m c (ix2 k ⟨t.val % 10 * 512 + n.val, h⟩) := by
  by_cases h0 : t.val % 10 = 0
  · rw [outsAt0_A m c t h0]
    frame_out
    rw [pay2]
    refine Finset.sum_congr rfl fun k _ => ?_
    rw [pay1, blk1 m c t k n h]
    simp only [blk0 m c _ _ _ (bound t r), blk2]
  · have hd : (t.val - 1) / 10 = t.val / 10 := by omega
    rw [outsAt0_B m c t h0]
    frame_out
    simp only [read_unread_whole]
    rw [pay2]
    refine Finset.sum_congr rfl fun k _ => ?_
    have e := inv m c (t.val - 1) (Nat.lt_of_le_of_lt (Nat.sub_le _ _) t.isLt) r k
    simp only [hd] at e
    rw [e, blk1 m c t k n h]

/-- The array the run leaves. -/
theorem arr_eq : (G3 m c : (⟨2, ![8192, 5120]⟩ : Shape).Idx → EReal)
    = fun i => ∑ k : Fin 2048, rms (fun k => X m c (ix2 (i 0) k)) (fun k => G m c (ix1 k)) k * W m c (ix2 k (i 1)) := by
  funext i
  have h0 : (i 0).val < 8192 := (i 0).isLt
  have h1 : (i 1).val < 5120 := (i 1).isLt
  have hr : pt3Of i = 10 * ((i 0).val / 1024) + (i 1).val / 512 := by
    show 10 * ((i 0).val / 1024 - 0) + 1 * ((i 1).val / 512 - 0) = _
    omega
  have hp : pt3Of i < cfg0.N := by rw [show cfg0.N = 80 from N_0, hr]; omega
  unfold G3
  rw [dif_pos hp]
  have e := outsAt0_sweep m c (pt3Of i) hp
  rw [← e]
  have e2 : loc3Of i = ix2 ⟨(i 0).val % 1024, by omega⟩ ⟨(i 1).val % 512, by omega⟩ := by funext a; fin_cases a <;> rfl
  have hq : pt3Of i / 10 = (i 0).val / 1024 := by rw [hr]; omega
  have hq' : pt3Of i % 10 = (i 1).val / 512 := by rw [hr]; omega
  rw [e2]
  have hn : pt3Of i % 10 * 512 + (i 1).val % 512 < 5120 := by rw [hq']; omega
  refine (out_eq m c ⟨pt3Of i, hp⟩ _ _ hn).trans ?_
  have e3 : (⟨pt3Of i / 10 * 1024 + (i 0).val % 1024, bound ⟨pt3Of i, hp⟩ ⟨(i 0).val % 1024, by omega⟩⟩ : Fin 8192) = i 0 := Fin.ext (by
    show pt3Of i / 10 * 1024 + (i 0).val % 1024 = _
    rw [hq]; omega)
  have e4 : (⟨pt3Of i % 10 * 512 + (i 1).val % 512, hn⟩ : Fin 5120) = i 1 := Fin.ext (by
    show pt3Of i % 10 * 512 + (i 1).val % 512 = _
    rw [hq']; omega)
  dsimp only
  rw [e3, e4]

end Cert.Proof.In0
end
-- ==== Proof.Mm.InVal1.lean ====
/- The projection into the second layer's mixers: the array the kernel leaves, over the extended reals. -/
module

public import proofs.«01_k».proof.Proof.Gen.In1Ideal.Value
public import proofs.«01_k».proof.Proof.Ffn.Math
public import Idealize.ShloMosaic.Lib.Claim
public import Idealize.ShloMosaic.Lib.Pipeline.ReadBack

@[expose] public section
noncomputable section
namespace Cert.Proof.In1
open Cert.In1Ideal Cert.In1Ideal.Gen Cert.In1Ideal.Value
open Idealize.ShloMosaic
open Idealize.ShloMosaic.TcCoe
open Cert.Proof.Ffn

/-- The stored block is the normalised block. -/
theorem pay1 (a : Vec Ideal S1024x2048 .f32) (b : Vec Ideal S1x2048 .f32) (r : Fin 1024) (k : Fin 2048) :
    k0_pay1 a b (ix2 r k) = rms (fun k => a (ix2 r k)) (fun k => b (ix2 0 k)) k := by
  pointwise [k0_pay1]
  rfl

/-- The block written is the product of the stored block with the weight's block. -/
theorem pay2 (h : Vec Ideal S1024x2048 .bf16) (w : Vec Ideal S2048x512 .bf16) (r : Fin 1024) (n : Fin 512) :
    k0_pay2 h w (ix2 r n) = ∑ k : Fin 2048, (h (ix2 r k) : EReal) * w (ix2 k n) := by
  pointwise [k0_pay2]

variable (m : (ℓ : Loc nD τ sig) → Buf (Elt Ideal) ℓ) (c : Dev nD)

/-- The block of each window at a grid point. -/
theorem idx : ∀ t : Fin cfg0.N, win0_0.index t = ![t.val / 13, 0] ∧ win0_1.index t = ![0, t.val % 13]
    ∧ win0_2.index t = ![0, 0] := by decide +kernel

/-- The arguments' contents, as plain arrays. -/
abbrev X : (⟨2, ![8192, 2048]⟩ : Shape).Idx → EReal := m ((c.tc : Thread nD τ).loc main_arg0)
abbrev W : (⟨2, ![2048, 6656]⟩ : Shape).Idx → EReal := m ((c.tc : Thread nD τ).loc main_arg1)
abbrev G : (⟨1, ![2048]⟩ : Shape).Idx → EReal := m ((c.tc : Thread nD τ).loc main_arg2)

theorem blk0 (t : Fin cfg0.N) (r : Fin 1024) (k : Fin 2048) (h) :
    (iblk m c 0 t (ix2 r k) : EReal) = X m c (ix2 ⟨t.val / 13 * 1024 + r.val, h⟩ k) := by
  blk_ext [iblk, V, (idx t).1]
theorem blk1 (t : Fin cfg0.N) (k : Fin 2048) (n : Fin 512) (h) :
    (iblk m c 1 t (ix2 k n) : EReal) = W m c (ix2 k ⟨t.val % 13 * 512 + n.val, h⟩) := by
  blk_ext [iblk, V, (idx t).2.1]
theorem blk2 (t : Fin cfg0.N) (k : Fin 2048) :
    (iblk m c 2 t (ix2 0 k) : EReal) = G m c (ix1 k) := by
  blk_ext! [iblk, V, (idx t).2.2]

theorem bound (t : Fin cfg0.N) (r : Fin 1024) : t.val / 13 * 1024 + r.val < 8192 := by
  have := lt_of_lt_of_eq t.isLt (show cfg0.N = 104 from N_0)
  omega

/-- At the first point of a row block the normalised block is stored. -/
theorem inv_reset (t : Fin cfg0.N) (h0 : t.val % 13 = 0) (r : Fin 1024) (k : Fin 2048) :
    ((outsAt0 m c t.val t.isLt).2 (ix2 r k) : EReal)
      = rms (fun k => X m c (ix2 ⟨t.val / 13 * 1024 + r.val, bound t r⟩ k)) (fun k => G m c (ix1 k)) k := by
  rw [outsAt0_A m c t h0]
  frame_out
  rw [pay1]
  simp only [blk0 m c _ _ _ (bound t r), blk2]

/-- The stored block is that of the point's own rows. -/
theorem inv (t : ℕ) (ht : t < cfg0.N) (r : Fin 1024) (k : Fin 2048) :
    ((outsAt0 m c t ht).2 (ix2 r k) : EReal)
      = rms (fun k => X m c (ix2 ⟨t / 13 * 1024 + r.val, bound ⟨t, ht⟩ r⟩ k)) (fun k => G m c (ix1 k)) k := by
  induction t with
  | zero => exact inv_reset m c ⟨0, ht⟩ rfl r k
  | succ t ih =>
    by_cases h0 : (t + 1) % 13 = 0
    · exact inv_reset m c ⟨t + 1, ht⟩ h0 r k
    · have hd : (t + 1) / 13 = t / 13 := by omega
      have ih' := ih (by omega)
      simp only [hd]
      rw [outsAt0_succ]
      rw [stAt0_B m c ⟨t + 1, ht⟩ _ h0]
      exact ih'

/-- What a point writes: the product of its rows' normalisation with its columns of the weight. -/
theorem out_eq (t : Fin cfg0.N) (r : Fin 1024) (n : Fin 512) (h) :
    ((outsAt0 m c t.val t.isLt).1 (ix2 r n) : EReal)
      = ∑ k : Fin 2048, rms (fun k => X m c (ix2 ⟨t.val / 13 * 1024 + r.val, bound t r⟩ k)) (fun k => G m c (ix1 k)) k
        * W m c (ix2 k ⟨t.val % 13 * 512 + n.val, h⟩) := by
  by_cases h0 : t.val % 13 = 0
  · rw [outsAt0_A m c t h0]
    frame_out
    rw [pay2]
    refine Finset.sum_congr rfl fun k _ => ?_
    rw [pay1, blk1 m c t k n h]
    simp only [blk0 m c _ _ _ (bound t r), blk2]
  · have hd : (t.val - 1) / 13 = t.val / 13 := by omega
    rw [outsAt0_B m c t h0]
    frame_out
    simp only [read_unread_whole]
    rw [pay2]
    refine Finset.sum_congr rfl fun k _ => ?_
    have e := inv m c (t.val - 1) (Nat.lt_of_le_of_lt (Nat.sub_le _ _) t.isLt) r k
    simp only [hd] at e
    rw [e, blk1 m c t k n h]

/-- The array the run leaves. -/
theorem arr_eq : (G3 m c : (⟨2, ![8192, 6656]⟩ : Shape).Idx → EReal)
    = fun i => ∑ k : Fin 2048, rms (fun k => X m c (ix2 (i 0) k)) (fun k => G m c (ix1 k)) k * W m c (ix2 k (i 1)) := by
  funext i
  have h0 : (i 0).val < 8192 := (i 0).isLt
  have h1 : (i 1).val < 6656 := (i 1).isLt
  have hr : pt3Of i = 13 * ((i 0).val / 1024) + (i 1).val / 512 := by
    show 13 * ((i 0).val / 1024 - 0) + 1 * ((i 1).val / 512 - 0) = _
    omega
  have hp : pt3Of i < cfg0.N := by rw [show cfg0.N = 104 from N_0, hr]; omega
  unfold G3
  rw [dif_pos hp]
  have e := outsAt0_sweep m c (pt3Of i) hp
  rw [← e]
  have e2 : loc3Of i = ix2 ⟨(i 0).val % 1024, by omega⟩ ⟨(i 1).val % 512, by omega⟩ := by funext a; fin_cases a <;> rfl
  have hq : pt3Of i / 13 = (i 0).val / 1024 := by rw [hr]; omega
  have hq' : pt3Of i % 13 = (i 1).val / 512 := by rw [hr]; omega
  rw [e2]
  have hn : pt3Of i % 13 * 512 + (i 1).val % 512 < 6656 := by rw [hq']; omega
  refine (out_eq m c ⟨pt3Of i, hp⟩ _ _ hn).trans ?_
  have e3 : (⟨pt3Of i / 13 * 1024 + (i 0).val % 1024, bound ⟨pt3Of i, hp⟩ ⟨(i 0).val % 1024, by omega⟩⟩ : Fin 8192) = i 0 := Fin.ext (by
    show pt3Of i / 13 * 1024 + (i 0).val % 1024 = _
    rw [hq]; omega)
  have e4 : (⟨pt3Of i % 13 * 512 + (i 1).val % 512, hn⟩ : Fin 6656) = i 1 := Fin.ext (by
    show pt3Of i % 13 * 512 + (i 1).val % 512 = _
    rw [hq']; omega)
  dsimp only
  rw [e3, e4]

end Cert.Proof.In1
end
-- ==== Proof.Mm.In.lean ====
/- The projections into the mixers compute the reference's values. -/
module

public import proofs.«01_k».proof.Defs
public import proofs.«01_k».proof.Proof.Mm.InVal0
public import proofs.«01_k».proof.Proof.Mm.InVal1
public import proofs.«01_k».proof.Proof.Gen.In0RefIdeal.Run
public import proofs.«01_k».proof.Proof.Gen.In1RefIdeal.Run

@[expose] public section
noncomputable section
namespace Cert.Proof
open Idealize.ShloMosaic Idealize.SL.Sem
open Idealize.ShloMosaic.TcCoe
open Cert.Proof.Ffn

/-- The first layer's projection: kernel and reference end with the same array. -/
theorem In0.algebraic : Cert.algebraic_In0Ideal_In0RefIdeal := by
  intro m g m' g' _ hag
  refine ⟨fun c => (fun i => ∑ k : Fin 2048, rms (fun k => In0.X m c (ix2 (i 0) k)) (fun k => In0.G m c (ix1 k)) k * In0.W m c (ix2 k (i 1)) : (⟨2, ![8192, 5120]⟩ : Shape).Idx → EReal), ?_, ?_⟩
  · exact (θ_run Cert.In0Ideal.defs _ _).mono (fun r h c => ⟨(h c).1.trans (In0.arr_eq m c), (h c).2⟩)
      (Cert.In0Ideal.Value.run m g)
  · refine (θ_run Cert.In0RefIdeal.defs _ _).mono (fun r h c => ⟨(h c).1.trans ?_, (h c).2⟩)
      (Cert.In0RefIdeal.Value.run (F := Ideal) m' g')
    obtain ⟨h0, h1, h2⟩ := hag c
    rw [h0, h1, h2]
    funext y
    obtain ⟨r, n, rfl⟩ : ∃ (r : Fin 8192) (n : Fin 5120), y = ix2 r n := ⟨y 0, y 1, by funext a; fin_cases a <;> rfl⟩
    pointwise
    rfl

/-- The second layer's projection: kernel and reference end with the same array. -/
theorem In1.algebraic : Cert.algebraic_In1Ideal_In1RefIdeal := by
  intro m g m' g' _ hag
  refine ⟨fun c => (fun i => ∑ k : Fin 2048, rms (fun k => In1.X m c (ix2 (i 0) k)) (fun k => In1.G m c (ix1 k)) k * In1.W m c (ix2 k (i 1)) : (⟨2, ![8192, 6656]⟩ : Shape).Idx → EReal), ?_, ?_⟩
  · exact (θ_run Cert.In1Ideal.defs _ _).mono (fun r h c => ⟨(h c).1.trans (In1.arr_eq m c), (h c).2⟩)
      (Cert.In1Ideal.Value.run m g)
  · refine (θ_run Cert.In1RefIdeal.defs _ _).mono (fun r h c => ⟨(h c).1.trans ?_, (h c).2⟩)
      (Cert.In1RefIdeal.Value.run (F := Ideal) m' g')
    obtain ⟨h0, h1, h2⟩ := hag c
    rw [h0, h1, h2]
    funext y
    obtain ⟨r, n, rfl⟩ : ∃ (r : Fin 8192) (n : Fin 6656), y = ix2 r n := ⟨y 0, y 1, by funext a; fin_cases a <;> rfl⟩
    pointwise
    rfl

end Cert.Proof
end
-- ==== Proof.Mm.OutVal.lean ====
/- The projection out of a layer's mixers with its residual: the array the kernel leaves, over the extended reals. -/
module

public import proofs.«01_k».proof.Proof.Gen.Out0Ideal.Value
public import Idealize.ShloMosaic.Lib.Pointwise
public import Idealize.ShloMosaic.Lib.Claim
public import Idealize.ShloMosaic.Lib.Pipeline.ReadBack
public import Idealize.ShloMosaic.Lib.Pipeline.ValueKit

@[expose] public section
noncomputable section
namespace Cert.Proof.Out0
open Cert.Out0Ideal Cert.Out0Ideal.Gen Cert.Out0Ideal.Value
open Idealize.ShloMosaic
open Idealize.ShloMosaic.TcCoe

/-- The stored blocks are the operands' blocks. -/
theorem pay1 (a : Vec Ideal S1024x1024 .f32) (j) : (k0_pay1 a j : EReal) = a j := by
  pointwise [k0_pay1]
theorem pay2 (a : Vec Ideal S1024x1024 .f32) (j) : (k0_pay2 a j : EReal) = a j := by
  pointwise [k0_pay2]

/-- The block written: the two products and the residual. -/
theorem pay3 (a : Vec Ideal S1024x1024 .bf16) (w : Vec Ideal S1024x512 .bf16) (b : Vec Ideal S1024x1024 .bf16)
    (v : Vec Ideal S1024x512 .bf16) (x : Vec Ideal S1024x512 .f32) (r : Fin 1024) (n : Fin 512) :
    (k0_pay3 a w b v x (ix2 r n) : EReal) = ((∑ k : Fin 1024, (a (ix2 r k) : EReal) * w (ix2 k n))
      + ∑ k : Fin 1024, (b (ix2 r k) : EReal) * v (ix2 k n)) + x (ix2 r n) := by
  pointwise [k0_pay3]

variable (m : (ℓ : Loc nD τ sig) → Buf (Elt Ideal) ℓ) (c : Dev nD)

/-- The block of each window at a grid point. -/
theorem idx : ∀ t : Fin cfg0.N, win0_0.index t = ![t.val / 4, 0] ∧ win0_1.index t = ![t.val / 4, 0]
    ∧ win0_2.index t = ![0, t.val % 4] ∧ win0_3.index t = ![0, t.val % 4] ∧ win0_4.index t = ![t.val / 4, t.val % 4] := by
  decide +kernel

/-- The arguments' contents, as plain arrays. -/
abbrev A : (⟨2, ![8192, 1024]⟩ : Shape).Idx → EReal := m ((c.tc : Thread nD τ).loc main_arg0)
abbrev B : (⟨2, ![8192, 1024]⟩ : Shape).Idx → EReal := m ((c.tc : Thread nD τ).loc main_arg1)
abbrev W : (⟨2, ![2048, 2048]⟩ : Shape).Idx → EReal := m ((c.tc : Thread nD τ).loc main_arg2)
abbrev X : (⟨2, ![8192, 2048]⟩ : Shape).Idx → EReal := m ((c.tc : Thread nD τ).loc main_arg3)

theorem blk0 (t : Fin cfg0.N) (r : Fin 1024) (k : Fin 1024) (h) :
    (iblk m c 0 t (ix2 r k) : EReal) = A m c (ix2 ⟨t.val / 4 * 1024 + r.val, h⟩ k) := by
  blk_ext [iblk, V, (idx t).1]
theorem blk1 (t : Fin cfg0.N) (r : Fin 1024) (k : Fin 1024) (h) :
    (iblk m c 1 t (ix2 r k) : EReal) = B m c (ix2 ⟨t.val / 4 * 1024 + r.val, h⟩ k) := by
  blk_ext [iblk, V, (idx t).2.1]
theorem blk2 (t : Fin cfg0.N) (k : Fin 1024) (n : Fin 512) (h) :
    (iblk m c 2 t (ix2 k n) : EReal) = W m c (ix2 ⟨k.val, by omega⟩ ⟨t.val % 4 * 512 + n.val, h⟩) := by
  blk_ext! [iblk, V, (idx t).2.2.1]
theorem blk3 (t : Fin cfg0.N) (k : Fin 1024) (n : Fin 512) (h) :
    (iblk m c 3 t (ix2 k n) : EReal) = W m c (ix2 ⟨1024 + k.val, by omega⟩ ⟨t.val % 4 * 512 + n.val, h⟩) := by
  blk_ext! [iblk, V, (idx t).2.2.2.1]
theorem blk4 (t : Fin cfg0.N) (r : Fin 1024) (n : Fin 512) (h h') :
    (iblk m c 4 t (ix2 r n) : EReal) = X m c (ix2 ⟨t.val / 4 * 1024 + r.val, h⟩ ⟨t.val % 4 * 512 + n.val, h'⟩) := by
  blk_ext [iblk, V, (idx t).2.2.2.2]

theorem bound (t : Fin cfg0.N) (r : Fin 1024) : t.val / 4 * 1024 + r.val < 8192 := by
  have := lt_of_lt_of_eq t.isLt (show cfg0.N = 32 from N_0)
  omega

/-- At the first point of a row block the operands' blocks are stored. -/
theorem inv_reset (t : Fin cfg0.N) (h0 : t.val % 4 = 0) (r : Fin 1024) (k : Fin 1024) :
    ((outsAt0 m c t.val t.isLt).2.1 (ix2 r k) : EReal) = A m c (ix2 ⟨t.val / 4 * 1024 + r.val, bound t r⟩ k)
    ∧ ((outsAt0 m c t.val t.isLt).2.2 (ix2 r k) : EReal) = B m c (ix2 ⟨t.val / 4 * 1024 + r.val, bound t r⟩ k) := by
  rw [outsAt0_A m c t h0]
  frame_out
  exact ⟨(pay1 _ _).trans (blk0 m c t r k (bound t r)), (pay2 _ _).trans (blk1 m c t r k (bound t r))⟩

/-- The stored blocks are those of the point's own rows. -/
theorem inv (t : ℕ) (ht : t < cfg0.N) (r : Fin 1024) (k : Fin 1024) :
    ((outsAt0 m c t ht).2.1 (ix2 r k) : EReal) = A m c (ix2 ⟨t / 4 * 1024 + r.val, bound ⟨t, ht⟩ r⟩ k)
    ∧ ((outsAt0 m c t ht).2.2 (ix2 r k) : EReal) = B m c (ix2 ⟨t / 4 * 1024 + r.val, bound ⟨t, ht⟩ r⟩ k) := by
  induction t with
  | zero => exact inv_reset m c ⟨0, ht⟩ rfl r k
  | succ t ih =>
    by_cases h0 : (t + 1) % 4 = 0
    · exact inv_reset m c ⟨t + 1, ht⟩ h0 r k
    · have hd : (t + 1) / 4 = t / 4 := by omega
      have ih' := ih (by omega)
      simp only [hd]
      rw [outsAt0_succ]
      rw [stAt0_B m c ⟨t + 1, ht⟩ _ h0]
      exact ih'

/-- One element of the result: the product of the joined row with a column of the weight, its two halves apart. -/
def elt (a b : Fin 1024 → EReal) (w : Fin 2048 → EReal) (x : EReal) : EReal :=
  ((∑ k : Fin 1024, a k * w ⟨k.val, by omega⟩) + ∑ k : Fin 1024, b k * w ⟨1024 + k.val, by omega⟩) + x

/-- What a point writes. -/
theorem out_eq (t : Fin cfg0.N) (r : Fin 1024) (n : Fin 512) (h : t.val % 4 * 512 + n.val < 2048) :
    ((outsAt0 m c t.val t.isLt).1 (ix2 r n) : EReal)
      = elt (fun k => A m c (ix2 ⟨t.val / 4 * 1024 + r.val, bound t r⟩ k)) (fun k => B m c (ix2 ⟨t.val / 4 * 1024 + r.val, bound t r⟩ k))
        (fun k => W m c (ix2 k ⟨t.val % 4 * 512 + n.val, h⟩))
        (X m c (ix2 ⟨t.val / 4 * 1024 + r.val, bound t r⟩ ⟨t.val % 4 * 512 + n.val, h⟩)) := by
  unfold elt
  by_cases h0 : t.val % 4 = 0
  · rw [outsAt0_A m c t h0]
    frame_out
    rw [pay3]
    simp only [pay1, pay2, blk0 m c _ _ _ (bound t r), blk1 m c _ _ _ (bound t r), blk2 m c _ _ _ h, blk3 m c _ _ _ h,
      blk4 m c _ _ _ (bound t r) h]
  · have hd : (t.val - 1) / 4 = t.val / 4 := by omega
    have e := inv m c (t.val - 1) (Nat.lt_of_le_of_lt (Nat.sub_le _ _) t.isLt) r
    simp only [hd] at e
    rw [outsAt0_B m c t h0]
    frame_out
    simp only [read_unread_whole]
    rw [pay3]
    simp only [(e _).1, (e _).2, blk2 m c _ _ _ h, blk3 m c _ _ _ h, blk4 m c _ _ _ (bound t r) h]

/-- The array the run leaves. -/
theorem arr_eq : (G5 m c : (⟨2, ![8192, 2048]⟩ : Shape).Idx → EReal)
    = fun i => elt (fun k => A m c (ix2 (i 0) k)) (fun k => B m c (ix2 (i 0) k)) (fun k => W m c (ix2 k (i 1)))
      (X m c (ix2 (i 0) (i 1))) := by
  funext i
  have h0 : (i 0).val < 8192 := (i 0).isLt
  have h1 : (i 1).val < 2048 := (i 1).isLt
  have hr : pt5Of i = 4 * ((i 0).val / 1024) + (i 1).val / 512 := by
    show 4 * ((i 0).val / 1024 - 0) + 1 * ((i 1).val / 512 - 0) = _
    omega
  have hp : pt5Of i < cfg0.N := by rw [show cfg0.N = 32 from N_0, hr]; omega
  unfold G5
  rw [dif_pos hp]
  have e := outsAt0_sweep m c (pt5Of i) hp
  rw [← e]
  have e2 : loc5Of i = ix2 ⟨(i 0).val % 1024, by omega⟩ ⟨(i 1).val % 512, by omega⟩ := by funext a; fin_cases a <;> rfl
  have hq : pt5Of i / 4 = (i 0).val / 1024 := by rw [hr]; omega
  have hq' : pt5Of i % 4 = (i 1).val / 512 := by rw [hr]; omega
  rw [e2]
  have hn : pt5Of i % 4 * 512 + (i 1).val % 512 < 2048 := by rw [hq']; omega
  refine (out_eq m c ⟨pt5Of i, hp⟩ _ _ hn).trans ?_
  have e3 : (⟨pt5Of i / 4 * 1024 + (i 0).val % 1024, bound ⟨pt5Of i, hp⟩ ⟨(i 0).val % 1024, by omega⟩⟩ : Fin 8192) = i 0 := Fin.ext (by
    show pt5Of i / 4 * 1024 + (i 0).val % 1024 = _
    rw [hq]; omega)
  have e4 : (⟨pt5Of i % 4 * 512 + (i 1).val % 512, hn⟩ : Fin 2048) = i 1 := Fin.ext (by
    show pt5Of i % 4 * 512 + (i 1).val % 512 = _
    rw [hq']; omega)
  dsimp only
  rw [e3, e4]

end Cert.Proof.Out0
end
-- ==== Proof.Mm.Out.lean ====
/- The projection out of a layer's mixers computes the reference's values. -/
module

public import proofs.«01_k».proof.Defs
public import proofs.«01_k».proof.Proof.Mm.OutVal
public import proofs.«01_k».proof.Proof.Gen.Out0RefIdeal.Run

@[expose] public section
noncomputable section
namespace Cert.Proof.Out0
open Idealize.ShloMosaic Idealize.SL.Sem
open Idealize.ShloMosaic.TcCoe

/-- Every execution of the kernel and every execution of the reference end with the same array. -/
theorem algebraic : Cert.algebraic_Out0Ideal_Out0RefIdeal := by
  intro m g m' g' _ hag
  refine ⟨fun c => (fun i => elt (fun k => A m c (ix2 (i 0) k)) (fun k => B m c (ix2 (i 0) k)) (fun k => W m c (ix2 k (i 1)))
      (X m c (ix2 (i 0) (i 1))) : (⟨2, ![8192, 2048]⟩ : Shape).Idx → EReal), ?_, ?_⟩
  · exact (θ_run Cert.Out0Ideal.defs _ _).mono (fun r h c => ⟨(h c).1.trans (arr_eq m c), (h c).2⟩)
      (Cert.Out0Ideal.Value.run m g)
  · refine (θ_run Cert.Out0RefIdeal.defs _ _).mono (fun r h c => ⟨(h c).1.trans ?_, (h c).2⟩)
      (Cert.Out0RefIdeal.Value.run (F := Ideal) m' g')
    obtain ⟨h0, h1, h2, h3⟩ := hag c
    rw [h0, h1, h2, h3]
    funext y
    obtain ⟨r, n, rfl⟩ : ∃ (r : Fin 8192) (n : Fin 2048), y = ix2 r n := ⟨y 0, y 1, by funext a; fin_cases a <;> rfl⟩
    pointwise
    exact add_comm (X m c (ix2 r n)) _

end Cert.Proof.Out0
end
-- ==== Proof.SbK.Pins.lean ====
/- The stick-breaking attention, at the machine: the two tables of block pairs, as the words the region reads. -/
module

public import proofs.«01_k».proof.Defs
public import proofs.«01_k».proof.Proof.Gen.Sb
public import proofs.«01_k».proof.Proof.Gen.Sb.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Proof.SbK

open Cert.Sb Cert.Sb.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The tables and scratches. -/
abbrev tbM0_0 : Memref sig .tc .smem S36 .i32 := Memref.whole main_c
abbrev tbM0_1 : Memref sig .tc .smem S36 .i32 := Memref.whole main_c_0
abbrev scM0_0 : Memref sig .tc .vmem S4x512x64 .f32 := Memref.whole cc0_scratch0
abbrev scM0_1 : Memref sig .tc .vmem S4x512x1 .f32 := Memref.whole cc0_scratch1

/-- The word of table 0 read at a grid point. -/
abbrev wd0_0 (i : grid0.Coords) (T : S36.Idx → Elt Bits .i32) : Elt Bits .i32 :=
  View.readAt (Elt Bits) (tbM0_0).view (Rect.unit (s := S36) (k0_off1 i) S1.size (k0_off1_inb i)).toLoadRect T (Shape.Idx.first (numel1_S1.symm ▸ Nat.one_pos))
/-- The word of table 1 read at a grid point. -/
abbrev wd0_1 (i : grid0.Coords) (T : S36.Idx → Elt Bits .i32) : Elt Bits .i32 :=
  View.readAt (Elt Bits) (tbM0_1).view (Rect.unit (s := S36) (k0_off1 i) S1.size (k0_off1_inb i)).toLoadRect T (Shape.Idx.first (numel1_S1.symm ▸ Nat.one_pos))

/-! ## The tables -/

variable (ch : Fin 1)

/-- Table 0. -/
def pinT_0 (ch : Fin 1) : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32)

/-- Table 1. -/
def pinT_1 (ch : Fin 1) : S36.Idx → BitVec 32 := fun x => (([0#32, 1#32, 0#32, 2#32, 1#32, 0#32, 3#32, 2#32, 1#32, 0#32, 4#32, 3#32, 2#32, 1#32, 0#32, 5#32, 4#32, 3#32, 2#32, 1#32, 0#32, 6#32, 5#32, 4#32, 3#32, 2#32, 1#32, 0#32, 7#32, 6#32, 5#32, 4#32, 3#32, 2#32, 1#32, 0#32] : List (BitVec 32)).getD ((x 0).val) 0#32)

set_option backward.proofsInPublic true in
/-- The contents of the tables. -/
def pfN : pre0.Contents (Elt Bits) := fun | ⟨0, _⟩ => pinT_0 ch | ⟨1, _⟩ => pinT_1 ch | ⟨_ + 2, h⟩ => absurd h (by simp)
/-- A block inside its array, axis by axis. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- What every buffer holds when the region begins: the launch contents, the two constant tables and the triangular
    mask having been written. -/
def V (m : (ℓ : Loc nD τ sig) → Buf (Elt Bits) ℓ) (_ρ : Dev nD → PrngReg) (c : Dev nD) (b : Ref sig .tc) : Buf (Elt Bits) ((c : Thread nD τ).loc b) :=
  StableHlo.after (hostOps0 (F := Bits)) (fun b => m (c, b)) b

end Cert.Proof.SbK

end
-- ==== Proof.SbK.Runs.lean ====
/- The stick-breaking attention, at the machine: what the body leaves on each of its four control paths. -/
module

public import proofs.«01_k».proof.Proof.Gen.Sb.Skeleton
public import proofs.«01_k».proof.Proof.SbK.Pins

@[expose] public section

set_option maxRecDepth 16384
set_option Elab.async false

noncomputable section

namespace Cert.Proof.SbK

open Cert.Sb Cert.Sb.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The body on each path -/

/-- One staging buffer of the output window. -/
abbrev VO0_4 : View sig .tc .vmem S512x256 .f32 := (Memref.whole cc0_stg4_0 : Memref sig .tc .vmem S512x256 .f32).view

set_option backward.proofsInPublic true in
set_option maxHeartbeats 8000000 in
/-- What the body leaves on path A, with the proof that it does. -/
noncomputable def kernelRun0_A (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Bits .i32)) (T1 : (S36.Idx → Elt Bits .i32))
     (x0 : (S512x256.Idx → Elt Bits .f32)) (x1 : (S512x256.Idx → Elt Bits .f32)) (x2 : (S512x256.Idx → Elt Bits .f32)) (x3 : (S256x256.Idx → Elt Bits .bf16)) (hc0 : (Scalar.cmpi .ne (Scalar.extui (Scalar.cmpi .eq (wd0_1 i T1) (wd0_0 i T0))) 0#32) = 1#1) (hc1 : ¬((Scalar.cmpi .ne (Scalar.extui (Scalar.cmpi .slt (wd0_1 i T1) (wd0_0 i T0))) 0#32) = 1#1)) (k0_h3 : k0_cond3 (wd0_1 i T1) = 1#1) :
    Σ' (out0 : List (View.Piece (Elt Bits) S512x256 .f32)) (out1 : Buf (Elt Bits) ((c : Thread nD τ).loc cc0_scratch0)), { out2 : Buf (Elt Bits) ((c : Thread nD τ).loc cc0_scratch1) //
      ∀ (xa0 : Buf (Elt Bits) ((c : Thread nD τ).loc cc0_scratch0)) (xa1 : Buf (Elt Bits) ((c : Thread nD τ).loc cc0_scratch1)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)) -∗ K ⟨⟩))
          ⊢ wp frame (wpE (defs₀ (F := Bits)) Variants.none c none) Set.univ (cc0_p_sb_attn i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, _, fun (xa0 : Buf (Elt Bits) ((c : Thread nD τ).loc cc0_scratch0)) (xa1 : Buf (Elt Bits) ((c : Thread nD τ).loc cc0_scratch1)) K => by
    unfold owns
    rw [cc0_p_sb_attn_eq_skeleton]; unfold cc0_p_sb_attn_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

/-- The stores of path A cover the output block. -/
theorem cover0_A_4 (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Bits .i32)) (T1 : (S36.Idx → Elt Bits .i32))
     (x0 : (S512x256.Idx → Elt Bits .f32)) (x1 : (S512x256.Idx → Elt Bits .f32)) (x2 : (S512x256.Idx → Elt Bits .f32)) (x3 : (S256x256.Idx → Elt Bits .bf16)) (hc0 : (Scalar.cmpi .ne (Scalar.extui (Scalar.cmpi .eq (wd0_1 i T1) (wd0_0 i T0))) 0#32) = 1#1) (hc1 : ¬((Scalar.cmpi .ne (Scalar.extui (Scalar.cmpi .slt (wd0_1 i T1) (wd0_0 i T0))) 0#32) = 1#1)) (k0_h3 : k0_cond3 (wd0_1 i T1) = 1#1) (y : S512x256.Idx) :
    ∃ pc ∈ (kernelRun0_A c i arg5 harg5 arg6 harg6 arg7 harg7 arg8 harg8 arg9 harg9 T0 T1 x0 x1 x2 x3 hc0 hc1 k0_h3).1, y ∈ pc.1.set :=
  View.cover_of_tiledL (kernelRun0_A c i arg5 harg5 arg6 harg6 arg7 harg7 arg8 harg8 arg9 harg9 T0 T1 x0 x1 x2 x3 hc0 hc1 k0_h3).1 S512x256.size (by sl_kernel_rfl) y

/-- The output block path A leaves. -/
def out0_A_4 (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Bits .i32)) (T1 : (S36.Idx → Elt Bits .i32))
     (x0 : (S512x256.Idx → Elt Bits .f32)) (x1 : (S512x256.Idx → Elt Bits .f32)) (x2 : (S512x256.Idx → Elt Bits .f32)) (x3 : (S256x256.Idx → Elt Bits .bf16)) (hc0 : (Scalar.cmpi .ne (Scalar.extui (Scalar.cmpi .eq (wd0_1 i T1) (wd0_0 i T0))) 0#32) = 1#1) (hc1 : ¬((Scalar.cmpi .ne (Scalar.extui (Scalar.cmpi .slt (wd0_1 i T1) (wd0_0 i T0))) 0#32) = 1#1)) (k0_h3 : k0_cond3 (wd0_1 i T1) = 1#1) : (S512x256.Idx → Elt Bits .f32) :=
  VO0_4.read (Elt Bits) (VO0_4.writes (Elt Bits) VO0_4.junk (kernelRun0_A c i arg5 harg5 arg6 harg6 arg7 harg7 arg8 harg8 arg9 harg9 T0 T1 x0 x1 x2 x3 hc0 hc1 k0_h3).1)

set_option backward.proofsInPublic true in
set_option maxHeartbeats 8000000 in
/-- What the body leaves on path B, with the proof that it does. -/
noncomputable def kernelRun0_B (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Bits .i32)) (T1 : (S36.Idx → Elt Bits .i32))
     (x0 : (S512x256.Idx → Elt Bits .f32)) (x1 : (S512x256.Idx → Elt Bits .f32)) (x2 : (S512x256.Idx → Elt Bits .f32)) (x3 : (S256x256.Idx → Elt Bits .bf16)) (hc0 : (Scalar.cmpi .ne (Scalar.extui (Scalar.cmpi .eq (wd0_1 i T1) (wd0_0 i T0))) 0#32) = 1#1) (hc1 : ¬((Scalar.cmpi .ne (Scalar.extui (Scalar.cmpi .slt (wd0_1 i T1) (wd0_0 i T0))) 0#32) = 1#1)) (k0_h3 : ¬(k0_cond3 (wd0_1 i T1) = 1#1)) :
    Σ' (out0 : Buf (Elt Bits) ((c : Thread nD τ).loc cc0_scratch0)), { out1 : Buf (Elt Bits) ((c : Thread nD τ).loc cc0_scratch1) //
      ∀ (y4 : (S512x256.Idx → Elt Bits .f32)) (xa0 : Buf (Elt Bits) ((c : Thread nD τ).loc cc0_scratch0)) (xa1 : Buf (Elt Bits) ((c : Thread nD τ).loc cc0_scratch1)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_p_sb_attn i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S512x256.Idx → Elt Bits .f32)) (xa0 : Buf (Elt Bits) ((c : Thread nD τ).loc cc0_scratch0)) (xa1 : Buf (Elt Bits) ((c : Thread nD τ).loc cc0_scratch1)) K => by
    unfold owns
    rw [cc0_p_sb_attn_eq_skeleton]; unfold cc0_p_sb_attn_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

set_option backward.proofsInPublic true in
set_option maxHeartbeats 8000000 in
/-- What the body leaves on path C, with the proof that it does. -/
noncomputable def kernelRun0_C (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Bits .i32)) (T1 : (S36.Idx → Elt Bits .i32))
     (x0 : (S512x256.Idx → Elt Bits .f32)) (x1 : (S512x256.Idx → Elt Bits .f32)) (x2 : (S512x256.Idx → Elt Bits .f32)) (x3 : (S256x256.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (wd0_1 i T1) (wd0_0 i T0))) 0#32) = 1#1)) (hc1 : (Scalar.cmpi .ne (Scalar.extui (Scalar.cmpi .slt (wd0_1 i T1) (wd0_0 i T0))) 0#32) = 1#1) (k0_h3 : k0_cond3 (wd0_1 i T1) = 1#1) :
    Σ' (out0 : List (View.Piece (Elt Bits) S512x256 .f32)) (out1 : Buf (Elt Bits) ((c : Thread nD τ).loc cc0_scratch0)), { out2 : Buf (Elt Bits) ((c : Thread nD τ).loc cc0_scratch1) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)) -∗ K ⟨⟩))
          ⊢ wp frame (wpE (defs₀ (F := Bits)) Variants.none c none) Set.univ (cc0_p_sb_attn i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, _, fun K => by
    unfold owns
    rw [cc0_p_sb_attn_eq_skeleton]; unfold cc0_p_sb_attn_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = k0_cond3 _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

/-- The stores of path C cover the output block. -/
theorem cover0_C_4 (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Bits .i32)) (T1 : (S36.Idx → Elt Bits .i32))
     (x0 : (S512x256.Idx → Elt Bits .f32)) (x1 : (S512x256.Idx → Elt Bits .f32)) (x2 : (S512x256.Idx → Elt Bits .f32)) (x3 : (S256x256.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (wd0_1 i T1) (wd0_0 i T0))) 0#32) = 1#1)) (hc1 : (Scalar.cmpi .ne (Scalar.extui (Scalar.cmpi .slt (wd0_1 i T1) (wd0_0 i T0))) 0#32) = 1#1) (k0_h3 : k0_cond3 (wd0_1 i T1) = 1#1) (y : S512x256.Idx) :
    ∃ pc ∈ (kernelRun0_C c i arg5 harg5 arg6 harg6 arg7 harg7 arg8 harg8 arg9 harg9 T0 T1 x0 x1 x2 x3 xa0 xa1 hc0 hc1 k0_h3).1, y ∈ pc.1.set :=
  View.cover_of_tiledL (kernelRun0_C c i arg5 harg5 arg6 harg6 arg7 harg7 arg8 harg8 arg9 harg9 T0 T1 x0 x1 x2 x3 xa0 xa1 hc0 hc1 k0_h3).1 S512x256.size (by sl_kernel_rfl) y

/-- The output block path C leaves. -/
def out0_C_4 (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Bits .i32)) (T1 : (S36.Idx → Elt Bits .i32))
     (x0 : (S512x256.Idx → Elt Bits .f32)) (x1 : (S512x256.Idx → Elt Bits .f32)) (x2 : (S512x256.Idx → Elt Bits .f32)) (x3 : (S256x256.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (wd0_1 i T1) (wd0_0 i T0))) 0#32) = 1#1)) (hc1 : (Scalar.cmpi .ne (Scalar.extui (Scalar.cmpi .slt (wd0_1 i T1) (wd0_0 i T0))) 0#32) = 1#1) (k0_h3 : k0_cond3 (wd0_1 i T1) = 1#1) : (S512x256.Idx → Elt Bits .f32) :=
  VO0_4.read (Elt Bits) (VO0_4.writes (Elt Bits) VO0_4.junk (kernelRun0_C c i arg5 harg5 arg6 harg6 arg7 harg7 arg8 harg8 arg9 harg9 T0 T1 x0 x1 x2 x3 xa0 xa1 hc0 hc1 k0_h3).1)

set_option backward.proofsInPublic true in
set_option maxHeartbeats 8000000 in
/-- What the body leaves on path D, with the proof that it does. -/
noncomputable def kernelRun0_D (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Bits .i32)) (T1 : (S36.Idx → Elt Bits .i32))
     (x0 : (S512x256.Idx → Elt Bits .f32)) (x1 : (S512x256.Idx → Elt Bits .f32)) (x2 : (S512x256.Idx → Elt Bits .f32)) (x3 : (S256x256.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (wd0_1 i T1) (wd0_0 i T0))) 0#32) = 1#1)) (hc1 : (Scalar.cmpi .ne (Scalar.extui (Scalar.cmpi .slt (wd0_1 i T1) (wd0_0 i T0))) 0#32) = 1#1) (k0_h3 : ¬(k0_cond3 (wd0_1 i T1) = 1#1)) :
    Σ' (out0 : Buf (Elt Bits) ((c : Thread nD τ).loc cc0_scratch0)), { out1 : Buf (Elt Bits) ((c : Thread nD τ).loc cc0_scratch1) //
      ∀ (y4 : (S512x256.Idx → Elt Bits .f32)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_p_sb_attn i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S512x256.Idx → Elt Bits .f32)) K => by
    unfold owns
    rw [cc0_p_sb_attn_eq_skeleton]; unfold cc0_p_sb_attn_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

end Cert.Proof.SbK

end
-- ==== Proof.SbK.Ok.lean ====
/- The stick-breaking attention, at the machine: every block lies inside its array. -/
module

public import proofs.«01_k».proof.Proof.SbK.Pins

@[expose] public section

set_option maxRecDepth 16384
set_option Elab.async false

noncomputable section

namespace Cert.Proof.SbK

open Cert.Sb Cert.Sb.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem ok_pfN_0_0_inb : ∀ i : grid0.Coords, ∀ a, (cc0_transform_0 k0_off1_inb numel1_S1 (pfN (⟨0, by omega⟩ : Fin 1)) i a + 1) * S512x256.size a ≤ S8192x6656.size a := by decide +kernel
theorem ok_pfN_0_0 : (∀ i : grid0.Coords, ∃ h : (∀ a, (cc0_transform_0 k0_off1_inb numel1_S1 (pfN (⟨0, by omega⟩ : Fin 1)) i a + 1) * S512x256.size a ≤ S8192x6656.size a), EltTy.bits .f32 = 32 ∨ (Rect.block (s := S8192x6656) S512x256.size (cc0_transform_0 k0_off1_inb numel1_S1 (pfN (⟨0, by omega⟩ : Fin 1)) i) h).WholeWords (EltTy.packing .f32)) := fun i => ⟨ok_pfN_0_0_inb i, .inl rfl⟩
theorem ok_pfN_0_1_inb : ∀ i : grid0.Coords, ∀ a, (cc0_transform_1 k0_off1_inb numel1_S1 (pfN (⟨0, by omega⟩ : Fin 1)) i a + 1) * S512x256.size a ≤ S8192x6656.size a := by decide +kernel
theorem ok_pfN_0_1 : (∀ i : grid0.Coords, ∃ h : (∀ a, (cc0_transform_1 k0_off1_inb numel1_S1 (pfN (⟨0, by omega⟩ : Fin 1)) i a + 1) * S512x256.size a ≤ S8192x6656.size a), EltTy.bits .f32 = 32 ∨ (Rect.block (s := S8192x6656) S512x256.size (cc0_transform_1 k0_off1_inb numel1_S1 (pfN (⟨0, by omega⟩ : Fin 1)) i) h).WholeWords (EltTy.packing .f32)) := fun i => ⟨ok_pfN_0_1_inb i, .inl rfl⟩
theorem ok_pfN_0_2_inb : ∀ i : grid0.Coords, ∀ a, (cc0_transform_2 k0_off1_inb numel1_S1 (pfN (⟨0, by omega⟩ : Fin 1)) i a + 1) * S512x256.size a ≤ S8192x6656.size a := by decide +kernel
theorem ok_pfN_0_2 : (∀ i : grid0.Coords, ∃ h : (∀ a, (cc0_transform_2 k0_off1_inb numel1_S1 (pfN (⟨0, by omega⟩ : Fin 1)) i a + 1) * S512x256.size a ≤ S8192x6656.size a), EltTy.bits .f32 = 32 ∨ (Rect.block (s := S8192x6656) S512x256.size (cc0_transform_2 k0_off1_inb numel1_S1 (pfN (⟨0, by omega⟩ : Fin 1)) i) h).WholeWords (EltTy.packing .f32)) := fun i => ⟨ok_pfN_0_2_inb i, .inl rfl⟩
theorem ok_pfN_0_3_inb : ∀ i : grid0.Coords, ∀ a, (cc0_transform_4 k0_off1_inb numel1_S1 (pfN (⟨0, by omega⟩ : Fin 1)) i a + 1) * S512x256.size a ≤ S8192x1024.size a := by decide +kernel
theorem ok_pfN_0_3 : (∀ i : grid0.Coords, ∃ h : (∀ a, (cc0_transform_4 k0_off1_inb numel1_S1 (pfN (⟨0, by omega⟩ : Fin 1)) i a + 1) * S512x256.size a ≤ S8192x1024.size a), EltTy.bits .f32 = 32 ∨ (Rect.block (s := S8192x1024) S512x256.size (cc0_transform_4 k0_off1_inb numel1_S1 (pfN (⟨0, by omega⟩ : Fin 1)) i) h).WholeWords (EltTy.packing .f32)) := fun i => ⟨ok_pfN_0_3_inb i, .inl rfl⟩
theorem ok_pfN_0 : ok0 (F := Bits) (pfN (⟨0, by omega⟩ : Fin 1)) := ⟨ok_pfN_0_0, ok_pfN_0_1, ok_pfN_0_2, ok_pfN_0_3⟩

end Cert.Proof.SbK

end
-- ==== Proof.SbK.Cfg.lean ====
/- The stick-breaking attention, at the machine: the pipeline at the tables, a point's coordinates and blocks. -/
module

public import proofs.«01_k».proof.Proof.SbK.Ok

@[expose] public section

set_option maxRecDepth 16384
set_option Elab.async false

noncomputable section

namespace Cert.Proof.SbK

open Cert.Sb Cert.Sb.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (ch : Fin 1)

/-- Every block lies inside its array. -/
theorem ok_pfN : ∀ ch : Fin 1, ok0 (F := Bits) (pfN ch) := fun ch => match ch with
  | ⟨0, _⟩ => ok_pfN_0
  | ⟨_ + 1, h⟩ => absurd h (by omega)

/-- The pipeline at the two tables. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- The staging buffer of each window at a point. -/
abbrev ms0_0 (t : Fin (cfgA ch).N) : Memref sig .tc .vmem S512x256 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S512x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S512x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S256x256 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S512x256 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) (V m ρ c (Pipeline.arrRef (cfgA ch).spec w))

/-! ## The decisions at a point -/

abbrev P0_0 (t : Fin (cfgA ch).N) : Prop := (Scalar.cmpi .ne (Scalar.extui (Scalar.cmpi .eq (wd0_1 (crd ch t) (pinT_1 ch)) (wd0_0 (crd ch t) (pinT_0 ch)))) 0#32) = 1#1
abbrev P0_1 (t : Fin (cfgA ch).N) : Prop := k0_cond3 (wd0_1 (crd ch t) (pinT_1 ch)) = 1#1

/-- Whether scratch 0 is still unwritten before position `n`. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- The same in closed form. -/
def sfirst0_0 (ch : Fin 1) : ℕ := 0
def sfrTab0_0 : ℕ → Bool := fun n => decide (n ≤ sfirst0_0 ch)

/-- Whether scratch 1 is still unwritten before position `n`. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- The same in closed form. -/
def sfirst0_1 (ch : Fin 1) : ℕ := 0
def sfrTab0_1 : ℕ → Bool := fun n => decide (n ≤ sfirst0_1 ch)

set_option backward.proofsInPublic true in
/-- Whether output 4 is unwritten before each position, as a bit mask. -/
def frMask0_4 : Fin 1 → ℕ
  | ⟨0, _⟩ => 0xffffffffffffffffffffffffffffffffffffffffffffffffffffffffffffffffffffffff
  | ⟨_ + 1, h⟩ => absurd h (by omega)
/-- The table of when output 4 is unwritten. -/
def frTab0_4 : ℕ → Bool
  | 0 => true
  | n + 1 => (frMask0_4 ch).testBit n

end Cert.Proof.SbK

end
-- ==== Proof.SbK.Facts.lean ====
/- The stick-breaking attention, at the machine: the decisions at a point, as one proposition. -/
module

public import proofs.«01_k».proof.Proof.SbK.Cfg

@[expose] public section

set_option maxRecDepth 16384
set_option Elab.async false

noncomputable section

namespace Cert.Proof.SbK

open Cert.Sb Cert.Sb.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (ch : Fin 1)
variable (m : (ℓ : Loc nD τ sig) → Buf (Elt Bits) ℓ) (ρ : Dev nD → PrngReg)

/-! ## Every fact about a point, as one proposition -/

/-- Everything that is decided about a point. -/
abbrev FactsAt (ch : Fin 1) (t : Fin (cfgA ch).N) : Prop :=
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (frTab0_4 ch (t.val + 1) = (((cfgA ch).win (4 : Fin 5)).flush t || ((cfgA ch).idle (4 : Fin 5) ((cfgA ch).grid.coords t) && frTab0_4 ch t.val)))
  ∧ (P0_0 ch t → P0_1 ch t → ((Scalar.cmpi .ne (Scalar.extui (Scalar.cmpi .eq (wd0_1 (crd ch t) (pinT_1 ch)) (wd0_0 (crd ch t) (pinT_0 ch)))) 0#32) = 1#1) ∧ ((¬((Scalar.cmpi .ne (Scalar.extui (Scalar.cmpi .slt (wd0_1 (crd ch t) (pinT_1 ch)) (wd0_0 (crd ch t) (pinT_0 ch)))) 0#32) = 1#1)) ∧ ((k0_cond3 (wd0_1 (crd ch t) (pinT_1 ch)) = 1#1) ∧ (True))))
  ∧ (P0_0 ch t → P0_1 ch t → (cfgA ch).idle (4 : Fin 5) ((cfgA ch).grid.coords t) = false ∧ ((cfgA ch).win (4 : Fin 5)).flush t = true ∧ frTab0_4 ch t.val = true ∧ sfrTab0_0 ch (t.val + 1) = false ∧ sfrTab0_1 ch (t.val + 1) = false)
  ∧ (P0_0 ch t → ¬P0_1 ch t → ((Scalar.cmpi .ne (Scalar.extui (Scalar.cmpi .eq (wd0_1 (crd ch t) (pinT_1 ch)) (wd0_0 (crd ch t) (pinT_0 ch)))) 0#32) = 1#1) ∧ ((¬((Scalar.cmpi .ne (Scalar.extui (Scalar.cmpi .slt (wd0_1 (crd ch t) (pinT_1 ch)) (wd0_0 (crd ch t) (pinT_0 ch)))) 0#32) = 1#1)) ∧ ((¬(k0_cond3 (wd0_1 (crd ch t) (pinT_1 ch)) = 1#1)) ∧ (True))))
  ∧ (P0_0 ch t → ¬P0_1 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → P0_1 ch t → (¬((Scalar.cmpi .ne (Scalar.extui (Scalar.cmpi .eq (wd0_1 (crd ch t) (pinT_1 ch)) (wd0_0 (crd ch t) (pinT_0 ch)))) 0#32) = 1#1)) ∧ (((Scalar.cmpi .ne (Scalar.extui (Scalar.cmpi .slt (wd0_1 (crd ch t) (pinT_1 ch)) (wd0_0 (crd ch t) (pinT_0 ch)))) 0#32) = 1#1) ∧ ((k0_cond3 (wd0_1 (crd ch t) (pinT_1 ch)) = 1#1) ∧ (True))))
  ∧ (¬P0_0 ch t → P0_1 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → ¬P0_1 ch t → (¬((Scalar.cmpi .ne (Scalar.extui (Scalar.cmpi .eq (wd0_1 (crd ch t) (pinT_1 ch)) (wd0_0 (crd ch t) (pinT_0 ch)))) 0#32) = 1#1)) ∧ (((Scalar.cmpi .ne (Scalar.extui (Scalar.cmpi .slt (wd0_1 (crd ch t) (pinT_1 ch)) (wd0_0 (crd ch t) (pinT_0 ch)))) 0#32) = 1#1) ∧ ((¬(k0_cond3 (wd0_1 (crd ch t) (pinT_1 ch)) = 1#1)) ∧ (True))))
  ∧ (¬P0_0 ch t → ¬P0_1 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))

end Cert.Proof.SbK

end
-- ==== Proof.SbK.Facts0.lean ====
/- The stick-breaking attention, at the machine: the decisions, evaluated at every point. -/
module

public import proofs.«01_k».proof.Proof.SbK.Facts

@[expose] public section

set_option maxRecDepth 16384
set_option Elab.async false

noncomputable section

namespace Cert.Proof.SbK

open Cert.Sb Cert.Sb.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem allFacts_0_0 : ∀ t : Fin (cfgA (⟨0, by omega⟩ : Fin 1)).N, 0 ≤ t.val → t.val < 36 → FactsAt (⟨0, by omega⟩ : Fin 1) t := by decide +kernel
theorem allFacts_0_1 : ∀ t : Fin (cfgA (⟨0, by omega⟩ : Fin 1)).N, 36 ≤ t.val → t.val < 72 → FactsAt (⟨0, by omega⟩ : Fin 1) t := by decide +kernel
theorem allFacts_0_2 : ∀ t : Fin (cfgA (⟨0, by omega⟩ : Fin 1)).N, 72 ≤ t.val → t.val < 108 → FactsAt (⟨0, by omega⟩ : Fin 1) t := by decide +kernel
theorem allFacts_0_3 : ∀ t : Fin (cfgA (⟨0, by omega⟩ : Fin 1)).N, 108 ≤ t.val → t.val < 144 → FactsAt (⟨0, by omega⟩ : Fin 1) t := by decide +kernel
theorem allFacts_0_4 : ∀ t : Fin (cfgA (⟨0, by omega⟩ : Fin 1)).N, 144 ≤ t.val → t.val < 180 → FactsAt (⟨0, by omega⟩ : Fin 1) t := by decide +kernel
theorem allFacts_0_5 : ∀ t : Fin (cfgA (⟨0, by omega⟩ : Fin 1)).N, 180 ≤ t.val → t.val < 216 → FactsAt (⟨0, by omega⟩ : Fin 1) t := by decide +kernel
theorem allFacts_0_6 : ∀ t : Fin (cfgA (⟨0, by omega⟩ : Fin 1)).N, 216 ≤ t.val → t.val < 252 → FactsAt (⟨0, by omega⟩ : Fin 1) t := by decide +kernel
theorem allFacts_0_7 : ∀ t : Fin (cfgA (⟨0, by omega⟩ : Fin 1)).N, 252 ≤ t.val → t.val < 288 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 36 with h1 | h1; · exact allFacts_0_0 t h0 h1
  rcases Nat.lt_or_ge t.val 72 with h2 | h2; · exact allFacts_0_1 t h1 h2
  rcases Nat.lt_or_ge t.val 108 with h3 | h3; · exact allFacts_0_2 t h2 h3
  rcases Nat.lt_or_ge t.val 144 with h4 | h4; · exact allFacts_0_3 t h3 h4
  rcases Nat.lt_or_ge t.val 180 with h5 | h5; · exact allFacts_0_4 t h4 h5
  rcases Nat.lt_or_ge t.val 216 with h6 | h6; · exact allFacts_0_5 t h5 h6
  rcases Nat.lt_or_ge t.val 252 with h7 | h7; · exact allFacts_0_6 t h6 h7
  exact allFacts_0_7 t h7 t.isLt

end Cert.Proof.SbK

end
-- ==== Proof.SbK.Frame.lean ====
/- The stick-breaking attention, at the machine: the run of the whole program. -/
module

public import proofs.«01_k».proof.Proof.SbK.Runs
public import proofs.«01_k».proof.Proof.SbK.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Proof.SbK

open Cert.Sb Cert.Sb.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the staging cells. -/
abbrev EP : Emb (UR sig nD τ) 𝕄 := emb₁

variable (ch : Fin 1)
variable (m : (ℓ : Loc nD τ sig) → Buf (Elt Bits) ℓ) (ρ : Dev nD → PrngReg)

/-- The facts hold at every point. -/
theorem allFacts : ∀ (ch : Fin 1) (t : Fin (cfgA ch).N), FactsAt ch t := fun ch => match ch with
  | ⟨0, _⟩ => allFacts_0
  | ⟨_ + 1, h⟩ => absurd h (by omega)

/-! ## The facts one by one -/

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem frTab0_4_step : ∀ (ch : Fin 1) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.2.1
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- The conditions of path A hold at its points. -/
theorem hyps0_A : ∀ (ch : Fin 1) (t : Fin (cfgA ch).N), P0_0 ch t → P0_1 ch t →
    ((Scalar.cmpi .ne (Scalar.extui (Scalar.cmpi .eq (wd0_1 (crd ch t) (pinT_1 ch)) (wd0_0 (crd ch t) (pinT_0 ch)))) 0#32) = 1#1) ∧ ((¬((Scalar.cmpi .ne (Scalar.extui (Scalar.cmpi .slt (wd0_1 (crd ch t) (pinT_1 ch)) (wd0_0 (crd ch t) (pinT_0 ch)))) 0#32) = 1#1)) ∧ ((k0_cond3 (wd0_1 (crd ch t) (pinT_1 ch)) = 1#1) ∧ (True))) := fun ch t => (allFacts ch t).2.2.2.1

/-- At a point of path A: what is idle, written back and unwritten. -/
theorem sched0_A : ∀ (ch : Fin 1) (t : Fin (cfgA ch).N), P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch (t.val + 1) = false ∧ sfresh0_1 ch (t.val + 1) = false := by
  intro ch t; rw [freshF0_4 ch t, sfreshS0_0 ch t, sfreshS0_1 ch t]; exact (fun ch t => (allFacts ch t).2.2.2.2.1) ch t

/-- The conditions of path B hold at its points. -/
theorem hyps0_B : ∀ (ch : Fin 1) (t : Fin (cfgA ch).N), P0_0 ch t → ¬P0_1 ch t →
    ((Scalar.cmpi .ne (Scalar.extui (Scalar.cmpi .eq (wd0_1 (crd ch t) (pinT_1 ch)) (wd0_0 (crd ch t) (pinT_0 ch)))) 0#32) = 1#1) ∧ ((¬((Scalar.cmpi .ne (Scalar.extui (Scalar.cmpi .slt (wd0_1 (crd ch t) (pinT_1 ch)) (wd0_0 (crd ch t) (pinT_0 ch)))) 0#32) = 1#1)) ∧ ((¬(k0_cond3 (wd0_1 (crd ch t) (pinT_1 ch)) = 1#1)) ∧ (True))) := fun ch t => (allFacts ch t).2.2.2.2.2.1

/-- At a point of path B: what is idle, written back and unwritten. -/
theorem sched0_B : ∀ (ch : Fin 1) (t : Fin (cfgA ch).N), P0_0 ch t → ¬P0_1 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.1) ch t

/-- The conditions of path C hold at its points. -/
theorem hyps0_C : ∀ (ch : Fin 1) (t : Fin (cfgA ch).N), ¬P0_0 ch t → P0_1 ch t →
    (¬((Scalar.cmpi .ne (Scalar.extui (Scalar.cmpi .eq (wd0_1 (crd ch t) (pinT_1 ch)) (wd0_0 (crd ch t) (pinT_0 ch)))) 0#32) = 1#1)) ∧ (((Scalar.cmpi .ne (Scalar.extui (Scalar.cmpi .slt (wd0_1 (crd ch t) (pinT_1 ch)) (wd0_0 (crd ch t) (pinT_0 ch)))) 0#32) = 1#1) ∧ ((k0_cond3 (wd0_1 (crd ch t) (pinT_1 ch)) = 1#1) ∧ (True))) := fun ch t => (allFacts ch t).2.2.2.2.2.2.2.1

/-- At a point of path C: what is idle, written back and unwritten. -/
theorem sched0_C : ∀ (ch : Fin 1) (t : Fin (cfgA ch).N), ¬P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.1) ch t

/-- The conditions of path D hold at its points. -/
theorem hyps0_D : ∀ (ch : Fin 1) (t : Fin (cfgA ch).N), ¬P0_0 ch t → ¬P0_1 ch t →
    (¬((Scalar.cmpi .ne (Scalar.extui (Scalar.cmpi .eq (wd0_1 (crd ch t) (pinT_1 ch)) (wd0_0 (crd ch t) (pinT_0 ch)))) 0#32) = 1#1)) ∧ (((Scalar.cmpi .ne (Scalar.extui (Scalar.cmpi .slt (wd0_1 (crd ch t) (pinT_1 ch)) (wd0_0 (crd ch t) (pinT_0 ch)))) 0#32) = 1#1) ∧ ((¬(k0_cond3 (wd0_1 (crd ch t) (pinT_1 ch)) = 1#1)) ∧ (True))) := fun ch t => (allFacts ch t).2.2.2.2.2.2.2.2.2.1

/-- At a point of path D: what is idle, written back and unwritten. -/
theorem sched0_D : ∀ (ch : Fin 1) (t : Fin (cfgA ch).N), ¬P0_0 ch t → ¬P0_1 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.2.2) ch t

/-! ## What the outputs and scratches hold after each point -/

/-- One step: what the output block and the scratches hold after a point. -/
def step0 (c : Dev nD) (t : Fin (cfgA ch).N) (prev : (S512x256.Idx → Elt Bits .f32) × Buf (Elt Bits) ((c : Thread nD τ).loc cc0_scratch0) × Buf (Elt Bits) ((c : Thread nD τ).loc cc0_scratch1)) : (S512x256.Idx → Elt Bits .f32) × Buf (Elt Bits) ((c : Thread nD τ).loc cc0_scratch0) × Buf (Elt Bits) ((c : Thread nD τ).loc cc0_scratch1) :=
  if q0 : P0_0 ch t then
    if q1 : P0_1 ch t then
      (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1).2.2.1)
    else
      ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_B ch t q0 q1).1 (hyps0_B ch t q0 q1).2.1 (hyps0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_B ch t q0 q1).1 (hyps0_B ch t q0 q1).2.1 (hyps0_B ch t q0 q1).2.2.1).2.1)
  else
    if q1 : P0_1 ch t then
      (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1).2.2.1)
    else
      ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_D ch t q0 q1).1 (hyps0_D ch t q0 q1).2.1 (hyps0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_D ch t q0 q1).1 (hyps0_D ch t q0 q1).2.1 (hyps0_D ch t q0 q1).2.2.1).2.1)

/-- What they hold after position `n`. -/
def traj0 (c : Dev nD) : (n : ℕ) → n < (cfgA ch).N → (S512x256.Idx → Elt Bits .f32) × Buf (Elt Bits) ((c : Thread nD τ).loc cc0_scratch0) × Buf (Elt Bits) ((c : Thread nD τ).loc cc0_scratch1)
  | 0, h => step0 ch m ρ c ⟨0, h⟩ (default, default, default)
  | n + 1, h => step0 ch m ρ c ⟨n + 1, h⟩ (traj0 c n (Nat.lt_of_succ_lt h))

/-- What they held before a point. -/
def prev0 (c : Dev nD) (t : Fin (cfgA ch).N) : (S512x256.Idx → Elt Bits .f32) × Buf (Elt Bits) ((c : Thread nD τ).loc cc0_scratch0) × Buf (Elt Bits) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- The step on path A. -/
theorem step0_A (c : Dev nD) (t : Fin (cfgA ch).N) (prev : (S512x256.Idx → Elt Bits .f32) × Buf (Elt Bits) ((c : Thread nD τ).loc cc0_scratch0) × Buf (Elt Bits) ((c : Thread nD τ).loc cc0_scratch1)) (q0 : P0_0 ch t) (q1 : P0_1 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1).2.2.1) := by
  unfold step0; simp only [dif_pos q0, dif_pos q1]

/-- The step on path B. -/
theorem step0_B (c : Dev nD) (t : Fin (cfgA ch).N) (prev : (S512x256.Idx → Elt Bits .f32) × Buf (Elt Bits) ((c : Thread nD τ).loc cc0_scratch0) × Buf (Elt Bits) ((c : Thread nD τ).loc cc0_scratch1)) (q0 : P0_0 ch t) (q1 : ¬P0_1 ch t) :
    step0 ch m ρ c t prev = ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_B ch t q0 q1).1 (hyps0_B ch t q0 q1).2.1 (hyps0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_B ch t q0 q1).1 (hyps0_B ch t q0 q1).2.1 (hyps0_B ch t q0 q1).2.2.1).2.1) := by
  unfold step0; simp only [dif_pos q0, dif_neg q1]

/-- The step on path C. -/
theorem step0_C (c : Dev nD) (t : Fin (cfgA ch).N) (prev : (S512x256.Idx → Elt Bits .f32) × Buf (Elt Bits) ((c : Thread nD τ).loc cc0_scratch0) × Buf (Elt Bits) ((c : Thread nD τ).loc cc0_scratch1)) (q0 : ¬P0_0 ch t) (q1 : P0_1 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1).2.2.1) := by
  unfold step0; simp only [dif_neg q0, dif_pos q1]

/-- The step on path D. -/
theorem step0_D (c : Dev nD) (t : Fin (cfgA ch).N) (prev : (S512x256.Idx → Elt Bits .f32) × Buf (Elt Bits) ((c : Thread nD τ).loc cc0_scratch0) × Buf (Elt Bits) ((c : Thread nD τ).loc cc0_scratch1)) (q0 : ¬P0_0 ch t) (q1 : ¬P0_1 ch t) :
    step0 ch m ρ c t prev = ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_D ch t q0 q1).1 (hyps0_D ch t q0 q1).2.1 (hyps0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_D ch t q0 q1).1 (hyps0_D ch t q0 q1).2.1 (hyps0_D ch t q0 q1).2.2.1).2.1) := by
  unfold step0; simp only [dif_neg q0, dif_neg q1]

/-! ## The pipeline's proof data -/

/-- What they held before position `t`. -/
def prev0T (c : Dev nD) (t : Fin ((cfgA ch).N + 1)) : (S512x256.Idx → Elt Bits .f32) × Buf (Elt Bits) ((c : Thread nD τ).loc cc0_scratch0) × Buf (Elt Bits) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- The invariant before a point. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2⌝ ∗ (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := V m ρ c (Pipeline.arrRef (cfgA ch).spec w)
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q w := Pipeline.shareOf (cfgA ch).spec w
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4 keeps what it holds through idle points. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -, -, -⟩ := sched0_A ch t q0 q1
      rw [i4] at hi; exact absurd hi (by decide)
    · rw [step0_B ch m ρ c t _ q0 q1]
      simp only [hf, Bool.false_eq_true, ↓reduceIte]
      unfold prev0; rw [dif_neg ht]
  · by_cases q1 : P0_1 ch t
    · obtain ⟨i4, -, -, -, -, -, -⟩ := sched0_C ch t q0 q1
      rw [i4] at hi; exact absurd hi (by decide)
    · rw [step0_D ch m ρ c t _ q0 q1]
      simp only [hf, Bool.false_eq_true, ↓reduceIte]
      unfold prev0; rw [dif_neg ht]

/-- What output window 4 holds when the body runs. -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at a point. -/
abbrev bodyAt0 (t : Fin (cfgA ch).N) : Prog (TpuEff nD τ sig (Elt Bits) Λ₀ .tc) PUnit :=
  cc0_p_sb_attn (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
/-- The body at a point does what the invariant says. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4, sfn0, sfn1⟩ := sched0_A ch t q0 q1
      have F0 := hyps0_A ch t q0 q1
      have hc0 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 hc1 k0_h3).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _ _)
    · obtain ⟨i4, f4, fr4, sf0, sfn0, sf1, sfn1⟩ := sched0_B ch t q0 q1
      have F0 := hyps0_B ch t q0 q1
      have hc0 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 hc1 k0_h3).2.2 _ a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
  · by_cases q1 : P0_1 ch t
    · obtain ⟨i4, f4, fr4, sf0, sfn0, sf1, sfn1⟩ := sched0_C ch t q0 q1
      have F0 := hyps0_C ch t q0 q1
      have hc0 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩, ⟨%d4, H4⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _ _ _ _)
    · obtain ⟨i4, f4, fr4, sf0, sfn0, sf1, sfn1⟩ := sched0_D ch t q0 q1
      have F0 := hyps0_D ch t q0 q1
      have hc0 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩, ⟨%d4, H4⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The body obligation, at every point. -/
theorem body_obligation (c : Dev nD) : BodyObligation (dats ch m ρ 0 c) (defs₀ (F := Bits)) Variants.none () Set.univ := fun t => by
  rw [bigSep_W0]
  exact sound_body ch m ρ c t

/-! ## The launch -/

/-- The element held at launch. -/
def u₀ : UR sig nD τ :=
  initOf (Pipeline.cells (pcs ch) ((launch₀0 (F := Bits)).cellOf_inj fun _ => adm ch))
    (Pipeline.launchToks (pcs ch) ((launch₀0 (F := Bits)).cellOf_inj fun _ => adm ch))

/-- The tables, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point. -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HT0]
  · iexact HT0
  iexact HT1

/-- At the last point the scratch buffers are given back. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What the arrays and the tables hold at the end. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- The first constant, read as the table of query blocks. -/
theorem tab0 : (fun i => lit0 (S36.rowMajor i)) = pinT_0 ch := by
  funext x
  have h : ∀ k : Fin 36, lit0 k = ([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD k.val 0#32 := by decide +kernel
  have hx : (S36.rowMajor x).val = (x 0).val := Shape.rowMajor_val_one x
  exact (h (S36.rowMajor x)).trans (by rw [hx]; rfl)

/-- The second constant, read as the table of key blocks. -/
theorem tab1 : (fun i => lit1 (S36.rowMajor i)) = pinT_1 ch := by
  funext x
  have h : ∀ k : Fin 36, lit1 k = ([0#32, 1#32, 0#32, 2#32, 1#32, 0#32, 3#32, 2#32, 1#32, 0#32, 4#32, 3#32, 2#32, 1#32, 0#32, 5#32, 4#32, 3#32, 2#32, 1#32, 0#32, 6#32, 5#32, 4#32, 3#32, 2#32, 1#32, 0#32, 7#32, 6#32, 5#32, 4#32, 3#32, 2#32, 1#32, 0#32] : List (BitVec 32)).getD k.val 0#32 := by decide +kernel
  have hx : (S36.rowMajor x).val = (x 0).val := Shape.rowMajor_val_one x
  exact (h (S36.rowMajor x)).trans (by rw [hx]; rfl)

theorem V_tab0 (c : Dev nD) : V m ρ c main_c = pinT_0 ch := by
  refine Eq.trans ?_ (tab0 ch)
  simp only [V, StableHlo.after_cons, StableHlo.after_nil]
  rfl

theorem V_tab1 (c : Dev nD) : V m ρ c main_c_0 = pinT_1 ch := by
  refine Eq.trans ?_ (tab1 ch)
  simp only [V, StableHlo.after_cons, StableHlo.after_nil]
  rfl

/-- The argument still holds its launch contents when the region begins. -/
theorem V_arg (c : Dev nD) : V m ρ c main_arg0 = m ((c : Thread nD τ).loc main_arg0) := rfl

theorem V_pre (c : Dev nD) (j : Fin 2) : V m ρ c (pre0.ref j) = (adm ch).1 j := by
  fin_cases j
  · exact V_tab0 ch m ρ c
  · exact V_tab1 ch m ρ c

set_option backward.isDefEq.respectTransparency.types false in
set_option maxHeartbeats 4000000 in
/-- From any launch memory every fair execution of the program ends, with each array at the computed contents and every
    counter at zero. -/
theorem run_main_quiescent : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch₀0 (F := Bits)).cellOf_inj fun _ => adm ch) (0 : Fin 1)
    (launch₀0 (F := Bits)).win (launch₀0 (F := Bits)).pre EP defs₀ Variants.none m ρ main
    (hbody := fun c => (body_obligation ch m ρ c).loose) (hne := (launch₀0 (F := Bits)).block_pos)
    (harr := (launch₀0 (F := Bits)).arr_whole) (hstage := (launch₀0 (F := Bits)).stage_whole) (howed := fun _ _ => rfl)
    (u₀ := u₀ ch) (hu₀ := .rfl)
    (V := V m ρ)
    (hmain := Pipeline.hmainP_prefix pcfgs (0 : Fin 1) defs₀ Variants.none m main (hostOps0 (F := Bits)) hostOps0_sub ⟨rfl, rfl, rfl, rfl, rfl, rfl⟩ (main_chain (F := Bits)))
    (hsplit := fun c => (dats ch m ρ 0 c).arrays_split_shared (launch₀0 (F := Bits)).sharedIn (launch₀0 (F := Bits)).arr_whole
      (fun _ _ => rfl) (V m ρ c) _ fun _ => rfl)
    (hpf := V_pre ch m ρ)
    (X := fun _ => iprop(emp)) (Y := fun _ => iprop(emp)) (Z := fun c => Pipeline.unscopedRestP pre0 spec0 c (V m ρ c))
    (hX := fun c => by iintro H; isplitr; · iempintro
                       · iexact H)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main : θ_run (defs (F := Bits)) (onTc (τ := τ) (main (F := Bits))) (s₀ m ρ) (QC ch m ρ) :=
  (θ_run defs _ _).mono (fun _ h => h.1) (run_main_quiescent ch m ρ)

/-- The argument ends unchanged and the result is the computed array. -/
theorem run_value :
    θ_run (defs (F := Bits)) (onTc (τ := τ) (main (F := Bits))) ⟨m, fun _ => 0, ρ⟩ (fun r => ∀ c : Dev nD,
      r.2.mem ((c.tc : Thread nD τ).loc main_v4) = (dats ch m ρ 0 c).arrAt (4 : Fin 5) (cfgA ch).N
      ∧ r.2.mem ((c.tc : Thread nD τ).loc main_arg0) = m ((c.tc : Thread nD τ).loc main_arg0)) :=
  (θ_run defs _ _).mono (fun _ h c => ⟨(h c).1 (4 : Fin 5), ((h c).1 (0 : Fin 5)).trans ((dats ch m ρ 0 c).arrAt_in (0 : Fin 5) rfl _)⟩) (run_main ch m ρ)

/-- The frame: every execution ends, the argument ends unchanged, every counter ends at zero. -/
theorem frame :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and ((θ_run defs _ _).mono (fun _ h c => (h c).2) (run_value (0 : Fin 1) m ρ)) ((θ_run defs _ _).mono (fun _ h => h.2) (run_main_quiescent (0 : Fin 1) m ρ))

end Cert.Proof.SbK

end
-- ==== Proof.SbI.Pins.lean ====
/- The stick-breaking attention, over the extended reals: the two tables of block pairs, as the words the region reads. -/
module

public import proofs.«01_k».proof.Defs
public import proofs.«01_k».proof.Proof.Gen.SbIdeal
public import proofs.«01_k».proof.Proof.Gen.SbIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.SbI

open Cert.SbIdeal Cert.SbIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The tables and scratches. -/
abbrev tbM0_0 : Memref sig .tc .smem S36 .i32 := Memref.whole main_c
abbrev tbM0_1 : Memref sig .tc .smem S36 .i32 := Memref.whole main_c_0
abbrev scM0_0 : Memref sig .tc .vmem S4x512x64 .f32 := Memref.whole cc0_scratch0
abbrev scM0_1 : Memref sig .tc .vmem S4x512x1 .f32 := Memref.whole cc0_scratch1

/-- The word of table 0 read at a grid point. -/
abbrev wd0_0 (i : grid0.Coords) (T : S36.Idx → Elt Ideal .i32) : Elt Ideal .i32 :=
  View.readAt (Elt Ideal) (tbM0_0).view (Rect.unit (s := S36) (k0_off1 i) S1.size (k0_off1_inb i)).toLoadRect T (Shape.Idx.first (numel1_S1.symm ▸ Nat.one_pos))
/-- The word of table 1 read at a grid point. -/
abbrev wd0_1 (i : grid0.Coords) (T : S36.Idx → Elt Ideal .i32) : Elt Ideal .i32 :=
  View.readAt (Elt Ideal) (tbM0_1).view (Rect.unit (s := S36) (k0_off1 i) S1.size (k0_off1_inb i)).toLoadRect T (Shape.Idx.first (numel1_S1.symm ▸ Nat.one_pos))

/-! ## The tables -/

variable (ch : Fin 1)

/-- Table 0. -/
def pinT_0 (ch : Fin 1) : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32)

/-- Table 1. -/
def pinT_1 (ch : Fin 1) : S36.Idx → BitVec 32 := fun x => (([0#32, 1#32, 0#32, 2#32, 1#32, 0#32, 3#32, 2#32, 1#32, 0#32, 4#32, 3#32, 2#32, 1#32, 0#32, 5#32, 4#32, 3#32, 2#32, 1#32, 0#32, 6#32, 5#32, 4#32, 3#32, 2#32, 1#32, 0#32, 7#32, 6#32, 5#32, 4#32, 3#32, 2#32, 1#32, 0#32] : List (BitVec 32)).getD ((x 0).val) 0#32)

set_option backward.proofsInPublic true in
/-- The contents of the tables. -/
def pfN : pre0.Contents (Elt Ideal) := fun | ⟨0, _⟩ => pinT_0 ch | ⟨1, _⟩ => pinT_1 ch | ⟨_ + 2, h⟩ => absurd h (by simp)
/-- A block inside its array, axis by axis. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- What every buffer holds when the region begins: the launch contents, the two constant tables and the triangular
    mask having been written. -/
def V (m : (ℓ : Loc nD τ sig) → Buf (Elt Ideal) ℓ) (_ρ : Dev nD → PrngReg) (c : Dev nD) (b : Ref sig .tc) : Buf (Elt Ideal) ((c : Thread nD τ).loc b) :=
  StableHlo.after (hostOps0 (F := Ideal)) (fun b => m (c, b)) b

end Cert.Proof.SbI

end
-- ==== Proof.SbI.Runs.lean ====
/- The stick-breaking attention, over the extended reals: what the body leaves on each of its four control paths. -/
module

public import proofs.«01_k».proof.Proof.Gen.SbIdeal.Skeleton
public import proofs.«01_k».proof.Proof.SbI.Pins

@[expose] public section

set_option maxRecDepth 16384
set_option Elab.async false

noncomputable section

namespace Cert.Proof.SbI

open Cert.SbIdeal Cert.SbIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The body on each path -/

/-- One staging buffer of the output window. -/
abbrev VO0_4 : View sig .tc .vmem S512x256 .f32 := (Memref.whole cc0_stg4_0 : Memref sig .tc .vmem S512x256 .f32).view

set_option backward.proofsInPublic true in
set_option maxHeartbeats 8000000 in
/-- What the body leaves on path A, with the proof that it does. -/
noncomputable def kernelRun0_A (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Ideal .i32)) (T1 : (S36.Idx → Elt Ideal .i32))
     (x0 : (S512x256.Idx → Elt Ideal .f32)) (x1 : (S512x256.Idx → Elt Ideal .f32)) (x2 : (S512x256.Idx → Elt Ideal .f32)) (x3 : (S256x256.Idx → Elt Ideal .bf16)) (hc0 : (Scalar.cmpi .ne (Scalar.extui (Scalar.cmpi .eq (wd0_1 i T1) (wd0_0 i T0))) 0#32) = 1#1) (hc1 : ¬((Scalar.cmpi .ne (Scalar.extui (Scalar.cmpi .slt (wd0_1 i T1) (wd0_0 i T0))) 0#32) = 1#1)) (k0_h3 : k0_cond3 (wd0_1 i T1) = 1#1) :
    Σ' (out0 : List (View.Piece (Elt Ideal) S512x256 .f32)) (out1 : Buf (Elt Ideal) ((c : Thread nD τ).loc cc0_scratch0)), { out2 : Buf (Elt Ideal) ((c : Thread nD τ).loc cc0_scratch1) //
      ∀ (xa0 : Buf (Elt Ideal) ((c : Thread nD τ).loc cc0_scratch0)) (xa1 : Buf (Elt Ideal) ((c : Thread nD τ).loc cc0_scratch1)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)) -∗ K ⟨⟩))
          ⊢ wp frame (wpE (defs₀ (F := Ideal)) Variants.none c none) Set.univ (cc0_p_sb_attn i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, _, fun (xa0 : Buf (Elt Ideal) ((c : Thread nD τ).loc cc0_scratch0)) (xa1 : Buf (Elt Ideal) ((c : Thread nD τ).loc cc0_scratch1)) K => by
    unfold owns
    rw [cc0_p_sb_attn_eq_skeleton]; unfold cc0_p_sb_attn_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

/-- The stores of path A cover the output block. -/
theorem cover0_A_4 (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Ideal .i32)) (T1 : (S36.Idx → Elt Ideal .i32))
     (x0 : (S512x256.Idx → Elt Ideal .f32)) (x1 : (S512x256.Idx → Elt Ideal .f32)) (x2 : (S512x256.Idx → Elt Ideal .f32)) (x3 : (S256x256.Idx → Elt Ideal .bf16)) (hc0 : (Scalar.cmpi .ne (Scalar.extui (Scalar.cmpi .eq (wd0_1 i T1) (wd0_0 i T0))) 0#32) = 1#1) (hc1 : ¬((Scalar.cmpi .ne (Scalar.extui (Scalar.cmpi .slt (wd0_1 i T1) (wd0_0 i T0))) 0#32) = 1#1)) (k0_h3 : k0_cond3 (wd0_1 i T1) = 1#1) (y : S512x256.Idx) :
    ∃ pc ∈ (kernelRun0_A c i arg5 harg5 arg6 harg6 arg7 harg7 arg8 harg8 arg9 harg9 T0 T1 x0 x1 x2 x3 hc0 hc1 k0_h3).1, y ∈ pc.1.set :=
  View.cover_of_tiledL (kernelRun0_A c i arg5 harg5 arg6 harg6 arg7 harg7 arg8 harg8 arg9 harg9 T0 T1 x0 x1 x2 x3 hc0 hc1 k0_h3).1 S512x256.size (by sl_kernel_rfl) y

/-- The output block path A leaves. -/
def out0_A_4 (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Ideal .i32)) (T1 : (S36.Idx → Elt Ideal .i32))
     (x0 : (S512x256.Idx → Elt Ideal .f32)) (x1 : (S512x256.Idx → Elt Ideal .f32)) (x2 : (S512x256.Idx → Elt Ideal .f32)) (x3 : (S256x256.Idx → Elt Ideal .bf16)) (hc0 : (Scalar.cmpi .ne (Scalar.extui (Scalar.cmpi .eq (wd0_1 i T1) (wd0_0 i T0))) 0#32) = 1#1) (hc1 : ¬((Scalar.cmpi .ne (Scalar.extui (Scalar.cmpi .slt (wd0_1 i T1) (wd0_0 i T0))) 0#32) = 1#1)) (k0_h3 : k0_cond3 (wd0_1 i T1) = 1#1) : (S512x256.Idx → Elt Ideal .f32) :=
  VO0_4.read (Elt Ideal) (VO0_4.writes (Elt Ideal) VO0_4.junk (kernelRun0_A c i arg5 harg5 arg6 harg6 arg7 harg7 arg8 harg8 arg9 harg9 T0 T1 x0 x1 x2 x3 hc0 hc1 k0_h3).1)

set_option backward.proofsInPublic true in
set_option maxHeartbeats 8000000 in
/-- What the body leaves on path B, with the proof that it does. -/
noncomputable def kernelRun0_B (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Ideal .i32)) (T1 : (S36.Idx → Elt Ideal .i32))
     (x0 : (S512x256.Idx → Elt Ideal .f32)) (x1 : (S512x256.Idx → Elt Ideal .f32)) (x2 : (S512x256.Idx → Elt Ideal .f32)) (x3 : (S256x256.Idx → Elt Ideal .bf16)) (hc0 : (Scalar.cmpi .ne (Scalar.extui (Scalar.cmpi .eq (wd0_1 i T1) (wd0_0 i T0))) 0#32) = 1#1) (hc1 : ¬((Scalar.cmpi .ne (Scalar.extui (Scalar.cmpi .slt (wd0_1 i T1) (wd0_0 i T0))) 0#32) = 1#1)) (k0_h3 : ¬(k0_cond3 (wd0_1 i T1) = 1#1)) :
    Σ' (out0 : Buf (Elt Ideal) ((c : Thread nD τ).loc cc0_scratch0)), { out1 : Buf (Elt Ideal) ((c : Thread nD τ).loc cc0_scratch1) //
      ∀ (y4 : (S512x256.Idx → Elt Ideal .f32)) (xa0 : Buf (Elt Ideal) ((c : Thread nD τ).loc cc0_scratch0)) (xa1 : Buf (Elt Ideal) ((c : Thread nD τ).loc cc0_scratch1)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_p_sb_attn i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S512x256.Idx → Elt Ideal .f32)) (xa0 : Buf (Elt Ideal) ((c : Thread nD τ).loc cc0_scratch0)) (xa1 : Buf (Elt Ideal) ((c : Thread nD τ).loc cc0_scratch1)) K => by
    unfold owns
    rw [cc0_p_sb_attn_eq_skeleton]; unfold cc0_p_sb_attn_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

set_option backward.proofsInPublic true in
set_option maxHeartbeats 8000000 in
/-- What the body leaves on path C, with the proof that it does. -/
noncomputable def kernelRun0_C (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Ideal .i32)) (T1 : (S36.Idx → Elt Ideal .i32))
     (x0 : (S512x256.Idx → Elt Ideal .f32)) (x1 : (S512x256.Idx → Elt Ideal .f32)) (x2 : (S512x256.Idx → Elt Ideal .f32)) (x3 : (S256x256.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (wd0_1 i T1) (wd0_0 i T0))) 0#32) = 1#1)) (hc1 : (Scalar.cmpi .ne (Scalar.extui (Scalar.cmpi .slt (wd0_1 i T1) (wd0_0 i T0))) 0#32) = 1#1) (k0_h3 : k0_cond3 (wd0_1 i T1) = 1#1) :
    Σ' (out0 : List (View.Piece (Elt Ideal) S512x256 .f32)) (out1 : Buf (Elt Ideal) ((c : Thread nD τ).loc cc0_scratch0)), { out2 : Buf (Elt Ideal) ((c : Thread nD τ).loc cc0_scratch1) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)) -∗ K ⟨⟩))
          ⊢ wp frame (wpE (defs₀ (F := Ideal)) Variants.none c none) Set.univ (cc0_p_sb_attn i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, _, fun K => by
    unfold owns
    rw [cc0_p_sb_attn_eq_skeleton]; unfold cc0_p_sb_attn_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = k0_cond3 _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

/-- The stores of path C cover the output block. -/
theorem cover0_C_4 (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Ideal .i32)) (T1 : (S36.Idx → Elt Ideal .i32))
     (x0 : (S512x256.Idx → Elt Ideal .f32)) (x1 : (S512x256.Idx → Elt Ideal .f32)) (x2 : (S512x256.Idx → Elt Ideal .f32)) (x3 : (S256x256.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (wd0_1 i T1) (wd0_0 i T0))) 0#32) = 1#1)) (hc1 : (Scalar.cmpi .ne (Scalar.extui (Scalar.cmpi .slt (wd0_1 i T1) (wd0_0 i T0))) 0#32) = 1#1) (k0_h3 : k0_cond3 (wd0_1 i T1) = 1#1) (y : S512x256.Idx) :
    ∃ pc ∈ (kernelRun0_C c i arg5 harg5 arg6 harg6 arg7 harg7 arg8 harg8 arg9 harg9 T0 T1 x0 x1 x2 x3 xa0 xa1 hc0 hc1 k0_h3).1, y ∈ pc.1.set :=
  View.cover_of_tiledL (kernelRun0_C c i arg5 harg5 arg6 harg6 arg7 harg7 arg8 harg8 arg9 harg9 T0 T1 x0 x1 x2 x3 xa0 xa1 hc0 hc1 k0_h3).1 S512x256.size (by sl_kernel_rfl) y

/-- The output block path C leaves. -/
def out0_C_4 (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Ideal .i32)) (T1 : (S36.Idx → Elt Ideal .i32))
     (x0 : (S512x256.Idx → Elt Ideal .f32)) (x1 : (S512x256.Idx → Elt Ideal .f32)) (x2 : (S512x256.Idx → Elt Ideal .f32)) (x3 : (S256x256.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (wd0_1 i T1) (wd0_0 i T0))) 0#32) = 1#1)) (hc1 : (Scalar.cmpi .ne (Scalar.extui (Scalar.cmpi .slt (wd0_1 i T1) (wd0_0 i T0))) 0#32) = 1#1) (k0_h3 : k0_cond3 (wd0_1 i T1) = 1#1) : (S512x256.Idx → Elt Ideal .f32) :=
  VO0_4.read (Elt Ideal) (VO0_4.writes (Elt Ideal) VO0_4.junk (kernelRun0_C c i arg5 harg5 arg6 harg6 arg7 harg7 arg8 harg8 arg9 harg9 T0 T1 x0 x1 x2 x3 xa0 xa1 hc0 hc1 k0_h3).1)

set_option backward.proofsInPublic true in
set_option maxHeartbeats 8000000 in
/-- What the body leaves on path D, with the proof that it does. -/
noncomputable def kernelRun0_D (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Ideal .i32)) (T1 : (S36.Idx → Elt Ideal .i32))
     (x0 : (S512x256.Idx → Elt Ideal .f32)) (x1 : (S512x256.Idx → Elt Ideal .f32)) (x2 : (S512x256.Idx → Elt Ideal .f32)) (x3 : (S256x256.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (wd0_1 i T1) (wd0_0 i T0))) 0#32) = 1#1)) (hc1 : (Scalar.cmpi .ne (Scalar.extui (Scalar.cmpi .slt (wd0_1 i T1) (wd0_0 i T0))) 0#32) = 1#1) (k0_h3 : ¬(k0_cond3 (wd0_1 i T1) = 1#1)) :
    Σ' (out0 : Buf (Elt Ideal) ((c : Thread nD τ).loc cc0_scratch0)), { out1 : Buf (Elt Ideal) ((c : Thread nD τ).loc cc0_scratch1) //
      ∀ (y4 : (S512x256.Idx → Elt Ideal .f32)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_p_sb_attn i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S512x256.Idx → Elt Ideal .f32)) K => by
    unfold owns
    rw [cc0_p_sb_attn_eq_skeleton]; unfold cc0_p_sb_attn_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

end Cert.Proof.SbI

end
-- ==== Proof.SbI.Ok.lean ====
/- The stick-breaking attention, over the extended reals: every block lies inside its array. -/
module

public import proofs.«01_k».proof.Proof.SbI.Pins

@[expose] public section

set_option maxRecDepth 16384
set_option Elab.async false

noncomputable section

namespace Cert.Proof.SbI

open Cert.SbIdeal Cert.SbIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN_0_0_inb : ∀ i : grid0.Coords, ∀ a, (cc0_transform_0 k0_off1_inb numel1_S1 (pfN (⟨0, by omega⟩ : Fin 1)) i a + 1) * S512x256.size a ≤ S8192x6656.size a := by decide +kernel
theorem ok_pfN_0_0 : (∀ i : grid0.Coords, ∃ h : (∀ a, (cc0_transform_0 k0_off1_inb numel1_S1 (pfN (⟨0, by omega⟩ : Fin 1)) i a + 1) * S512x256.size a ≤ S8192x6656.size a), EltTy.bits .f32 = 32 ∨ (Rect.block (s := S8192x6656) S512x256.size (cc0_transform_0 k0_off1_inb numel1_S1 (pfN (⟨0, by omega⟩ : Fin 1)) i) h).WholeWords (EltTy.packing .f32)) := fun i => ⟨ok_pfN_0_0_inb i, .inl rfl⟩
theorem ok_pfN_0_1_inb : ∀ i : grid0.Coords, ∀ a, (cc0_transform_1 k0_off1_inb numel1_S1 (pfN (⟨0, by omega⟩ : Fin 1)) i a + 1) * S512x256.size a ≤ S8192x6656.size a := by decide +kernel
theorem ok_pfN_0_1 : (∀ i : grid0.Coords, ∃ h : (∀ a, (cc0_transform_1 k0_off1_inb numel1_S1 (pfN (⟨0, by omega⟩ : Fin 1)) i a + 1) * S512x256.size a ≤ S8192x6656.size a), EltTy.bits .f32 = 32 ∨ (Rect.block (s := S8192x6656) S512x256.size (cc0_transform_1 k0_off1_inb numel1_S1 (pfN (⟨0, by omega⟩ : Fin 1)) i) h).WholeWords (EltTy.packing .f32)) := fun i => ⟨ok_pfN_0_1_inb i, .inl rfl⟩
theorem ok_pfN_0_2_inb : ∀ i : grid0.Coords, ∀ a, (cc0_transform_2 k0_off1_inb numel1_S1 (pfN (⟨0, by omega⟩ : Fin 1)) i a + 1) * S512x256.size a ≤ S8192x6656.size a := by decide +kernel
theorem ok_pfN_0_2 : (∀ i : grid0.Coords, ∃ h : (∀ a, (cc0_transform_2 k0_off1_inb numel1_S1 (pfN (⟨0, by omega⟩ : Fin 1)) i a + 1) * S512x256.size a ≤ S8192x6656.size a), EltTy.bits .f32 = 32 ∨ (Rect.block (s := S8192x6656) S512x256.size (cc0_transform_2 k0_off1_inb numel1_S1 (pfN (⟨0, by omega⟩ : Fin 1)) i) h).WholeWords (EltTy.packing .f32)) := fun i => ⟨ok_pfN_0_2_inb i, .inl rfl⟩
theorem ok_pfN_0_3_inb : ∀ i : grid0.Coords, ∀ a, (cc0_transform_4 k0_off1_inb numel1_S1 (pfN (⟨0, by omega⟩ : Fin 1)) i a + 1) * S512x256.size a ≤ S8192x1024.size a := by decide +kernel
theorem ok_pfN_0_3 : (∀ i : grid0.Coords, ∃ h : (∀ a, (cc0_transform_4 k0_off1_inb numel1_S1 (pfN (⟨0, by omega⟩ : Fin 1)) i a + 1) * S512x256.size a ≤ S8192x1024.size a), EltTy.bits .f32 = 32 ∨ (Rect.block (s := S8192x1024) S512x256.size (cc0_transform_4 k0_off1_inb numel1_S1 (pfN (⟨0, by omega⟩ : Fin 1)) i) h).WholeWords (EltTy.packing .f32)) := fun i => ⟨ok_pfN_0_3_inb i, .inl rfl⟩
theorem ok_pfN_0 : ok0 (F := Ideal) (pfN (⟨0, by omega⟩ : Fin 1)) := ⟨ok_pfN_0_0, ok_pfN_0_1, ok_pfN_0_2, ok_pfN_0_3⟩

end Cert.Proof.SbI

end
-- ==== Proof.SbI.Cfg.lean ====
/- The stick-breaking attention, over the extended reals: the pipeline at the tables, a point's coordinates and blocks. -/
module

public import proofs.«01_k».proof.Proof.SbI.Ok

@[expose] public section

set_option maxRecDepth 16384
set_option Elab.async false

noncomputable section

namespace Cert.Proof.SbI

open Cert.SbIdeal Cert.SbIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (ch : Fin 1)

/-- Every block lies inside its array. -/
theorem ok_pfN : ∀ ch : Fin 1, ok0 (F := Ideal) (pfN ch) := fun ch => match ch with
  | ⟨0, _⟩ => ok_pfN_0
  | ⟨_ + 1, h⟩ => absurd h (by omega)

/-- The pipeline at the two tables. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- The staging buffer of each window at a point. -/
abbrev ms0_0 (t : Fin (cfgA ch).N) : Memref sig .tc .vmem S512x256 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S512x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S512x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S256x256 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S512x256 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) (V m ρ c (Pipeline.arrRef (cfgA ch).spec w))

/-! ## The decisions at a point -/

abbrev P0_0 (t : Fin (cfgA ch).N) : Prop := (Scalar.cmpi .ne (Scalar.extui (Scalar.cmpi .eq (wd0_1 (crd ch t) (pinT_1 ch)) (wd0_0 (crd ch t) (pinT_0 ch)))) 0#32) = 1#1
abbrev P0_1 (t : Fin (cfgA ch).N) : Prop := k0_cond3 (wd0_1 (crd ch t) (pinT_1 ch)) = 1#1

/-- Whether scratch 0 is still unwritten before position `n`. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- The same in closed form. -/
def sfirst0_0 (ch : Fin 1) : ℕ := 0
def sfrTab0_0 : ℕ → Bool := fun n => decide (n ≤ sfirst0_0 ch)

/-- Whether scratch 1 is still unwritten before position `n`. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- The same in closed form. -/
def sfirst0_1 (ch : Fin 1) : ℕ := 0
def sfrTab0_1 : ℕ → Bool := fun n => decide (n ≤ sfirst0_1 ch)

set_option backward.proofsInPublic true in
/-- Whether output 4 is unwritten before each position, as a bit mask. -/
def frMask0_4 : Fin 1 → ℕ
  | ⟨0, _⟩ => 0xffffffffffffffffffffffffffffffffffffffffffffffffffffffffffffffffffffffff
  | ⟨_ + 1, h⟩ => absurd h (by omega)
/-- The table of when output 4 is unwritten. -/
def frTab0_4 : ℕ → Bool
  | 0 => true
  | n + 1 => (frMask0_4 ch).testBit n

end Cert.Proof.SbI

end
-- ==== Proof.SbI.Facts.lean ====
/- The stick-breaking attention, over the extended reals: the decisions at a point, as one proposition. -/
module

public import proofs.«01_k».proof.Proof.SbI.Cfg

@[expose] public section

set_option maxRecDepth 16384
set_option Elab.async false

noncomputable section

namespace Cert.Proof.SbI

open Cert.SbIdeal Cert.SbIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (ch : Fin 1)
variable (m : (ℓ : Loc nD τ sig) → Buf (Elt Ideal) ℓ) (ρ : Dev nD → PrngReg)

/-! ## Every fact about a point, as one proposition -/

/-- Everything that is decided about a point. -/
abbrev FactsAt (ch : Fin 1) (t : Fin (cfgA ch).N) : Prop :=
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (frTab0_4 ch (t.val + 1) = (((cfgA ch).win (4 : Fin 5)).flush t || ((cfgA ch).idle (4 : Fin 5) ((cfgA ch).grid.coords t) && frTab0_4 ch t.val)))
  ∧ (P0_0 ch t → P0_1 ch t → ((Scalar.cmpi .ne (Scalar.extui (Scalar.cmpi .eq (wd0_1 (crd ch t) (pinT_1 ch)) (wd0_0 (crd ch t) (pinT_0 ch)))) 0#32) = 1#1) ∧ ((¬((Scalar.cmpi .ne (Scalar.extui (Scalar.cmpi .slt (wd0_1 (crd ch t) (pinT_1 ch)) (wd0_0 (crd ch t) (pinT_0 ch)))) 0#32) = 1#1)) ∧ ((k0_cond3 (wd0_1 (crd ch t) (pinT_1 ch)) = 1#1) ∧ (True))))
  ∧ (P0_0 ch t → P0_1 ch t → (cfgA ch).idle (4 : Fin 5) ((cfgA ch).grid.coords t) = false ∧ ((cfgA ch).win (4 : Fin 5)).flush t = true ∧ frTab0_4 ch t.val = true ∧ sfrTab0_0 ch (t.val + 1) = false ∧ sfrTab0_1 ch (t.val + 1) = false)
  ∧ (P0_0 ch t → ¬P0_1 ch t → ((Scalar.cmpi .ne (Scalar.extui (Scalar.cmpi .eq (wd0_1 (crd ch t) (pinT_1 ch)) (wd0_0 (crd ch t) (pinT_0 ch)))) 0#32) = 1#1) ∧ ((¬((Scalar.cmpi .ne (Scalar.extui (Scalar.cmpi .slt (wd0_1 (crd ch t) (pinT_1 ch)) (wd0_0 (crd ch t) (pinT_0 ch)))) 0#32) = 1#1)) ∧ ((¬(k0_cond3 (wd0_1 (crd ch t) (pinT_1 ch)) = 1#1)) ∧ (True))))
  ∧ (P0_0 ch t → ¬P0_1 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → P0_1 ch t → (¬((Scalar.cmpi .ne (Scalar.extui (Scalar.cmpi .eq (wd0_1 (crd ch t) (pinT_1 ch)) (wd0_0 (crd ch t) (pinT_0 ch)))) 0#32) = 1#1)) ∧ (((Scalar.cmpi .ne (Scalar.extui (Scalar.cmpi .slt (wd0_1 (crd ch t) (pinT_1 ch)) (wd0_0 (crd ch t) (pinT_0 ch)))) 0#32) = 1#1) ∧ ((k0_cond3 (wd0_1 (crd ch t) (pinT_1 ch)) = 1#1) ∧ (True))))
  ∧ (¬P0_0 ch t → P0_1 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → ¬P0_1 ch t → (¬((Scalar.cmpi .ne (Scalar.extui (Scalar.cmpi .eq (wd0_1 (crd ch t) (pinT_1 ch)) (wd0_0 (crd ch t) (pinT_0 ch)))) 0#32) = 1#1)) ∧ (((Scalar.cmpi .ne (Scalar.extui (Scalar.cmpi .slt (wd0_1 (crd ch t) (pinT_1 ch)) (wd0_0 (crd ch t) (pinT_0 ch)))) 0#32) = 1#1) ∧ ((¬(k0_cond3 (wd0_1 (crd ch t) (pinT_1 ch)) = 1#1)) ∧ (True))))
  ∧ (¬P0_0 ch t → ¬P0_1 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))

end Cert.Proof.SbI

end
-- ==== Proof.SbI.Facts0.lean ====
/- The stick-breaking attention, over the extended reals: the decisions, evaluated at every point. -/
module

public import proofs.«01_k».proof.Proof.SbI.Facts

@[expose] public section

set_option maxRecDepth 16384
set_option Elab.async false

noncomputable section

namespace Cert.Proof.SbI

open Cert.SbIdeal Cert.SbIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem allFacts_0_0 : ∀ t : Fin (cfgA (⟨0, by omega⟩ : Fin 1)).N, 0 ≤ t.val → t.val < 36 → FactsAt (⟨0, by omega⟩ : Fin 1) t := by decide +kernel
theorem allFacts_0_1 : ∀ t : Fin (cfgA (⟨0, by omega⟩ : Fin 1)).N, 36 ≤ t.val → t.val < 72 → FactsAt (⟨0, by omega⟩ : Fin 1) t := by decide +kernel
theorem allFacts_0_2 : ∀ t : Fin (cfgA (⟨0, by omega⟩ : Fin 1)).N, 72 ≤ t.val → t.val < 108 → FactsAt (⟨0, by omega⟩ : Fin 1) t := by decide +kernel
theorem allFacts_0_3 : ∀ t : Fin (cfgA (⟨0, by omega⟩ : Fin 1)).N, 108 ≤ t.val → t.val < 144 → FactsAt (⟨0, by omega⟩ : Fin 1) t := by decide +kernel
theorem allFacts_0_4 : ∀ t : Fin (cfgA (⟨0, by omega⟩ : Fin 1)).N, 144 ≤ t.val → t.val < 180 → FactsAt (⟨0, by omega⟩ : Fin 1) t := by decide +kernel
theorem allFacts_0_5 : ∀ t : Fin (cfgA (⟨0, by omega⟩ : Fin 1)).N, 180 ≤ t.val → t.val < 216 → FactsAt (⟨0, by omega⟩ : Fin 1) t := by decide +kernel
theorem allFacts_0_6 : ∀ t : Fin (cfgA (⟨0, by omega⟩ : Fin 1)).N, 216 ≤ t.val → t.val < 252 → FactsAt (⟨0, by omega⟩ : Fin 1) t := by decide +kernel
theorem allFacts_0_7 : ∀ t : Fin (cfgA (⟨0, by omega⟩ : Fin 1)).N, 252 ≤ t.val → t.val < 288 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 36 with h1 | h1; · exact allFacts_0_0 t h0 h1
  rcases Nat.lt_or_ge t.val 72 with h2 | h2; · exact allFacts_0_1 t h1 h2
  rcases Nat.lt_or_ge t.val 108 with h3 | h3; · exact allFacts_0_2 t h2 h3
  rcases Nat.lt_or_ge t.val 144 with h4 | h4; · exact allFacts_0_3 t h3 h4
  rcases Nat.lt_or_ge t.val 180 with h5 | h5; · exact allFacts_0_4 t h4 h5
  rcases Nat.lt_or_ge t.val 216 with h6 | h6; · exact allFacts_0_5 t h5 h6
  rcases Nat.lt_or_ge t.val 252 with h7 | h7; · exact allFacts_0_6 t h6 h7
  exact allFacts_0_7 t h7 t.isLt

end Cert.Proof.SbI

end
-- ==== Proof.SbI.Frame.lean ====
/- The stick-breaking attention, over the extended reals: the run of the whole program. -/
module

public import proofs.«01_k».proof.Proof.SbI.Runs
public import proofs.«01_k».proof.Proof.SbI.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.SbI

open Cert.SbIdeal Cert.SbIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the staging cells. -/
abbrev EP : Emb (UR sig nD τ) 𝕄 := emb₁

variable (ch : Fin 1)
variable (m : (ℓ : Loc nD τ sig) → Buf (Elt Ideal) ℓ) (ρ : Dev nD → PrngReg)

/-- The facts hold at every point. -/
theorem allFacts : ∀ (ch : Fin 1) (t : Fin (cfgA ch).N), FactsAt ch t := fun ch => match ch with
  | ⟨0, _⟩ => allFacts_0
  | ⟨_ + 1, h⟩ => absurd h (by omega)

/-! ## The facts one by one -/

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem frTab0_4_step : ∀ (ch : Fin 1) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.2.1
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- The conditions of path A hold at its points. -/
theorem hyps0_A : ∀ (ch : Fin 1) (t : Fin (cfgA ch).N), P0_0 ch t → P0_1 ch t →
    ((Scalar.cmpi .ne (Scalar.extui (Scalar.cmpi .eq (wd0_1 (crd ch t) (pinT_1 ch)) (wd0_0 (crd ch t) (pinT_0 ch)))) 0#32) = 1#1) ∧ ((¬((Scalar.cmpi .ne (Scalar.extui (Scalar.cmpi .slt (wd0_1 (crd ch t) (pinT_1 ch)) (wd0_0 (crd ch t) (pinT_0 ch)))) 0#32) = 1#1)) ∧ ((k0_cond3 (wd0_1 (crd ch t) (pinT_1 ch)) = 1#1) ∧ (True))) := fun ch t => (allFacts ch t).2.2.2.1

/-- At a point of path A: what is idle, written back and unwritten. -/
theorem sched0_A : ∀ (ch : Fin 1) (t : Fin (cfgA ch).N), P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch (t.val + 1) = false ∧ sfresh0_1 ch (t.val + 1) = false := by
  intro ch t; rw [freshF0_4 ch t, sfreshS0_0 ch t, sfreshS0_1 ch t]; exact (fun ch t => (allFacts ch t).2.2.2.2.1) ch t

/-- The conditions of path B hold at its points. -/
theorem hyps0_B : ∀ (ch : Fin 1) (t : Fin (cfgA ch).N), P0_0 ch t → ¬P0_1 ch t →
    ((Scalar.cmpi .ne (Scalar.extui (Scalar.cmpi .eq (wd0_1 (crd ch t) (pinT_1 ch)) (wd0_0 (crd ch t) (pinT_0 ch)))) 0#32) = 1#1) ∧ ((¬((Scalar.cmpi .ne (Scalar.extui (Scalar.cmpi .slt (wd0_1 (crd ch t) (pinT_1 ch)) (wd0_0 (crd ch t) (pinT_0 ch)))) 0#32) = 1#1)) ∧ ((¬(k0_cond3 (wd0_1 (crd ch t) (pinT_1 ch)) = 1#1)) ∧ (True))) := fun ch t => (allFacts ch t).2.2.2.2.2.1

/-- At a point of path B: what is idle, written back and unwritten. -/
theorem sched0_B : ∀ (ch : Fin 1) (t : Fin (cfgA ch).N), P0_0 ch t → ¬P0_1 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.1) ch t

/-- The conditions of path C hold at its points. -/
theorem hyps0_C : ∀ (ch : Fin 1) (t : Fin (cfgA ch).N), ¬P0_0 ch t → P0_1 ch t →
    (¬((Scalar.cmpi .ne (Scalar.extui (Scalar.cmpi .eq (wd0_1 (crd ch t) (pinT_1 ch)) (wd0_0 (crd ch t) (pinT_0 ch)))) 0#32) = 1#1)) ∧ (((Scalar.cmpi .ne (Scalar.extui (Scalar.cmpi .slt (wd0_1 (crd ch t) (pinT_1 ch)) (wd0_0 (crd ch t) (pinT_0 ch)))) 0#32) = 1#1) ∧ ((k0_cond3 (wd0_1 (crd ch t) (pinT_1 ch)) = 1#1) ∧ (True))) := fun ch t => (allFacts ch t).2.2.2.2.2.2.2.1

/-- At a point of path C: what is idle, written back and unwritten. -/
theorem sched0_C : ∀ (ch : Fin 1) (t : Fin (cfgA ch).N), ¬P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.1) ch t

/-- The conditions of path D hold at its points. -/
theorem hyps0_D : ∀ (ch : Fin 1) (t : Fin (cfgA ch).N), ¬P0_0 ch t → ¬P0_1 ch t →
    (¬((Scalar.cmpi .ne (Scalar.extui (Scalar.cmpi .eq (wd0_1 (crd ch t) (pinT_1 ch)) (wd0_0 (crd ch t) (pinT_0 ch)))) 0#32) = 1#1)) ∧ (((Scalar.cmpi .ne (Scalar.extui (Scalar.cmpi .slt (wd0_1 (crd ch t) (pinT_1 ch)) (wd0_0 (crd ch t) (pinT_0 ch)))) 0#32) = 1#1) ∧ ((¬(k0_cond3 (wd0_1 (crd ch t) (pinT_1 ch)) = 1#1)) ∧ (True))) := fun ch t => (allFacts ch t).2.2.2.2.2.2.2.2.2.1

/-- At a point of path D: what is idle, written back and unwritten. -/
theorem sched0_D : ∀ (ch : Fin 1) (t : Fin (cfgA ch).N), ¬P0_0 ch t → ¬P0_1 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.2.2) ch t

/-! ## What the outputs and scratches hold after each point -/

/-- One step: what the output block and the scratches hold after a point. -/
def step0 (c : Dev nD) (t : Fin (cfgA ch).N) (prev : (S512x256.Idx → Elt Ideal .f32) × Buf (Elt Ideal) ((c : Thread nD τ).loc cc0_scratch0) × Buf (Elt Ideal) ((c : Thread nD τ).loc cc0_scratch1)) : (S512x256.Idx → Elt Ideal .f32) × Buf (Elt Ideal) ((c : Thread nD τ).loc cc0_scratch0) × Buf (Elt Ideal) ((c : Thread nD τ).loc cc0_scratch1) :=
  if q0 : P0_0 ch t then
    if q1 : P0_1 ch t then
      (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1).2.2.1)
    else
      ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_B ch t q0 q1).1 (hyps0_B ch t q0 q1).2.1 (hyps0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_B ch t q0 q1).1 (hyps0_B ch t q0 q1).2.1 (hyps0_B ch t q0 q1).2.2.1).2.1)
  else
    if q1 : P0_1 ch t then
      (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1).2.2.1)
    else
      ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_D ch t q0 q1).1 (hyps0_D ch t q0 q1).2.1 (hyps0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_D ch t q0 q1).1 (hyps0_D ch t q0 q1).2.1 (hyps0_D ch t q0 q1).2.2.1).2.1)

/-- What they hold after position `n`. -/
def traj0 (c : Dev nD) : (n : ℕ) → n < (cfgA ch).N → (S512x256.Idx → Elt Ideal .f32) × Buf (Elt Ideal) ((c : Thread nD τ).loc cc0_scratch0) × Buf (Elt Ideal) ((c : Thread nD τ).loc cc0_scratch1)
  | 0, h => step0 ch m ρ c ⟨0, h⟩ (default, default, default)
  | n + 1, h => step0 ch m ρ c ⟨n + 1, h⟩ (traj0 c n (Nat.lt_of_succ_lt h))

/-- What they held before a point. -/
def prev0 (c : Dev nD) (t : Fin (cfgA ch).N) : (S512x256.Idx → Elt Ideal .f32) × Buf (Elt Ideal) ((c : Thread nD τ).loc cc0_scratch0) × Buf (Elt Ideal) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- The step on path A. -/
theorem step0_A (c : Dev nD) (t : Fin (cfgA ch).N) (prev : (S512x256.Idx → Elt Ideal .f32) × Buf (Elt Ideal) ((c : Thread nD τ).loc cc0_scratch0) × Buf (Elt Ideal) ((c : Thread nD τ).loc cc0_scratch1)) (q0 : P0_0 ch t) (q1 : P0_1 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_A ch t q0 q1).1 (hyps0_A ch t q0 q1).2.1 (hyps0_A ch t q0 q1).2.2.1).2.2.1) := by
  unfold step0; simp only [dif_pos q0, dif_pos q1]

/-- The step on path B. -/
theorem step0_B (c : Dev nD) (t : Fin (cfgA ch).N) (prev : (S512x256.Idx → Elt Ideal .f32) × Buf (Elt Ideal) ((c : Thread nD τ).loc cc0_scratch0) × Buf (Elt Ideal) ((c : Thread nD τ).loc cc0_scratch1)) (q0 : P0_0 ch t) (q1 : ¬P0_1 ch t) :
    step0 ch m ρ c t prev = ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_B ch t q0 q1).1 (hyps0_B ch t q0 q1).2.1 (hyps0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hyps0_B ch t q0 q1).1 (hyps0_B ch t q0 q1).2.1 (hyps0_B ch t q0 q1).2.2.1).2.1) := by
  unfold step0; simp only [dif_pos q0, dif_neg q1]

/-- The step on path C. -/
theorem step0_C (c : Dev nD) (t : Fin (cfgA ch).N) (prev : (S512x256.Idx → Elt Ideal .f32) × Buf (Elt Ideal) ((c : Thread nD τ).loc cc0_scratch0) × Buf (Elt Ideal) ((c : Thread nD τ).loc cc0_scratch1)) (q0 : ¬P0_0 ch t) (q1 : P0_1 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_C ch t q0 q1).1 (hyps0_C ch t q0 q1).2.1 (hyps0_C ch t q0 q1).2.2.1).2.2.1) := by
  unfold step0; simp only [dif_neg q0, dif_pos q1]

/-- The step on path D. -/
theorem step0_D (c : Dev nD) (t : Fin (cfgA ch).N) (prev : (S512x256.Idx → Elt Ideal .f32) × Buf (Elt Ideal) ((c : Thread nD τ).loc cc0_scratch0) × Buf (Elt Ideal) ((c : Thread nD τ).loc cc0_scratch1)) (q0 : ¬P0_0 ch t) (q1 : ¬P0_1 ch t) :
    step0 ch m ρ c t prev = ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_D ch t q0 q1).1 (hyps0_D ch t q0 q1).2.1 (hyps0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hyps0_D ch t q0 q1).1 (hyps0_D ch t q0 q1).2.1 (hyps0_D ch t q0 q1).2.2.1).2.1) := by
  unfold step0; simp only [dif_neg q0, dif_neg q1]

/-! ## The pipeline's proof data -/

/-- What they held before position `t`. -/
def prev0T (c : Dev nD) (t : Fin ((cfgA ch).N + 1)) : (S512x256.Idx → Elt Ideal .f32) × Buf (Elt Ideal) ((c : Thread nD τ).loc cc0_scratch0) × Buf (Elt Ideal) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- The invariant before a point. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2⌝ ∗ (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := V m ρ c (Pipeline.arrRef (cfgA ch).spec w)
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q w := Pipeline.shareOf (cfgA ch).spec w
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4 keeps what it holds through idle points. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -, -, -⟩ := sched0_A ch t q0 q1
      rw [i4] at hi; exact absurd hi (by decide)
    · rw [step0_B ch m ρ c t _ q0 q1]
      simp only [hf, Bool.false_eq_true, ↓reduceIte]
      unfold prev0; rw [dif_neg ht]
  · by_cases q1 : P0_1 ch t
    · obtain ⟨i4, -, -, -, -, -, -⟩ := sched0_C ch t q0 q1
      rw [i4] at hi; exact absurd hi (by decide)
    · rw [step0_D ch m ρ c t _ q0 q1]
      simp only [hf, Bool.false_eq_true, ↓reduceIte]
      unfold prev0; rw [dif_neg ht]

/-- What output window 4 holds when the body runs. -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at a point. -/
abbrev bodyAt0 (t : Fin (cfgA ch).N) : Prog (TpuEff nD τ sig (Elt Ideal) Λ₀ .tc) PUnit :=
  cc0_p_sb_attn (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
/-- The body at a point does what the invariant says. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4, sfn0, sfn1⟩ := sched0_A ch t q0 q1
      have F0 := hyps0_A ch t q0 q1
      have hc0 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 hc1 k0_h3).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _ _)
    · obtain ⟨i4, f4, fr4, sf0, sfn0, sf1, sfn1⟩ := sched0_B ch t q0 q1
      have F0 := hyps0_B ch t q0 q1
      have hc0 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 hc1 k0_h3).2.2 _ a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
  · by_cases q1 : P0_1 ch t
    · obtain ⟨i4, f4, fr4, sf0, sfn0, sf1, sfn1⟩ := sched0_C ch t q0 q1
      have F0 := hyps0_C ch t q0 q1
      have hc0 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩, ⟨%d4, H4⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _ _ _ _)
    · obtain ⟨i4, f4, fr4, sf0, sfn0, sf1, sfn1⟩ := sched0_D ch t q0 q1
      have F0 := hyps0_D ch t q0 q1
      have hc0 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩, ⟨%d4, H4⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The body obligation, at every point. -/
theorem body_obligation (c : Dev nD) : BodyObligation (dats ch m ρ 0 c) (defs₀ (F := Ideal)) Variants.none () Set.univ := fun t => by
  rw [bigSep_W0]
  exact sound_body ch m ρ c t

/-! ## The launch -/

/-- The element held at launch. -/
def u₀ : UR sig nD τ :=
  initOf (Pipeline.cells (pcs ch) ((launch₀0 (F := Ideal)).cellOf_inj fun _ => adm ch))
    (Pipeline.launchToks (pcs ch) ((launch₀0 (F := Ideal)).cellOf_inj fun _ => adm ch))

/-- The tables, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point. -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HT0]
  · iexact HT0
  iexact HT1

/-- At the last point the scratch buffers are given back. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What the arrays and the tables hold at the end. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- The first constant, read as the table of query blocks. -/
theorem tab0 : (fun i => lit0 (S36.rowMajor i)) = pinT_0 ch := by
  funext x
  have h : ∀ k : Fin 36, lit0 k = ([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD k.val 0#32 := by decide +kernel
  have hx : (S36.rowMajor x).val = (x 0).val := Shape.rowMajor_val_one x
  exact (h (S36.rowMajor x)).trans (by rw [hx]; rfl)

/-- The second constant, read as the table of key blocks. -/
theorem tab1 : (fun i => lit1 (S36.rowMajor i)) = pinT_1 ch := by
  funext x
  have h : ∀ k : Fin 36, lit1 k = ([0#32, 1#32, 0#32, 2#32, 1#32, 0#32, 3#32, 2#32, 1#32, 0#32, 4#32, 3#32, 2#32, 1#32, 0#32, 5#32, 4#32, 3#32, 2#32, 1#32, 0#32, 6#32, 5#32, 4#32, 3#32, 2#32, 1#32, 0#32, 7#32, 6#32, 5#32, 4#32, 3#32, 2#32, 1#32, 0#32] : List (BitVec 32)).getD k.val 0#32 := by decide +kernel
  have hx : (S36.rowMajor x).val = (x 0).val := Shape.rowMajor_val_one x
  exact (h (S36.rowMajor x)).trans (by rw [hx]; rfl)

theorem V_tab0 (c : Dev nD) : V m ρ c main_c = pinT_0 ch := by
  refine Eq.trans ?_ (tab0 ch)
  simp only [V, StableHlo.after_cons, StableHlo.after_nil]
  rfl

theorem V_tab1 (c : Dev nD) : V m ρ c main_c_0 = pinT_1 ch := by
  refine Eq.trans ?_ (tab1 ch)
  simp only [V, StableHlo.after_cons, StableHlo.after_nil]
  rfl

/-- The argument still holds its launch contents when the region begins. -/
theorem V_arg (c : Dev nD) : V m ρ c main_arg0 = m ((c : Thread nD τ).loc main_arg0) := rfl

theorem V_pre (c : Dev nD) (j : Fin 2) : V m ρ c (pre0.ref j) = (adm ch).1 j := by
  fin_cases j
  · exact V_tab0 ch m ρ c
  · exact V_tab1 ch m ρ c

set_option backward.isDefEq.respectTransparency.types false in
set_option maxHeartbeats 4000000 in
/-- From any launch memory every fair execution of the program ends, with each array at the computed contents and every
    counter at zero. -/
theorem run_main_quiescent : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch₀0 (F := Ideal)).cellOf_inj fun _ => adm ch) (0 : Fin 1)
    (launch₀0 (F := Ideal)).win (launch₀0 (F := Ideal)).pre EP defs₀ Variants.none m ρ main
    (hbody := fun c => (body_obligation ch m ρ c).loose) (hne := (launch₀0 (F := Ideal)).block_pos)
    (harr := (launch₀0 (F := Ideal)).arr_whole) (hstage := (launch₀0 (F := Ideal)).stage_whole) (howed := fun _ _ => rfl)
    (u₀ := u₀ ch) (hu₀ := .rfl)
    (V := V m ρ)
    (hmain := Pipeline.hmainP_prefix pcfgs (0 : Fin 1) defs₀ Variants.none m main (hostOps0 (F := Ideal)) hostOps0_sub ⟨rfl, rfl, rfl, rfl, rfl, rfl⟩ (main_chain (F := Ideal)))
    (hsplit := fun c => (dats ch m ρ 0 c).arrays_split_shared (launch₀0 (F := Ideal)).sharedIn (launch₀0 (F := Ideal)).arr_whole
      (fun _ _ => rfl) (V m ρ c) _ fun _ => rfl)
    (hpf := V_pre ch m ρ)
    (X := fun _ => iprop(emp)) (Y := fun _ => iprop(emp)) (Z := fun c => Pipeline.unscopedRestP pre0 spec0 c (V m ρ c))
    (hX := fun c => by iintro H; isplitr; · iempintro
                       · iexact H)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main : θ_run (defs (F := Ideal)) (onTc (τ := τ) (main (F := Ideal))) (s₀ m ρ) (QC ch m ρ) :=
  (θ_run defs _ _).mono (fun _ h => h.1) (run_main_quiescent ch m ρ)

/-- The argument ends unchanged and the result is the computed array. -/
theorem run_value :
    θ_run (defs (F := Ideal)) (onTc (τ := τ) (main (F := Ideal))) ⟨m, fun _ => 0, ρ⟩ (fun r => ∀ c : Dev nD,
      r.2.mem ((c.tc : Thread nD τ).loc main_v4) = (dats ch m ρ 0 c).arrAt (4 : Fin 5) (cfgA ch).N
      ∧ r.2.mem ((c.tc : Thread nD τ).loc main_arg0) = m ((c.tc : Thread nD τ).loc main_arg0)) :=
  (θ_run defs _ _).mono (fun _ h c => ⟨(h c).1 (4 : Fin 5), ((h c).1 (0 : Fin 5)).trans ((dats ch m ρ 0 c).arrAt_in (0 : Fin 5) rfl _)⟩) (run_main ch m ρ)

/-- The frame: every execution ends, the argument ends unchanged, every counter ends at zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and ((θ_run defs _ _).mono (fun _ h c => (h c).2) (run_value (0 : Fin 1) m ρ)) ((θ_run defs _ _).mono (fun _ h => h.2) (run_main_quiescent (0 : Fin 1) m ρ))

end Cert.Proof.SbI

end
-- ==== Proof.SbV.Pay.lean ====
/- The stick-breaking attention over the extended reals: what each named piece of the body computes, at an index. -/
module

public import proofs.«01_k».proof.Proof.Gen.SbIdeal.Skeleton
public import Idealize.ShloMosaic.Lib.Pointwise
public import Idealize.ShloMosaic.Lib.Pipeline.ValueKit

@[expose] public section

noncomputable section

namespace Cert.Proof.SbV

open Cert.SbIdeal Cert.SbIdeal.Gen
open Idealize.ShloMosaic
open Idealize.ShloMosaic.TcCoe

/-! ## The step, on plain arrays -/

/-- Column `x` of head `h` of a block. -/
def col (h : Fin 4) (x : Fin 64) : Fin 256 := ⟨64 * h.val + x.val, by omega⟩

/-- Key `x` of a block's first half. -/
def lo (x : Fin 256) : Fin 512 := ⟨x.val, by omega⟩

/-- Key `x` of a block's second half. -/
def hi (x : Fin 256) : Fin 512 := ⟨256 + x.val, by omega⟩

/-- The logit of query row `r` and key row `c`, the query scaled first. -/
def kz (x0 x1 : S512x256.Idx → EReal) (h : Fin 4) (r c : Fin 512) : EReal :=
  ∑ x : Fin 64, x0 (ix2 r (col h x)) * Ideal.ofBits .f32 0x3E000000#32 * x1 (ix2 c (col h x))

/-- The logarithm of the chance to pass a key by, from its logit. -/
def klf (z : EReal) : EReal :=
  0 - (max z 0 + Ideal.log (1 + Ideal.exp (0 - FloatOps.absf (F := Ideal) (φ := .f32) z)))

/-- The same on a diagonal block: a key at or after the query counts nothing. -/
def dlf (z : Fin 512 → EReal) (r c : Fin 512) : EReal :=
  if c < r then klf (z c) else 0

/-- One half's sums over its later keys, by the triangle `u`: the parts and then what is left of them. -/
def kloc (u : Fin 256 → Fin 256 → EReal) (p : Fin 256 → EReal) (c : Fin 256) : EReal :=
  (∑ x, p x * u x c) + ∑ x, (p x - p x) * u x c

/-- The sums over the later keys of a block. -/
def kaft (u : Fin 256 → Fin 256 → EReal) (l : Fin 512 → EReal) (c : Fin 512) : EReal :=
  if hc : c.val < 256 then kloc u (fun x => l (lo x)) ⟨c.val, hc⟩ + ∑ x, l (hi x)
  else kloc u (fun x => l (hi x)) ⟨c.val - 256, by omega⟩

/-- The sum over a block's keys. -/
def ktot (l : Fin 512 → EReal) : EReal := (∑ x, l (hi x)) + ∑ x, l (lo x)

/-- The triangle as the body reads it. -/
abbrev tri (x3 : S256x256.Idx → EReal) (x c : Fin 256) : EReal := x3 (ix2 x c)

theorem col0 (x : Fin 64) (h) : (⟨x.val, h⟩ : Fin 256) = col 0 x := Fin.ext (by simp [col])
theorem col1 (x : Fin 64) (h) : (⟨64 + x.val, h⟩ : Fin 256) = col 1 x := Fin.ext (by simp [col])
theorem col2 (x : Fin 64) (h) : (⟨128 + x.val, h⟩ : Fin 256) = col 2 x := Fin.ext (by simp [col])
theorem col3 (x : Fin 64) (h) : (⟨192 + x.val, h⟩ : Fin 256) = col 3 x := Fin.ext (by simp [col])

theorem sel_lt (r c : Fin 512) (a b : EReal) :
    Scalar.select (IntOp.cmpi CmpIPredicate.slt (BitVec.ofNat 32 ↑c) (BitVec.ofNat 32 ↑r)) a b = if c < r then a else b := by
  have h : (BitVec.ofNat 32 ↑c).slt (BitVec.ofNat 32 ↑r) = decide (c < r) := by
    rw [BitVec.slt_eq_decide]
    have e : ∀ x : Fin 512, (BitVec.ofNat 32 x.val).toInt = (x.val : Int) := fun x => by
      have hx := x.isLt
      rw [BitVec.toInt_eq_toNat_of_lt (by rw [BitVec.toNat_ofNat]; omega), BitVec.toNat_ofNat]
      omega
    rw [e, e]
    exact decide_eq_decide.mpr (by rw [Fin.lt_def]; omega)
  simp only [IntOp.cmpi, h, Scalar.select]
  by_cases hc : c < r <;> simp [hc]

/-! ## The logits -/

theorem pay12 (a b : Vec Ideal S512x256 .f32) (r c : Fin 512) : k0_pay12 a b (ix2 r c) = kz a b 0 r c := by
  pointwise [k0_pay12, k0_pay8, k0_pay9]; simp only [col0, kz]
theorem pay13 (a b : Vec Ideal S512x256 .f32) (r c : Fin 512) : k0_pay13 a b (ix2 r c) = kz a b 1 r c := by
  pointwise [k0_pay13, k0_pay8, k0_pay9]; simp only [col1, kz]
theorem pay14 (a b : Vec Ideal S512x256 .f32) (r c : Fin 512) : k0_pay14 a b (ix2 r c) = kz a b 2 r c := by
  pointwise [k0_pay14, k0_pay8, k0_pay9]; simp only [col2, kz]
theorem pay15 (a b : Vec Ideal S512x256 .f32) (r c : Fin 512) : k0_pay15 a b (ix2 r c) = kz a b 3 r c := by
  pointwise [k0_pay15, k0_pay8, k0_pay9]; simp only [col3, kz]
theorem pay57 (a b : Vec Ideal S512x256 .f32) (r c : Fin 512) : k0_pay57 a b (ix2 r c) = kz a b 0 r c := by
  pointwise [k0_pay57, k0_pay53, k0_pay54]; simp only [col0, kz]
theorem pay58 (a b : Vec Ideal S512x256 .f32) (r c : Fin 512) : k0_pay58 a b (ix2 r c) = kz a b 1 r c := by
  pointwise [k0_pay58, k0_pay53, k0_pay54]; simp only [col1, kz]
theorem pay59 (a b : Vec Ideal S512x256 .f32) (r c : Fin 512) : k0_pay59 a b (ix2 r c) = kz a b 2 r c := by
  pointwise [k0_pay59, k0_pay53, k0_pay54]; simp only [col2, kz]
theorem pay60 (a b : Vec Ideal S512x256 .f32) (r c : Fin 512) : k0_pay60 a b (ix2 r c) = kz a b 3 r c := by
  pointwise [k0_pay60, k0_pay53, k0_pay54]; simp only [col3, kz]

/-! ## What passing a key by costs -/

theorem dlf0 (a b : Vec Ideal S512x256 .f32) (r c : Fin 512) : k0_pay20 (k0_pay16 a b) (ix2 r c) = dlf (kz a b 0 r) r c := by
  pointwise [k0_pay20, k0_pay16, k0_pay19]; rw [sel_lt]; simp only [pay12, klf, dlf]
theorem olf0 (a b : Vec Ideal S512x256 .f32) (r c : Fin 512) : k0_pay61 a b (ix2 r c) = klf (kz a b 0 r c) := by
  pointwise [k0_pay61]; simp only [pay57, klf]
theorem dlf1 (a b : Vec Ideal S512x256 .f32) (r c : Fin 512) : k0_pay21 (k0_pay17 a b) (k0_pay18 a b) (1 : EReal) (ix2 r c) = dlf (kz a b 1 r) r c := by
  pointwise [k0_pay21, k0_pay17, k0_pay18, k0_pay19]; rw [sel_lt]; simp only [pay13, klf, dlf]
theorem olf1 (a b : Vec Ideal S512x256 .f32) (r c : Fin 512) : k0_pay64 (k0_pay62 a b) (k0_pay63 a b) (1 : EReal) (ix2 r c) = klf (kz a b 1 r c) := by
  pointwise [k0_pay64, k0_pay62, k0_pay63]; simp only [pay58, klf]
theorem dlf2 (a b : Vec Ideal S512x256 .f32) (r c : Fin 512) : k0_pay22 (k0_pay14 a b) (ix2 r c) = dlf (kz a b 2 r) r c := by
  pointwise [k0_pay22, k0_pay19]; rw [sel_lt]; simp only [pay14, klf, dlf]
theorem olf2 (a b : Vec Ideal S512x256 .f32) (r c : Fin 512) : k0_pay65 (k0_pay59 a b) (ix2 r c) = klf (kz a b 2 r c) := by
  pointwise [k0_pay65]; simp only [pay59, klf]
theorem dlf3 (a b : Vec Ideal S512x256 .f32) (r c : Fin 512) : k0_pay23 (k0_pay15 a b) (ix2 r c) = dlf (kz a b 3 r) r c := by
  pointwise [k0_pay23, k0_pay19]; rw [sel_lt]; simp only [pay15, klf, dlf]
theorem olf3 (a b : Vec Ideal S512x256 .f32) (r c : Fin 512) : k0_pay66 (k0_pay60 a b) (ix2 r c) = klf (kz a b 3 r c) := by
  pointwise [k0_pay66]; simp only [pay60, klf]

/-! ## The sums over the later keys, and over all -/

theorem d0_aft (u : FVec Ideal S256x256 .bf16) (l : FVec Ideal S512x512 .f32) (r c : Fin 512) : k0_pay29 u (k0_pay24 l) (k0_pay25 l) (ix2 r c) = kaft (tri u) (fun x => k0_pay20 l (ix2 r x)) c := by
  pointwise [k0_pay29, k0_pay24, k0_pay25, k0_pay26, k0_pay27]; rfl
theorem d0_tot (l : FVec Ideal S512x512 .f32) (r : Fin 512) : k0_pay28 (k0_pay25 l) (k0_pay26 l) (ix2 r (0 : Fin 1)) = ktot (fun x => k0_pay20 l (ix2 r x)) := by
  pointwise [k0_pay28, k0_pay24, k0_pay25, k0_pay26, k0_pay27]; rfl
theorem d1_aft (u : FVec Ideal S256x256 .bf16) (l : FVec Ideal S512x512 .f32) (r c : Fin 512) : k0_pay34 u l (ix2 r c) = kaft (tri u) (fun x => l (ix2 r x)) c := by
  pointwise [k0_pay30, k0_pay31, k0_pay32, k0_pay34]; rfl
theorem d1_tot (l : FVec Ideal S512x512 .f32) (r : Fin 512) : k0_pay33 l (ix2 r (0 : Fin 1)) = ktot (fun x => l (ix2 r x)) := by
  pointwise [k0_pay30, k0_pay31, k0_pay32, k0_pay33]; rfl
theorem d2_aft (u : FVec Ideal S256x256 .bf16) (l : FVec Ideal S512x512 .f32) (r c : Fin 512) : k0_pay40 u (k0_pay35 l) (k0_pay36 l) (ix2 r c) = kaft (tri u) (fun x => l (ix2 r x)) c := by
  pointwise [k0_pay35, k0_pay36, k0_pay38, k0_pay40]; rfl
theorem d2_tot (l : FVec Ideal S512x512 .f32) (r : Fin 512) : k0_pay39 (k0_pay36 l) (k0_pay37 l) (ix2 r (0 : Fin 1)) = ktot (fun x => l (ix2 r x)) := by
  pointwise [k0_pay35, k0_pay36, k0_pay37, k0_pay38, k0_pay39]; rfl
theorem d3_aft (u : FVec Ideal S256x256 .bf16) (l : FVec Ideal S512x512 .f32) (r c : Fin 512) : k0_pay45 u l (ix2 r c) = kaft (tri u) (fun x => l (ix2 r x)) c := by
  pointwise [k0_pay41, k0_pay42, k0_pay43, k0_pay45]; rfl
theorem d3_tot (l : FVec Ideal S512x512 .f32) (r : Fin 512) : k0_pay44 l (ix2 r (0 : Fin 1)) = ktot (fun x => l (ix2 r x)) := by
  pointwise [k0_pay41, k0_pay42, k0_pay43, k0_pay44]; rfl
theorem o0_aft (u : FVec Ideal S256x256 .bf16) (l : FVec Ideal S512x512 .f32) (r c : Fin 512) : k0_pay75 u (k0_pay70 l) (k0_pay71 u l) (k0_pay72 l) (k0_pay73 l) (ix2 r c) = kaft (tri u) (fun x => l (ix2 r x)) c := by
  pointwise [k0_pay67, k0_pay68, k0_pay70, k0_pay71, k0_pay72, k0_pay73, k0_pay75]; rfl
theorem o0_tot (l : FVec Ideal S512x512 .f32) (r : Fin 512) : k0_pay74 (k0_pay69 l) (k0_pay70 l) (ix2 r (0 : Fin 1)) = ktot (fun x => l (ix2 r x)) := by
  pointwise [k0_pay67, k0_pay68, k0_pay69, k0_pay70, k0_pay74]; rfl
theorem o1_aft (u : FVec Ideal S256x256 .bf16) (l : FVec Ideal S512x512 .f32) (r c : Fin 512) : k0_pay80 u l (ix2 r c) = kaft (tri u) (fun x => l (ix2 r x)) c := by
  pointwise [k0_pay76, k0_pay77, k0_pay78, k0_pay80]; rfl
theorem o1_tot (l : FVec Ideal S512x512 .f32) (r : Fin 512) : k0_pay79 l (ix2 r (0 : Fin 1)) = ktot (fun x => l (ix2 r x)) := by
  pointwise [k0_pay76, k0_pay77, k0_pay78, k0_pay79]; rfl
theorem o2_aft (u : FVec Ideal S256x256 .bf16) (l : FVec Ideal S512x512 .f32) (r c : Fin 512) : k0_pay89 u (k0_pay84 l) (k0_pay85 u l) (k0_pay86 l) (k0_pay87 l) (ix2 r c) = kaft (tri u) (fun x => l (ix2 r x)) c := by
  pointwise [k0_pay81, k0_pay82, k0_pay83, k0_pay84, k0_pay85, k0_pay86, k0_pay87, k0_pay89]; rfl
theorem o2_tot (l : FVec Ideal S512x512 .f32) (r : Fin 512) : k0_pay88 (k0_pay83 l) (k0_pay84 l) (ix2 r (0 : Fin 1)) = ktot (fun x => l (ix2 r x)) := by
  pointwise [k0_pay81, k0_pay82, k0_pay83, k0_pay84, k0_pay88]; rfl
theorem o3_aft (u : FVec Ideal S256x256 .bf16) (l : FVec Ideal S512x512 .f32) (r c : Fin 512) : k0_pay94 u l (ix2 r c) = kaft (tri u) (fun x => l (ix2 r x)) c := by
  pointwise [k0_pay90, k0_pay91, k0_pay92, k0_pay94]; rfl
theorem o3_tot (l : FVec Ideal S512x512 .f32) (r : Fin 512) : k0_pay93 l (ix2 r (0 : Fin 1)) = ktot (fun x => l (ix2 r x)) := by
  pointwise [k0_pay90, k0_pay91, k0_pay92, k0_pay93]; rfl
theorem tri11 (x3 : Vec Ideal S256x256 .bf16) : tri (k0_pay11 x3) = tri x3 := by
  funext x c; show k0_pay11 x3 (ix2 x c) = x3 (ix2 x c); pointwise [k0_pay11]
theorem tri56 (x3 : Vec Ideal S256x256 .bf16) : tri (k0_pay56 x3) = tri x3 := by
  funext x c; show k0_pay56 x3 (ix2 x c) = x3 (ix2 x c); pointwise [k0_pay56]

end Cert.Proof.SbV

end
-- ==== Proof.SbV.Step.lean ====
/- The stick-breaking attention over the extended reals: what one step of the body does to the running sums of each
   head, at an index. -/
module

public import proofs.«01_k».proof.Proof.SbI.Frame
public import proofs.«01_k».proof.Proof.SbV.Pay
public import Idealize.ShloMosaic.Lib.Pipeline.ReadBack
public import Idealize.ShloMosaic.Lib.WritesUnit

@[expose] public section

noncomputable section

namespace Cert.Proof.SbV

open Cert.SbIdeal Cert.SbIdeal.Gen
open Idealize.ShloMosaic
open Idealize.ShloMosaic.TcCoe
open Cert.Proof.SbI

/-- A diagonal block's weighted sum of values. -/
def dAcc (u : Fin 256 → Fin 256 → EReal) (z : Fin 512 → EReal) (r : Fin 512) (v : Fin 512 → EReal) : EReal :=
  ∑ c, if c < r then Ideal.exp (z c + dlf z r c + kaft u (dlf z r) c) * v c else 0

/-- An earlier block's weighted sum of values, added to the running one. -/
def oAcc (u : Fin 256 → Fin 256 → EReal) (z : Fin 512 → EReal) (run acc : EReal) (v : Fin 512 → EReal) : EReal :=
  acc + ∑ c, Ideal.exp (z c + klf (z c) + kaft u (fun x => klf (z x)) c + run) * v c

/-- The running cost after an earlier block. -/
def oRun (z : Fin 512 → EReal) (run : EReal) : EReal := run + ktot (fun c => klf (z c))

/-! ## Reading a scratch through its stores, one head each -/

theorem hit0 (v : View sig .tc .vmem S4x512x64 .f32) (f : v.ty.Contents (Elt Ideal)) (h : ℕ) (hh : h < 4) (inb) (w) (L) (r : Fin 512) (d : Fin 64) :
    v.read (Elt Ideal) (v.writes (Elt Ideal) f ((⟨Rect.unit ![h, 0, 0] S1x512x64.size inb, w⟩ : View.Piece (Elt Ideal) S4x512x64 .f32) :: L)) (ix3 ⟨h, hh⟩ r d) = w (ix3 0 r d) := by
  refine View.read_writes_cons_unit_of_mem v f inb w L _ (ix3 0 r d) rfl fun a => ?_
  fin_cases a <;> simp [ix3]

theorem miss0 (v : View sig .tc .vmem S4x512x64 .f32) (f : v.ty.Contents (Elt Ideal)) (h h' : ℕ) (hh : h' < 4) (hne : h ≠ h') (inb) (w) (L) (r : Fin 512) (d : Fin 64) :
    v.read (Elt Ideal) (v.writes (Elt Ideal) f ((⟨Rect.unit ![h, 0, 0] S1x512x64.size inb, w⟩ : View.Piece (Elt Ideal) S4x512x64 .f32) :: L)) (ix3 ⟨h', hh⟩ r d)
      = v.read (Elt Ideal) (v.writes (Elt Ideal) f L) (ix3 ⟨h', hh⟩ r d) := by
  refine View.read_writes_cons_unit_of_not_mem v f inb w L _ rfl 0 ?_
  simp [ix3]; omega

theorem hit1 (v : View sig .tc .vmem S4x512x1 .f32) (f : v.ty.Contents (Elt Ideal)) (h : ℕ) (hh : h < 4) (inb) (w) (L) (r : Fin 512) :
    v.read (Elt Ideal) (v.writes (Elt Ideal) f ((⟨Rect.unit ![h, 0, 0] S1x512x1.size inb, w⟩ : View.Piece (Elt Ideal) S4x512x1 .f32) :: L)) (ix3 ⟨h, hh⟩ r 0) = w (ix3 0 r 0) := by
  refine View.read_writes_cons_unit_of_mem v f inb w L _ (ix3 0 r 0) rfl fun a => ?_
  fin_cases a <;> simp [ix3]

theorem miss1 (v : View sig .tc .vmem S4x512x1 .f32) (f : v.ty.Contents (Elt Ideal)) (h h' : ℕ) (hh : h' < 4) (hne : h ≠ h') (inb) (w) (L) (r : Fin 512) :
    v.read (Elt Ideal) (v.writes (Elt Ideal) f ((⟨Rect.unit ![h, 0, 0] S1x512x1.size inb, w⟩ : View.Piece (Elt Ideal) S4x512x1 .f32) :: L)) (ix3 ⟨h', hh⟩ r 0)
      = v.read (Elt Ideal) (v.writes (Elt Ideal) f L) (ix3 ⟨h', hh⟩ r 0) := by
  refine View.read_writes_cons_unit_of_not_mem v f inb w L _ rfl 0 ?_
  simp [ix3]; omega

theorem scM0_read0 (x : S4x512x64.Idx → EReal) : scM0_0.view.read (Elt Ideal) x = x := rfl
theorem scM0_read1 (x : S4x512x1.Idx → EReal) : scM0_1.view.read (Elt Ideal) x = x := rfl

section
variable (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Ideal .i32)) (T1 : (S36.Idx → Elt Ideal .i32))
     (x0 : (S512x256.Idx → Elt Ideal .f32)) (x1 : (S512x256.Idx → Elt Ideal .f32)) (x2 : (S512x256.Idx → Elt Ideal .f32)) (x3 : (S256x256.Idx → Elt Ideal .bf16)) (xa0 : Buf (Elt Ideal) ((c : Thread nD τ).loc cc0_scratch0)) (xa1 : Buf (Elt Ideal) ((c : Thread nD τ).loc cc0_scratch1))

theorem A_a (hc0 hc1 hc3) (h : Fin 4) (r : Fin 512) (d : Fin 64) :
    (kernelRun0_A c i arg5 harg5 arg6 harg6 arg7 harg7 arg8 harg8 arg9 harg9 T0 T1 x0 x1 x2 x3 hc0 hc1 hc3).2.1 (ix3 h r d) = dAcc (tri x3) (kz x0 x1 h r) r (fun c => x2 (ix2 c (col h d))) := by
  unfold kernelRun0_A
  dsimp only
  sl_unfold_words
  refine Eq.trans (congrFun (View.read_whole (Val := Elt Ideal) cc0_scratch0 _).symm _) ?_
  obtain ⟨k, hk⟩ := h
  interval_cases k
  all_goals
    iterate 3 (try refine Eq.trans (miss0 (View.whole cc0_scratch0) _ _ _ (by decide) (by decide) _ _ _ _ _ ) ?_)
    refine Eq.trans (hit0 (View.whole cc0_scratch0) _ _ (by decide) _ _ _ _ _ ) ?_
    simp (disch := decide) only [↓ View.readCov_skip, ↓ View.readCov_cons_toLoadRect, ↓ View.readCov_fill, View.readAt_eq_ld, View.read_rep, View.ld_unit_lit, scM0_read0, scM0_read1, View.read_whole]
    pointwise [k0_pay1, k0_pay2, k0_pay3, k0_pay4, k0_pay10, k0_pay19, k0_pay46, k0_pay47, k0_pay48, k0_pay49, k0_pay50, k0_pay51, k0_pay52]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col0, col1, col2, col3, dAcc, oAcc, oRun, ite_mul, zero_mul] <;> rfl

theorem A_s (hc0 hc1 hc3) (h : Fin 4) (r : Fin 512) :
    (kernelRun0_A c i arg5 harg5 arg6 harg6 arg7 harg7 arg8 harg8 arg9 harg9 T0 T1 x0 x1 x2 x3 hc0 hc1 hc3).2.2.1 (ix3 h r (0 : Fin 1)) = ktot (dlf (kz x0 x1 h r) r) := by
  unfold kernelRun0_A
  dsimp only
  sl_unfold_words
  refine Eq.trans (congrFun (View.read_whole (Val := Elt Ideal) cc0_scratch1 _).symm _) ?_
  obtain ⟨k, hk⟩ := h
  interval_cases k
  all_goals
    iterate 3 (try refine Eq.trans (miss1 (View.whole cc0_scratch1) _ _ _ (by decide) (by decide) _ _ _ _ ) ?_)
    refine Eq.trans (hit1 (View.whole cc0_scratch1) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, View.read_whole]
    pointwise [k0_pay1, k0_pay2, k0_pay3, k0_pay4, k0_pay10, k0_pay19, k0_pay46, k0_pay47, k0_pay48, k0_pay49, k0_pay50, k0_pay51, k0_pay52]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col0, col1, col2, col3, dAcc, oAcc, oRun, ite_mul, zero_mul] <;> rfl

theorem B_a (hc0 hc1 hc3) (h : Fin 4) (r : Fin 512) (d : Fin 64) :
    (kernelRun0_B c i arg5 harg5 arg6 harg6 arg7 harg7 arg8 harg8 arg9 harg9 T0 T1 x0 x1 x2 x3 hc0 hc1 hc3).1 (ix3 h r d) = dAcc (tri x3) (kz x0 x1 h r) r (fun c => x2 (ix2 c (col h d))) := by
  unfold kernelRun0_B
  dsimp only
  sl_unfold_words
  refine Eq.trans (congrFun (View.read_whole (Val := Elt Ideal) cc0_scratch0 _).symm _) ?_
  obtain ⟨k, hk⟩ := h
  interval_cases k
  all_goals
    iterate 3 (try refine Eq.trans (miss0 (View.whole cc0_scratch0) _ _ _ (by decide) (by decide) _ _ _ _ _ ) ?_)
    refine Eq.trans (hit0 (View.whole cc0_scratch0) _ _ (by decide) _ _ _ _ _ ) ?_
    simp (disch := decide) only [↓ View.readCov_skip, ↓ View.readCov_cons_toLoadRect, ↓ View.readCov_fill, View.readAt_eq_ld, View.read_rep, View.ld_unit_lit, scM0_read0, scM0_read1, View.read_whole]
    pointwise [k0_pay1, k0_pay2, k0_pay3, k0_pay4, k0_pay10, k0_pay19, k0_pay46, k0_pay47, k0_pay48, k0_pay49, k0_pay50, k0_pay51, k0_pay52]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col0, col1, col2, col3, dAcc, oAcc, oRun, ite_mul, zero_mul] <;> rfl

theorem B_s (hc0 hc1 hc3) (h : Fin 4) (r : Fin 512) :
    (kernelRun0_B c i arg5 harg5 arg6 harg6 arg7 harg7 arg8 harg8 arg9 harg9 T0 T1 x0 x1 x2 x3 hc0 hc1 hc3).2.1 (ix3 h r (0 : Fin 1)) = ktot (dlf (kz x0 x1 h r) r) := by
  unfold kernelRun0_B
  dsimp only
  sl_unfold_words
  refine Eq.trans (congrFun (View.read_whole (Val := Elt Ideal) cc0_scratch1 _).symm _) ?_
  obtain ⟨k, hk⟩ := h
  interval_cases k
  all_goals
    iterate 3 (try refine Eq.trans (miss1 (View.whole cc0_scratch1) _ _ _ (by decide) (by decide) _ _ _ _ ) ?_)
    refine Eq.trans (hit1 (View.whole cc0_scratch1) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, View.read_whole]
    pointwise [k0_pay1, k0_pay2, k0_pay3, k0_pay4, k0_pay10, k0_pay19, k0_pay46, k0_pay47, k0_pay48, k0_pay49, k0_pay50, k0_pay51, k0_pay52]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col0, col1, col2, col3, dAcc, oAcc, oRun, ite_mul, zero_mul] <;> rfl

theorem C_a (hc0 hc1 hc3) (h : Fin 4) (r : Fin 512) (d : Fin 64) :
    (kernelRun0_C c i arg5 harg5 arg6 harg6 arg7 harg7 arg8 harg8 arg9 harg9 T0 T1 x0 x1 x2 x3 xa0 xa1 hc0 hc1 hc3).2.1 (ix3 h r d) = oAcc (tri x3) (kz x0 x1 h r) (xa1 (ix3 h r (0 : Fin 1))) (xa0 (ix3 h r d)) (fun c => x2 (ix2 c (col h d))) := by
  unfold kernelRun0_C
  dsimp only
  sl_unfold_words
  refine Eq.trans (congrFun (View.read_whole (Val := Elt Ideal) cc0_scratch0 _).symm _) ?_
  obtain ⟨k, hk⟩ := h
  interval_cases k
  all_goals
    iterate 3 (try refine Eq.trans (miss0 (View.whole cc0_scratch0) _ _ _ (by decide) (by decide) _ _ _ _ _ ) ?_)
    refine Eq.trans (hit0 (View.whole cc0_scratch0) _ _ (by decide) _ _ _ _ _ ) ?_
    simp (disch := decide) only [↓ View.readCov_skip, ↓ View.readCov_cons_toLoadRect, ↓ View.readCov_fill, View.readAt_eq_ld, View.read_rep, View.ld_unit_lit, scM0_read0, scM0_read1, View.read_whole]
    pointwise [k0_pay5, k0_pay6, k0_pay55, k0_pay95, k0_pay96, k0_pay97, k0_pay98, k0_pay99, k0_pay100, k0_pay101, k0_pay102, k0_pay103, k0_pay104, k0_pay105, k0_pay106, k0_pay107]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col0, col1, col2, col3, dAcc, oAcc, oRun, ite_mul, zero_mul] <;> rfl

theorem C_s (hc0 hc1 hc3) (h : Fin 4) (r : Fin 512) :
    (kernelRun0_C c i arg5 harg5 arg6 harg6 arg7 harg7 arg8 harg8 arg9 harg9 T0 T1 x0 x1 x2 x3 xa0 xa1 hc0 hc1 hc3).2.2.1 (ix3 h r (0 : Fin 1)) = oRun (kz x0 x1 h r) (xa1 (ix3 h r (0 : Fin 1))) := by
  unfold kernelRun0_C
  dsimp only
  sl_unfold_words
  refine Eq.trans (congrFun (View.read_whole (Val := Elt Ideal) cc0_scratch1 _).symm _) ?_
  obtain ⟨k, hk⟩ := h
  interval_cases k
  all_goals
    iterate 3 (try refine Eq.trans (miss1 (View.whole cc0_scratch1) _ _ _ (by decide) (by decide) _ _ _ _ ) ?_)
    refine Eq.trans (hit1 (View.whole cc0_scratch1) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, View.read_whole]
    pointwise [k0_pay5, k0_pay6, k0_pay55, k0_pay95, k0_pay96, k0_pay97, k0_pay98, k0_pay99, k0_pay100, k0_pay101, k0_pay102, k0_pay103, k0_pay104, k0_pay105, k0_pay106, k0_pay107]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col0, col1, col2, col3, dAcc, oAcc, oRun, ite_mul, zero_mul] <;> rfl

theorem D_a (hc0 hc1 hc3) (h : Fin 4) (r : Fin 512) (d : Fin 64) :
    (kernelRun0_D c i arg5 harg5 arg6 harg6 arg7 harg7 arg8 harg8 arg9 harg9 T0 T1 x0 x1 x2 x3 xa0 xa1 hc0 hc1 hc3).1 (ix3 h r d) = oAcc (tri x3) (kz x0 x1 h r) (xa1 (ix3 h r (0 : Fin 1))) (xa0 (ix3 h r d)) (fun c => x2 (ix2 c (col h d))) := by
  unfold kernelRun0_D
  dsimp only
  sl_unfold_words
  refine Eq.trans (congrFun (View.read_whole (Val := Elt Ideal) cc0_scratch0 _).symm _) ?_
  obtain ⟨k, hk⟩ := h
  interval_cases k
  all_goals
    iterate 3 (try refine Eq.trans (miss0 (View.whole cc0_scratch0) _ _ _ (by decide) (by decide) _ _ _ _ _ ) ?_)
    refine Eq.trans (hit0 (View.whole cc0_scratch0) _ _ (by decide) _ _ _ _ _ ) ?_
    simp (disch := decide) only [↓ View.readCov_skip, ↓ View.readCov_cons_toLoadRect, ↓ View.readCov_fill, View.readAt_eq_ld, View.read_rep, View.ld_unit_lit, scM0_read0, scM0_read1, View.read_whole]
    pointwise [k0_pay5, k0_pay6, k0_pay55, k0_pay95, k0_pay96, k0_pay97, k0_pay98, k0_pay99, k0_pay100, k0_pay101, k0_pay102, k0_pay103, k0_pay104, k0_pay105, k0_pay106, k0_pay107]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col0, col1, col2, col3, dAcc, oAcc, oRun, ite_mul, zero_mul] <;> rfl

theorem D_s (hc0 hc1 hc3) (h : Fin 4) (r : Fin 512) :
    (kernelRun0_D c i arg5 harg5 arg6 harg6 arg7 harg7 arg8 harg8 arg9 harg9 T0 T1 x0 x1 x2 x3 xa0 xa1 hc0 hc1 hc3).2.1 (ix3 h r (0 : Fin 1)) = oRun (kz x0 x1 h r) (xa1 (ix3 h r (0 : Fin 1))) := by
  unfold kernelRun0_D
  dsimp only
  sl_unfold_words
  refine Eq.trans (congrFun (View.read_whole (Val := Elt Ideal) cc0_scratch1 _).symm _) ?_
  obtain ⟨k, hk⟩ := h
  interval_cases k
  all_goals
    iterate 3 (try refine Eq.trans (miss1 (View.whole cc0_scratch1) _ _ _ (by decide) (by decide) _ _ _ _ ) ?_)
    refine Eq.trans (hit1 (View.whole cc0_scratch1) _ _ (by decide) _ _ _ _ ) ?_
    simp (disch := decide) only [↓ View.readCov_skip, ↓ View.readCov_cons_toLoadRect, ↓ View.readCov_fill, View.readAt_eq_ld, View.read_rep, View.ld_unit_lit, scM0_read0, scM0_read1, View.read_whole]
    pointwise [k0_pay5, k0_pay6, k0_pay55, k0_pay95, k0_pay96, k0_pay97, k0_pay98, k0_pay99, k0_pay100, k0_pay101, k0_pay102, k0_pay103, k0_pay104, k0_pay105, k0_pay106, k0_pay107]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col0, col1, col2, col3, dAcc, oAcc, oRun, ite_mul, zero_mul] <;> rfl

end

end Cert.Proof.SbV

end
-- ==== Proof.SbV.Out.lean ====
/- The stick-breaking attention over the extended reals: what the step of the first key block stores to the output, at
   an index. -/
module

public import proofs.«01_k».proof.Proof.SbV.Step

@[expose] public section

noncomputable section

namespace Cert.Proof.SbV

open Cert.SbIdeal Cert.SbIdeal.Gen
open Idealize.ShloMosaic
open Idealize.ShloMosaic.TcCoe
open Cert.Proof.SbI

theorem whole4 (v : View sig .tc .vmem S512x256 .f32) (f : v.ty.Contents (Elt Ideal)) (inb) (w) (L) (r : Fin 512) (q : Fin 256) :
    v.read (Elt Ideal) (v.writes (Elt Ideal) f ((⟨Rect.unit ![0, 0] S512x256.size inb, w⟩ : View.Piece (Elt Ideal) S512x256 .f32) :: L)) (ix2 r q) = w (ix2 r q) := by
  refine View.read_writes_cons_unit_of_mem v f inb w L _ (ix2 r q) rfl fun a => ?_
  fin_cases a <;> simp [ix2]

section
variable (c : Dev nD) (i : grid0.Coords) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .bf16) (harg8 : arg8.IsWhole) (arg9 : Memref sig .tc .vmem S512x256 .f32) (harg9 : arg9.IsWhole) (T0 : (S36.Idx → Elt Ideal .i32)) (T1 : (S36.Idx → Elt Ideal .i32))
     (x0 : (S512x256.Idx → Elt Ideal .f32)) (x1 : (S512x256.Idx → Elt Ideal .f32)) (x2 : (S512x256.Idx → Elt Ideal .f32)) (x3 : (S256x256.Idx → Elt Ideal .bf16)) (xa0 : Buf (Elt Ideal) ((c : Thread nD τ).loc cc0_scratch0)) (xa1 : Buf (Elt Ideal) ((c : Thread nD τ).loc cc0_scratch1))

theorem A_out (hc0 hc1 hc3) (h : Fin 4) (r : Fin 512) (d : Fin 64) :
    out0_A_4 c i arg5 harg5 arg6 harg6 arg7 harg7 arg8 harg8 arg9 harg9 T0 T1 x0 x1 x2 x3 hc0 hc1 hc3 (ix2 r (col h d)) = dAcc (tri x3) (kz x0 x1 h r) r (fun c => x2 (ix2 c (col h d))) := by
  unfold out0_A_4 kernelRun0_A
  dsimp only
  sl_unfold_words
  refine Eq.trans (whole4 VO0_4 _ _ _ _ _ _) ?_
  simp (disch := decide) only [↓ View.readCov_skip, ↓ View.readCov_cons_toLoadRect, ↓ View.readCov_fill, View.readAt_eq_ld, View.read_rep, View.ld_unit_lit, scM0_read0, scM0_read1, View.read_whole]
  obtain ⟨k, hk⟩ := h
  interval_cases k
  · rw [show col ⟨0, hk⟩ d = ⟨d.val, by omega⟩ from Fin.ext (by simp [col])]
    pointwise [k0_pay1, k0_pay2, k0_pay3, k0_pay4, k0_pay10, k0_pay19, k0_pay46, k0_pay47, k0_pay48, k0_pay49, k0_pay50, k0_pay51, k0_pay52, k0_pay7]
    try simp (disch := omega) only [dif_neg, dif_pos]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col0, dAcc, oAcc, oRun, ite_mul, zero_mul] <;> rfl
  · rw [show col ⟨1, hk⟩ d = ⟨64 + d.val, by omega⟩ from Fin.ext (by simp [col])]
    pointwise [k0_pay1, k0_pay2, k0_pay3, k0_pay4, k0_pay10, k0_pay19, k0_pay46, k0_pay47, k0_pay48, k0_pay49, k0_pay50, k0_pay51, k0_pay52, k0_pay7]
    try simp (disch := omega) only [dif_neg, dif_pos, show 64 + d.val - 64 = d.val by omega, show 64 + d.val - 64 = d.val by omega]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col1, dAcc, oAcc, oRun, ite_mul, zero_mul] <;> rfl
  · rw [show col ⟨2, hk⟩ d = ⟨128 + d.val, by omega⟩ from Fin.ext (by simp [col])]
    pointwise [k0_pay1, k0_pay2, k0_pay3, k0_pay4, k0_pay10, k0_pay19, k0_pay46, k0_pay47, k0_pay48, k0_pay49, k0_pay50, k0_pay51, k0_pay52, k0_pay7]
    try simp (disch := omega) only [dif_neg, dif_pos, show 64 + d.val - 64 = d.val by omega, show 128 + d.val - 64 - 64 = d.val by omega]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col2, dAcc, oAcc, oRun, ite_mul, zero_mul] <;> rfl
  · rw [show col ⟨3, hk⟩ d = ⟨192 + d.val, by omega⟩ from Fin.ext (by simp [col])]
    pointwise [k0_pay1, k0_pay2, k0_pay3, k0_pay4, k0_pay10, k0_pay19, k0_pay46, k0_pay47, k0_pay48, k0_pay49, k0_pay50, k0_pay51, k0_pay52, k0_pay7]
    try simp (disch := omega) only [dif_neg, dif_pos, show 64 + d.val - 64 = d.val by omega, show 192 + d.val - 64 - 64 - 64 = d.val by omega]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col3, dAcc, oAcc, oRun, ite_mul, zero_mul] <;> rfl

theorem C_out (hc0 hc1 hc3) (h : Fin 4) (r : Fin 512) (d : Fin 64) :
    out0_C_4 c i arg5 harg5 arg6 harg6 arg7 harg7 arg8 harg8 arg9 harg9 T0 T1 x0 x1 x2 x3 xa0 xa1 hc0 hc1 hc3 (ix2 r (col h d)) = oAcc (tri x3) (kz x0 x1 h r) (xa1 (ix3 h r (0 : Fin 1))) (xa0 (ix3 h r d)) (fun c => x2 (ix2 c (col h d))) := by
  unfold out0_C_4 kernelRun0_C
  dsimp only
  sl_unfold_words
  refine Eq.trans (whole4 VO0_4 _ _ _ _ _ _) ?_
  simp (disch := decide) only [↓ View.readCov_skip, ↓ View.readCov_cons_toLoadRect, ↓ View.readCov_fill, View.readAt_eq_ld, View.read_rep, View.ld_unit_lit, scM0_read0, scM0_read1, View.read_whole]
  obtain ⟨k, hk⟩ := h
  interval_cases k
  · rw [show col ⟨0, hk⟩ d = ⟨d.val, by omega⟩ from Fin.ext (by simp [col])]
    pointwise [k0_pay5, k0_pay6, k0_pay55, k0_pay95, k0_pay96, k0_pay97, k0_pay98, k0_pay99, k0_pay100, k0_pay101, k0_pay102, k0_pay103, k0_pay104, k0_pay105, k0_pay106, k0_pay107, k0_pay7]
    try simp (disch := omega) only [dif_neg, dif_pos]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col0, dAcc, oAcc, oRun, ite_mul, zero_mul] <;> rfl
  · rw [show col ⟨1, hk⟩ d = ⟨64 + d.val, by omega⟩ from Fin.ext (by simp [col])]
    pointwise [k0_pay5, k0_pay6, k0_pay55, k0_pay95, k0_pay96, k0_pay97, k0_pay98, k0_pay99, k0_pay100, k0_pay101, k0_pay102, k0_pay103, k0_pay104, k0_pay105, k0_pay106, k0_pay107, k0_pay7]
    try simp (disch := omega) only [dif_neg, dif_pos, show 64 + d.val - 64 = d.val by omega, show 64 + d.val - 64 = d.val by omega]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col1, dAcc, oAcc, oRun, ite_mul, zero_mul] <;> rfl
  · rw [show col ⟨2, hk⟩ d = ⟨128 + d.val, by omega⟩ from Fin.ext (by simp [col])]
    pointwise [k0_pay5, k0_pay6, k0_pay55, k0_pay95, k0_pay96, k0_pay97, k0_pay98, k0_pay99, k0_pay100, k0_pay101, k0_pay102, k0_pay103, k0_pay104, k0_pay105, k0_pay106, k0_pay107, k0_pay7]
    try simp (disch := omega) only [dif_neg, dif_pos, show 64 + d.val - 64 = d.val by omega, show 128 + d.val - 64 - 64 = d.val by omega]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col2, dAcc, oAcc, oRun, ite_mul, zero_mul] <;> rfl
  · rw [show col ⟨3, hk⟩ d = ⟨192 + d.val, by omega⟩ from Fin.ext (by simp [col])]
    pointwise [k0_pay5, k0_pay6, k0_pay55, k0_pay95, k0_pay96, k0_pay97, k0_pay98, k0_pay99, k0_pay100, k0_pay101, k0_pay102, k0_pay103, k0_pay104, k0_pay105, k0_pay106, k0_pay107, k0_pay7]
    try simp (disch := omega) only [dif_neg, dif_pos, show 64 + d.val - 64 = d.val by omega, show 192 + d.val - 64 - 64 - 64 = d.val by omega]
    simp only [sel_lt, pay12, pay13, pay14, pay15, pay57, pay58, pay59, pay60, dlf0, dlf1, dlf2, dlf3, olf0, olf1, olf2, olf3, d0_aft, d0_tot, d1_aft, d1_tot, d2_aft, d2_tot, d3_aft, d3_tot, o0_aft, o0_tot, o1_aft, o1_tot, o2_aft, o2_tot, o3_aft, o3_tot, tri11, tri56, col3, dAcc, oAcc, oRun, ite_mul, zero_mul] <;> rfl

end

end Cert.Proof.SbV

end
-- ==== Proof.SbV.Points.lean ====
/- The stick-breaking attention's grid points: the batch row, head group, query block and key block of each, and the
   blocks its windows read. -/
module

public import proofs.«01_k».proof.Proof.SbI.Frame
public import Idealize.ShloMosaic.Lib.Pointwise
public import Idealize.ShloMosaic.Lib.Pipeline.ValueKit

@[expose] public section

noncomputable section

namespace Cert.Proof.SbV

open Cert.SbIdeal Cert.SbIdeal.Gen
open Idealize.ShloMosaic
open Idealize.ShloMosaic.TcCoe
open Cert.Proof.SbI

/-- The batch row of point `t`. -/
def bN (t : ℕ) : ℕ := t / 144
/-- The head group of point `t`. -/
def gN (t : ℕ) : ℕ := t / 36 % 4
/-- The query block of point `t`. -/
def iN (t : ℕ) : ℕ := [0, 1, 1, 2, 2, 2, 3, 3, 3, 3, 4, 4, 4, 4, 4, 5, 5, 5, 5, 5, 5, 6, 6, 6, 6, 6, 6, 6, 7, 7, 7, 7, 7, 7, 7, 7].getD (t % 36) 0
/-- The key block of point `t`: from the query's block down to the first. -/
def jN (t : ℕ) : ℕ := iN t * (iN t + 1) / 2 + iN t - t % 36

/-- What is decided of a point. -/
abbrev PointAt (t : Fin (cfgA 0).N) : Prop :=
  (P0_0 0 t ↔ jN t.val = iN t.val) ∧ (P0_1 0 t ↔ jN t.val = 0) ∧ jN t.val ≤ iN t.val ∧ iN t.val < 8 ∧ bN t.val < 2 ∧ gN t.val < 4
  ∧ (jN t.val ≠ iN t.val → t.val ≠ 0 ∧ jN (t.val - 1) = jN t.val + 1 ∧ iN (t.val - 1) = iN t.val ∧ bN (t.val - 1) = bN t.val ∧ gN (t.val - 1) = gN t.val)
  ∧ (((cfgA 0).win (4 : Fin 5)).flush t = true → jN t.val = 0)
  ∧ ((cfgA 0).win (0 : Fin 5)).index t = ![bN t.val * 8 + iN t.val, gN t.val]
  ∧ ((cfgA 0).win (1 : Fin 5)).index t = ![bN t.val * 8 + jN t.val, 4 + gN t.val]
  ∧ ((cfgA 0).win (2 : Fin 5)).index t = ![bN t.val * 8 + jN t.val, 8 + gN t.val]
  ∧ ((cfgA 0).win (3 : Fin 5)).index t = ![0, 0]
  ∧ ((cfgA 0).win (4 : Fin 5)).index t = ![bN t.val * 8 + iN t.val, gN t.val]

theorem points : ∀ t : Fin (cfgA 0).N, PointAt t := by decide +kernel

theorem covers4 : ((cfgA 0).win (4 : Fin 5)).Covers := by decide +kernel

variable (m : (ℓ : Loc nD τ sig) → Buf (Elt Ideal) ℓ) (ρ : Dev nD → PrngReg) (c : Dev nD) (t : Fin (cfgA 0).N)

theorem iblk0_apply (r : Fin 512) (q : Fin 256) (h1 h2) :
    iblk 0 m ρ c (0 : Fin 5) t (ix2 r q)
      = (m ((c.tc : Thread nD τ).loc main_arg0) : (⟨2, ![8192, 6656]⟩ : Shape).Idx → EReal) (ix2 ⟨(bN t.val * 8 + iN t.val) * 512 + r.val, h1⟩ ⟨gN t.val * 256 + q.val, h2⟩) := by
  have e := (points t).2.2.2.2.2.2.2.2.1
  unfold iblk
  blk_simp
  refine congrArg (m ((c.tc : Thread nD τ).loc main_arg0)) (funext fun a => Fin.ext ?_)
  refine (Pipeline.Window.rect_emb_val _ _ _ _).trans ?_
  rw [e]
  fin_cases a <;> rfl

theorem iblk1_apply (r : Fin 512) (q : Fin 256) (h1 h2) :
    iblk 0 m ρ c (1 : Fin 5) t (ix2 r q)
      = (m ((c.tc : Thread nD τ).loc main_arg0) : (⟨2, ![8192, 6656]⟩ : Shape).Idx → EReal) (ix2 ⟨(bN t.val * 8 + jN t.val) * 512 + r.val, h1⟩ ⟨(4 + gN t.val) * 256 + q.val, h2⟩) := by
  have e := (points t).2.2.2.2.2.2.2.2.2.1
  unfold iblk
  blk_simp
  refine congrArg (m ((c.tc : Thread nD τ).loc main_arg0)) (funext fun a => Fin.ext ?_)
  refine (Pipeline.Window.rect_emb_val _ _ _ _).trans ?_
  rw [e]
  fin_cases a <;> rfl

theorem iblk2_apply (r : Fin 512) (q : Fin 256) (h1 h2) :
    iblk 0 m ρ c (2 : Fin 5) t (ix2 r q)
      = (m ((c.tc : Thread nD τ).loc main_arg0) : (⟨2, ![8192, 6656]⟩ : Shape).Idx → EReal) (ix2 ⟨(bN t.val * 8 + jN t.val) * 512 + r.val, h1⟩ ⟨(8 + gN t.val) * 256 + q.val, h2⟩) := by
  have e := (points t).2.2.2.2.2.2.2.2.2.2.1
  unfold iblk
  blk_simp
  refine congrArg (m ((c.tc : Thread nD τ).loc main_arg0)) (funext fun a => Fin.ext ?_)
  refine (Pipeline.Window.rect_emb_val _ _ _ _).trans ?_
  rw [e]
  fin_cases a <;> rfl

/-- The triangle of ones below the diagonal, as the host makes it. -/
theorem V_tri (x q : Fin 256) : (V m ρ c main_v3 : (⟨2, ![256, 256]⟩ : Shape).Idx → EReal) (ix2 x q) = if q < x then (1 : EReal) else 0 := by
  have h : (BitVec.ofNat 32 q.val).slt (BitVec.ofNat 32 x.val) = decide (q < x) := by
    rw [BitVec.slt_eq_decide]
    have e : ∀ y : Fin 256, (BitVec.ofNat 32 y.val).toInt = (y.val : Int) := fun y => by
      have hy := y.isLt
      rw [BitVec.toInt_eq_toNat_of_lt (by rw [BitVec.toNat_ofNat]; omega), BitVec.toNat_ofNat]
      omega
    rw [e, e]
    exact decide_eq_decide.mpr (by rw [Fin.lt_def]; omega)
  have e : (V m ρ c main_v3 : (⟨2, ![256, 256]⟩ : Shape).Idx → EReal)
      = uitofp (F := Ideal) .bf16 (cmpi .sgt (iotaInDim S256x256 32 0) (iotaInDim S256x256 32 1)) := rfl
  rw [e]
  pointwise
  show FloatOps.uitofp (F := Ideal) .bf16 (IntOp.cmpi CmpIPredicate.sgt (BitVec.ofNat 32 x.val) (BitVec.ofNat 32 q.val)) = _
  simp only [IntOp.cmpi, h]
  by_cases hc : q < x
  · rw [if_pos hc, decide_eq_true hc]
    show (((1#1 : BitVec 1).toNat : ℝ) : EReal) = 1
    simp
  · rw [if_neg hc, decide_eq_false hc]
    show (((0#1 : BitVec 1).toNat : ℝ) : EReal) = 0
    simp

theorem iblk3_apply (x q : Fin 256) : iblk 0 m ρ c (3 : Fin 5) t (ix2 x q) = if q < x then (1 : EReal) else 0 := by
  have e := (points t).2.2.2.2.2.2.2.2.2.2.2.1
  refine Eq.trans ?_ (V_tri m ρ c x q)
  unfold iblk
  blk_simp
  refine congrArg (V m ρ c main_v3) (funext fun a => Fin.ext ?_)
  refine (Pipeline.Window.rect_emb_val _ _ _ _).trans ?_
  rw [e]
  fin_cases a <;> simp [ix2]

end Cert.Proof.SbV

end
-- ==== Proof.SbV.Math.lean ====
/- Stick-breaking weights over the reals, block by block: the sums over the later keys are those of a block and of the
   blocks after it. -/
module

public import proofs.«01_k».proof.Proof.SbV.Step

@[expose] public section

noncomputable section

namespace Cert.Proof.SbV

open Idealize.ShloMosaic

/-! ## Sums from a key on -/

section
variable {M : Type*} [AddCommMonoid M]

/-- A row of keys, continued by zero. -/
def ext (f : Fin 4096 → M) (n : ℕ) : M := if h : n < 4096 then f ⟨n, h⟩ else 0

/-- The sum over the keys from `n` on. -/
def tl (f : Fin 4096 → M) (n : ℕ) : M := ∑ k ∈ Finset.Ico n 4096, ext f k

/-- Key `c` of block `j`. -/
def bk (j : Fin 8) (c : Fin 512) : Fin 4096 := ⟨512 * j.val + c.val, by omega⟩

theorem ext_bk (f : Fin 4096 → M) (j : Fin 8) (c : Fin 512) : ext f (512 * j.val + c.val) = f (bk j c) := by
  unfold ext bk
  rw [dif_pos]

theorem tl_zero (f : Fin 4096 → M) : tl f 0 = ∑ k, f k := by
  unfold tl
  rw [← Finset.range_eq_Ico, ← Fin.sum_univ_eq_sum_range]
  exact Finset.sum_congr rfl fun k _ => dif_pos k.isLt

theorem tl_block (f : Fin 4096 → M) (j : Fin 8) : tl f (512 * j.val) = ∑ c, f (bk j c) + tl f (512 * (j.val + 1)) := by
  have hj := j.isLt
  unfold tl
  rw [← Finset.sum_Ico_consecutive _ (show 512 * j.val ≤ 512 * (j.val + 1) by omega) (by omega)]
  congr 1
  rw [Finset.sum_Ico_eq_sum_range, show 512 * (j.val + 1) - 512 * j.val = 512 by omega,
    ← Fin.sum_univ_eq_sum_range (fun c => ext f (512 * j.val + c))]
  exact Finset.sum_congr rfl fun c _ => ext_bk f j c

theorem tl_in (f : Fin 4096 → M) (j : Fin 8) (c : Fin 512) :
    tl f ((bk j c).val + 1) = (∑ x, if c < x then f (bk j x) else 0) + tl f (512 * (j.val + 1)) := by
  have hj := j.isLt
  have hc := c.isLt
  unfold tl bk
  rw [← Finset.sum_Ico_consecutive _ (show 512 * j.val + c.val + 1 ≤ 512 * (j.val + 1) by omega) (by omega)]
  congr 1
  have e : ∀ x : Fin 512, (if c < x then f ⟨512 * j.val + x.val, by omega⟩ else 0)
      = (fun n => if c.val < n then ext f (512 * j.val + n) else 0) x.val := fun x => by
    simp only [Fin.lt_def]
    split
    · exact (ext_bk f j x).symm
    · rfl
  rw [Finset.sum_congr rfl fun x _ => e x,
    Fin.sum_univ_eq_sum_range (fun n => if c.val < n then ext f (512 * j.val + n) else 0), Finset.range_eq_Ico, ← Finset.sum_filter,
    show Finset.filter (fun n => c.val < n) (Finset.Ico 0 512) = Finset.Ico (c.val + 1) 512 by
      ext n; simp only [Finset.mem_filter, Finset.mem_Ico]; omega,
    Finset.sum_Ico_add (ext f) (c.val + 1) 512 (512 * j.val)]
  rw [show c.val + 1 + 512 * j.val = 512 * j.val + c.val + 1 by omega, show 512 + 512 * j.val = 512 * (j.val + 1) by omega]

theorem tl_window (f : Fin 4096 → M) (k : ℕ) : ∑ n : Fin 4096, ext f (k + n.val) = tl f k := by
  unfold tl
  rw [Fin.sum_univ_eq_sum_range (fun n => ext f (k + n)), Finset.sum_Ico_eq_sum_range]
  symm
  refine Finset.sum_subset (fun n => ?_) fun n _ hn => dif_neg ?_
  · simp only [Finset.mem_range]; omega
  · simp only [Finset.mem_range] at hn; omega

theorem tl_of_zero (f : Fin 4096 → M) (n : ℕ) (h : ∀ k : Fin 4096, n ≤ k.val → f k = 0) : tl f n = 0 := by
  refine Finset.sum_eq_zero fun k hk => ?_
  rw [Finset.mem_Ico] at hk
  unfold ext
  rw [dif_pos hk.2]
  exact h _ hk.1

end

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem coe_tl (f : Fin 4096 → ℝ) (n : ℕ) : tl (fun k => (f k : EReal)) n = (tl f n : ℝ) := by
  unfold tl
  rw [coe_sum]
  refine Finset.sum_congr rfl fun k _ => ?_
  unfold ext
  split <;> simp

/-! ## The functions of a real logit -/

/-- `log (1 + exp y)`. -/
def sp (y : ℝ) : ℝ := max y 0 + Real.log (1 + Real.exp (-|y|))

theorem exp_coe (r : ℝ) : Ideal.exp (r : EReal) = (Real.exp r : EReal) := rfl

theorem log_coe (r : ℝ) (h : 0 < r) : Ideal.log (r : EReal) = (Real.log r : EReal) := by
  show (if r ≤ 0 then ⊥ else (Real.log r : EReal)) = _
  rw [if_neg (not_le.2 h)]

theorem coe_max' (a b : ℝ) : ((max a b : ℝ) : EReal) = max (a : EReal) b := EReal.coe_strictMono.monotone.map_max

theorem abs_coe (r : ℝ) : FloatOps.absf (F := Ideal) (φ := .f32) (r : EReal) = (|r| : ℝ) := by
  show max (r : EReal) (-(r : EReal)) = _
  rw [← EReal.coe_neg, ← coe_max']; rfl

theorem pos1 (r : ℝ) : 0 < 1 + Real.exp r := by positivity

theorem klf_coe (z : ℝ) : klf (z : EReal) = ((-sp z : ℝ) : EReal) := by
  unfold klf sp
  rw [abs_coe, ← EReal.coe_zero, ← EReal.coe_sub, exp_coe, ← EReal.coe_one, ← EReal.coe_add, log_coe _ (pos1 _),
    ← coe_max', ← EReal.coe_add, ← EReal.coe_sub, zero_sub, zero_sub]

theorem sp_neg (z : ℝ) : -sp (-z) = z + -sp z := by
  unfold sp
  rw [abs_neg]
  have : max z 0 - max (-z) 0 = z := max_zero_sub_max_neg_zero_eq_self z
  linarith

/-! ## A block's sums -/

theorem split_sum {M : Type*} [AddCommMonoid M] (l : Fin 512 → M) : ∑ c, l c = (∑ x, l (lo x)) + ∑ x, l (hi x) :=
  Fin.sum_univ_add (a := 256) (b := 256) l

theorem ktot_coe (l : Fin 512 → ℝ) : ktot (fun c => (l c : EReal)) = (∑ c, l c : ℝ) := by
  unfold ktot
  rw [split_sum, add_comm, EReal.coe_add, coe_sum, coe_sum]

/-- The triangle: one below the diagonal. -/
def IsTri (u : Fin 256 → Fin 256 → EReal) : Prop := ∀ x c, u x c = if c < x then 1 else 0

theorem kloc_coe (u : Fin 256 → Fin 256 → EReal) (hu : IsTri u) (p : Fin 256 → ℝ) (c : Fin 256) :
    kloc u (fun x => (p x : EReal)) c = ((∑ x, if c < x then p x else 0 : ℝ) : EReal) := by
  unfold kloc
  have e1 : ∀ x, (p x : EReal) * u x c = ((if c < x then p x else 0 : ℝ) : EReal) := fun x => by
    rw [hu x c]; split <;> simp
  have e2 : ∀ x, ((p x : EReal) - p x) * u x c = 0 := fun x => by
    rw [← EReal.coe_sub, sub_self, EReal.coe_zero, zero_mul]
  rw [Finset.sum_congr rfl fun x _ => e1 x, Finset.sum_congr rfl fun x _ => e2 x, Finset.sum_const_zero, add_zero, coe_sum]

theorem kaft_coe (u : Fin 256 → Fin 256 → EReal) (hu : IsTri u) (l : Fin 512 → ℝ) (c : Fin 512) :
    kaft u (fun x => (l x : EReal)) c = ((∑ x, if c < x then l x else 0 : ℝ) : EReal) := by
  unfold kaft
  rw [split_sum]
  split
  · next h =>
    rw [kloc_coe u hu, ← coe_sum, ← EReal.coe_add]
    congr 2
    refine Finset.sum_congr rfl fun x _ => ?_
    rw [if_pos]; simp only [Fin.lt_def, hi]; omega
  · next h =>
    rw [kloc_coe u hu]
    have e : (∑ x, if c < lo x then l (lo x) else 0) = 0 :=
      Finset.sum_eq_zero fun x _ => if_neg (by simp only [Fin.lt_def, lo]; omega)
    rw [e, zero_add]
    congr 1
    refine Finset.sum_congr rfl fun x _ => ?_
    congr 1
    simp only [Fin.lt_def, hi]; exact propext (by omega)

/-! ## The weights of a row -/

section
variable (ζ : Fin 4096 → ℝ) (q : Fin 4096) (v : Fin 4096 → EReal)

/-- What passing key `k` by costs query `q`. -/
def cost (k : Fin 4096) : ℝ := if k < q then -sp (ζ k) else 0

/-- The weight of key `k`. -/
def wt (k : Fin 4096) : ℝ := if k < q then Real.exp (ζ k + -sp (ζ k) + tl (cost ζ q) (k.val + 1)) else 0

/-- The weighted value. -/
def wv (k : Fin 4096) : EReal := (wt ζ q k : EReal) * v k

variable (u : Fin 256 → Fin 256 → EReal) (hu : IsTri u) (i j : Fin 8) (r : Fin 512)

theorem bk_lt_diag (c : Fin 512) : bk i c < bk i r ↔ c < r := by
  simp only [Fin.lt_def, bk]; omega

theorem bk_lt_off (hj : j < i) (c : Fin 512) : bk j c < bk i r := by
  simp only [Fin.lt_def, bk] at *; omega

theorem cost_after : tl (cost ζ (bk i r)) (512 * (i.val + 1)) = 0 :=
  tl_of_zero _ _ fun k hk => if_neg (by simp only [Fin.lt_def, bk]; omega)

theorem wv_after : tl (wv ζ (bk i r) v) (512 * (i.val + 1)) = 0 :=
  tl_of_zero _ _ fun k hk => by
    unfold wv wt
    rw [if_neg (by simp only [Fin.lt_def, bk]; omega), EReal.coe_zero, zero_mul]

theorem dlf_coe : dlf (fun c => (ζ (bk i c) : EReal)) r = fun c => ((cost ζ (bk i r) (bk i c) : ℝ) : EReal) := by
  funext c
  unfold dlf cost
  rw [klf_coe]
  simp only [bk_lt_diag]
  split <;> simp

theorem run_diag : ktot (dlf (fun c => (ζ (bk i c) : EReal)) r) = (tl (cost ζ (bk i r)) (512 * i.val) : ℝ) := by
  rw [dlf_coe, ktot_coe, tl_block, cost_after, add_zero]

include hu in
theorem acc_diag : dAcc u (fun c => (ζ (bk i c) : EReal)) r (fun c => v (bk i c)) = tl (wv ζ (bk i r) v) (512 * i.val) := by
  rw [tl_block, wv_after, add_zero]
  unfold dAcc
  refine Finset.sum_congr rfl fun c _ => ?_
  unfold wv wt
  simp only [bk_lt_diag]
  split
  · next h =>
    rw [dlf_coe, kaft_coe u hu, ← EReal.coe_add, ← EReal.coe_add, exp_coe, tl_in, cost_after, add_zero]
    simp only [cost, bk_lt_diag, if_pos h]
  · rw [EReal.coe_zero, zero_mul]

theorem off_cost (hj : j < i) (c : Fin 512) : cost ζ (bk i r) (bk j c) = -sp (ζ (bk j c)) := if_pos (bk_lt_off i j r hj c)

theorem run_off (hj : j < i) :
    oRun (fun c => (ζ (bk j c) : EReal)) (tl (cost ζ (bk i r)) (512 * (j.val + 1)) : ℝ) = (tl (cost ζ (bk i r)) (512 * j.val) : ℝ) := by
  unfold oRun
  simp only [klf_coe]
  rw [ktot_coe, tl_block, EReal.coe_add, add_comm]
  simp only [off_cost ζ i j r hj]

include hu in
theorem acc_off (hj : j < i) :
    oAcc u (fun c => (ζ (bk j c) : EReal)) (tl (cost ζ (bk i r)) (512 * (j.val + 1)) : ℝ) (tl (wv ζ (bk i r) v) (512 * (j.val + 1)))
      (fun c => v (bk j c)) = tl (wv ζ (bk i r) v) (512 * j.val) := by
  rw [tl_block (wv ζ (bk i r) v) j]
  refine Eq.trans ?_ (add_comm _ _)
  unfold oAcc
  congr 1
  refine Finset.sum_congr rfl fun c _ => ?_
  unfold wv wt
  rw [if_pos (bk_lt_off i j r hj c)]
  simp only [klf_coe]
  rw [kaft_coe u hu, ← EReal.coe_add, ← EReal.coe_add, ← EReal.coe_add, exp_coe, tl_in]
  simp only [off_cost ζ i j r hj, add_assoc]

end

end Cert.Proof.SbV

end
-- ==== Proof.SbV.Ref.lean ====
/- The reference stick-breaking attention over the extended reals, at an index. -/
module

public import proofs.«01_k».proof.Proof.Gen.SbRefIdeal.Run
public import proofs.«01_k».proof.Proof.SbV.Math
public import Idealize.ShloMosaic.Lib.Pointwise
public import Idealize.ShloMosaic.Lib.Pipeline.ValueKit
public import Idealize.ShloMosaic.Lib.Tactic.CleanTypes

@[expose] public section

noncomputable section

namespace Cert.Proof.SbV

open Idealize.ShloMosaic Idealize.ShloMosaic.TcCoe
open Cert.SbRefIdeal Cert.SbRefIdeal.Gen Cert.SbRefIdeal.Value

/-- The logits. -/
def rZ (a0 : FVec Ideal S8192x6656 .f32) : FVec Ideal S2x16x4096x4096 .f32 :=
  mulf (Host.dotGeneral dot_S2x4096x16x64_S2x4096x16x64_S2x16x4096x4096_3_3_1_1_02_02 none (shapeCast _ (extractStridedSlice S8192x1024 ![0, 0] a0 slices_S8192x6656_S8192x1024_0_0) shapeCasts_S8192x1024_S2x4096x16x64) (shapeCast _ (extractStridedSlice S8192x1024 ![0, 1024] a0 slices_S8192x6656_S8192x1024_0_1024) shapeCasts_S8192x1024_S2x4096x16x64)) (broadcastInDim S2x16x4096x4096 ![] bcast_S_S2x16x4096x4096 (constant S_ .f32 0x3E000000#32))

/-- Which keys come before the query. -/
def rM : IVec S2x16x4096x4096 1 :=
  broadcastInDim S2x16x4096x4096 ![2, 3] bcast_S4096x4096_S2x16x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- `log (1 + exp y)`. -/
def rSP (y : FVec Ideal S2x16x4096x4096 .f32) : FVec Ideal S2x16x4096x4096 .f32 :=
  select (cmpf .une (subf y (broadcastInDim S2x16x4096x4096 ![] bcast_S_S2x16x4096x4096 (constant S_ .f32 0x00000000#32))) (subf y (broadcastInDim S2x16x4096x4096 ![] bcast_S_S2x16x4096x4096 (constant S_ .f32 0x00000000#32)))) (addf y (broadcastInDim S2x16x4096x4096 ![] bcast_S_S2x16x4096x4096 (constant S_ .f32 0x00000000#32))) (addf (maximumf y (broadcastInDim S2x16x4096x4096 ![] bcast_S_S2x16x4096x4096 (constant S_ .f32 0x00000000#32))) (Host.log1p (Host.exp (Host.negf (Host.absf (subf y (broadcastInDim S2x16x4096x4096 ![] bcast_S_S2x16x4096x4096 (constant S_ .f32 0x00000000#32))))))))

/-- The logarithm of the chance to pass a key by, and nothing for the keys that do not come before. -/
def rF (z : FVec Ideal S2x16x4096x4096 .f32) : FVec Ideal S2x16x4096x4096 .f32 :=
  select rM (Host.negf (rSP (Host.negf (Host.negf z)))) (broadcastInDim S2x16x4096x4096 ![] bcast_S_S2x16x4096x4096 (id (constant S_ .f32 0x00000000#32)))

/-- The sums from each key to the last. -/
def rC (f : FVec Ideal S2x16x4096x4096 .f32) : FVec Ideal S2x16x4096x4096 .f32 :=
  Host.reduceWindowAdd ![1, 1, 1, 4096] ![1, 1, 1, 1] ![0, 0, 0, 0] ![0, 0, 0, 4095] f (broadcastInDim S_ ![] bcast_S_S_ (constant S_ .f32 0x00000000#32)) reduceWindows_S2x16x4096x4096_S2x16x4096x4096_w1s1p0_0_w1s1p0_0_w1s1p0_0_w4096s1p0_4095 h_S_

/-- The sums over the later keys. -/
def rA (f : FVec Ideal S2x16x4096x4096 .f32) : FVec Ideal S2x16x4096x4096 .f32 :=
  concatenate S2x16x4096x4096 3 [⟨S2x16x4096x4095, (extractStridedSlice S2x16x4096x4095 ![0, 0, 0, 1] f slices_S2x16x4096x4096_S2x16x4096x4095_0_0_0_1)⟩, ⟨S2x16x4096x1, (broadcastInDim S2x16x4096x1 ![] bcast_S_S2x16x4096x1 (constant S_ .f32 0x00000000#32))⟩] concatenates_S2x16x4096x4095_S2x16x4096x1_S2x16x4096x4096_d3

/-- The weights. -/
def rW (z a : FVec Ideal S2x16x4096x4096 .f32) : FVec Ideal S2x16x4096x4096 .f32 :=
  select rM (Host.exp (addf (Host.negf (rSP (Host.negf z))) a)) (broadcastInDim S2x16x4096x4096 ![] bcast_S_S2x16x4096x4096 (id (constant S_ .f32 0x00000000#32)))

/-- The weighted sums of the values. -/
def rO (w : FVec Ideal S2x16x4096x4096 .f32) (a0 : FVec Ideal S8192x6656 .f32) : FVec Ideal S8192x1024 .f32 :=
  shapeCast _ (transpose S2x4096x16x64 [0, 3, 1, 2] (Host.dotGeneral dot_S2x4096x16x64_S2x16x4096x4096_S2x16x64x4096_1_3_3_2_02_01 none (shapeCast _ (extractStridedSlice S8192x1024 ![0, 2048] a0 slices_S8192x6656_S8192x1024_0_2048) shapeCasts_S8192x1024_S2x4096x16x64) w) transposes_S2x16x64x4096_S2x4096x16x64_0_3_1_2) shapeCasts_S2x4096x16x64_S8192x1024

theorem ref_split (m : (ℓ : Loc nD τ sig) → Buf (Elt Ideal) ℓ) (c : Dev nD) :
    res_main_v29 (F := Ideal) m c = rO (rW (rZ (m ((c.tc : Thread nD τ).loc main_arg0))) (rA (rC (rF (rZ (m ((c.tc : Thread nD τ).loc main_arg0))))))) (m ((c.tc : Thread nD τ).loc main_arg0)) := rfl

theorem sel_lt' (q k : Fin 4096) (a b : EReal) :
    Scalar.select (IntOp.cmpi CmpIPredicate.slt (BitVec.ofNat 32 ↑k) (BitVec.ofNat 32 ↑q)) a b = if k < q then a else b := by
  have h : (BitVec.ofNat 32 ↑k).slt (BitVec.ofNat 32 ↑q) = decide (k < q) := by
    rw [BitVec.slt_eq_decide]
    have e : ∀ x : Fin 4096, (BitVec.ofNat 32 x.val).toInt = (x.val : Int) := fun x => by
      have hx := x.isLt
      rw [BitVec.toInt_eq_toNat_of_lt (by rw [BitVec.toNat_ofNat]; omega), BitVec.toNat_ofNat]
      omega
    rw [e, e]
    exact decide_eq_decide.mpr (by rw [Fin.lt_def]; omega)
  simp only [IntOp.cmpi, h, Scalar.select]
  by_cases hc : k < q <;> simp [hc]

/-- The logit of query `q` and key `k`, from the argument. -/
def gz (a0 : S8192x6656.Idx → EReal) (b : Fin 2) (h : Fin 16) (q k : Fin 4096) : EReal :=
  (∑ x : Fin 64, a0 (ix2 ⟨b.val * 4096 + q.val, by omega⟩ ⟨h.val * 64 + x.val, by omega⟩)
    * a0 (ix2 ⟨b.val * 4096 + k.val, by omega⟩ ⟨1024 + (h.val * 64 + x.val), by omega⟩)) * Ideal.ofBits .f32 1040187392#32

theorem rZ_apply (a0 : Vec Ideal S8192x6656 .f32) (b : Fin 2) (h : Fin 16) (q k : Fin 4096) :
    rZ a0 (ix4 b h q k) = gz a0 b h q k := by
  unfold rZ
  pointwise
  rfl

theorem rSP_apply (y : FVec Ideal S2x16x4096x4096 .f32) (b : Fin 2) (h : Fin 16) (q k : Fin 4096) (r : ℝ) (hy : y (ix4 b h q k) = (r : EReal)) :
    rSP y (ix4 b h q k) = (sp r : ℝ) := by
  unfold rSP
  pointwise
  rw [if_neg (fun h => h rfl), hy, abs_coe]
  show max (r : EReal) 0 + Ideal.log (1 + Ideal.exp (-((|r| : ℝ) : EReal))) = _
  rw [← EReal.coe_neg, exp_coe, ← EReal.coe_one, ← EReal.coe_add, log_coe _ (pos1 _), ← EReal.coe_zero, ← coe_max', ← EReal.coe_add]
  rfl

theorem rF_apply (z : FVec Ideal S2x16x4096x4096 .f32) (b : Fin 2) (h : Fin 16) (q : Fin 4096) (ζ : Fin 4096 → ℝ)
    (hz : ∀ k, z (ix4 b h q k) = (ζ k : EReal)) (k : Fin 4096) :
    rF z (ix4 b h q k) = (cost ζ q k : ℝ) := by
  unfold rF rM
  pointwise
  rw [sel_lt', rSP_apply _ b h q k (ζ k) (by
    show -(-(z (ix4 b h q k))) = _
    rw [neg_neg, hz])]
  unfold cost
  split
  · rw [EReal.coe_neg]
  · show Ideal.ofBits .f32 0#32 = _
    simp [Ideal.ofBits, Ideal.ieee]

theorem ix4_sum (g : (⟨4, ![1, 1, 1, 4096]⟩ : Shape).Idx → EReal) : ∑ i, g i = ∑ n : Fin 4096, g (ix4 0 0 0 n) := by
  refine (Function.Bijective.sum_comp (e := fun n : Fin 4096 => (ix4 0 0 0 n : (⟨4, ![1, 1, 1, 4096]⟩ : Shape).Idx)) ⟨fun a b h => ?_, fun i => ⟨i 3, ?_⟩⟩ g).symm
  · exact congrFun h 3
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem foldl_sum (n : ℕ) (g : Fin n → EReal) : (List.finRange n).foldl (fun r k => r + g k) 0 = ∑ k, g k := by
  rw [Fin.sum_univ_def, List.sum_eq_foldl, List.foldl_map]

theorem rC_apply (f : FVec Ideal S2x16x4096x4096 .f32) (b : Fin 2) (h : Fin 16) (q k : Fin 4096) :
    rC f (ix4 b h q k) = tl (fun x => f (ix4 b h q x)) k.val := by
  have h0 : (broadcastInDim S_ ![] bcast_S_S_ (constant (F := Ideal) S_ .f32 0x00000000#32)) (Shape.Idx.first h_S_) = (0 : EReal) := by
    show Ideal.ofBits .f32 0#32 = _
    simp [Ideal.ofBits, Ideal.ieee]
  unfold rC Host.reduceWindowAdd
  rw [h0, Ideal.hostReduceWindowAdd_def]
  unfold Ideal.hostReduceWindowAdd Host.reduceWindow
  dsimp only
  rw [foldl_sum, ← tl_window (fun x => f (ix4 b h q x)) k.val]
  refine (Fintype.sum_equiv (⟨4, ![1, 1, 1, 4096]⟩ : Shape).rowMajor.symm _
    (fun i => ext (fun x => f (ix4 b h q x)) (k.val + (i 3).val)) fun n => ?_).trans (ix4_sum _)
  let i : (⟨4, ![1, 1, 1, 4096]⟩ : Shape).Idx := (⟨4, ![1, 1, 1, 4096]⟩ : Shape).rowMajor.symm n
  have i0 : (i 0).val < 1 := (i 0).isLt
  have i1 : (i 1).val < 1 := (i 1).isLt
  have i2 : (i 2).val < 1 := (i 2).isLt
  show _ = ext _ (k.val + (i 3).val)
  unfold ext
  by_cases hn : k.val + (i 3).val < 4096
  · rw [dif_pos hn, dif_pos]
    · refine congrArg f (funext fun a => Fin.ext ?_)
      match a with
      | ⟨0, _⟩ => show b.val * 1 + (i 0).val - 0 = b.val; omega
      | ⟨1, _⟩ => show h.val * 1 + (i 1).val - 0 = h.val; omega
      | ⟨2, _⟩ => show q.val * 1 + (i 2).val - 0 = q.val; omega
      | ⟨3, _⟩ => show k.val * 1 + (i 3).val - 0 = k.val + (i 3).val; omega
    · intro a
      match a with
      | ⟨0, _⟩ => show 0 ≤ b.val * 1 + (i 0).val ∧ b.val * 1 + (i 0).val - 0 < 2; omega
      | ⟨1, _⟩ => show 0 ≤ h.val * 1 + (i 1).val ∧ h.val * 1 + (i 1).val - 0 < 16; omega
      | ⟨2, _⟩ => show 0 ≤ q.val * 1 + (i 2).val ∧ q.val * 1 + (i 2).val - 0 < 4096; omega
      | ⟨3, _⟩ => show 0 ≤ k.val * 1 + (i 3).val ∧ k.val * 1 + (i 3).val - 0 < 4096; omega
  · rw [dif_neg hn, dif_neg]
    intro hin
    have h3 : 0 ≤ k.val * 1 + (i 3).val ∧ k.val * 1 + (i 3).val - 0 < 4096 := hin 3
    omega

theorem rA_apply (f : FVec Ideal S2x16x4096x4096 .f32) (b : Fin 2) (h : Fin 16) (q k : Fin 4096) :
    rA (rC f) (ix4 b h q k) = tl (fun x => f (ix4 b h q x)) (k.val + 1) := by
  unfold rA
  pointwise
  split
  · rw [rC_apply]
    exact congrArg (tl _) (Nat.add_comm _ _)
  · exact (tl_of_zero _ _ fun x hx => absurd x.isLt (by omega)).symm

theorem rW_apply (z a : FVec Ideal S2x16x4096x4096 .f32) (b : Fin 2) (h : Fin 16) (q : Fin 4096) (ζ : Fin 4096 → ℝ)
    (hz : ∀ k, z (ix4 b h q k) = (ζ k : EReal)) (ha : ∀ k : Fin 4096, a (ix4 b h q k) = (tl (cost ζ q) (k.val + 1) : ℝ)) (k : Fin 4096) :
    rW z a (ix4 b h q k) = (wt ζ q k : ℝ) := by
  unfold rW rM
  pointwise
  rw [sel_lt', rSP_apply _ b h q k (-ζ k) (by
    show -(z (ix4 b h q k)) = _
    rw [hz, EReal.coe_neg]), ha]
  unfold wt
  split
  · rw [← sp_neg, ← EReal.coe_neg, ← EReal.coe_add, exp_coe]
  · show Ideal.ofBits .f32 0#32 = _
    simp [Ideal.ofBits, Ideal.ieee]

theorem rO_apply (w : FVec Ideal S2x16x4096x4096 .f32) (a0 : Vec Ideal S8192x6656 .f32) (r : Fin 8192) (q : Fin 1024) :
    rO w a0 (ix2 r q) = ∑ x : Fin 4096, a0 (ix2 ⟨r.val / 4096 * 4096 + x.val, by omega⟩ ⟨2048 + q.val, by omega⟩)
      * w (ix4 ⟨r.val / 4096, by omega⟩ ⟨q.val / 64, by omega⟩ ⟨r.val % 4096, by omega⟩ x) := by
  unfold rO
  pointwise

/-- The reference's result, the logits being real. -/
theorem ref_apply (a0 : FVec Ideal S8192x6656 .f32) (r : Fin 8192) (n : Fin 1024) (ζ : Fin 4096 → ℝ)
    (hζ : ∀ k, gz a0 ⟨r.val / 4096, by omega⟩ ⟨n.val / 64, by omega⟩ ⟨r.val % 4096, by omega⟩ k = (ζ k : EReal)) :
    rO (rW (rZ a0) (rA (rC (rF (rZ a0))))) a0 (ix2 r n)
      = tl (wv ζ ⟨r.val % 4096, by omega⟩ (fun x => a0 (ix2 ⟨r.val / 4096 * 4096 + x.val, by omega⟩ ⟨2048 + n.val, by omega⟩))) 0 := by
  rw [rO_apply, tl_zero]
  have hz : ∀ k, rZ a0 (ix4 ⟨r.val / 4096, by omega⟩ ⟨n.val / 64, by omega⟩ ⟨r.val % 4096, by omega⟩ k) = (ζ k : EReal) :=
    fun k => (rZ_apply _ _ _ _ _).trans (hζ k)
  refine Finset.sum_congr rfl fun x _ => ?_
  rw [rW_apply _ _ _ _ _ ζ hz (fun k => by
    rw [rA_apply, ← coe_tl]
    exact congrArg (fun f => tl f (k.val + 1)) (funext fun y => rF_apply _ _ _ _ ζ hz y)), mul_comm]
  rfl

end Cert.Proof.SbV

end
-- ==== Proof.SbV.Traj.lean ====
/- The stick-breaking attention over the extended reals: after every grid point the scratches hold the cost of the keys
   passed so far and the weighted sum of their values, and at the first key block the output block holds the latter. -/
module

public import proofs.«01_k».proof.Proof.SbV.Out
public import proofs.«01_k».proof.Proof.SbV.Points
public import proofs.«01_k».proof.Proof.SbV.Ref

@[expose] public section

noncomputable section

namespace Cert.Proof.SbV

open Cert.SbIdeal Cert.SbIdeal.Gen
open Idealize.ShloMosaic
open Idealize.ShloMosaic.TcCoe
open Cert.Proof.SbI

/-- Below infinity in magnitude. -/
def Fin' (x : EReal) : Prop := x ≠ ⊤ ∧ x ≠ ⊥

theorem Fin'.exists {x : EReal} (h : Fin' x) : ∃ r : ℝ, x = r := by
  lift x to ℝ using h; exact ⟨x, rfl⟩

/-- A logit of real queries and keys is real, whether the scale is applied to the query or to the sum. -/
theorem logit_real (p k : Fin 64 → EReal) (hp : ∀ x, Fin' (p x)) (hk : ∀ x, Fin' (k x)) :
    ∃ z : ℝ, (∑ x, p x * k x) * Ideal.ofBits .f32 1040187392#32 = z ∧ ∑ x, p x * Ideal.ofBits .f32 1040187392#32 * k x = z := by
  choose p' ep using fun x => (hp x).exists
  choose k' ek using fun x => (hk x).exists
  obtain ⟨w, hw⟩ : ∃ r : ℝ, Ideal.ofBits .f32 1040187392#32 = r := by
    unfold Ideal.ofBits Ideal.ieee
    dsimp only
    rw [if_neg (by decide), if_neg (by decide)]
    exact ⟨_, rfl⟩
  rw [hw]
  simp only [ep, ek]
  refine ⟨∑ x, p' x * w * k' x, ?_, ?_⟩
  · have e : ∑ x, (p' x : EReal) * (k' x : EReal) = ((∑ x, p' x * k' x : ℝ) : EReal) := by
      rw [coe_sum]; rfl
    rw [e, ← EReal.coe_mul, Finset.sum_mul]
    exact congrArg _ (Finset.sum_congr rfl fun x _ => by ring)
  · rw [coe_sum]; rfl

/-- The real logits. -/
def zr (a0 : (⟨2, ![8192, 6656]⟩ : Shape).Idx → EReal) (b : Fin 2) (H : Fin 16) (q k : Fin 4096) : ℝ := (gz a0 b H q k).toReal

/-- The queries and keys are finite. -/
def QK (a0 : (⟨2, ![8192, 6656]⟩ : Shape).Idx → EReal) : Prop := ∀ (r : Fin 8192) (n : Fin 6656), n.val < 2048 → Fin' (a0 (ix2 r n))

theorem zr_eq (a0 : (⟨2, ![8192, 6656]⟩ : Shape).Idx → EReal) (hf : QK a0) (b : Fin 2) (H : Fin 16) (q k : Fin 4096) :
    gz a0 b H q k = (zr a0 b H q k : EReal)
    ∧ ∑ x : Fin 64, a0 (ix2 ⟨b.val * 4096 + q.val, by omega⟩ ⟨H.val * 64 + x.val, by omega⟩) * Ideal.ofBits .f32 1040187392#32
        * a0 (ix2 ⟨b.val * 4096 + k.val, by omega⟩ ⟨1024 + (H.val * 64 + x.val), by omega⟩) = (zr a0 b H q k : EReal) := by
  obtain ⟨z, h1, h2⟩ := logit_real
    (fun x => a0 (ix2 ⟨b.val * 4096 + q.val, by omega⟩ ⟨H.val * 64 + x.val, by omega⟩))
    (fun x => a0 (ix2 ⟨b.val * 4096 + k.val, by omega⟩ ⟨1024 + (H.val * 64 + x.val), by omega⟩))
    (fun x => hf _ _ (by dsimp only; omega)) (fun x => hf _ _ (by dsimp only; omega))
  have e : zr a0 b H q k = z := by
    unfold zr gz
    exact (congrArg EReal.toReal h1).trans (EReal.toReal_coe z)
  rw [e]
  exact ⟨h1, h2⟩

section
variable (m : (ℓ : Loc nD τ sig) → Buf (Elt Ideal) ℓ) (ρ : Dev nD → PrngReg) (c : Dev nD)

/-- The argument, as an array of extended reals. -/
abbrev A0 : (⟨2, ![8192, 6656]⟩ : Shape).Idx → EReal := m ((c.tc : Thread nD τ).loc main_arg0)

theorem hb (t : Fin (cfgA 0).N) : bN t.val < 2 := (points t).2.2.2.2.1
theorem hg (t : Fin (cfgA 0).N) : gN t.val < 4 := (points t).2.2.2.2.2.1
theorem hi' (t : Fin (cfgA 0).N) : iN t.val < 8 := (points t).2.2.2.1
theorem hji (t : Fin (cfgA 0).N) : jN t.val ≤ iN t.val := (points t).2.2.1

/-- The query block of a point. -/
abbrev It (t : Fin (cfgA 0).N) : Fin 8 := ⟨iN t.val, hi' t⟩
/-- The key block of a point. -/
abbrev Jt (t : Fin (cfgA 0).N) : Fin 8 := ⟨jN t.val, lt_of_le_of_lt (hji t) (hi' t)⟩

/-- The logits of row `r` of head `h` at point `t`. -/
def tZ (t : Fin (cfgA 0).N) (h : Fin 4) (r : Fin 512) : Fin 4096 → ℝ :=
  zr (A0 m c) ⟨bN t.val, hb t⟩ ⟨gN t.val * 4 + h.val, by have := hg t; omega⟩ (bk (It t) r)

/-- The values' column `d` of head `h` at point `t`. -/
def tV (t : Fin (cfgA 0).N) (h : Fin 4) (d : Fin 64) : Fin 4096 → EReal := fun k =>
  A0 m c (ix2 ⟨bN t.val * 4096 + k.val, by have := hb t; omega⟩ ⟨2048 + (gN t.val * 256 + (64 * h.val + d.val)), by have := hg t; omega⟩)

theorem kz_eq (hf : QK (A0 m c)) (t : Fin (cfgA 0).N) (h : Fin 4) (r : Fin 512) :
    kz (iblk 0 m ρ c (0 : Fin 5) t) (iblk 0 m ρ c (1 : Fin 5) t) h r = fun k => (tZ m c t h r (bk (Jt t) k) : EReal) := by
  have h1 := hb t; have h2 := hg t; have h3 := hi' t; have h4 := hji t
  funext k
  unfold kz tZ
  rw [← (zr_eq (A0 m c) hf _ _ _ _).2]
  refine Finset.sum_congr rfl fun x _ => ?_
  have e0 := iblk0_apply m ρ c t r (col h x) (by omega) (by unfold col; dsimp only; omega)
  have e1 := iblk1_apply m ρ c t k (col h x) (by omega) (by unfold col; dsimp only; omega)
  refine (congrArg₂ (fun a b : EReal => a * Ideal.ofBits .f32 1040187392#32 * b) e0 e1).trans ?_
  refine congrArg₂ (fun a b : EReal => a * Ideal.ofBits .f32 1040187392#32 * b) (congrArg (A0 m c) ?_) (congrArg (A0 m c) ?_)
  · refine congrArg₂ ix2 (Fin.ext ?_) (Fin.ext ?_) <;> simp only [col, bk] <;> omega
  · refine congrArg₂ ix2 (Fin.ext ?_) (Fin.ext ?_) <;> simp only [col, bk] <;> omega

theorem val_eq (t : Fin (cfgA 0).N) (h : Fin 4) (d : Fin 64) :
    (fun k => iblk 0 m ρ c (2 : Fin 5) t (ix2 k (col h d))) = fun k => tV m c t h d (bk (Jt t) k) := by
  have h1 := hb t; have h2 := hg t; have h3 := hi' t; have h4 := hji t
  funext k
  unfold tV
  refine (iblk2_apply m ρ c t k (col h d) (by omega) (by unfold col; dsimp only; omega)).trans ?_
  refine congrArg (A0 m c) (congrArg₂ ix2 (Fin.ext ?_) (Fin.ext ?_)) <;> simp only [col, bk] <;> omega

theorem tri_eq (t : Fin (cfgA 0).N) : IsTri (tri (iblk 0 m ρ c (3 : Fin 5) t)) := fun x q => iblk3_apply m ρ c t x q

/-- What the scratches hold after point `t`. -/
def Inv (t : Fin (cfgA 0).N) : Prop := ∀ (h : Fin 4) (r : Fin 512),
  (traj0 0 m ρ c t.val t.isLt).2.2 (ix3 h r (0 : Fin 1)) = ((tl (cost (tZ m c t h r) (bk (It t) r)) (512 * jN t.val) : ℝ) : EReal)
  ∧ ∀ d : Fin 64, (traj0 0 m ρ c t.val t.isLt).2.1 (ix3 h r d) = tl (wv (tZ m c t h r) (bk (It t) r) (tV m c t h d)) (512 * jN t.val)

/-- What the output block holds after a point `t` of the first key block. -/
def OutInv (t : Fin (cfgA 0).N) : Prop := jN t.val = 0 → ∀ (h : Fin 4) (r : Fin 512) (d : Fin 64),
  (traj0 0 m ρ c t.val t.isLt).1 (ix2 r (col h d)) = tl (wv (tZ m c t h r) (bk (It t) r) (tV m c t h d)) (512 * jN t.val)

theorem step_first (hf : QK (A0 m c)) (t : Fin (cfgA 0).N) (hj : jN t.val = iN t.val) : Inv m ρ c t ∧ OutInv m ρ c t := by
  have q0 : P0_0 0 t := (points t).1.mpr hj
  have eJ : Jt t = It t := Fin.ext hj
  have es := fun h r => run_diag (tZ m c t h r) (It t) r
  have ea := fun h r d => acc_diag (tZ m c t h r) (tV m c t h d) _ (tri_eq m ρ c t) (It t) r
  unfold Inv OutInv
  rw [traj0_eq, hj]
  by_cases q1 : P0_1 0 t
  · rw [step0_A 0 m ρ c t _ q0 q1]
    refine ⟨fun h r => ⟨?_, fun d => ?_⟩, fun he h r d => ?_⟩ <;> dsimp only
    · rw [A_s, kz_eq m ρ c hf, eJ]; exact es h r
    · rw [A_a, kz_eq m ρ c hf, val_eq m ρ c t, eJ]; exact ea h r d
    · rw [A_out, kz_eq m ρ c hf, val_eq m ρ c t, eJ]; exact ea h r d
  · have hlt := (points t).2.1.not.mp q1
    rw [step0_B 0 m ρ c t _ q0 q1]
    refine ⟨fun h r => ⟨?_, fun d => ?_⟩, fun he => absurd (hj.trans he) hlt⟩ <;> dsimp only
    · rw [B_s, kz_eq m ρ c hf, eJ]; exact es h r
    · rw [B_a, kz_eq m ρ c hf, val_eq m ρ c t, eJ]; exact ea h r d

theorem step_next (hf : QK (A0 m c)) (t : Fin (cfgA 0).N) (hj : jN t.val ≠ iN t.val) (ih : Inv m ρ c ⟨t.val - 1, by omega⟩) :
    Inv m ρ c t ∧ OutInv m ρ c t := by
  have q0 : ¬P0_0 0 t := (points t).1.not.mpr hj
  obtain ⟨hz, ej, ei, eb, eg⟩ := (points t).2.2.2.2.2.2.1 hj
  have hlt : Jt t < It t := Fin.lt_def.2 (lt_of_le_of_ne (hji t) hj)
  have eS : ∀ h r, tZ m c ⟨t.val - 1, by omega⟩ h r = tZ m c t h r := fun h r => by unfold tZ It; simp only [ei, eb, eg]
  have eV : ∀ h d, tV m c ⟨t.val - 1, by omega⟩ h d = tV m c t h d := fun h d => by unfold tV; simp only [eb, eg]
  have eI : ∀ r, bk (It ⟨t.val - 1, by omega⟩) r = bk (It t) r := fun r => by unfold It; simp only [ei]
  unfold Inv at ih
  simp only [eS, eV, eI, ej] at ih
  have hp : prev0 0 m ρ c t = traj0 0 m ρ c (t.val - 1) (by omega) := by unfold prev0; rw [dif_neg hz]
  have es := fun h r => run_off (tZ m c t h r) (It t) (Jt t) r hlt
  have ea := fun h r d => acc_off (tZ m c t h r) (tV m c t h d) _ (tri_eq m ρ c t) (It t) (Jt t) r hlt
  unfold Inv OutInv
  rw [traj0_eq, hp]
  generalize traj0 0 m ρ c (t.val - 1) _ = prev at ih ⊢
  by_cases q1 : P0_1 0 t
  · rw [step0_C 0 m ρ c t _ q0 q1]
    refine ⟨fun h r => ⟨?_, fun d => ?_⟩, fun he h r d => ?_⟩ <;> dsimp only
    · rw [C_s, kz_eq m ρ c hf, (ih h r).1]; exact es h r
    · rw [C_a, kz_eq m ρ c hf, val_eq m ρ c t, (ih h r).1, (ih h r).2 d]; exact ea h r d
    · rw [C_out, kz_eq m ρ c hf, val_eq m ρ c t, (ih h r).1, (ih h r).2 d]; exact ea h r d
  · have hne := (points t).2.1.not.mp q1
    rw [step0_D 0 m ρ c t _ q0 q1]
    refine ⟨fun h r => ⟨?_, fun d => ?_⟩, fun he => absurd he hne⟩ <;> dsimp only
    · rw [D_s, kz_eq m ρ c hf, (ih h r).1]; exact es h r
    · rw [D_a, kz_eq m ρ c hf, val_eq m ρ c t, (ih h r).1, (ih h r).2 d]; exact ea h r d

theorem inv_all (hf : QK (A0 m c)) : ∀ (n : ℕ) (hn : n < (cfgA 0).N), Inv m ρ c ⟨n, hn⟩ ∧ OutInv m ρ c ⟨n, hn⟩ := by
  intro n
  induction n with
  | zero => exact fun hn => step_first m ρ c hf ⟨0, hn⟩ (show jN 0 = iN 0 by simp [jN, iN])
  | succ n ih =>
    intro hn
    by_cases hj : jN (n + 1) = iN (n + 1)
    · exact step_first m ρ c hf ⟨n + 1, hn⟩ hj
    · exact step_next m ρ c hf ⟨n + 1, hn⟩ hj (ih (by omega)).1

end

end Cert.Proof.SbV

end
-- ==== Proof.SbV.Value.lean ====
/- The stick-breaking attention over the extended reals: the array the kernel leaves, the queries and keys being
   finite. -/
module

public import proofs.«01_k».proof.Proof.SbV.Traj

@[expose] public section

noncomputable section

namespace Cert.Proof.SbV

open Idealize.ShloMosaic
open Idealize.ShloMosaic.TcCoe
open Cert.SbIdeal Cert.SbIdeal.Gen
open Cert.Proof.SbI

/-- The attention of row `r`, column `n`, from the argument. -/
def attn (a0 : (⟨2, ![8192, 6656]⟩ : Shape).Idx → EReal) (r : Fin 8192) (n : Fin 1024) : EReal :=
  tl (wv (zr a0 ⟨r.val / 4096, by omega⟩ ⟨n.val / 64, by omega⟩ ⟨r.val % 4096, by omega⟩) ⟨r.val % 4096, by omega⟩
    (fun x => a0 (ix2 ⟨r.val / 4096 * 4096 + x.val, by omega⟩ ⟨2048 + n.val, by omega⟩))) 0

/-- The weighted values of a point's row are the attention's. -/
theorem attn_eq (a0 : (⟨2, ![8192, 6656]⟩ : Shape).Idx → EReal) (r : Fin 8192) (n : Fin 1024) (b : Fin 2) (H : Fin 16) (q : Fin 4096)
    (v : Fin 4096 → EReal) (eb : b.val = r.val / 4096) (eH : H.val = n.val / 64) (eq : q.val = r.val % 4096)
    (ev : ∀ x : Fin 4096, v x = a0 (ix2 ⟨r.val / 4096 * 4096 + x.val, by omega⟩ ⟨2048 + n.val, by omega⟩)) :
    tl (wv (zr a0 b H q) q v) 0 = attn a0 r n := by
  have l0 : r.val / 4096 < 2 := by clear eb eH eq ev; omega
  have l1 : n.val / 64 < 16 := by clear eb eH eq ev; omega
  have l2 : r.val % 4096 < 4096 := by clear eb eH eq ev; omega
  obtain rfl : b = ⟨r.val / 4096, l0⟩ := Fin.ext eb
  obtain rfl : H = ⟨n.val / 64, l1⟩ := Fin.ext eH
  obtain rfl : q = ⟨r.val % 4096, l2⟩ := Fin.ext eq
  unfold attn
  rw [funext ev]

section
variable (m : (ℓ : Loc nD τ sig) → Buf (Elt Ideal) ℓ) (ρ : Dev nD → PrngReg) (c : Dev nD)

/-- The array the kernel leaves. -/
theorem arr_eq (hqk : QK (A0 m c)) :
    (dats 0 m ρ 0 c).arrAt (4 : Fin 5) (cfgA 0).N = (fun y => attn (A0 m c) (y 0) (y 1) : (⟨2, ![8192, 1024]⟩ : Shape).Idx → EReal) := by
  refine (dats 0 m ρ 0 c).arrAt_eq_of_covers (4 : Fin 5) _ covers4 fun t hf y => ?_
  have hj := (points t).2.2.2.2.2.2.2.1 hf
  have e := (points t).2.2.2.2.2.2.2.2.2.2.2.2
  blk_simp
  rw [after0_4]
  obtain ⟨r, q, rfl⟩ : ∃ (r : Fin 512) (q : Fin 256), y = ix2 r q := ⟨y 0, y 1, by funext a; fin_cases a <;> rfl⟩
  have E0 : ((((cfgA 0).win (4 : Fin 5)).blk t).view.emb (ix2 r q) 0 : ℕ) = (bN t.val * 8 + iN t.val) * 512 + r.val := by
    refine (Pipeline.Window.rect_emb_val _ _ _ _).trans ?_
    rw [e]; rfl
  have E1 : ((((cfgA 0).win (4 : Fin 5)).blk t).view.emb (ix2 r q) 1 : ℕ) = gN t.val * 256 + q.val := by
    refine (Pipeline.Window.rect_emb_val _ _ _ _).trans ?_
    rw [e]; rfl
  have h1 := hb t; have h2 := hg t; have h3 := hi' t
  have hq : q = col ⟨q.val / 64, by omega⟩ ⟨q.val % 64, by omega⟩ := Fin.ext (by simp only [col]; omega)
  have ho := (inv_all m ρ c hqk t.val t.isLt).2 hj ⟨q.val / 64, by omega⟩ r ⟨q.val % 64, by omega⟩
  rw [← hq] at ho
  refine ho.trans ?_
  dsimp only
  rw [hj]
  refine attn_eq _ _ _ _ _ _ _ (by rw [E0]; dsimp only; omega) (by rw [E1]; dsimp only; omega) (by rw [E0]; simp only [bk]; omega) fun x => ?_
  unfold tV
  refine congrArg (A0 m c) (congrArg₂ ix2 (Fin.ext ?_) (Fin.ext ?_))
  · dsimp only; rw [E0]; omega
  · dsimp only; rw [E1]; omega

end

end Cert.Proof.SbV

end
-- ==== Proof.SbV.Claim.lean ====
/- The stick-breaking attention computes the reference's values, no query and no key being infinite. -/
module

public import proofs.«01_k».proof.Defs
public import proofs.«01_k».proof.Proof.SbV.Value
public import proofs.«01_k».proof.Proof.Gen.Pre_finite_sb
public import Idealize.ShloMosaic.Lib.ReduceAll

@[expose] public section

noncomputable section

namespace Cert.Proof.SbV

open Idealize.ShloMosaic Idealize.SL.Sem
open Idealize.ShloMosaic.TcCoe

/-- An extended real whose absolute value compares below `⊤` is finite. -/
theorem fin_of_abs_lt (x : EReal) (h : Ideal.cmp .olt (max x (-x)) (Ideal.ofBits .f32 0x7F800000#32) = 1#1) : Fin' x := by
  have e : Ideal.ofBits .f32 0x7F800000#32 = (⊤ : EReal) := by simp [Ideal.ofBits, Ideal.ieee]
  rw [e] at h
  refine ⟨fun hx => ?_, fun hx => ?_⟩ <;> subst hx <;> simp [Ideal.cmp] at h

instance : Subsingleton Cert.Pre_finite_sb.S_.Idx := ⟨fun a b => funext fun d => d.elim0⟩

/-- The precondition, read back. -/
theorem pre_fin (a0 : (⟨2, ![8192, 6656]⟩ : Shape).Idx → EReal) (h : Cert.Pre_finite_sb.fn (F := Ideal) a0 = fun _ => 1#1) : QK a0 := by
  intro r n hn
  have h' := congrFun h (fun d => d.elim0)
  dsimp only [Cert.Pre_finite_sb.fn] at h'
  have := fin_of_abs_lt _ (Host.reduce_andi_all _ _ _ _ _ h' (ix2 r ⟨n.val, hn⟩))
  refine Eq.mp (congrArg Fin' (congrArg a0 (funext fun a => Fin.ext ?_))) this
  fin_cases a
  · show 0 + r.val = r.val; omega
  · show 0 + n.val = n.val; omega

/-- Under finite queries and keys, every execution of the kernel and every execution of the reference end with the same
    array. -/
theorem algebraic : Cert.algebraic_SbIdeal_SbRefIdeal_pre_finite_sb := by
  intro m g m' g' hp hag
  refine ⟨fun c => (fun y => attn (A0 m c) (y 0) (y 1) : (⟨2, ![8192, 1024]⟩ : Shape).Idx → EReal), ?_, ?_⟩
  · refine (θ_run Cert.SbIdeal.defs _ _).mono (fun r h c => ⟨(h c).1.trans ?_, (h c).2⟩) (SbI.run_value 0 m g)
    exact arr_eq m g c (pre_fin _ (hp c))
  · refine (θ_run Cert.SbRefIdeal.defs _ _).mono (fun r h c => ⟨(h c).1.trans ?_, (h c).2⟩)
      (Cert.SbRefIdeal.Value.run (F := Ideal) m' g')
    have h0 := hag c
    have hf := pre_fin _ (hp c)
    refine (ref_split m' c).trans ?_
    rw [h0]
    funext y
    have hy : y = ix2 (y 0) (y 1) := by
      funext d; fin_cases d <;> rfl
    rw [hy]
    exact ref_apply (A0 m c) (y 0) (y 1) _ fun k => (zr_eq (A0 m c) hf _ _ _ k).1

end Cert.Proof.SbV

end
-- ==== Proof.Ffn.ValS.lean ====
/- The last feed-forward layer of the decode step, with the final normalisation: the array the kernel leaves, over the extended reals. -/
module

public import proofs.«01_k».proof.Proof.Gen.Ffn1SIdeal.Value
public import proofs.«01_k».proof.Proof.Ffn.Math
public import Idealize.ShloMosaic.Lib.Claim
public import Idealize.ShloMosaic.Lib.Pipeline.ReadBack

@[expose] public section
noncomputable section
namespace Cert.Proof.Ffn1S
open Cert.Ffn1SIdeal Cert.Ffn1SIdeal.Gen Cert.Ffn1SIdeal.Value
open Idealize.ShloMosaic
open Idealize.ShloMosaic.TcCoe
open Cert.Proof.Ffn

theorem pay1 (a : Vec Ideal S128x2048 .f32) (b : Vec Ideal S1x2048 .f32) (r : Fin 128) (k : Fin 2048) :
    k0_pay1 a b (ix2 r k) = rms (fun k => a (ix2 r k)) (fun k => b (ix2 0 k)) k := by
  pointwise [k0_pay1]
  rfl

theorem pay3 (h : Vec Ideal S128x2048 .bf16) (wg wu : Vec Ideal S2048x512 .bf16) (acc : Vec Ideal S128x2048 .f32) (wd : Vec Ideal S512x2048 .bf16) (r : Fin 128) (n : Fin 2048) :
    k0_pay3 h wg wu acc wd (ix2 r n) = (acc (ix2 r n) : EReal) + part h wg wu wd r n := by
  pointwise [k0_pay3]
  simp only [zero_sub]
  rfl

theorem pay2 (j) : k0_pay2 (F := Ideal) j = (0 : EReal) := by
  pointwise [k0_pay2]

theorem pay4 (a b : Vec Ideal S128x2048 .f32) (g : Vec Ideal S1x2048 .f32) (r : Fin 128) (n : Fin 2048) :
    k0_pay4 a b g (ix2 r n) = rms (fun k => (a (ix2 r k) : EReal) + b (ix2 r k)) (fun k => g (ix2 0 k)) n := by
  pointwise [k0_pay4]
  rfl

variable (m : (ℓ : Loc nD τ sig) → Buf (Elt Ideal) ℓ) (c : Dev nD)

theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0]
    ∧ win0_5.index t = ![0, 0] := by decide +kernel

/-- The arguments' contents, as plain arrays. -/
abbrev X : (⟨2, ![128, 2048]⟩ : Shape).Idx → EReal := m ((c.tc : Thread nD τ).loc main_arg0)
abbrev G : (⟨1, ![2048]⟩ : Shape).Idx → EReal := m ((c.tc : Thread nD τ).loc main_arg1)
abbrev Wg : (⟨2, ![2048, 5632]⟩ : Shape).Idx → EReal := m ((c.tc : Thread nD τ).loc main_arg2)
abbrev Wu : (⟨2, ![2048, 5632]⟩ : Shape).Idx → EReal := m ((c.tc : Thread nD τ).loc main_arg3)
abbrev Wd : (⟨2, ![5632, 2048]⟩ : Shape).Idx → EReal := m ((c.tc : Thread nD τ).loc main_arg4)
abbrev Gf : (⟨1, ![2048]⟩ : Shape).Idx → EReal := m ((c.tc : Thread nD τ).loc main_arg5)

theorem blk0 (t : Fin cfg0.N) (r : Fin 128) (k : Fin 2048) (h) :
    (iblk m c 0 t (ix2 r k) : EReal) = X m c (ix2 ⟨t.val / 11 * 128 + r.val, h⟩ k) := by
  blk_ext [iblk, V, (idx t).1]
theorem blk1 (t : Fin cfg0.N) (k : Fin 2048) :
    (iblk m c 1 t (ix2 0 k) : EReal) = G m c (ix1 k) := by
  blk_ext! [iblk, V, (idx t).2.1]
theorem blk2 (t : Fin cfg0.N) (k : Fin 2048) (x : Fin 512) (h) :
    (iblk m c 2 t (ix2 k x) : EReal) = Wg m c (ix2 k ⟨t.val % 11 * 512 + x.val, h⟩) := by
  blk_ext [iblk, V, (idx t).2.2.1]
theorem blk3 (t : Fin cfg0.N) (k : Fin 2048) (x : Fin 512) (h) :
    (iblk m c 3 t (ix2 k x) : EReal) = Wu m c (ix2 k ⟨t.val % 11 * 512 + x.val, h⟩) := by
  blk_ext [iblk, V, (idx t).2.2.2.1]
theorem blk4 (t : Fin cfg0.N) (x : Fin 512) (n : Fin 2048) (h) :
    (iblk m c 4 t (ix2 x n) : EReal) = Wd m c (ix2 ⟨t.val % 11 * 512 + x.val, h⟩ n) := by
  blk_ext [iblk, V, (idx t).2.2.2.2.1]
theorem blk5 (t : Fin cfg0.N) (k : Fin 2048) :
    (iblk m c 5 t (ix2 0 k) : EReal) = Gf m c (ix1 k) := by
  blk_ext! [iblk, V, (idx t).2.2.2.2.2]

/-- At the first point of a row block the normalised block is stored. -/
theorem inv_reset (t : Fin cfg0.N) (h0 : t.val % 11 = 0) (r : Fin 128) (k : Fin 2048) (h : t.val / 11 * 128 + r.val < 128) :
    ((outsAt0 m c t.val t.isLt).2.1 (ix2 r k) : EReal)
      = rms (fun k => X m c (ix2 ⟨t.val / 11 * 128 + r.val, h⟩ k)) (fun k => G m c (ix1 k)) k := by
  rw [outsAt0_A m c t h0 (by omega)]
  frame_out
  rw [pay1]
  simp only [blk0 m c _ _ _ h, blk1]

/-- The normalised block the scratch holds: that of the point's own rows. -/
theorem inv0 (t : ℕ) (ht : t < cfg0.N) (r : Fin 128) (k : Fin 2048) (h : t / 11 * 128 + r.val < 128) :
    ((outsAt0 m c t ht).2.1 (ix2 r k) : EReal)
      = rms (fun k => X m c (ix2 ⟨t / 11 * 128 + r.val, h⟩ k)) (fun k => G m c (ix1 k)) k := by
  induction t with
  | zero => exact inv_reset m c ⟨0, ht⟩ rfl r k h
  | succ t ih =>
    by_cases h0 : (t + 1) % 11 = 0
    · exact inv_reset m c ⟨t + 1, ht⟩ h0 r k h
    · have hd : (t + 1) / 11 = t / 11 := by omega
      have ih' := ih (by omega) (by omega)
      simp only [hd]
      rw [outsAt0_succ]
      by_cases h1 : (t + 1) % 11 = 10
      · rw [stAt0_C m c ⟨t + 1, ht⟩ _ h0 h1]
        exact ih'
      · rw [stAt0_B m c ⟨t + 1, ht⟩ _ h0 h1]
        exact ih'

theorem bound (t : Fin cfg0.N) (r : Fin 128) : t.val / 11 * 128 + r.val < 128 := by
  have := lt_of_lt_of_eq t.isLt (show cfg0.N = 11 from N_0)
  omega

/-- The accumulator at a point: the terms of its row block so far. -/
theorem acc_eq (t : Fin cfg0.N) (j : S128x2048.Idx) :
    ((outsAt0 m c t.val t.isLt).2.2 j : EReal)
      = 0 + ∑ k ∈ Finset.range (t.val % 11 + 1), term (X m c) (G m c) (Wg m c) (Wu m c) (Wd m c) (11 * (t.val / 11) + k) j := by
  refine Pipeline.eq_sum_of_reset_step_apply (fun n h j => ((outsAt0 m c n h).2.2 j : EReal)) 11 (fun _ => 0) (term (X m c) (G m c) (Wg m c) (Wu m c) (Wd m c)) ?_ ?_ t j
  · intro t h j
    obtain ⟨r, n, rfl⟩ : ∃ (r : Fin 128) (n : Fin 2048), j = ix2 r n := ⟨j 0, j 1, by funext a; fin_cases a <;> rfl⟩
    rw [outsAt0_A m c t h (by omega)]
    frame_out
    rw [pay3, pay2]
    refine congrArg (fun x : EReal => 0 + x) (part_eq (X m c) (G m c) (Wg m c) (Wu m c) (Wd m c) t.val _ _ _ _ r n (bound t r) (fun k => ?_) (blk2 m c t) (blk3 m c t) (blk4 m c t))
    rw [pay1]
    simp only [blk0 m c t _ _ (bound t r), blk1]
  · intro t h j
    obtain ⟨r, n, rfl⟩ : ∃ (r : Fin 128) (n : Fin 2048), j = ix2 r n := ⟨j 0, j 1, by funext a; fin_cases a <;> rfl⟩
    have hd : (t.val - 1) / 11 = t.val / 11 := by omega
    have hi : ∀ k, ((outsAt0 m c (t.val - 1) (Nat.lt_of_le_of_lt (Nat.sub_le _ _) t.isLt)).2.1 (ix2 r k) : EReal)
        = rms (fun k => X m c (ix2 ⟨t.val / 11 * 128 + r.val, bound t r⟩ k)) (fun k => G m c (ix1 k)) k := fun k => by
      have e := inv0 m c (t.val - 1) (Nat.lt_of_le_of_lt (Nat.sub_le _ _) t.isLt) r k (by rw [hd]; exact bound t r)
      simpa only [hd] using e
    by_cases h1 : t.val % 11 = 10
    · rw [outsAt0_C m c t h h1]
      frame_out
      simp only [read_unread_whole]
      rw [pay3]
      exact congrArg (fun x : EReal => _ + x) (part_eq (X m c) (G m c) (Wg m c) (Wu m c) (Wd m c) t.val _ _ _ _ r n (bound t r) hi (blk2 m c t) (blk3 m c t) (blk4 m c t))
    · rw [outsAt0_B m c t h h1]
      frame_out
      simp only [read_unread_whole]
      rw [pay3]
      exact congrArg (fun x : EReal => _ + x) (part_eq (X m c) (G m c) (Wg m c) (Wu m c) (Wd m c) t.val _ _ _ _ r n (bound t r) hi (blk2 m c t) (blk3 m c t) (blk4 m c t))

/-- A row plus its feed-forward layer, normalised. -/
abbrev fin (r : Fin 128) (n : Fin 2048) : EReal :=
  rms (row (fun k => X m c (ix2 r k)) (fun k => G m c (ix1 k)) (Wg m c) (Wu m c) (Wd m c)) (fun k => Gf m c (ix1 k)) n

/-- What the last point of a row block writes back: the row plus the accumulator, normalised. -/
theorem out_eq (t : Fin cfg0.N) (h1 : t.val % 11 = 10) (r : Fin 128) (n : Fin 2048) :
    ((outsAt0 m c t.val t.isLt).1 (ix2 r n) : EReal) = fin m c ⟨t.val / 11 * 128 + r.val, bound t r⟩ n := by
  have ea := fun k => acc_eq m c t (ix2 r k)
  rw [outsAt0_C m c t (by omega) h1] at ea ⊢
  frame_out at ea
  frame_out
  rw [pay4]
  refine congrArg₂ (fun x g => rms x g n) (funext fun k => ?_) (funext fun k => blk5 m c t k)
  refine (congrArg (fun x : EReal => _ + x) (ea k)).trans ?_
  rw [h1, zero_add, blk0 m c t r k (bound t r)]
  exact sum_terms (X m c) (G m c) (Wg m c) (Wu m c) (Wd m c) (t.val / 11) r k (bound t r)

/-- The array the run leaves. -/
theorem arr_eq : (G6 m c : (⟨2, ![128, 2048]⟩ : Shape).Idx → EReal)
    = fun i => fin m c (i 0) (i 1) := by
  funext i
  have h0 : (i 0).val < 128 := (i 0).isLt
  have h1 : (i 1).val < 2048 := (i 1).isLt
  have hr : pt6Of i = 11 * ((i 0).val / 128) + 10 := by
    show 11 * (1 * ((i 0).val / 128 - 0) + 1 * ((i 1).val / 2048 - 0)) + 10 = _
    omega
  have hp : pt6Of i < cfg0.N := by rw [show cfg0.N = 11 from N_0, hr]; omega
  unfold G6
  rw [dif_pos hp]
  have e := outsAt0_sweep m c (pt6Of i) hp
  rw [← e]
  have e2 : loc6Of i = ix2 ⟨(i 0).val % 128, by omega⟩ ⟨(i 1).val % 2048, by omega⟩ := by funext a; fin_cases a <;> rfl
  have hq : pt6Of i / 11 = (i 0).val / 128 := by rw [hr]; omega
  have hq' : pt6Of i % 11 = 10 := by rw [hr]; omega
  rw [e2]
  refine (out_eq m c ⟨pt6Of i, hp⟩ hq' _ _).trans ?_
  have e3 : (⟨(⟨pt6Of i, hp⟩ : Fin cfg0.N).val / 11 * 128 + (i 0).val % 128, bound ⟨pt6Of i, hp⟩ ⟨(i 0).val % 128, by omega⟩⟩ : Fin 128) = i 0 := Fin.ext (by
    show pt6Of i / 11 * 128 + (i 0).val % 128 = _
    rw [hq]; omega)
  have e4 : (⟨(i 1).val % 2048, by omega⟩ : Fin 2048) = i 1 := Fin.ext (by show (i 1).val % 2048 = _; omega)
  rw [e4]
  dsimp only at e3 ⊢
  rw [e3]

end Cert.Proof.Ffn1S
end
-- ==== Proof.Ffn.ClaimS.lean ====
/- The last feed-forward layer of the decode step, with the final normalisation, computes the reference's values. -/
module

public import proofs.«01_k».proof.Defs
public import proofs.«01_k».proof.Proof.Ffn.ValS
public import proofs.«01_k».proof.Proof.Gen.Ffn1SRefIdeal.Run

@[expose] public section

noncomputable section

namespace Cert.Proof.Ffn1S

open Idealize.ShloMosaic Idealize.SL.Sem
open Idealize.ShloMosaic.TcCoe
open Cert.Proof.Ffn

/-- Every execution of the kernel and every execution of the reference end with the same array. -/
theorem algebraic : Cert.algebraic_Ffn1SIdeal_Ffn1SRefIdeal := by
  intro m g m' g' _ hag
  refine ⟨fun c => (fun i => fin m c (i 0) (i 1) : (⟨2, ![128, 2048]⟩ : Shape).Idx → EReal), ?_, ?_⟩
  · exact (θ_run Cert.Ffn1SIdeal.defs _ _).mono (fun r h c => ⟨(h c).1.trans (arr_eq m c), (h c).2⟩)
      (Cert.Ffn1SIdeal.Value.run m g)
  · refine (θ_run Cert.Ffn1SRefIdeal.defs _ _).mono (fun r h c => ⟨(h c).1.trans ?_, (h c).2⟩)
      (Cert.Ffn1SRefIdeal.Value.run (F := Ideal) m' g')
    obtain ⟨h0, h1, h2, h3, h4, h5⟩ := hag c
    unfold Cert.Ffn1SRefIdeal.Value.res_main_v34
    rw [h0, h1, h2, h3, h4, h5]
    funext y
    obtain ⟨r, n, rfl⟩ : ∃ (r : Fin 128) (n : Fin 2048), y = ix2 r n := ⟨y 0, y 1, by funext a; fin_cases a <;> rfl⟩
    pointwise
    rfl

end Cert.Proof.Ffn1S

end
-- ==== Proof.KvV.Prompt.lean ====
/- The keys and values laid out for the cache, the prompt's batch: the kernel's arrays, transposed back, are the
   reference's columns. -/
module

public import proofs.«01_k».proof.Defs
public import proofs.«01_k».proof.Proof.Gen.KvIdeal.Frame
public import proofs.«01_k».proof.Proof.Gen.KvRefIdeal.Run
public import Idealize.ShloMosaic.Lib.Pipeline.ValueKit

@[expose] public section

noncomputable section

namespace Cert.Proof.KvP

open Idealize.ShloMosaic Idealize.SL.Sem
open Idealize.ShloMosaic.TcCoe
open Cert.KvIdeal Cert.KvIdeal.Gen

/-- A block's rows as columns, by heads. -/
theorem pay1 (v : Vec Ideal S512x1024 .f32) (a : Fin 1) (h : Fin 16) (d : Fin 64) (t : Fin 512) :
    k0_pay1 (F := Ideal) v (ix4 a h d t) = v (ix2 t ⟨h.val * 64 + d.val, by omega⟩) := by
  pointwise [k0_pay1]

/-- The same, of the values' block. -/
theorem pay2 (v : Vec Ideal S512x1024 .f32) (a : Fin 1) (h : Fin 16) (d : Fin 64) (t : Fin 512) :
    k0_pay2 (F := Ideal) v (ix4 a h d t) = v (ix2 t ⟨h.val * 64 + d.val, by omega⟩) := pay1 v a h d t

/-- Where the windows' blocks lie. -/
theorem idx : ∀ t : Fin cfg0.N, win0_0.index t = ![(grid0.coords t 0).val * 8 + (grid0.coords t 1).val, 1]
    ∧ win0_1.index t = ![(grid0.coords t 0).val * 8 + (grid0.coords t 1).val, 2]
    ∧ win0_2.index t = ![(grid0.coords t 0).val, 0, 0, (grid0.coords t 1).val]
    ∧ win0_3.index t = ![(grid0.coords t 0).val, 0, 0, (grid0.coords t 1).val] := by decide +kernel

section
variable (m : (ℓ : Loc nD τ sig) → Buf (Elt Ideal) ℓ) (c : Dev nD)

/-- The argument. -/
abbrev A0 : (⟨2, ![8192, 6656]⟩ : Shape).Idx → EReal := m ((c.tc : Thread nD τ).loc main_arg0)

/-- The array the columns from `o` on make, heads before tokens. -/
def lay (a : (⟨2, ![8192, 6656]⟩ : Shape).Idx → EReal) (o : ℕ) (ho : o + 1024 ≤ 6656) : (⟨4, ![2, 16, 64, 4096]⟩ : Shape).Idx → EReal := fun y =>
  a (ix2 ⟨(y 0).val * 4096 + (y 3).val, by have h0 : (y 0).val < 2 := (y 0).isLt; have h3 : (y 3).val < 4096 := (y 3).isLt; omega⟩
    ⟨o + ((y 1).val * 64 + (y 2).val), by have h1 : (y 1).val < 16 := (y 1).isLt; have h2 : (y 2).val < 64 := (y 2).isLt; omega⟩)

/-- The keys' array the region leaves. -/
theorem arr2 : (dats m 0 c).arrAt (2 : Fin 4) cfg0.N = lay (A0 m c) 1024 (by decide) := by
  refine (dats m 0 c).arrAt_eq_of_covers (2 : Fin 4) _ (by decide +kernel) fun t hf y => ?_
  blk_simp
  rw [after0_2]
  unfold outsAt0
  frame_out
  obtain ⟨a, h, d, t', rfl⟩ : ∃ (a : Fin 1) (h : Fin 16) (d : Fin 64) (t' : Fin 512), y = ix4 a h d t' :=
    ⟨y 0, y 1, y 2, y 3, by funext a; fin_cases a <;> rfl⟩
  refine (pay1 _ a h d t').trans ?_
  unfold X0_0 Pipeline.Window.fill
  rw [dif_pos (moved0_0 t _)]
  unfold lay
  blk_ext [iblk, V, idx t]

/-- The values' array the region leaves. -/
theorem arr3 : (dats m 0 c).arrAt (3 : Fin 4) cfg0.N = lay (A0 m c) 2048 (by decide) := by
  refine (dats m 0 c).arrAt_eq_of_covers (3 : Fin 4) _ (by decide +kernel) fun t hf y => ?_
  blk_simp
  rw [after0_3]
  unfold outsAt0
  frame_out
  obtain ⟨a, h, d, t', rfl⟩ : ∃ (a : Fin 1) (h : Fin 16) (d : Fin 64) (t' : Fin 512), y = ix4 a h d t' :=
    ⟨y 0, y 1, y 2, y 3, by funext a; fin_cases a <;> rfl⟩
  refine (pay2 _ a h d t').trans ?_
  unfold X0_1 Pipeline.Window.fill
  rw [dif_pos (moved0_1 t _)]
  unfold lay
  blk_ext [iblk, V, idx t]

/-- What the region leaves in a window's array: the two fetched windows share the argument and leave it. -/
theorem left (w : Fin 4) : Pipeline.withArrays (τ := τ) spec0 c (V0 m c) (fun w => (dats m 0 c).arrAt w cfg0.N)
    (Proc.devRef .tc (Pipeline.arrRef spec0 w)) = (dats m 0 c).arrAt w cfg0.N := by
  refine Pipeline.withArrays_arr_shared spec0 c (V0 m c) _ (fun w w' hne e => ?_) w
  have hw : ∀ w w' : Fin 4, w ≠ w' → Pipeline.arrRef spec0 w = Pipeline.arrRef spec0 w' → (cfg0.win w).isOut = false := by decide
  exact ((dats m 0 c).arrAt_in w (hw w w' hne e) _).trans (A_eq m c w)

/-- The first result after the two transposes. -/
theorem tail1 : Pipeline.afterTail₀ cfgs (dats m) 0 (V0 m) [hostOps1] c main_v1
    = transpose S2x4096x16x64 [0, 3, 1, 2] (lay (A0 m c) 1024 (by decide)) transposes_S2x16x64x4096_S2x4096x16x64_0_3_1_2 := by
  rw [← arr2, ← left m c 2]
  show StableHlo.after hostOps1 _ _ = _
  after_results

/-- The second. -/
theorem tail2 : Pipeline.afterTail₀ cfgs (dats m) 0 (V0 m) [hostOps1] c main_v2
    = transpose S2x4096x16x64 [0, 3, 1, 2] (lay (A0 m c) 2048 (by decide)) transposes_S2x16x64x4096_S2x4096x16x64_0_3_1_2 := by
  rw [← arr3, ← left m c 3]
  show StableHlo.after hostOps1 _ _ = _
  after_results

end

/-- The reference's columns, split by batch and head, are the layout with tokens first. -/
theorem ref_eq (a : (⟨2, ![8192, 6656]⟩ : Shape).Idx → EReal) (o : ℕ) (ho : o + 1024 ≤ 6656)
    (hs : (⟨2, ![8192, 6656]⟩ : Shape).Slices ![0, o] ⟨2, ![8192, 1024]⟩) (hc : (⟨2, ![8192, 1024]⟩ : Shape).ShapeCasts S2x4096x16x64)
    (ht : S2x16x64x4096.Transposes [0, 3, 1, 2] S2x4096x16x64) :
    (shapeCast S2x4096x16x64 (extractStridedSlice ⟨2, ![8192, 1024]⟩ ![0, o] a hs) hc : S2x4096x16x64.Idx → EReal)
      = transpose S2x4096x16x64 [0, 3, 1, 2] (lay a o ho) ht := by
  funext y
  obtain ⟨b, t, h, d, rfl⟩ : ∃ (b : Fin 2) (t : Fin 4096) (h : Fin 16) (d : Fin 64), y = ix4 b t h d :=
    ⟨y 0, y 1, y 2, y 3, by funext a; fin_cases a <;> rfl⟩
  pointwise [lay]

/-- The kernel's two results, transposed by the host, are the reference's. -/
theorem algebraic : Cert.algebraic_KvIdeal_KvRefIdeal := by
  intro m g m' g' _ hag
  refine ⟨fun c => transpose S2x4096x16x64 [0, 3, 1, 2] (lay (A0 m c) 1024 (by decide)) transposes_S2x16x64x4096_S2x4096x16x64_0_3_1_2,
    fun c => transpose S2x4096x16x64 [0, 3, 1, 2] (lay (A0 m c) 2048 (by decide)) transposes_S2x16x64x4096_S2x4096x16x64_0_3_1_2, ?_, ?_⟩
  · exact (θ_run Cert.KvIdeal.defs _ _).mono (fun r h c =>
      ⟨((h c).2 main_v1 (Pipeline.mem_restRefs_of main_v1 (by decide) (by decide))).trans (tail1 m c),
       ((h c).2 main_v2 (Pipeline.mem_restRefs_of main_v2 (by decide) (by decide))).trans (tail2 m c),
       ((h c).1 1).trans (((dats m 0 c).arrAt_in 1 rfl _).trans ((A_eq m c 1).trans (V_main_arg0 m c)))⟩) (run_main m g)
  · refine (θ_run Cert.KvRefIdeal.defs _ _).mono (fun r h c => ⟨(h c).1.trans ?_, (h c).2.1.trans ?_, (h c).2.2⟩)
      (Cert.KvRefIdeal.Value.run (F := Ideal) m' g')
    · rw [hag c]; exact ref_eq _ 1024 (by decide) _ _ _
    · rw [hag c]; exact ref_eq _ 2048 (by decide) _ _ _

end Cert.Proof.KvP

end
-- ==== Proof.KvV.Token.lean ====
/- The keys and values laid out for the cache, one token each: the kernel's arrays, transposed back, are the
   reference's columns. -/
module

public import proofs.«01_k».proof.Defs
public import proofs.«01_k».proof.Proof.Gen.KvSIdeal.Frame
public import proofs.«01_k».proof.Proof.Gen.KvSRefIdeal.Run
public import Idealize.ShloMosaic.Lib.Pipeline.ValueKit

@[expose] public section

noncomputable section

namespace Cert.Proof.KvT

open Idealize.ShloMosaic Idealize.SL.Sem
open Idealize.ShloMosaic.TcCoe
open Cert.KvSIdeal Cert.KvSIdeal.Gen

/-- A block's rows as columns, by heads. -/
theorem pay1 (v : Vec Ideal S128x1024 .f32) (a : Fin 1) (h : Fin 16) (d : Fin 64) (t : Fin 128) :
    k0_pay1 (F := Ideal) v (ix4 a h d t) = v (ix2 t ⟨h.val * 64 + d.val, by omega⟩) := by
  pointwise [k0_pay1]

/-- The same, of the values' block. -/
theorem pay2 (v : Vec Ideal S128x1024 .f32) (a : Fin 1) (h : Fin 16) (d : Fin 64) (t : Fin 128) :
    k0_pay2 (F := Ideal) v (ix4 a h d t) = v (ix2 t ⟨h.val * 64 + d.val, by omega⟩) := pay1 v a h d t

/-- Where the windows' blocks lie. -/
theorem idx : ∀ t : Fin cfg0.N, win0_0.index t = ![(grid0.coords t 0).val + (grid0.coords t 1).val, 1]
    ∧ win0_1.index t = ![(grid0.coords t 0).val + (grid0.coords t 1).val, 2]
    ∧ win0_2.index t = ![(grid0.coords t 0).val, 0, 0, (grid0.coords t 1).val]
    ∧ win0_3.index t = ![(grid0.coords t 0).val, 0, 0, (grid0.coords t 1).val] := by decide +kernel

section
variable (m : (ℓ : Loc nD τ sig) → Buf (Elt Ideal) ℓ) (c : Dev nD)

/-- The argument. -/
abbrev A0 : (⟨2, ![128, 6656]⟩ : Shape).Idx → EReal := m ((c.tc : Thread nD τ).loc main_arg0)

/-- The array the columns from `o` on make, heads before tokens. -/
def lay (a : (⟨2, ![128, 6656]⟩ : Shape).Idx → EReal) (o : ℕ) (ho : o + 1024 ≤ 6656) : (⟨4, ![1, 16, 64, 128]⟩ : Shape).Idx → EReal := fun y =>
  a (ix2 ⟨(y 0).val * 128 + (y 3).val, by have h0 : (y 0).val < 1 := (y 0).isLt; have h3 : (y 3).val < 128 := (y 3).isLt; omega⟩
    ⟨o + ((y 1).val * 64 + (y 2).val), by have h1 : (y 1).val < 16 := (y 1).isLt; have h2 : (y 2).val < 64 := (y 2).isLt; omega⟩)

/-- The keys' array the region leaves. -/
theorem arr2 : (dats m 0 c).arrAt (2 : Fin 4) cfg0.N = lay (A0 m c) 1024 (by decide) := by
  refine (dats m 0 c).arrAt_eq_of_covers (2 : Fin 4) _ (by decide +kernel) fun t hf y => ?_
  blk_simp
  rw [after0_2]
  unfold outsAt0
  frame_out
  obtain ⟨a, h, d, t', rfl⟩ : ∃ (a : Fin 1) (h : Fin 16) (d : Fin 64) (t' : Fin 128), y = ix4 a h d t' :=
    ⟨y 0, y 1, y 2, y 3, by funext a; fin_cases a <;> rfl⟩
  refine (pay1 _ a h d t').trans ?_
  unfold X0_0 Pipeline.Window.fill
  rw [dif_pos (moved0_0 t _)]
  unfold lay
  blk_ext [iblk, V, idx t]

/-- The values' array the region leaves. -/
theorem arr3 : (dats m 0 c).arrAt (3 : Fin 4) cfg0.N = lay (A0 m c) 2048 (by decide) := by
  refine (dats m 0 c).arrAt_eq_of_covers (3 : Fin 4) _ (by decide +kernel) fun t hf y => ?_
  blk_simp
  rw [after0_3]
  unfold outsAt0
  frame_out
  obtain ⟨a, h, d, t', rfl⟩ : ∃ (a : Fin 1) (h : Fin 16) (d : Fin 64) (t' : Fin 128), y = ix4 a h d t' :=
    ⟨y 0, y 1, y 2, y 3, by funext a; fin_cases a <;> rfl⟩
  refine (pay2 _ a h d t').trans ?_
  unfold X0_1 Pipeline.Window.fill
  rw [dif_pos (moved0_1 t _)]
  unfold lay
  blk_ext [iblk, V, idx t]

/-- What the region leaves in a window's array: the two fetched windows share the argument and leave it. -/
theorem left (w : Fin 4) : Pipeline.withArrays (τ := τ) spec0 c (V0 m c) (fun w => (dats m 0 c).arrAt w cfg0.N)
    (Proc.devRef .tc (Pipeline.arrRef spec0 w)) = (dats m 0 c).arrAt w cfg0.N := by
  refine Pipeline.withArrays_arr_shared spec0 c (V0 m c) _ (fun w w' hne e => ?_) w
  have hw : ∀ w w' : Fin 4, w ≠ w' → Pipeline.arrRef spec0 w = Pipeline.arrRef spec0 w' → (cfg0.win w).isOut = false := by decide
  exact ((dats m 0 c).arrAt_in w (hw w w' hne e) _).trans (A_eq m c w)

/-- The first result after the two transposes. -/
theorem tail1 : Pipeline.afterTail₀ cfgs (dats m) 0 (V0 m) [hostOps1] c main_v1
    = transpose S128x1x16x64 [3, 0, 1, 2] (lay (A0 m c) 1024 (by decide)) transposes_S1x16x64x128_S128x1x16x64_3_0_1_2 := by
  rw [← arr2, ← left m c 2]
  show StableHlo.after hostOps1 _ _ = _
  after_results

/-- The second. -/
theorem tail2 : Pipeline.afterTail₀ cfgs (dats m) 0 (V0 m) [hostOps1] c main_v2
    = transpose S128x1x16x64 [3, 0, 1, 2] (lay (A0 m c) 2048 (by decide)) transposes_S1x16x64x128_S128x1x16x64_3_0_1_2 := by
  rw [← arr3, ← left m c 3]
  show StableHlo.after hostOps1 _ _ = _
  after_results

end

/-- The reference's columns, split by batch and head, are the layout with tokens first. -/
theorem ref_eq (a : (⟨2, ![128, 6656]⟩ : Shape).Idx → EReal) (o : ℕ) (ho : o + 1024 ≤ 6656)
    (hs : (⟨2, ![128, 6656]⟩ : Shape).Slices ![0, o] ⟨2, ![128, 1024]⟩) (hc : (⟨2, ![128, 1024]⟩ : Shape).ShapeCasts S128x1x16x64)
    (ht : S1x16x64x128.Transposes [3, 0, 1, 2] S128x1x16x64) :
    (shapeCast S128x1x16x64 (extractStridedSlice ⟨2, ![128, 1024]⟩ ![0, o] a hs) hc : S128x1x16x64.Idx → EReal)
      = transpose S128x1x16x64 [3, 0, 1, 2] (lay a o ho) ht := by
  funext y
  obtain ⟨b, t, h, d, rfl⟩ : ∃ (b : Fin 128) (t : Fin 1) (h : Fin 16) (d : Fin 64), y = ix4 b t h d :=
    ⟨y 0, y 1, y 2, y 3, by funext a; fin_cases a <;> rfl⟩
  pointwise [lay]

/-- The kernel's two results, transposed by the host, are the reference's. -/
theorem algebraic : Cert.algebraic_KvSIdeal_KvSRefIdeal := by
  intro m g m' g' _ hag
  refine ⟨fun c => transpose S128x1x16x64 [3, 0, 1, 2] (lay (A0 m c) 1024 (by decide)) transposes_S1x16x64x128_S128x1x16x64_3_0_1_2,
    fun c => transpose S128x1x16x64 [3, 0, 1, 2] (lay (A0 m c) 2048 (by decide)) transposes_S1x16x64x128_S128x1x16x64_3_0_1_2, ?_, ?_⟩
  · exact (θ_run Cert.KvSIdeal.defs _ _).mono (fun r h c =>
      ⟨((h c).2 main_v1 (Pipeline.mem_restRefs_of main_v1 (by decide) (by decide))).trans (tail1 m c),
       ((h c).2 main_v2 (Pipeline.mem_restRefs_of main_v2 (by decide) (by decide))).trans (tail2 m c),
       ((h c).1 1).trans (((dats m 0 c).arrAt_in 1 rfl _).trans ((A_eq m c 1).trans (V_main_arg0 m c)))⟩) (run_main m g)
  · refine (θ_run Cert.KvSRefIdeal.defs _ _).mono (fun r h c => ⟨(h c).1.trans ?_, (h c).2.1.trans ?_, (h c).2.2⟩)
      (Cert.KvSRefIdeal.Value.run (F := Ideal) m' g')
    · rw [hag c]; exact ref_eq _ 1024 (by decide) _ _ _
    · rw [hag c]; exact ref_eq _ 2048 (by decide) _ _ _

end Cert.Proof.KvT

end
-- ==== Proof.Step.GlaPay.lean ====
/- One step of the gated linear attention: the body's values at an index. -/
module

public import proofs.«01_k».proof.Proof.Gen.GlaIdeal.Value
public import Idealize.ShloMosaic.Lib.Pipeline.ValueKit

@[expose] public section

noncomputable section

namespace Cert.Proof.Gla

open Idealize.ShloMosaic
open Idealize.ShloMosaic.TcCoe
open Cert.GlaIdeal Cert.GlaIdeal.Gen

/-- The identity matrix. -/
theorem pay1 (i j : Fin 128) : k0_pay1 (F := Ideal) (ix2 i j) = if i = j then (1 : EReal) else 0 := by
  pointwise [k0_pay1]
  have key : ∀ i j : Fin 128, (BitVec.setWidth 32 (IntOp.cmpi CmpIPredicate.eq (BitVec.ofNat 32 i.val) (BitVec.ofNat 32 j.val))).toInt
      = if i = j then 1 else 0 := by decide +kernel
  show (((BitVec.setWidth 32 (IntOp.cmpi CmpIPredicate.eq (BitVec.ofNat 32 i.val) (BitVec.ofNat 32 j.val))).toInt : ℝ) : EReal) = _
  rw [key]
  split <;> simp

/-- A row of the identity picks one entry. -/
theorem sum_eye (k : Fin 128) (w : Fin 128 → EReal) : ∑ x, k0_pay1 (F := Ideal) (ix2 k x) * w x = w k := by
  simp only [pay1, ite_mul, one_mul, zero_mul, Finset.sum_ite_eq, Finset.mem_univ, if_true]

theorem pay2 (v : Vec Ideal S8x4x1x128 .f32) (b : Fin 8) (h : Fin 4) (k : Fin 128) (z : Fin 1) :
    k0_pay2 (F := Ideal) v (ix4 b h k z) = v (ix4 b h 0 k) * FloatOps.ofBits (F := Ideal) .f32 0x3DB504F3#32 := by
  unfold k0_pay2
  dsimp only
  refine Eq.trans ?_ (sum_eye k fun k => v (ix4 b h 0 k) * FloatOps.ofBits (F := Ideal) .f32 0x3DB504F3#32)
  generalize k0_pay1 (F := Ideal) = e
  pointwise

theorem pay3 (v : Vec Ideal S8x4x1x128 .f32) (b : Fin 8) (h : Fin 4) (k : Fin 128) (z : Fin 1) :
    k0_pay3 (F := Ideal) v (ix4 b h k z) = v (ix4 b h 0 k) := by
  unfold k0_pay3
  dsimp only
  refine Eq.trans ?_ (sum_eye k fun k => v (ix4 b h 0 k))
  generalize k0_pay1 (F := Ideal) = e
  pointwise

theorem pay4 (v : Vec Ideal S8x4x1x128 .f32) (s : Vec Ideal S8x4x128x256 .f32) (b : Fin 8) (h : Fin 4) (k : Fin 128) (j : Fin 256) :
    k0_pay4 (F := Ideal) v s (ix4 b h k j) = s (ix4 b h k j) * Ideal.exp (v (ix4 b h 0 k)) := by
  unfold k0_pay4
  dsimp only
  refine Eq.trans ?_ (congrArg (s (ix4 b h k j) * ·) (sum_eye k fun k => Ideal.exp (v (ix4 b h 0 k))))
  generalize k0_pay1 (F := Ideal) = e
  pointwise

theorem pay5 (v22 : FVec Ideal S8x4x128x1 .f32) (v34 : FVec Ideal S8x4x128x256 .f32) (v35 : Vec Ideal S8x4x1x256 .f32) (b : Fin 8) (h : Fin 4) (k : Fin 128) (j : Fin 256) :
    k0_pay5 (F := Ideal) v22 v34 v35 (ix4 b h k j) = v34 (ix4 b h k j) + v22 (ix4 b h k 0) * v35 (ix4 b h 0 j) := by
  pointwise [k0_pay5]

/-- The norm of a head's row with its gain, gated. -/
def gate (o : Fin 256 → EReal) (gn x : EReal) (j : Fin 256) : EReal :=
  o j * Ideal.rsqrt (Ideal.div (∑ i, o i * o i) (Ideal.ofBits FTy.f32 0x43800000#32) + Ideal.ofBits FTy.f32 0x358637BD#32) * gn
    * (x * Ideal.div 1 (1 + Ideal.exp (0 - x)))

theorem pay6 (v14 v22 : FVec Ideal S8x4x128x1 .f32) (v34 : FVec Ideal S8x4x128x256 .f32) (v35 : Vec Ideal S8x4x1x256 .f32) (v46 : Vec Ideal S1x1x1x256 .f32)
    (v48 : Vec Ideal S8x4x1x256 .f32) (b : Fin 8) (h : Fin 4) (z : Fin 1) (j : Fin 256) :
    k0_pay6 (F := Ideal) v14 v22 v34 v35 v46 v48 (ix4 b h z j)
      = gate (fun j => ∑ k, v14 (ix4 b h k 0) * k0_pay5 (F := Ideal) v22 v34 v35 (ix4 b h k j)) (v46 (ix4 0 0 0 j)) (v48 (ix4 b h 0 j)) j := by
  obtain rfl : z = 0 := Subsingleton.elim _ _
  unfold k0_pay6
  dsimp only
  generalize k0_pay5 (F := Ideal) v22 v34 v35 = e
  generalize ho : shapeCast S8x4x1x256 _ shapeCasts_S8x4x256_S8x4x1x256 = o
  have hs : ∀ j, o (ix4 b h 0 j) = ∑ k, v14 (ix4 b h k 0) * e (ix4 b h k j) := by
    intro j
    subst ho
    pointwise
  pointwise
  unfold gate
  simp only [hs]

end Cert.Proof.Gla

end
-- ==== Proof.Step.Gla.lean ====
/- One step of the gated linear attention: the two arrays the kernel leaves are the reference's. -/
module

public import proofs.«01_k».proof.Defs
public import proofs.«01_k».proof.Proof.Step.GlaPay
public import proofs.«01_k».proof.Proof.Gen.GlaRefIdeal.Run

@[expose] public section

noncomputable section

namespace Cert.Proof.Gla

open Idealize.ShloMosaic Idealize.SL.Sem
open Idealize.ShloMosaic.TcCoe
open Cert.GlaIdeal Cert.GlaIdeal.Gen

/-- An argument of a head's 128 columns, at a head and a column. -/
def hk (a : (⟨2, ![128, 512]⟩ : Shape).Idx → EReal) (b : Fin 128) (h : Fin 4) (k : Fin 128) : EReal := a (ix2 b ⟨h.val * 128 + k.val, by omega⟩)

/-- One of a head's 256 columns. -/
def hv (a : (⟨2, ![128, 1024]⟩ : Shape).Idx → EReal) (b : Fin 128) (h : Fin 4) (j : Fin 256) : EReal := a (ix2 b ⟨h.val * 256 + j.val, by omega⟩)

section
variable (q k la : (⟨2, ![128, 512]⟩ : Shape).Idx → EReal) (v x : (⟨2, ![128, 1024]⟩ : Shape).Idx → EReal)
  (s : (⟨4, ![128, 4, 128, 256]⟩ : Shape).Idx → EReal) (gn : (⟨1, ![256]⟩ : Shape).Idx → EReal)

/-- The new state. -/
def st (b : Fin 128) (h : Fin 4) (i : Fin 128) (j : Fin 256) : EReal :=
  s (ix4 b h i j) * Ideal.exp (hk la b h i) + hk k b h i * hv v b h j

/-- The new state read by the queries, normed and gated. -/
def out (b : Fin 128) (h : Fin 4) (j : Fin 256) : EReal :=
  gate (fun j => ∑ i, hk q b h i * Ideal.ofBits .f32 0x3DB504F3#32 * st k la v s b h i j) (gn (ix1 j)) (hv x b h j) j

end

/-- Where the windows' blocks lie. -/
theorem idx : ∀ t : Fin cfg0.N, win0_0.index t = ![t.val, 0, 0, 0] ∧ win0_1.index t = ![t.val, 0, 0, 0] ∧ win0_2.index t = ![t.val, 0, 0, 0]
    ∧ win0_3.index t = ![t.val, 0, 0, 0] ∧ win0_4.index t = ![t.val, 0, 0, 0] ∧ win0_5.index t = ![t.val, 0, 0, 0]
    ∧ win0_6.index t = ![0, 0, 0, 0] ∧ win0_7.index t = ![t.val, 0, 0, 0] ∧ win0_8.index t = ![t.val, 0, 0, 0] := by decide +kernel

section
variable (m : (ℓ : Loc nD τ sig) → Buf (Elt Ideal) ℓ) (c : Dev nD)

/-- The arguments. -/
abbrev A0 : (⟨2, ![128, 512]⟩ : Shape).Idx → EReal := m ((c.tc : Thread nD τ).loc main_arg0)
@[inherit_doc A0] abbrev A1 : (⟨2, ![128, 512]⟩ : Shape).Idx → EReal := m ((c.tc : Thread nD τ).loc main_arg1)
@[inherit_doc A0] abbrev A2 : (⟨2, ![128, 512]⟩ : Shape).Idx → EReal := m ((c.tc : Thread nD τ).loc main_arg2)
@[inherit_doc A0] abbrev A3 : (⟨2, ![128, 1024]⟩ : Shape).Idx → EReal := m ((c.tc : Thread nD τ).loc main_arg3)
@[inherit_doc A0] abbrev A4 : (⟨2, ![128, 1024]⟩ : Shape).Idx → EReal := m ((c.tc : Thread nD τ).loc main_arg4)
@[inherit_doc A0] abbrev A5 : (⟨4, ![128, 4, 128, 256]⟩ : Shape).Idx → EReal := m ((c.tc : Thread nD τ).loc main_arg5)
@[inherit_doc A0] abbrev A6 : (⟨1, ![256]⟩ : Shape).Idx → EReal := m ((c.tc : Thread nD τ).loc main_arg6)

/-- The row of the batch a block's row is. -/
abbrev row (t : Fin cfg0.N) (b : Fin 8) : Fin 128 := ⟨t.val * 8 + b.val, by have h : t.val < 16 := t.isLt; omega⟩

theorem x0 (t : Fin cfg0.N) (b : Fin 8) (h : Fin 4) (k : Fin 128) : iblk m c 0 t (ix4 b h 0 k) = hk (A0 m c) (row t b) h k := by
  unfold hk; blk_ext! [iblk, V, idx t]
theorem x1 (t : Fin cfg0.N) (b : Fin 8) (h : Fin 4) (k : Fin 128) : iblk m c 1 t (ix4 b h 0 k) = hk (A1 m c) (row t b) h k := by
  unfold hk; blk_ext! [iblk, V, idx t]
theorem x2 (t : Fin cfg0.N) (b : Fin 8) (h : Fin 4) (k : Fin 128) : iblk m c 2 t (ix4 b h 0 k) = hk (A2 m c) (row t b) h k := by
  unfold hk; blk_ext! [iblk, V, idx t]
theorem x3 (t : Fin cfg0.N) (b : Fin 8) (h : Fin 4) (j : Fin 256) : iblk m c 3 t (ix4 b h 0 j) = hv (A3 m c) (row t b) h j := by
  unfold hv; blk_ext! [iblk, V, idx t]
theorem x4 (t : Fin cfg0.N) (b : Fin 8) (h : Fin 4) (j : Fin 256) : iblk m c 4 t (ix4 b h 0 j) = hv (A4 m c) (row t b) h j := by
  unfold hv; blk_ext! [iblk, V, idx t]
theorem x5 (t : Fin cfg0.N) (b : Fin 8) (h : Fin 4) (k : Fin 128) (j : Fin 256) : iblk m c 5 t (ix4 b h k j) = A5 m c (ix4 (row t b) h k j) := by
  blk_ext! [iblk, V, idx t]
theorem x6 (t : Fin cfg0.N) (j : Fin 256) : iblk m c 6 t (ix4 0 0 0 j) = A6 m c (ix1 j) := by
  blk_ext! [iblk, V, idx t]

/-- Where the output blocks lie in their arrays. -/
theorem o7 (f : (⟨4, ![128, 4, 1, 256]⟩ : Shape).Idx → EReal) (t : Fin cfg0.N) (b : Fin 8) (h : Fin 4) (z : Fin 1) (j : Fin 256) :
    f (((View.whole main_v6_0).slice (win0_7.rect t)).emb (ix4 b h z j)) = f (ix4 (row t b) h z j) := by
  blk_ext! [idx t]
@[inherit_doc o7] theorem o8 (f : (⟨4, ![128, 4, 128, 256]⟩ : Shape).Idx → EReal) (t : Fin cfg0.N) (b : Fin 8) (h : Fin 4) (k : Fin 128)
    (j : Fin 256) : f (((View.whole main_v6_1).slice (win0_8.rect t)).emb (ix4 b h k j)) = f (ix4 (row t b) h k j) := by
  blk_ext! [idx t]

/-- A block's new state. -/
theorem pay_st (t : Fin cfg0.N) (b : Fin 8) (h : Fin 4) (k : Fin 128) (j : Fin 256) :
    k0_pay5 (F := Ideal) (k0_pay3 (iblk m c 1 t)) (k0_pay4 (iblk m c 2 t) (iblk m c 5 t)) (iblk m c 3 t) (ix4 b h k j)
      = st (A1 m c) (A2 m c) (A3 m c) (A5 m c) (row t b) h k j := by
  rw [pay5, pay4, pay3, x5, x2, x1, x3]; rfl

/-- The new state's array. -/
theorem arr8 : (dats m 0 c).arrAt (8 : Fin 9) cfg0.N
    = (fun y => st (A1 m c) (A2 m c) (A3 m c) (A5 m c) (y 0) (y 1) (y 2) (y 3) : (⟨4, ![128, 4, 128, 256]⟩ : Shape).Idx → EReal) := by
  refine (dats m 0 c).arrAt_eq_of_covers (8 : Fin 9) _ (by decide +kernel) fun t hf y => ?_
  blk_simp
  rw [after0_8]
  unfold_out out0_8
  frame_out
  obtain ⟨b, h, k, j, rfl⟩ : ∃ (b : Fin 8) (h : Fin 4) (k : Fin 128) (j : Fin 256), y = ix4 b h k j :=
    ⟨y 0, y 1, y 2, y 3, by funext a; fin_cases a <;> rfl⟩
  exact (pay_st m c t b h k j).trans
    (o8 (fun y => st (A1 m c) (A2 m c) (A3 m c) (A5 m c) (y 0) (y 1) (y 2) (y 3)) t b h k j).symm

/-- The output's array. -/
theorem arr7 : (dats m 0 c).arrAt (7 : Fin 9) cfg0.N
    = (fun y => out (A0 m c) (A1 m c) (A2 m c) (A3 m c) (A4 m c) (A5 m c) (A6 m c) (y 0) (y 1) (y 3) :
      (⟨4, ![128, 4, 1, 256]⟩ : Shape).Idx → EReal) := by
  refine (dats m 0 c).arrAt_eq_of_covers (7 : Fin 9) _ (by decide +kernel) fun t hf y => ?_
  blk_simp
  rw [after0_7]
  unfold_out out0_7
  frame_out
  obtain ⟨b, h, z, j, rfl⟩ : ∃ (b : Fin 8) (h : Fin 4) (z : Fin 1) (j : Fin 256), y = ix4 b h z j :=
    ⟨y 0, y 1, y 2, y 3, by funext a; fin_cases a <;> rfl⟩
  refine (pay6 _ _ _ _ _ _ b h z j).trans ?_
  simp only [pay_st, pay2, x0, x4, x6]
  exact (o7 (fun y => out (A0 m c) (A1 m c) (A2 m c) (A3 m c) (A4 m c) (A5 m c) (A6 m c) (y 0) (y 1) (y 3)) t b h z j).symm

end

section
variable (m : (ℓ : Loc Cert.GlaRefIdeal.nD Cert.GlaRefIdeal.τ Cert.GlaRefIdeal.sig) → Buf (Elt Ideal) ℓ) (c : Dev Cert.GlaRefIdeal.nD)

/-- The reference's arguments. -/
abbrev R0 : (⟨2, ![128, 512]⟩ : Shape).Idx → EReal := m ((c.tc : Thread Cert.GlaRefIdeal.nD Cert.GlaRefIdeal.τ).loc Cert.GlaRefIdeal.main_arg0)
@[inherit_doc R0] abbrev R1 : (⟨2, ![128, 512]⟩ : Shape).Idx → EReal := m ((c.tc : Thread Cert.GlaRefIdeal.nD Cert.GlaRefIdeal.τ).loc Cert.GlaRefIdeal.main_arg1)
@[inherit_doc R0] abbrev R2 : (⟨2, ![128, 512]⟩ : Shape).Idx → EReal := m ((c.tc : Thread Cert.GlaRefIdeal.nD Cert.GlaRefIdeal.τ).loc Cert.GlaRefIdeal.main_arg2)
@[inherit_doc R0] abbrev R3 : (⟨2, ![128, 1024]⟩ : Shape).Idx → EReal := m ((c.tc : Thread Cert.GlaRefIdeal.nD Cert.GlaRefIdeal.τ).loc Cert.GlaRefIdeal.main_arg3)
@[inherit_doc R0] abbrev R4 : (⟨2, ![128, 1024]⟩ : Shape).Idx → EReal := m ((c.tc : Thread Cert.GlaRefIdeal.nD Cert.GlaRefIdeal.τ).loc Cert.GlaRefIdeal.main_arg4)
@[inherit_doc R0] abbrev R5 : (⟨4, ![128, 4, 128, 256]⟩ : Shape).Idx → EReal := m ((c.tc : Thread Cert.GlaRefIdeal.nD Cert.GlaRefIdeal.τ).loc Cert.GlaRefIdeal.main_arg5)
@[inherit_doc R0] abbrev R6 : (⟨1, ![256]⟩ : Shape).Idx → EReal := m ((c.tc : Thread Cert.GlaRefIdeal.nD Cert.GlaRefIdeal.τ).loc Cert.GlaRefIdeal.main_arg6)

/-- The reference's gated output. -/
theorem ref_out (b : Fin 128) (h : Fin 4) (z : Fin 1) (j : Fin 256) :
    Cert.GlaRefIdeal.Value.res_main_v33 m c (ix4 b h z j) = out (R0 m c) (R1 m c) (R2 m c) (R3 m c) (R4 m c) (R5 m c) (R6 m c) b h j := by
  unfold Cert.GlaRefIdeal.Value.res_main_v33
  generalize hd : Host.dotGeneral (F := Ideal) Cert.GlaRefIdeal.dot_S128x4x128_S128x4x128x256_S128x4x256_2_2_n_3_01_01 none _ _ = d
  have hs : ∀ j, d (ix3 b h j) = ∑ i, hk (R0 m c) b h i * Ideal.ofBits .f32 0x3DB504F3#32 * st (R1 m c) (R2 m c) (R3 m c) (R5 m c) b h i j := by
    intro j
    subst hd
    pointwise
    rfl
  pointwise
  unfold out gate
  simp only [hs, zero_sub]
  rfl

end

/-- A step's results are the reference's. -/
theorem algebraic : Cert.algebraic_GlaIdeal_GlaRefIdeal := by
  intro m g m' g' _ hag
  refine ⟨fun c => (fun y => out (A0 m c) (A1 m c) (A2 m c) (A3 m c) (A4 m c) (A5 m c) (A6 m c) (y 0) (y 1) (y 3) :
      (⟨4, ![128, 4, 1, 256]⟩ : Shape).Idx → EReal),
    fun c => (fun y => st (A1 m c) (A2 m c) (A3 m c) (A5 m c) (y 0) (y 1) (y 2) (y 3) : (⟨4, ![128, 4, 128, 256]⟩ : Shape).Idx → EReal), ?_, ?_⟩
  · exact (θ_run Cert.GlaIdeal.defs _ _).mono (fun r h c => ⟨(h c).1.trans (arr7 m c), (h c).2.1.trans (arr8 m c), (h c).2.2⟩)
      (Cert.GlaIdeal.Value.run_blocks m g)
  · refine (θ_run Cert.GlaRefIdeal.defs _ _).mono (fun r h c => ⟨(h c).1.trans ?_, (h c).2.1.trans ?_, (h c).2.2⟩)
      (Cert.GlaRefIdeal.Value.run (F := Ideal) m' g')
    · obtain ⟨h0, h1, h2, h3, h4, h5, h6⟩ := hag c
      funext y
      obtain ⟨b, h, z, j, rfl⟩ : ∃ (b : Fin 128) (h : Fin 4) (z : Fin 1) (j : Fin 256), y = ix4 b h z j :=
        ⟨y 0, y 1, y 2, y 3, by funext a; fin_cases a <;> rfl⟩
      refine (ref_out m' c b h z j).trans ?_
      unfold R0 R1 R2 R3 R4 R5 R6
      rw [h0, h1, h2, h3, h4, h5, h6]
      rfl
    · obtain ⟨h0, h1, h2, h3, h4, h5, h6⟩ := hag c
      rw [h1, h2, h3, h5]
      funext y
      obtain ⟨b, h, k, j, rfl⟩ : ∃ (b : Fin 128) (h : Fin 4) (k : Fin 128) (j : Fin 256), y = ix4 b h k j :=
        ⟨y 0, y 1, y 2, y 3, by funext a; fin_cases a <;> rfl⟩
      pointwise
      rfl

end Cert.Proof.Gla

end
-- ==== Proof.Step.RwkvPay.lean ====
/- One step of the time mixing: the body's values at an index. -/
module

public import proofs.«01_k».proof.Proof.Gen.RwkvIdeal.Value
public import Idealize.ShloMosaic.Lib.Pipeline.ValueKit

@[expose] public section

noncomputable section

namespace Cert.Proof.Rwkv

open Idealize.ShloMosaic
open Idealize.ShloMosaic.TcCoe
open Cert.RwkvIdeal Cert.RwkvIdeal.Gen

/-- The identity matrix. -/
theorem pay2 (i j : Fin 64) : k0_pay2 (F := Ideal) (ix2 i j) = if i = j then (1 : EReal) else 0 := by
  pointwise [k0_pay2]
  have key : ∀ i j : Fin 64, (BitVec.setWidth 32 (IntOp.cmpi CmpIPredicate.eq (BitVec.ofNat 32 i.val) (BitVec.ofNat 32 j.val))).toInt
      = if i = j then 1 else 0 := by decide +kernel
  show (((BitVec.setWidth 32 (IntOp.cmpi CmpIPredicate.eq (BitVec.ofNat 32 i.val) (BitVec.ofNat 32 j.val))).toInt : ℝ) : EReal) = _
  rw [key]
  split <;> simp

/-- A row of the identity picks one entry. -/
theorem sum_row (k : Fin 64) (w : Fin 64 → EReal) : ∑ x, k0_pay2 (F := Ideal) (ix2 k x) * w x = w k := by
  simp only [pay2, ite_mul, one_mul, zero_mul, Finset.sum_ite_eq, Finset.mem_univ, if_true]

/-- A column of the identity picks one entry. -/
theorem sum_col (k : Fin 64) (w : Fin 64 → EReal) : ∑ x, k0_pay2 (F := Ideal) (ix2 x k) * w x = w k := by
  simp only [pay2, ite_mul, one_mul, zero_mul, Finset.sum_ite_eq', Finset.mem_univ, if_true]

section
variable (r k v kk a lw : FVec Ideal S8x16x1x64 .f32) (s : FVec Ideal S8x16x64x64 .f32) (b : Fin 8) (h : Fin 16)

theorem pay10 (i : Fin 64) :
    k0_pay10 (F := Ideal) kk s (ix3 b h i) = ∑ j, s (ix4 b h i j) * (0 - kk (ix4 b h 0 j)) := by
  pointwise [k0_pay10, k0_pay6]

theorem pay11 (d : FVec Ideal S8x16x64 .f32) (i j : Fin 64) :
    k0_pay11 (F := Ideal) (k0_pay2 (F := Ideal)) k v kk a lw s d (ix4 b h i j)
      = s (ix4 b h i j) * Ideal.exp (lw (ix4 b h 0 j)) + d (ix3 b h i) * (kk (ix4 b h 0 j) * a (ix4 b h 0 j))
        + v (ix4 b h 0 i) * k (ix4 b h 0 j) := by
  unfold k0_pay11
  dsimp only
  refine Eq.trans ?_ (congrArg (fun x => s (ix4 b h i j) * Ideal.exp (lw (ix4 b h 0 j)) + d (ix3 b h i) * (kk (ix4 b h 0 j) * a (ix4 b h 0 j))
        + x * k (ix4 b h 0 j)) (sum_row i fun i => v (ix4 b h 0 i)))
  generalize k0_pay2 (F := Ideal) = e
  pointwise

theorem pay12 (d : FVec Ideal S8x16x64 .f32) (z : Fin 1) (i : Fin 64) :
    k0_pay12 (F := Ideal) (k0_pay2 (F := Ideal)) r k v kk a lw s d (ix4 b h z i)
      = ∑ j, k0_pay11 (F := Ideal) (k0_pay2 (F := Ideal)) k v kk a lw s d (ix4 b h i j) * r (ix4 b h 0 j) := by
  unfold k0_pay12
  dsimp only
  generalize k0_pay11 (F := Ideal) (k0_pay2 (F := Ideal)) k v kk a lw s d = w
  refine Eq.trans ?_ (sum_col i fun i => ∑ j, w (ix4 b h i j) * r (ix4 b h 0 j))
  generalize k0_pay2 (F := Ideal) = e
  generalize hx : shapeCast S8x16x64x1 _ shapeCasts_S8x16x64_S8x16x64x1 = x
  have hs : ∀ i, x (ix4 b h i 0) = ∑ j, w (ix4 b h i j) * r (ix4 b h 0 j) := by
    intro i
    subst hx
    pointwise
  simp only [← hs]
  pointwise

/-- The mean of a head's row. -/
def mean (y : Fin 64 → EReal) : EReal := Ideal.div (∑ i, y i) (Ideal.ofBits FTy.f32 0x42800000#32)

/-- The norm of a head's row with its gain and its shift, the bonus added, gated. -/
def gate (y : Fin 64 → EReal) (u v w n g : EReal) (j : Fin 64) : EReal :=
  ((y j - mean y) * Ideal.rsqrt (mean (fun i => (y i - mean y) * (y i - mean y)) + Ideal.ofBits FTy.f32 0x3A27C5AC#32) * w + n + u * v) * g

variable (d : FVec Ideal S8x16x64 .f32) (e : FVec Ideal S64x64 .f32)

theorem pay13 : k0_pay13 (F := Ideal) e r k v kk a lw s d (ix4 b h 0 0)
    = mean fun i => k0_pay12 (F := Ideal) e r k v kk a lw s d (ix4 b h 0 i) := by
  unfold k0_pay13
  dsimp only
  generalize k0_pay12 (F := Ideal) e r k v kk a lw s d = y
  unfold mean
  pointwise

theorem pay14 (j : Fin 64) : k0_pay14 (F := Ideal) e r k v kk a lw s d (ix4 b h 0 j)
    = k0_pay12 (F := Ideal) e r k v kk a lw s d (ix4 b h 0 j) - mean fun i => k0_pay12 (F := Ideal) e r k v kk a lw s d (ix4 b h 0 i) := by
  rw [← pay13]
  unfold k0_pay14
  generalize k0_pay13 (F := Ideal) e r k v kk a lw s d = n
  generalize k0_pay12 (F := Ideal) e r k v kk a lw s d = y
  pointwise

theorem pay15 (j : Fin 64) : k0_pay15 (F := Ideal) e r k v kk a lw s d (ix4 b h 0 j)
    = Ideal.rsqrt (mean (fun i => k0_pay14 (F := Ideal) e r k v kk a lw s d (ix4 b h 0 i) * k0_pay14 (F := Ideal) e r k v kk a lw s d (ix4 b h 0 i))
      + Ideal.ofBits FTy.f32 0x3A27C5AC#32) := by
  simp only [pay14, ← pay13]
  unfold k0_pay15
  dsimp only
  generalize k0_pay13 (F := Ideal) e r k v kk a lw s d = n
  generalize k0_pay12 (F := Ideal) e r k v kk a lw s d = y
  unfold mean
  pointwise

theorem pay1 (g x y : FVec Ideal S8x16x1x64 .f32) (w n u : FVec Ideal S1x16x1x64 .f32) (j : Fin 64) :
    k0_pay1 (F := Ideal) r k v g x y w n u (ix4 b h 0 j)
      = (x (ix4 b h 0 j) * y (ix4 b h 0 j) * w (ix4 0 h 0 j) + n (ix4 0 h 0 j)
        + (∑ i, r (ix4 b h 0 i) * k (ix4 b h 0 i) * u (ix4 0 h 0 i)) * v (ix4 b h 0 j)) * g (ix4 b h 0 j) := by
  pointwise [k0_pay1]

end

end Cert.Proof.Rwkv

end
-- ==== Proof.Step.Rwkv.lean ====
/- One step of the time mixing: the two arrays the kernel leaves are the reference's. -/
module

public import proofs.«01_k».proof.Defs
public import proofs.«01_k».proof.Proof.Step.RwkvPay
public import proofs.«01_k».proof.Proof.Gen.RwkvRefIdeal.Run

@[expose] public section

noncomputable section

namespace Cert.Proof.Rwkv

open Idealize.ShloMosaic Idealize.SL.Sem
open Idealize.ShloMosaic.TcCoe
open Cert.RwkvIdeal Cert.RwkvIdeal.Gen

/-- An argument of a row's heads, the heads' parameters, the state. -/
abbrev Vc := (⟨2, ![128, 1024]⟩ : Shape).Idx → EReal
@[inherit_doc Vc] abbrev Pr := (⟨1, ![1024]⟩ : Shape).Idx → EReal
@[inherit_doc Vc] abbrev Sx := (⟨4, ![128, 16, 64, 64]⟩ : Shape).Idx → EReal

/-- An argument at a head and one of its columns. -/
def hd (a : Vc) (b : Fin 128) (h : Fin 16) (i : Fin 64) : EReal := a (ix2 b ⟨h.val * 64 + i.val, by omega⟩)
@[inherit_doc hd] def hp (a : Pr) (h : Fin 16) (i : Fin 64) : EReal := a (ix1 ⟨h.val * 64 + i.val, by omega⟩)

section
variable (r k v kk a lw g : Vc) (s : Sx) (u w n : Pr)

/-- The new state. -/
def st (b : Fin 128) (h : Fin 16) (i j : Fin 64) : EReal :=
  s (ix4 b h i j) * Ideal.exp (hd lw b h j) + (∑ t, s (ix4 b h i t) * -hd kk b h t) * (hd kk b h j * hd a b h j) + hd v b h i * hd k b h j

/-- The new state read by the receptance, normed, the bonus added, gated. -/
def out (b : Fin 128) (h : Fin 16) (i : Fin 64) : EReal :=
  gate (fun i => ∑ j, st k v kk a lw s b h i j * hd r b h j) (∑ j, hd r b h j * hd k b h j * hp u h j) (hd v b h i) (hp w h i) (hp n h i)
    (hd g b h i) i

end

/-- Where the windows' blocks lie. -/
theorem idx : ∀ t : Fin cfg0.N, win0_0.index t = ![t.val, 0, 0, 0] ∧ win0_1.index t = ![t.val, 0, 0, 0] ∧ win0_2.index t = ![t.val, 0, 0, 0] ∧ win0_3.index t = ![t.val, 0, 0, 0]
    ∧ win0_4.index t = ![t.val, 0, 0, 0] ∧ win0_5.index t = ![t.val, 0, 0, 0] ∧ win0_6.index t = ![t.val, 0, 0, 0] ∧ win0_7.index t = ![t.val, 0, 0, 0]
    ∧ win0_8.index t = ![0, 0, 0, 0] ∧ win0_9.index t = ![0, 0, 0, 0] ∧ win0_10.index t = ![0, 0, 0, 0] ∧ win0_11.index t = ![t.val, 0, 0, 0] ∧ win0_12.index t = ![t.val, 0, 0, 0] := by decide +kernel

section
variable (m : (ℓ : Loc nD τ sig) → Buf (Elt Ideal) ℓ) (c : Dev nD)

/-- The arguments. -/
abbrev A0 : Vc := m ((c.tc : Thread nD τ).loc main_arg0)
@[inherit_doc A0] abbrev A1 : Vc := m ((c.tc : Thread nD τ).loc main_arg1)
@[inherit_doc A0] abbrev A2 : Vc := m ((c.tc : Thread nD τ).loc main_arg2)
@[inherit_doc A0] abbrev A3 : Vc := m ((c.tc : Thread nD τ).loc main_arg3)
@[inherit_doc A0] abbrev A4 : Vc := m ((c.tc : Thread nD τ).loc main_arg4)
@[inherit_doc A0] abbrev A5 : Vc := m ((c.tc : Thread nD τ).loc main_arg5)
@[inherit_doc A0] abbrev A6 : Vc := m ((c.tc : Thread nD τ).loc main_arg6)
@[inherit_doc A0] abbrev A7 : Sx := m ((c.tc : Thread nD τ).loc main_arg7)
@[inherit_doc A0] abbrev A8 : Pr := m ((c.tc : Thread nD τ).loc main_arg8)
@[inherit_doc A0] abbrev A9 : Pr := m ((c.tc : Thread nD τ).loc main_arg9)
@[inherit_doc A0] abbrev A10 : Pr := m ((c.tc : Thread nD τ).loc main_arg10)

/-- The row of the batch a block's row is. -/
abbrev row (t : Fin cfg0.N) (b : Fin 8) : Fin 128 := ⟨t.val * 8 + b.val, by have h : t.val < 16 := t.isLt; omega⟩

theorem x0 (t : Fin cfg0.N) (b : Fin 8) (h : Fin 16) (i : Fin 64) : iblk m c 0 t (ix4 b h 0 i) = hd (A0 m c) (row t b) h i := by
  unfold hd; blk_ext! [iblk, V, idx t]
theorem x1 (t : Fin cfg0.N) (b : Fin 8) (h : Fin 16) (i : Fin 64) : iblk m c 1 t (ix4 b h 0 i) = hd (A1 m c) (row t b) h i := by
  unfold hd; blk_ext! [iblk, V, idx t]
theorem x2 (t : Fin cfg0.N) (b : Fin 8) (h : Fin 16) (i : Fin 64) : iblk m c 2 t (ix4 b h 0 i) = hd (A2 m c) (row t b) h i := by
  unfold hd; blk_ext! [iblk, V, idx t]
theorem x3 (t : Fin cfg0.N) (b : Fin 8) (h : Fin 16) (i : Fin 64) : iblk m c 3 t (ix4 b h 0 i) = hd (A3 m c) (row t b) h i := by
  unfold hd; blk_ext! [iblk, V, idx t]
theorem x4 (t : Fin cfg0.N) (b : Fin 8) (h : Fin 16) (i : Fin 64) : iblk m c 4 t (ix4 b h 0 i) = hd (A4 m c) (row t b) h i := by
  unfold hd; blk_ext! [iblk, V, idx t]
theorem x5 (t : Fin cfg0.N) (b : Fin 8) (h : Fin 16) (i : Fin 64) : iblk m c 5 t (ix4 b h 0 i) = hd (A5 m c) (row t b) h i := by
  unfold hd; blk_ext! [iblk, V, idx t]
theorem x6 (t : Fin cfg0.N) (b : Fin 8) (h : Fin 16) (i : Fin 64) : iblk m c 6 t (ix4 b h 0 i) = hd (A6 m c) (row t b) h i := by
  unfold hd; blk_ext! [iblk, V, idx t]
theorem x7 (t : Fin cfg0.N) (b : Fin 8) (h : Fin 16) (i j : Fin 64) : iblk m c 7 t (ix4 b h i j) = A7 m c (ix4 (row t b) h i j) := by
  blk_ext! [iblk, V, idx t]
theorem x8 (t : Fin cfg0.N) (h : Fin 16) (i : Fin 64) : iblk m c 8 t (ix4 0 h 0 i) = hp (A8 m c) h i := by
  unfold hp; blk_ext! [iblk, V, idx t]
theorem x9 (t : Fin cfg0.N) (h : Fin 16) (i : Fin 64) : iblk m c 9 t (ix4 0 h 0 i) = hp (A9 m c) h i := by
  unfold hp; blk_ext! [iblk, V, idx t]
theorem x10 (t : Fin cfg0.N) (h : Fin 16) (i : Fin 64) : iblk m c 10 t (ix4 0 h 0 i) = hp (A10 m c) h i := by
  unfold hp; blk_ext! [iblk, V, idx t]

/-- Where the output blocks lie in their arrays. -/
theorem o11 (f : (⟨4, ![128, 16, 1, 64]⟩ : Shape).Idx → EReal) (t : Fin cfg0.N) (b : Fin 8) (h : Fin 16) (z : Fin 1) (j : Fin 64) :
    f (((View.whole main_v10_0).slice (win0_11.rect t)).emb (ix4 b h z j)) = f (ix4 (row t b) h z j) := by
  blk_ext! [idx t]
@[inherit_doc o11] theorem o12 (f : Sx) (t : Fin cfg0.N) (b : Fin 8) (h : Fin 16) (i j : Fin 64) :
    f (((View.whole main_v10_1).slice (win0_12.rect t)).emb (ix4 b h i j)) = f (ix4 (row t b) h i j) := by
  blk_ext! [idx t]

/-- The casts of a block to its own shape do nothing. -/
theorem casts (x : Vec Ideal S8x16x1x64 .f32) (b : Fin 8) (h : Fin 16) (i : Fin 64) : k0_pay3 (F := Ideal) x (ix4 b h 0 i) = x (ix4 b h 0 i)
    ∧ k0_pay4 (F := Ideal) x (ix4 b h 0 i) = x (ix4 b h 0 i) ∧ k0_pay5 (F := Ideal) x (ix4 b h 0 i) = x (ix4 b h 0 i)
    ∧ k0_pay6 (F := Ideal) x (ix4 b h 0 i) = x (ix4 b h 0 i) ∧ k0_pay7 (F := Ideal) x (ix4 b h 0 i) = x (ix4 b h 0 i)
    ∧ k0_pay8 (F := Ideal) x (ix4 b h 0 i) = x (ix4 b h 0 i) ∧ k0_pay9 (F := Ideal) x (ix4 b h 0 i) = x (ix4 b h 0 i) := by
  refine ⟨?_, ?_, ?_, ?_, ?_, ?_, ?_⟩ <;> pointwise [k0_pay3, k0_pay4, k0_pay5, k0_pay6, k0_pay7, k0_pay8, k0_pay9]

/-- A block's new state. -/
theorem pay_st (t : Fin cfg0.N) (b : Fin 8) (h : Fin 16) (i j : Fin 64) :
    k0_pay11 (F := Ideal) (k0_pay2 (F := Ideal)) (k0_pay4 (iblk m c 1 t)) (k0_pay5 (iblk m c 2 t)) (k0_pay6 (iblk m c 3 t)) (k0_pay7 (iblk m c 4 t))
      (k0_pay8 (iblk m c 5 t)) (iblk m c 7 t) (k0_pay10 (iblk m c 3 t) (iblk m c 7 t)) (ix4 b h i j)
      = st (A1 m c) (A2 m c) (A3 m c) (A4 m c) (A5 m c) (A7 m c) (row t b) h i j := by
  rw [pay11, pay10]
  simp only [casts, x1, x2, x3, x4, x5, x7, zero_sub]
  rfl

/-- The new state's array. -/
theorem arr12 : (dats m 0 c).arrAt (12 : Fin 13) cfg0.N
    = (fun y => st (A1 m c) (A2 m c) (A3 m c) (A4 m c) (A5 m c) (A7 m c) (y 0) (y 1) (y 2) (y 3) : Sx) := by
  refine (dats m 0 c).arrAt_eq_of_covers (12 : Fin 13) _ (by decide +kernel) fun t hf y => ?_
  blk_simp
  rw [after0_12]
  unfold_out out0_12
  frame_out
  obtain ⟨b, h, i, j, rfl⟩ : ∃ (b : Fin 8) (h : Fin 16) (i j : Fin 64), y = ix4 b h i j :=
    ⟨y 0, y 1, y 2, y 3, by funext a; fin_cases a <;> rfl⟩
  exact (pay_st m c t b h i j).trans
    (o12 (fun y => st (A1 m c) (A2 m c) (A3 m c) (A4 m c) (A5 m c) (A7 m c) (y 0) (y 1) (y 2) (y 3)) t b h i j).symm

/-- The output's array. -/
theorem arr11 : (dats m 0 c).arrAt (11 : Fin 13) cfg0.N
    = (fun y => out (A0 m c) (A1 m c) (A2 m c) (A3 m c) (A4 m c) (A5 m c) (A6 m c) (A7 m c) (A8 m c) (A9 m c) (A10 m c)
      (y 0) (y 1) (y 3) : (⟨4, ![128, 16, 1, 64]⟩ : Shape).Idx → EReal) := by
  refine (dats m 0 c).arrAt_eq_of_covers (11 : Fin 13) _ (by decide +kernel) fun t hf y => ?_
  blk_simp
  rw [after0_11]
  unfold_out out0_11
  frame_out
  obtain ⟨b, h, z, j, rfl⟩ : ∃ (b : Fin 8) (h : Fin 16) (z : Fin 1) (j : Fin 64), y = ix4 b h z j :=
    ⟨y 0, y 1, y 2, y 3, by funext a; fin_cases a <;> rfl⟩
  obtain rfl : z = 0 := Subsingleton.elim _ _
  refine (pay1 _ _ _ _ _ _ _ _ _ _ _ j).trans ?_
  rw [pay15]
  simp only [pay14, pay12, pay_st, casts, x0, x1, x2, x6, x8, x9, x10]
  exact (o11 (fun y => out (A0 m c) (A1 m c) (A2 m c) (A3 m c) (A4 m c) (A5 m c) (A6 m c) (A7 m c) (A8 m c) (A9 m c) (A10 m c) (y 0) (y 1) (y 3)) t b h 0 j).symm

end

section
variable (m : (ℓ : Loc Cert.RwkvRefIdeal.nD Cert.RwkvRefIdeal.τ Cert.RwkvRefIdeal.sig) → Buf (Elt Ideal) ℓ) (c : Dev Cert.RwkvRefIdeal.nD)

/-- The reference's arguments. -/
abbrev R0 : Vc := m ((c.tc : Thread Cert.RwkvRefIdeal.nD Cert.RwkvRefIdeal.τ).loc Cert.RwkvRefIdeal.main_arg0)
@[inherit_doc R0] abbrev R1 : Vc := m ((c.tc : Thread Cert.RwkvRefIdeal.nD Cert.RwkvRefIdeal.τ).loc Cert.RwkvRefIdeal.main_arg1)
@[inherit_doc R0] abbrev R2 : Vc := m ((c.tc : Thread Cert.RwkvRefIdeal.nD Cert.RwkvRefIdeal.τ).loc Cert.RwkvRefIdeal.main_arg2)
@[inherit_doc R0] abbrev R3 : Vc := m ((c.tc : Thread Cert.RwkvRefIdeal.nD Cert.RwkvRefIdeal.τ).loc Cert.RwkvRefIdeal.main_arg3)
@[inherit_doc R0] abbrev R4 : Vc := m ((c.tc : Thread Cert.RwkvRefIdeal.nD Cert.RwkvRefIdeal.τ).loc Cert.RwkvRefIdeal.main_arg4)
@[inherit_doc R0] abbrev R5 : Vc := m ((c.tc : Thread Cert.RwkvRefIdeal.nD Cert.RwkvRefIdeal.τ).loc Cert.RwkvRefIdeal.main_arg5)
@[inherit_doc R0] abbrev R6 : Vc := m ((c.tc : Thread Cert.RwkvRefIdeal.nD Cert.RwkvRefIdeal.τ).loc Cert.RwkvRefIdeal.main_arg6)
@[inherit_doc R0] abbrev R7 : Sx := m ((c.tc : Thread Cert.RwkvRefIdeal.nD Cert.RwkvRefIdeal.τ).loc Cert.RwkvRefIdeal.main_arg7)
@[inherit_doc R0] abbrev R8 : Pr := m ((c.tc : Thread Cert.RwkvRefIdeal.nD Cert.RwkvRefIdeal.τ).loc Cert.RwkvRefIdeal.main_arg8)
@[inherit_doc R0] abbrev R9 : Pr := m ((c.tc : Thread Cert.RwkvRefIdeal.nD Cert.RwkvRefIdeal.τ).loc Cert.RwkvRefIdeal.main_arg9)
@[inherit_doc R0] abbrev R10 : Pr := m ((c.tc : Thread Cert.RwkvRefIdeal.nD Cert.RwkvRefIdeal.τ).loc Cert.RwkvRefIdeal.main_arg10)

set_option maxHeartbeats 1000000 in
/-- The reference's output. -/
theorem ref_out (b : Fin 128) (h : Fin 16) (z : Fin 1) (i : Fin 64) :
    Cert.RwkvRefIdeal.Value.res_main_v61 m c (ix4 b h z i) = out (R0 m c) (R1 m c) (R2 m c) (R3 m c) (R4 m c) (R5 m c) (R6 m c) (R7 m c) (R8 m c) (R9 m c) (R10 m c) b h i := by
  unfold Cert.RwkvRefIdeal.Value.res_main_v61
  generalize hd' : Host.dotGeneral (F := Ideal) Cert.RwkvRefIdeal.dot_S128x16x64x64_S128x16x64_S128x16x64_3_2_2_n_01_01 none
    (addf (F := Ideal) (s := Cert.RwkvRefIdeal.S128x16x64x64) (φ := .f32) _ _) _ = d
  have hs : ∀ i, d (ix3 b h i) = ∑ j, st (R1 m c) (R2 m c) (R3 m c) (R4 m c) (R5 m c) (R7 m c) b h i j * hd (R0 m c) b h j := by
    intro j
    subst hd'
    pointwise
    rfl
  generalize hq' : subf (F := Ideal) (s := Cert.RwkvRefIdeal.S128x16x64) (φ := .f32) d _ = q
  have hq : ∀ i, q (ix3 b h i) = d (ix3 b h i) - mean fun i => d (ix3 b h i) := by
    intro i
    subst hq'
    unfold mean
    pointwise
  clear hq' hd'
  pointwise
  unfold out gate
  simp only [hq, hs]
  rfl

end

/-- A step's results are the reference's. -/
theorem algebraic : Cert.algebraic_RwkvIdeal_RwkvRefIdeal := by
  intro m g m' g' _ hag
  refine ⟨fun c => (fun y => out (A0 m c) (A1 m c) (A2 m c) (A3 m c) (A4 m c) (A5 m c) (A6 m c) (A7 m c) (A8 m c) (A9 m c) (A10 m c)
      (y 0) (y 1) (y 3) : (⟨4, ![128, 16, 1, 64]⟩ : Shape).Idx → EReal),
    fun c => (fun y => st (A1 m c) (A2 m c) (A3 m c) (A4 m c) (A5 m c) (A7 m c) (y 0) (y 1) (y 2) (y 3) : Sx), ?_, ?_⟩
  · exact (θ_run Cert.RwkvIdeal.defs _ _).mono (fun r h c => ⟨(h c).1.trans (arr11 m c), (h c).2.1.trans (arr12 m c), (h c).2.2⟩)
      (Cert.RwkvIdeal.Value.run_blocks m g)
  · refine (θ_run Cert.RwkvRefIdeal.defs _ _).mono (fun r h c => ⟨(h c).1.trans ?_, (h c).2.1.trans ?_, (h c).2.2⟩)
      (Cert.RwkvRefIdeal.Value.run (F := Ideal) m' g')
    · obtain ⟨h0, h1, h2, h3, h4, h5, h6, h7, h8, h9, h10⟩ := hag c
      funext y
      obtain ⟨b, h, z, j, rfl⟩ : ∃ (b : Fin 128) (h : Fin 16) (z : Fin 1) (j : Fin 64), y = ix4 b h z j :=
        ⟨y 0, y 1, y 2, y 3, by funext a; fin_cases a <;> rfl⟩
      refine (ref_out m' c b h z j).trans ?_
      unfold R0 R1 R2 R3 R4 R5 R6 R7 R8 R9 R10
      rw [h0, h1, h2, h3, h4, h5, h6, h7, h8, h9, h10]
      rfl
    · obtain ⟨h0, h1, h2, h3, h4, h5, h6, h7, h8, h9, h10⟩ := hag c
      rw [h1, h2, h3, h4, h5, h7]
      funext y
      obtain ⟨b, h, i, j, rfl⟩ : ∃ (b : Fin 128) (h : Fin 16) (i j : Fin 64), y = ix4 b h i j :=
        ⟨y 0, y 1, y 2, y 3, by funext a; fin_cases a <;> rfl⟩
      pointwise
      rfl

end Cert.Proof.Rwkv

end
-- ==== Proof.lean ====
/- The proof of the claims. -/
module

public import proofs.«01_k».proof.Defs
public import proofs.«01_k».proof.Proof.Gen.ReferenceIdeal
public import proofs.«01_k».proof.Proof.Gen.ReferenceIdeal.Run
public import proofs.«01_k».proof.Proof.Gen.Pre_finite_qk
public import proofs.«01_k».proof.Proof.Gen.Ffn0.Frame
public import proofs.«01_k».proof.Proof.Gen.Ffn1.Frame
public import proofs.«01_k».proof.Proof.Gen.Ffn0RefIdeal.Run
public import proofs.«01_k».proof.Proof.Gen.Ffn1RefIdeal.Run
public import proofs.«01_k».proof.Proof.FlashK.Frame
public import proofs.«01_k».proof.Proof.FlashI.Frame
public import proofs.«01_k».proof.Proof.Gen.In0.Frame
public import proofs.«01_k».proof.Proof.Gen.In1.Frame
public import proofs.«01_k».proof.Proof.Gen.Out0.Frame
public import proofs.«01_k».proof.Proof.FlashV.Claim
public import proofs.«01_k».proof.Proof.Ffn.Claim0
public import proofs.«01_k».proof.Proof.Ffn.Claim1
public import proofs.«01_k».proof.Proof.Mm.In
public import proofs.«01_k».proof.Proof.Mm.Out
public import proofs.«01_k».proof.Proof.SbK.Frame
public import proofs.«01_k».proof.Proof.SbI.Frame
public import proofs.«01_k».proof.Proof.SbV.Claim
public import proofs.«01_k».proof.Proof.Gen.SbRefIdeal
public import proofs.«01_k».proof.Proof.Gen.SbRefIdeal.Run
public import proofs.«01_k».proof.Proof.Gen.Pre_finite_sb
public import proofs.«01_k».proof.Proof.Gen.Ffn1S.Frame
public import proofs.«01_k».proof.Proof.Ffn.ClaimS
public import proofs.«01_k».proof.Proof.Gen.Kv.Frame
public import proofs.«01_k».proof.Proof.KvV.Prompt
public import proofs.«01_k».proof.Proof.Gen.KvS.Frame
public import proofs.«01_k».proof.Proof.KvV.Token
public import proofs.«01_k».proof.Proof.Gen.Gla.Frame
public import proofs.«01_k».proof.Proof.Step.Gla
public import proofs.«01_k».proof.Proof.Gen.Rwkv.Frame
public import proofs.«01_k».proof.Proof.Step.Rwkv
public import Idealize.ShloMosaic.Adequacy
public import Idealize.ShloMosaic.Init

@[expose] public section

noncomputable section

namespace Cert.Proof

open Idealize.ShloMosaic Idealize.SL.Sem

theorem frame_Kernel : Cert.quiescent_Kernel :=
  fun m g _ => FlashK.frame m g

theorem frame_KernelIdeal : Cert.quiescent_KernelIdeal :=
  fun m g _ => FlashI.frame m g

theorem frame_KernelIdeal_pre : Cert.quiescent_KernelIdeal_pre_finite_qk :=
  fun m g _ => FlashI.frame m g

theorem frame_ReferenceIdeal : Cert.quiescent_ReferenceIdeal :=
  fun m g _ => (θ_run Cert.ReferenceIdeal.defs _ _).mono
    (fun r h => ⟨fun c => (h c).2, sem_eq_zero_of_no_sems rfl r.2⟩) (Cert.ReferenceIdeal.Value.run (F := Ideal) m g)

theorem frame_ReferenceIdeal_pre : Cert.quiescent_ReferenceIdeal_pre_finite_qk :=
  fun m g _ => frame_ReferenceIdeal m g trivial

theorem frame_Ffn0 : Cert.quiescent_Ffn0 := fun m g _ => Cert.Ffn0.Gen.frame m g

theorem frame_Ffn0Ideal : Cert.quiescent_Ffn0Ideal := fun m g _ => Cert.Ffn0Ideal.Gen.frame m g

theorem frame_Ffn0RefIdeal : Cert.quiescent_Ffn0RefIdeal :=
  fun m g _ => (θ_run Cert.Ffn0RefIdeal.defs _ _).mono
    (fun r h => ⟨fun c => (h c).2, sem_eq_zero_of_no_sems rfl r.2⟩) (Cert.Ffn0RefIdeal.Value.run (F := Ideal) m g)

theorem frame_Ffn1 : Cert.quiescent_Ffn1 := fun m g _ => Cert.Ffn1.Gen.frame m g

theorem frame_Ffn1Ideal : Cert.quiescent_Ffn1Ideal := fun m g _ => Cert.Ffn1Ideal.Gen.frame m g

theorem frame_Ffn1RefIdeal : Cert.quiescent_Ffn1RefIdeal :=
  fun m g _ => (θ_run Cert.Ffn1RefIdeal.defs _ _).mono
    (fun r h => ⟨fun c => (h c).2, sem_eq_zero_of_no_sems rfl r.2⟩) (Cert.Ffn1RefIdeal.Value.run (F := Ideal) m g)

theorem frame_In0 : Cert.quiescent_In0 := fun m g _ => Cert.In0.Gen.frame m g

theorem frame_In0Ideal : Cert.quiescent_In0Ideal := fun m g _ => Cert.In0Ideal.Gen.frame m g

theorem frame_In0RefIdeal : Cert.quiescent_In0RefIdeal :=
  fun m g _ => (θ_run Cert.In0RefIdeal.defs _ _).mono
    (fun r h => ⟨fun c => (h c).2, sem_eq_zero_of_no_sems rfl r.2⟩) (Cert.In0RefIdeal.Value.run (F := Ideal) m g)

theorem frame_In1 : Cert.quiescent_In1 := fun m g _ => Cert.In1.Gen.frame m g

theorem frame_In1Ideal : Cert.quiescent_In1Ideal := fun m g _ => Cert.In1Ideal.Gen.frame m g

theorem frame_In1RefIdeal : Cert.quiescent_In1RefIdeal :=
  fun m g _ => (θ_run Cert.In1RefIdeal.defs _ _).mono
    (fun r h => ⟨fun c => (h c).2, sem_eq_zero_of_no_sems rfl r.2⟩) (Cert.In1RefIdeal.Value.run (F := Ideal) m g)

theorem frame_Out0 : Cert.quiescent_Out0 := fun m g _ => Cert.Out0.Gen.frame m g

theorem frame_Out0Ideal : Cert.quiescent_Out0Ideal := fun m g _ => Cert.Out0Ideal.Gen.frame m g

theorem frame_Out0RefIdeal : Cert.quiescent_Out0RefIdeal :=
  fun m g _ => (θ_run Cert.Out0RefIdeal.defs _ _).mono
    (fun r h => ⟨fun c => (h c).2, sem_eq_zero_of_no_sems rfl r.2⟩) (Cert.Out0RefIdeal.Value.run (F := Ideal) m g)

theorem frame_Sb : Cert.quiescent_Sb := fun m g _ => SbK.frame m g

theorem frame_SbIdeal : Cert.quiescent_SbIdeal := fun m g _ => SbI.frame m g

theorem frame_SbIdeal_pre : Cert.quiescent_SbIdeal_pre_finite_sb := fun m g _ => SbI.frame m g

theorem frame_SbRefIdeal : Cert.quiescent_SbRefIdeal :=
  fun m g _ => (θ_run Cert.SbRefIdeal.defs _ _).mono
    (fun r h => ⟨fun c => (h c).2, sem_eq_zero_of_no_sems rfl r.2⟩) (Cert.SbRefIdeal.Value.run (F := Ideal) m g)

theorem frame_SbRefIdeal_pre : Cert.quiescent_SbRefIdeal_pre_finite_sb := fun m g _ => frame_SbRefIdeal m g trivial

theorem frame_Ffn1S : Cert.quiescent_Ffn1S := fun m g _ => Cert.Ffn1S.Gen.frame m g

theorem frame_Ffn1SIdeal : Cert.quiescent_Ffn1SIdeal := fun m g _ => Cert.Ffn1SIdeal.Gen.frame m g

theorem frame_Ffn1SRefIdeal : Cert.quiescent_Ffn1SRefIdeal :=
  fun m g _ => (θ_run Cert.Ffn1SRefIdeal.defs _ _).mono
    (fun r h => ⟨fun c => (h c).2, sem_eq_zero_of_no_sems rfl r.2⟩) (Cert.Ffn1SRefIdeal.Value.run (F := Ideal) m g)

theorem frame_Kv : Cert.quiescent_Kv := fun m g _ => Cert.Kv.Gen.frame m g

theorem frame_KvIdeal : Cert.quiescent_KvIdeal := fun m g _ => Cert.KvIdeal.Gen.frame m g

theorem frame_KvRefIdeal : Cert.quiescent_KvRefIdeal :=
  fun m g _ => (θ_run Cert.KvRefIdeal.defs _ _).mono
    (fun r h => ⟨fun c => (h c).2.2, sem_eq_zero_of_no_sems rfl r.2⟩) (Cert.KvRefIdeal.Value.run (F := Ideal) m g)

theorem frame_KvS : Cert.quiescent_KvS := fun m g _ => Cert.KvS.Gen.frame m g

theorem frame_KvSIdeal : Cert.quiescent_KvSIdeal := fun m g _ => Cert.KvSIdeal.Gen.frame m g

theorem frame_KvSRefIdeal : Cert.quiescent_KvSRefIdeal :=
  fun m g _ => (θ_run Cert.KvSRefIdeal.defs _ _).mono
    (fun r h => ⟨fun c => (h c).2.2, sem_eq_zero_of_no_sems rfl r.2⟩) (Cert.KvSRefIdeal.Value.run (F := Ideal) m g)

theorem frame_Gla : Cert.quiescent_Gla := fun m g _ => Cert.Gla.Gen.frame m g

theorem frame_GlaIdeal : Cert.quiescent_GlaIdeal := fun m g _ => Cert.GlaIdeal.Gen.frame m g

theorem frame_GlaRefIdeal : Cert.quiescent_GlaRefIdeal :=
  fun m g _ => (θ_run Cert.GlaRefIdeal.defs _ _).mono
    (fun r h => ⟨fun c => (h c).2.2, sem_eq_zero_of_no_sems rfl r.2⟩) (Cert.GlaRefIdeal.Value.run (F := Ideal) m g)

theorem frame_Rwkv : Cert.quiescent_Rwkv := fun m g _ => Cert.Rwkv.Gen.frame m g

theorem frame_RwkvIdeal : Cert.quiescent_RwkvIdeal := fun m g _ => Cert.RwkvIdeal.Gen.frame m g

theorem frame_RwkvRefIdeal : Cert.quiescent_RwkvRefIdeal :=
  fun m g _ => (θ_run Cert.RwkvRefIdeal.defs _ _).mono
    (fun r h => ⟨fun c => (h c).2.2, sem_eq_zero_of_no_sems rfl r.2⟩) (Cert.RwkvRefIdeal.Value.run (F := Ideal) m g)

theorem claim : Cert.Claim := ⟨Cert.Kernel.Gen.facts, Cert.KernelIdeal.Gen.facts, Cert.ReferenceIdeal.Gen.facts,
  Cert.Ffn0.Gen.facts, Cert.Ffn0Ideal.Gen.facts, Cert.Ffn0RefIdeal.Gen.facts,
  Cert.Ffn1.Gen.facts, Cert.Ffn1Ideal.Gen.facts, Cert.Ffn1RefIdeal.Gen.facts,
  Cert.In0.Gen.facts, Cert.In0Ideal.Gen.facts, Cert.In0RefIdeal.Gen.facts, Cert.In1.Gen.facts, Cert.In1Ideal.Gen.facts, Cert.In1RefIdeal.Gen.facts, Cert.Out0.Gen.facts, Cert.Out0Ideal.Gen.facts, Cert.Out0RefIdeal.Gen.facts,
  Cert.Sb.Gen.facts, Cert.SbIdeal.Gen.facts, Cert.SbRefIdeal.Gen.facts,
  Cert.Ffn1S.Gen.facts, Cert.Ffn1SIdeal.Gen.facts, Cert.Ffn1SRefIdeal.Gen.facts,
  Cert.Kv.Gen.facts, Cert.KvIdeal.Gen.facts, Cert.KvRefIdeal.Gen.facts,
  Cert.KvS.Gen.facts, Cert.KvSIdeal.Gen.facts, Cert.KvSRefIdeal.Gen.facts,
  Cert.Gla.Gen.facts, Cert.GlaIdeal.Gen.facts, Cert.GlaRefIdeal.Gen.facts,
  Cert.Rwkv.Gen.facts, Cert.RwkvIdeal.Gen.facts, Cert.RwkvRefIdeal.Gen.facts,
  Cert.Pre_finite_qk.Gen.facts, Cert.Pre_finite_sb.Gen.facts,
  frame_Kernel, frame_KernelIdeal, frame_KernelIdeal_pre, frame_ReferenceIdeal, frame_ReferenceIdeal_pre,
  frame_Ffn0, frame_Ffn0Ideal, frame_Ffn0RefIdeal, frame_Ffn1, frame_Ffn1Ideal, frame_Ffn1RefIdeal,
  frame_In0, frame_In0Ideal, frame_In0RefIdeal, frame_In1, frame_In1Ideal, frame_In1RefIdeal, frame_Out0, frame_Out0Ideal, frame_Out0RefIdeal,
  frame_Sb, frame_SbIdeal, frame_SbIdeal_pre, frame_SbRefIdeal, frame_SbRefIdeal_pre,
  frame_Ffn1S, frame_Ffn1SIdeal, frame_Ffn1SRefIdeal,
  frame_Kv, frame_KvIdeal, frame_KvRefIdeal,
  frame_KvS, frame_KvSIdeal, frame_KvSRefIdeal,
  frame_Gla, frame_GlaIdeal, frame_GlaRefIdeal,
  frame_Rwkv, frame_RwkvIdeal, frame_RwkvRefIdeal,
  trivial, FlashV.algebraic, trivial, Ffn0.algebraic, trivial, Ffn1.algebraic,
  trivial, In0.algebraic, trivial, In1.algebraic, trivial, Out0.algebraic, trivial, SbV.algebraic,
  trivial, Ffn1S.algebraic,
  trivial, KvP.algebraic,
  trivial, KvT.algebraic,
  trivial, Gla.algebraic,
  trivial, Rwkv.algebraic⟩

end Cert.Proof

end
